-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S896x4608 : Shape := ⟨2, ![896, 4608]⟩
abbrev S7168 : Shape := ⟨1, ![7168]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : IVec S896x4608 32) (main_arg1 : IVec S7168 32) : IVec S7168 1 :=
  let main_c : IVec S_ 32 := constantI S_ 32 0#32
  let main_v0 : IVec S7168 32 := broadcastInDim S7168 ![] bcast_S_S7168 main_c
  let main_v1 : IVec S7168 1 := cmpi .sge main_arg1 main_v0
  let main_c_0 : IVec S_ 32 := constantI S_ 32 7168#32
  let main_v2 : IVec S7168 32 := broadcastInDim S7168 ![] bcast_S_S7168 main_c_0
  let main_v3 : IVec S7168 1 := cmpi .slt main_arg1 main_v2
  let main_v4 : IVec S7168 1 := andi main_v1 main_v3
  main_v4
-- ==== Kernel.lean ====
abbrev S896x4608 : Shape := ⟨2, ![896, 4608]⟩
abbrev S7168 : Shape := ⟨1, ![7168]⟩
abbrev S56x128 : Shape := ⟨2, ![56, 128]⟩
abbrev S56x18x32x128 : Shape := ⟨4, ![56, 18, 32, 128]⟩
abbrev S64512x128 : Shape := ⟨2, ![64512, 128]⟩
abbrev S128x128 : Shape := ⟨2, ![128, 128]⟩
abbrev S1440x128 : Shape := ⟨2, ![1440, 128]⟩
abbrev S28 : Shape := ⟨1, ![28]⟩
abbrev S2 : Shape := ⟨1, ![2]⟩
abbrev S3 : Shape := ⟨1, ![3]⟩
abbrev S1 : Shape := ⟨1, ![1]⟩
abbrev S_ : Shape := ⟨0, ![]⟩
abbrev S32x4608 : Shape := ⟨2, ![32, 4608]⟩
abbrev S8x128 : Shape := ⟨2, ![8, 128]⟩
abbrev S16x128 : Shape := ⟨2, ![16, 128]⟩
abbrev S32x128 : Shape := ⟨2, ![32, 128]⟩
abbrev S1x18x32x128 : Shape := ⟨4, ![1, 18, 32, 128]⟩
abbrev S18x32x128 : Shape := ⟨3, ![18, 32, 128]⟩
abbrev S2x18x40x128 : Shape := ⟨4, ![2, 18, 40, 128]⟩
abbrev S56x1 : Shape := ⟨2, ![56, 1]⟩
abbrev S1x1 : Shape := ⟨2, ![1, 1]⟩
abbrev S1x128 : Shape := ⟨2, ![1, 128]⟩

abbrev nBuf : Space → Nat
  | .hbm => 4
  | .vmem => 6
  | .smem => 1
  | _ => 0

abbrev bufTy : (tb : Table) → Fin (tcTables nBuf tb) → BufTy
  | .hbm, ⟨0, _⟩ => ⟨S896x4608, .i32⟩
  | .hbm, ⟨1, _⟩ => ⟨S7168, .i32⟩
  | .hbm, ⟨2, _⟩ => ⟨S56x128, .i32⟩
  | .hbm, ⟨3, _⟩ => ⟨S56x18x32x128, .i32⟩
  | .local _ .vmem, ⟨0, _⟩ => ⟨S896x4608, .i32⟩
  | .local _ .vmem, ⟨1, _⟩ => ⟨S64512x128, .i32⟩
  | .local _ .vmem, ⟨2, _⟩ => ⟨S128x128, .i32⟩
  | .local _ .vmem, ⟨3, _⟩ => ⟨S1440x128, .i32⟩
  | .local _ .vmem, ⟨4, _⟩ => ⟨S56x128, .i32⟩
  | .local _ .vmem, ⟨5, _⟩ => ⟨S56x128, .i32⟩
  | .local _ .smem, ⟨0, _⟩ => ⟨S56x128, .i32⟩
  | _, _ => ⟨S896x4608, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.smem, 0, rfl⟩

abbrev nD : Nat := 1
abbrev τ : Topo := Topo.v7x

variable {F : FTy → Type} [FloatOps F]

abbrev grid0 : Pipeline.Grid := .none

@[reducible] def k0_t1_loop : Scf.Loop 32 :=
  let c0_i32_100 : BitVec 32 := 0#32
  let c28_i32 : BitVec 32 := 28#32
  let v153 : BitVec 32 := Scalar.addi c0_i32_100 c28_i32
  let c1_i32_101 : BitVec 32 := 1#32
  ⟨c0_i32_100, v153, c1_i32_101⟩
def k0_off1 (k0_t1 : Fin k0_t1_loop.trips) : Fin 1 → Nat :=
  let c0_i32_100 : BitVec 32 := 0#32
  let c1_i32_101 : BitVec 32 := 1#32
  let arg13 : BitVec 32 := Scf.iv c0_i32_100 c1_i32_101 k0_t1
  ![arg13.toNat]
def k0_off2 (k0_t1 : Fin k0_t1_loop.trips) : Fin 2 → Nat :=
  let c0_i32_100 : BitVec 32 := 0#32
  let c1_i32_101 : BitVec 32 := 1#32
  let arg13 : BitVec 32 := Scf.iv c0_i32_100 c1_i32_101 k0_t1
  let c32_i32_124 : BitVec 32 := 32#32
  let v171 : BitVec 32 := Scalar.muli arg13 c32_i32_124
  let c0_i32_125 : BitVec 32 := 0#32
  ![v171.toNat, 0]
def k0_mult1 (k0_t1 : Fin k0_t1_loop.trips) : BitVec 32 :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let c0_i32_128 : BitVec 32 := 0#32
  let v177 : BitVec 32 := Scalar.addi v176 c0_i32_128
  v177
def k0_off3 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v183 : Index := Scalar.indexCast v178
  let c0_133 : Index := 0#32
  ![v183.toNat, 0]
def k0_off4 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v185 : Index := Scalar.indexCast v178
  let c128 : Index := 128#32
  ![v185.toNat, 128]
def k0_off5 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v187 : Index := Scalar.indexCast v178
  let c2048 : Index := 2048#32
  ![v187.toNat, 2048]
def k0_off6 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v189 : Index := Scalar.indexCast v178
  let c2176 : Index := 2176#32
  ![v189.toNat, 2176]
def k0_off7 (k0_t1 : Fin k0_t1_loop.trips) (c0_i32_130 : BitVec 32) (c0_i32_143 : BitVec 32) (c0_i32_145 : BitVec 32) : Fin 2 → Nat :=
  let c0_i32_100 : BitVec 32 := 0#32
  let c1_i32_101 : BitVec 32 := 1#32
  let arg13 : BitVec 32 := Scf.iv c0_i32_100 c1_i32_101 k0_t1
  let c4_i32_129 : BitVec 32 := 4#32
  let v179 : BitVec 32 := Scalar.muli arg13 c4_i32_129
  let v180 : BitVec 32 := Scalar.addi v179 c0_i32_130
  let c4_i32_131 : BitVec 32 := 4#32
  let v181 : BitVec 32 := Scalar.muli v180 c4_i32_131
  let c8_i32_132 : BitVec 32 := 8#32
  let v182 : BitVec 32 := Scalar.muli v181 c8_i32_132
  let v231 : BitVec 32 := Scalar.addi v182 c0_i32_143
  let c9_i32_144 : BitVec 32 := 9#32
  let v232 : BitVec 32 := Scalar.muli v231 c9_i32_144
  let v233 : BitVec 32 := Scalar.addi v232 c0_i32_145
  let v234 : Index := Scalar.indexCast v233
  let c0_146 : Index := 0#32
  ![v234.toNat, 0]
def k0_off8 (k0_t1 : Fin k0_t1_loop.trips) (c0_i32_130 : BitVec 32) (c0_i32_143 : BitVec 32) (c0_i32_145 : BitVec 32) : Fin 2 → Nat :=
  let c0_i32_100 : BitVec 32 := 0#32
  let c1_i32_101 : BitVec 32 := 1#32
  let arg13 : BitVec 32 := Scf.iv c0_i32_100 c1_i32_101 k0_t1
  let c4_i32_129 : BitVec 32 := 4#32
  let v179 : BitVec 32 := Scalar.muli arg13 c4_i32_129
  let v180 : BitVec 32 := Scalar.addi v179 c0_i32_130
  let c4_i32_131 : BitVec 32 := 4#32
  let v181 : BitVec 32 := Scalar.muli v180 c4_i32_131
  let c8_i32_132 : BitVec 32 := 8#32
  let v182 : BitVec 32 := Scalar.muli v181 c8_i32_132
  let v231 : BitVec 32 := Scalar.addi v182 c0_i32_143
  let c9_i32_144 : BitVec 32 := 9#32
  let v232 : BitVec 32 := Scalar.muli v231 c9_i32_144
  let v233 : BitVec 32 := Scalar.addi v232 c0_i32_145
  let c32256_i32_148 : BitVec 32 := 32256#32
  let v240 : BitVec 32 := Scalar.addi v233 c32256_i32_148
  let v241 : Index := Scalar.indexCast v240
  let c0_149 : Index := 0#32
  ![v241.toNat, 0]
def k0_off9 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v287 : Index := Scalar.indexCast v178
  let c256 : Index := 256#32
  ![v287.toNat, 256]
def k0_off10 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v289 : Index := Scalar.indexCast v178
  let c384 : Index := 384#32
  ![v289.toNat, 384]
def k0_off11 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v291 : Index := Scalar.indexCast v178
  let c2304 : Index := 2304#32
  ![v291.toNat, 2304]
def k0_off12 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v293 : Index := Scalar.indexCast v178
  let c2432 : Index := 2432#32
  ![v293.toNat, 2432]
def k0_off13 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v391 : Index := Scalar.indexCast v178
  let c512 : Index := 512#32
  ![v391.toNat, 512]
def k0_off14 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v393 : Index := Scalar.indexCast v178
  let c640 : Index := 640#32
  ![v393.toNat, 640]
def k0_off15 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v395 : Index := Scalar.indexCast v178
  let c2560 : Index := 2560#32
  ![v395.toNat, 2560]
def k0_off16 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v397 : Index := Scalar.indexCast v178
  let c2688 : Index := 2688#32
  ![v397.toNat, 2688]
def k0_off17 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v495 : Index := Scalar.indexCast v178
  let c768 : Index := 768#32
  ![v495.toNat, 768]
def k0_off18 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v497 : Index := Scalar.indexCast v178
  let c896 : Index := 896#32
  ![v497.toNat, 896]
def k0_off19 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v499 : Index := Scalar.indexCast v178
  let c2816 : Index := 2816#32
  ![v499.toNat, 2816]
def k0_off20 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v501 : Index := Scalar.indexCast v178
  let c2944 : Index := 2944#32
  ![v501.toNat, 2944]
def k0_off21 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v599 : Index := Scalar.indexCast v178
  let c1024 : Index := 1024#32
  ![v599.toNat, 1024]
def k0_off22 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v601 : Index := Scalar.indexCast v178
  let c1152 : Index := 1152#32
  ![v601.toNat, 1152]
def k0_off23 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v603 : Index := Scalar.indexCast v178
  let c3072 : Index := 3072#32
  ![v603.toNat, 3072]
def k0_off24 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v605 : Index := Scalar.indexCast v178
  let c3200 : Index := 3200#32
  ![v605.toNat, 3200]
def k0_off25 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v703 : Index := Scalar.indexCast v178
  let c1280 : Index := 1280#32
  ![v703.toNat, 1280]
def k0_off26 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v705 : Index := Scalar.indexCast v178
  let c1408 : Index := 1408#32
  ![v705.toNat, 1408]
def k0_off27 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v707 : Index := Scalar.indexCast v178
  let c3328 : Index := 3328#32
  ![v707.toNat, 3328]
def k0_off28 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v709 : Index := Scalar.indexCast v178
  let c3456 : Index := 3456#32
  ![v709.toNat, 3456]
def k0_off29 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v807 : Index := Scalar.indexCast v178
  let c1536 : Index := 1536#32
  ![v807.toNat, 1536]
def k0_off30 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v809 : Index := Scalar.indexCast v178
  let c1664 : Index := 1664#32
  ![v809.toNat, 1664]
def k0_off31 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v811 : Index := Scalar.indexCast v178
  let c3584 : Index := 3584#32
  ![v811.toNat, 3584]
def k0_off32 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v813 : Index := Scalar.indexCast v178
  let c3712 : Index := 3712#32
  ![v813.toNat, 3712]
def k0_off33 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v911 : Index := Scalar.indexCast v178
  let c1792 : Index := 1792#32
  ![v911.toNat, 1792]
def k0_off34 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v913 : Index := Scalar.indexCast v178
  let c1920 : Index := 1920#32
  ![v913.toNat, 1920]
def k0_off35 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v915 : Index := Scalar.indexCast v178
  let c3840 : Index := 3840#32
  ![v915.toNat, 3840]
def k0_off36 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v917 : Index := Scalar.indexCast v178
  let c3968 : Index := 3968#32
  ![v917.toNat, 3968]
def k0_off37 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v1015 : Index := Scalar.indexCast v178
  let c4096 : Index := 4096#32
  ![v1015.toNat, 4096]
def k0_off38 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v1017 : Index := Scalar.indexCast v178
  let c4224 : Index := 4224#32
  ![v1017.toNat, 4224]
def k0_off39 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v1019 : Index := Scalar.indexCast v178
  let c4352 : Index := 4352#32
  ![v1019.toNat, 4352]
def k0_off40 (k0_t1 : Fin k0_t1_loop.trips) (c0_i32_128 : BitVec 32) : Fin 2 → Nat :=
  let c0_i32_100 : BitVec 32 := 0#32
  let c1_i32_101 : BitVec 32 := 1#32
  let arg13 : BitVec 32 := Scf.iv c0_i32_100 c1_i32_101 k0_t1
  let c32_i32_127 : BitVec 32 := 32#32
  let v176 : BitVec 32 := Scalar.muli arg13 c32_i32_127
  let v177 : BitVec 32 := Scalar.addi v176 c0_i32_128
  let v178 : BitVec 32 := v177
  let v1021 : Index := Scalar.indexCast v178
  let c4480 : Index := 4480#32
  ![v1021.toNat, 4480]
def k0_mult2 (k0_t1 : Fin k0_t1_loop.trips) : BitVec 32 :=
  let c0_i32_100 : BitVec 32 := 0#32
  let c1_i32_101 : BitVec 32 := 1#32
  let arg13 : BitVec 32 := Scf.iv c0_i32_100 c1_i32_101 k0_t1
  let c32_i32_475 : BitVec 32 := 32#32
  let v1119 : BitVec 32 := Scalar.muli arg13 c32_i32_475
  let c8_i32_476 : BitVec 32 := 8#32
  let v1120 : BitVec 32 := Scalar.addi v1119 c8_i32_476
  v1120
def k0_mult3 (k0_t1 : Fin k0_t1_loop.trips) : BitVec 32 :=
  let c0_i32_100 : BitVec 32 := 0#32
  let c1_i32_101 : BitVec 32 := 1#32
  let arg13 : BitVec 32 := Scf.iv c0_i32_100 c1_i32_101 k0_t1
  let c32_i32_859 : BitVec 32 := 32#32
  let v2062 : BitVec 32 := Scalar.muli arg13 c32_i32_859
  let c16_i32_860 : BitVec 32 := 16#32
  let v2063 : BitVec 32 := Scalar.addi v2062 c16_i32_860
  v2063
def k0_mult4 (k0_t1 : Fin k0_t1_loop.trips) : BitVec 32 :=
  let c0_i32_100 : BitVec 32 := 0#32
  let c1_i32_101 : BitVec 32 := 1#32
  let arg13 : BitVec 32 := Scf.iv c0_i32_100 c1_i32_101 k0_t1
  let c32_i32_1243 : BitVec 32 := 32#32
  let v3005 : BitVec 32 := Scalar.muli arg13 c32_i32_1243
  let c24_i32_1244 : BitVec 32 := 24#32
  let v3006 : BitVec 32 := Scalar.addi v3005 c24_i32_1244
  v3006
@[reducible] def k0_t2_loop : Scf.Loop 32 :=
  let c0_i32_104 : BitVec 32 := 0#32
  let c28_i32_105 : BitVec 32 := 28#32
  let v156 : BitVec 32 := Scalar.addi c0_i32_104 c28_i32_105
  let c1_i32_106 : BitVec 32 := 1#32
  ⟨c0_i32_104, v156, c1_i32_106⟩
def k0_cond1 (k0_t2 : Fin k0_t2_loop.trips) : BitVec 1 :=
  let c0_i32_104 : BitVec 32 := 0#32
  let c1_i32_106 : BitVec 32 := 1#32
  let arg13 : BitVec 32 := Scf.iv c0_i32_104 c1_i32_106 k0_t2
  let c0_i32_126 : BitVec 32 := 0#32
  let v173 : BitVec 1 := Scalar.cmpi .sgt arg13 c0_i32_126
  let v174 : BitVec 32 := Scalar.extui v173
  let c0_i32_127 : BitVec 32 := 0#32
  let v175 : BitVec 1 := Scalar.cmpi .ne v174 c0_i32_127
  v175

def k0_off41 (k0_t2 : Fin k0_t2_loop.trips) : Fin 4 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let c0_i32_3055 : BitVec 32 := 0#32
  let c0_i32_3056 : BitVec 32 := 0#32
  let c0_i32_3057 : BitVec 32 := 0#32
  ![v172.toNat, 0, 0, 0]
def k0_off42 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v177 : Index := Scalar.indexCast v172
  let c0_130 : Index := 0#32
  ![v177.toNat, 0]
def k0_off43 (v178 : BitVec 32) : Fin 2 → Nat :=
  let v200 : Index := Scalar.indexCast v178
  let c0_152 : Index := 0#32
  ![v200.toNat, 0]

def k0_off44 (v181 : BitVec 32) : Fin 2 → Nat :=
  let v202 : Index := Scalar.indexCast v181
  let c0_153 : Index := 0#32
  ![v202.toNat, 0]

def k0_off45 (v184 : BitVec 32) : Fin 2 → Nat :=
  let v204 : Index := Scalar.indexCast v184
  let c0_154 : Index := 0#32
  ![v204.toNat, 0]

def k0_off46 (v187 : BitVec 32) : Fin 2 → Nat :=
  let v206 : Index := Scalar.indexCast v187
  let c0_155 : Index := 0#32
  ![v206.toNat, 0]

def k0_off47 (v190 : BitVec 32) : Fin 2 → Nat :=
  let v208 : Index := Scalar.indexCast v190
  let c0_156 : Index := 0#32
  ![v208.toNat, 0]

def k0_off48 (v193 : BitVec 32) : Fin 2 → Nat :=
  let v210 : Index := Scalar.indexCast v193
  let c0_157 : Index := 0#32
  ![v210.toNat, 0]

def k0_off49 (v196 : BitVec 32) : Fin 2 → Nat :=
  let v212 : Index := Scalar.indexCast v196
  let c0_158 : Index := 0#32
  ![v212.toNat, 0]

def k0_off50 (v199 : BitVec 32) : Fin 2 → Nat :=
  let v214 : Index := Scalar.indexCast v199
  let c0_159 : Index := 0#32
  ![v214.toNat, 0]

def k0_off51 (v178 : BitVec 32) : Fin 2 → Nat :=
  let c8_i32_160 : BitVec 32 := 8#32
  let v216 : BitVec 32 := Scalar.addi v178 c8_i32_160
  let v217 : Index := Scalar.indexCast v216
  let c0_161 : Index := 0#32
  ![v217.toNat, 0]

def k0_chk1 (v178 : BitVec 32) : Prop :=
  (∀ a, (k0_off43 v178) a + S8x128.size a ≤ S64512x128.size a) ∧
  (∀ a, (k0_off51 v178) a + S1x128.size a ≤ S64512x128.size a)
theorem k0_off43_inb : ∀ (v178 : BitVec 32) (k0_hw1 : k0_chk1 v178), ∀ a, (k0_off43 v178) a + S8x128.size a ≤ S64512x128.size a := fun v178 k0_hw1 => k0_hw1.1
theorem k0_off51_inb : ∀ (v178 : BitVec 32) (k0_hw1 : k0_chk1 v178), ∀ a, (k0_off51 v178) a + S1x128.size a ≤ S64512x128.size a := fun v178 k0_hw1 => k0_hw1.2

def k0_off52 (v181 : BitVec 32) : Fin 2 → Nat :=
  let c8_i32_162 : BitVec 32 := 8#32
  let v219 : BitVec 32 := Scalar.addi v181 c8_i32_162
  let v220 : Index := Scalar.indexCast v219
  let c0_163 : Index := 0#32
  ![v220.toNat, 0]

def k0_chk2 (v181 : BitVec 32) : Prop :=
  (∀ a, (k0_off44 v181) a + S8x128.size a ≤ S64512x128.size a) ∧
  (∀ a, (k0_off52 v181) a + S1x128.size a ≤ S64512x128.size a)
theorem k0_off44_inb : ∀ (v181 : BitVec 32) (k0_hw2 : k0_chk2 v181), ∀ a, (k0_off44 v181) a + S8x128.size a ≤ S64512x128.size a := fun v181 k0_hw2 => k0_hw2.1
theorem k0_off52_inb : ∀ (v181 : BitVec 32) (k0_hw2 : k0_chk2 v181), ∀ a, (k0_off52 v181) a + S1x128.size a ≤ S64512x128.size a := fun v181 k0_hw2 => k0_hw2.2

def k0_off53 (v184 : BitVec 32) : Fin 2 → Nat :=
  let c8_i32_164 : BitVec 32 := 8#32
  let v222 : BitVec 32 := Scalar.addi v184 c8_i32_164
  let v223 : Index := Scalar.indexCast v222
  let c0_165 : Index := 0#32
  ![v223.toNat, 0]

def k0_chk3 (v184 : BitVec 32) : Prop :=
  (∀ a, (k0_off45 v184) a + S8x128.size a ≤ S64512x128.size a) ∧
  (∀ a, (k0_off53 v184) a + S1x128.size a ≤ S64512x128.size a)
theorem k0_off45_inb : ∀ (v184 : BitVec 32) (k0_hw3 : k0_chk3 v184), ∀ a, (k0_off45 v184) a + S8x128.size a ≤ S64512x128.size a := fun v184 k0_hw3 => k0_hw3.1
theorem k0_off53_inb : ∀ (v184 : BitVec 32) (k0_hw3 : k0_chk3 v184), ∀ a, (k0_off53 v184) a + S1x128.size a ≤ S64512x128.size a := fun v184 k0_hw3 => k0_hw3.2

def k0_off54 (v187 : BitVec 32) : Fin 2 → Nat :=
  let c8_i32_166 : BitVec 32 := 8#32
  let v225 : BitVec 32 := Scalar.addi v187 c8_i32_166
  let v226 : Index := Scalar.indexCast v225
  let c0_167 : Index := 0#32
  ![v226.toNat, 0]

def k0_chk4 (v187 : BitVec 32) : Prop :=
  (∀ a, (k0_off46 v187) a + S8x128.size a ≤ S64512x128.size a) ∧
  (∀ a, (k0_off54 v187) a + S1x128.size a ≤ S64512x128.size a)
theorem k0_off46_inb : ∀ (v187 : BitVec 32) (k0_hw4 : k0_chk4 v187), ∀ a, (k0_off46 v187) a + S8x128.size a ≤ S64512x128.size a := fun v187 k0_hw4 => k0_hw4.1
theorem k0_off54_inb : ∀ (v187 : BitVec 32) (k0_hw4 : k0_chk4 v187), ∀ a, (k0_off54 v187) a + S1x128.size a ≤ S64512x128.size a := fun v187 k0_hw4 => k0_hw4.2

def k0_off55 (v190 : BitVec 32) : Fin 2 → Nat :=
  let c8_i32_168 : BitVec 32 := 8#32
  let v228 : BitVec 32 := Scalar.addi v190 c8_i32_168
  let v229 : Index := Scalar.indexCast v228
  let c0_169 : Index := 0#32
  ![v229.toNat, 0]

def k0_chk5 (v190 : BitVec 32) : Prop :=
  (∀ a, (k0_off47 v190) a + S8x128.size a ≤ S64512x128.size a) ∧
  (∀ a, (k0_off55 v190) a + S1x128.size a ≤ S64512x128.size a)
theorem k0_off47_inb : ∀ (v190 : BitVec 32) (k0_hw5 : k0_chk5 v190), ∀ a, (k0_off47 v190) a + S8x128.size a ≤ S64512x128.size a := fun v190 k0_hw5 => k0_hw5.1
theorem k0_off55_inb : ∀ (v190 : BitVec 32) (k0_hw5 : k0_chk5 v190), ∀ a, (k0_off55 v190) a + S1x128.size a ≤ S64512x128.size a := fun v190 k0_hw5 => k0_hw5.2

def k0_off56 (v193 : BitVec 32) : Fin 2 → Nat :=
  let c8_i32_170 : BitVec 32 := 8#32
  let v231 : BitVec 32 := Scalar.addi v193 c8_i32_170
  let v232 : Index := Scalar.indexCast v231
  let c0_171 : Index := 0#32
  ![v232.toNat, 0]

def k0_chk6 (v193 : BitVec 32) : Prop :=
  (∀ a, (k0_off48 v193) a + S8x128.size a ≤ S64512x128.size a) ∧
  (∀ a, (k0_off56 v193) a + S1x128.size a ≤ S64512x128.size a)
theorem k0_off48_inb : ∀ (v193 : BitVec 32) (k0_hw6 : k0_chk6 v193), ∀ a, (k0_off48 v193) a + S8x128.size a ≤ S64512x128.size a := fun v193 k0_hw6 => k0_hw6.1
theorem k0_off56_inb : ∀ (v193 : BitVec 32) (k0_hw6 : k0_chk6 v193), ∀ a, (k0_off56 v193) a + S1x128.size a ≤ S64512x128.size a := fun v193 k0_hw6 => k0_hw6.2

def k0_off57 (v196 : BitVec 32) : Fin 2 → Nat :=
  let c8_i32_172 : BitVec 32 := 8#32
  let v234 : BitVec 32 := Scalar.addi v196 c8_i32_172
  let v235 : Index := Scalar.indexCast v234
  let c0_173 : Index := 0#32
  ![v235.toNat, 0]

def k0_chk7 (v196 : BitVec 32) : Prop :=
  (∀ a, (k0_off49 v196) a + S8x128.size a ≤ S64512x128.size a) ∧
  (∀ a, (k0_off57 v196) a + S1x128.size a ≤ S64512x128.size a)
theorem k0_off49_inb : ∀ (v196 : BitVec 32) (k0_hw7 : k0_chk7 v196), ∀ a, (k0_off49 v196) a + S8x128.size a ≤ S64512x128.size a := fun v196 k0_hw7 => k0_hw7.1
theorem k0_off57_inb : ∀ (v196 : BitVec 32) (k0_hw7 : k0_chk7 v196), ∀ a, (k0_off57 v196) a + S1x128.size a ≤ S64512x128.size a := fun v196 k0_hw7 => k0_hw7.2

def k0_off58 (v199 : BitVec 32) : Fin 2 → Nat :=
  let c8_i32_174 : BitVec 32 := 8#32
  let v237 : BitVec 32 := Scalar.addi v199 c8_i32_174
  let v238 : Index := Scalar.indexCast v237
  let c0_175 : Index := 0#32
  ![v238.toNat, 0]

def k0_chk8 (v199 : BitVec 32) : Prop :=
  (∀ a, (k0_off50 v199) a + S8x128.size a ≤ S64512x128.size a) ∧
  (∀ a, (k0_off58 v199) a + S1x128.size a ≤ S64512x128.size a)
theorem k0_off50_inb : ∀ (v199 : BitVec 32) (k0_hw8 : k0_chk8 v199), ∀ a, (k0_off50 v199) a + S8x128.size a ≤ S64512x128.size a := fun v199 k0_hw8 => k0_hw8.1
theorem k0_off58_inb : ∀ (v199 : BitVec 32) (k0_hw8 : k0_chk8 v199), ∀ a, (k0_off58 v199) a + S1x128.size a ≤ S64512x128.size a := fun v199 k0_hw8 => k0_hw8.2

def k0_off59 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v361 : Index := Scalar.indexCast v172
  let c0_220 : Index := 0#32
  ![v361.toNat, 0]
def k0_off60 (v362 : BitVec 32) : Fin 2 → Nat :=
  let v384 : Index := Scalar.indexCast v362
  let c0_242 : Index := 0#32
  ![v384.toNat, 0]

def k0_off61 (v365 : BitVec 32) : Fin 2 → Nat :=
  let v386 : Index := Scalar.indexCast v365
  let c0_243 : Index := 0#32
  ![v386.toNat, 0]

def k0_off62 (v368 : BitVec 32) : Fin 2 → Nat :=
  let v388 : Index := Scalar.indexCast v368
  let c0_244 : Index := 0#32
  ![v388.toNat, 0]

def k0_off63 (v371 : BitVec 32) : Fin 2 → Nat :=
  let v390 : Index := Scalar.indexCast v371
  let c0_245 : Index := 0#32
  ![v390.toNat, 0]

def k0_off64 (v374 : BitVec 32) : Fin 2 → Nat :=
  let v392 : Index := Scalar.indexCast v374
  let c0_246 : Index := 0#32
  ![v392.toNat, 0]

def k0_off65 (v377 : BitVec 32) : Fin 2 → Nat :=
  let v394 : Index := Scalar.indexCast v377
  let c0_247 : Index := 0#32
  ![v394.toNat, 0]

def k0_off66 (v380 : BitVec 32) : Fin 2 → Nat :=
  let v396 : Index := Scalar.indexCast v380
  let c0_248 : Index := 0#32
  ![v396.toNat, 0]

def k0_off67 (v383 : BitVec 32) : Fin 2 → Nat :=
  let v398 : Index := Scalar.indexCast v383
  let c0_249 : Index := 0#32
  ![v398.toNat, 0]

def k0_off68 (v362 : BitVec 32) : Fin 2 → Nat :=
  let c8_i32_250 : BitVec 32 := 8#32
  let v400 : BitVec 32 := Scalar.addi v362 c8_i32_250
  let v401 : Index := Scalar.indexCast v400
  let c0_251 : Index := 0#32
  ![v401.toNat, 0]

def k0_chk9 (v362 : BitVec 32) : Prop :=
  (∀ a, (k0_off60 v362) a + S8x128.size a ≤ S64512x128.size a) ∧
  (∀ a, (k0_off68 v362) a + S1x128.size a ≤ S64512x128.size a)
theorem k0_off60_inb : ∀ (v362 : BitVec 32) (k0_hw9 : k0_chk9 v362), ∀ a, (k0_off60 v362) a + S8x128.size a ≤ S64512x128.size a := fun v362 k0_hw9 => k0_hw9.1
theorem k0_off68_inb : ∀ (v362 : BitVec 32) (k0_hw9 : k0_chk9 v362), ∀ a, (k0_off68 v362) a + S1x128.size a ≤ S64512x128.size a := fun v362 k0_hw9 => k0_hw9.2

def k0_off69 (v365 : BitVec 32) : Fin 2 → Nat :=
  let c8_i32_252 : BitVec 32 := 8#32
  let v403 : BitVec 32 := Scalar.addi v365 c8_i32_252
  let v404 : Index := Scalar.indexCast v403
  let c0_253 : Index := 0#32
  ![v404.toNat, 0]

def k0_chk10 (v365 : BitVec 32) : Prop :=
  (∀ a, (k0_off61 v365) a + S8x128.size a ≤ S64512x128.size a) ∧
  (∀ a, (k0_off69 v365) a + S1x128.size a ≤ S64512x128.size a)
theorem k0_off61_inb : ∀ (v365 : BitVec 32) (k0_hw10 : k0_chk10 v365), ∀ a, (k0_off61 v365) a + S8x128.size a ≤ S64512x128.size a := fun v365 k0_hw10 => k0_hw10.1
theorem k0_off69_inb : ∀ (v365 : BitVec 32) (k0_hw10 : k0_chk10 v365), ∀ a, (k0_off69 v365) a + S1x128.size a ≤ S64512x128.size a := fun v365 k0_hw10 => k0_hw10.2

def k0_off70 (v368 : BitVec 32) : Fin 2 → Nat :=
  let c8_i32_254 : BitVec 32 := 8#32
  let v406 : BitVec 32 := Scalar.addi v368 c8_i32_254
  let v407 : Index := Scalar.indexCast v406
  let c0_255 : Index := 0#32
  ![v407.toNat, 0]

def k0_chk11 (v368 : BitVec 32) : Prop :=
  (∀ a, (k0_off62 v368) a + S8x128.size a ≤ S64512x128.size a) ∧
  (∀ a, (k0_off70 v368) a + S1x128.size a ≤ S64512x128.size a)
theorem k0_off62_inb : ∀ (v368 : BitVec 32) (k0_hw11 : k0_chk11 v368), ∀ a, (k0_off62 v368) a + S8x128.size a ≤ S64512x128.size a := fun v368 k0_hw11 => k0_hw11.1
theorem k0_off70_inb : ∀ (v368 : BitVec 32) (k0_hw11 : k0_chk11 v368), ∀ a, (k0_off70 v368) a + S1x128.size a ≤ S64512x128.size a := fun v368 k0_hw11 => k0_hw11.2

def k0_off71 (v371 : BitVec 32) : Fin 2 → Nat :=
  let c8_i32_256 : BitVec 32 := 8#32
  let v409 : BitVec 32 := Scalar.addi v371 c8_i32_256
  let v410 : Index := Scalar.indexCast v409
  let c0_257 : Index := 0#32
  ![v410.toNat, 0]

def k0_chk12 (v371 : BitVec 32) : Prop :=
  (∀ a, (k0_off63 v371) a + S8x128.size a ≤ S64512x128.size a) ∧
  (∀ a, (k0_off71 v371) a + S1x128.size a ≤ S64512x128.size a)
theorem k0_off63_inb : ∀ (v371 : BitVec 32) (k0_hw12 : k0_chk12 v371), ∀ a, (k0_off63 v371) a + S8x128.size a ≤ S64512x128.size a := fun v371 k0_hw12 => k0_hw12.1
theorem k0_off71_inb : ∀ (v371 : BitVec 32) (k0_hw12 : k0_chk12 v371), ∀ a, (k0_off71 v371) a + S1x128.size a ≤ S64512x128.size a := fun v371 k0_hw12 => k0_hw12.2

def k0_off72 (v374 : BitVec 32) : Fin 2 → Nat :=
  let c8_i32_258 : BitVec 32 := 8#32
  let v412 : BitVec 32 := Scalar.addi v374 c8_i32_258
  let v413 : Index := Scalar.indexCast v412
  let c0_259 : Index := 0#32
  ![v413.toNat, 0]

def k0_chk13 (v374 : BitVec 32) : Prop :=
  (∀ a, (k0_off64 v374) a + S8x128.size a ≤ S64512x128.size a) ∧
  (∀ a, (k0_off72 v374) a + S1x128.size a ≤ S64512x128.size a)
theorem k0_off64_inb : ∀ (v374 : BitVec 32) (k0_hw13 : k0_chk13 v374), ∀ a, (k0_off64 v374) a + S8x128.size a ≤ S64512x128.size a := fun v374 k0_hw13 => k0_hw13.1
theorem k0_off72_inb : ∀ (v374 : BitVec 32) (k0_hw13 : k0_chk13 v374), ∀ a, (k0_off72 v374) a + S1x128.size a ≤ S64512x128.size a := fun v374 k0_hw13 => k0_hw13.2

def k0_off73 (v377 : BitVec 32) : Fin 2 → Nat :=
  let c8_i32_260 : BitVec 32 := 8#32
  let v415 : BitVec 32 := Scalar.addi v377 c8_i32_260
  let v416 : Index := Scalar.indexCast v415
  let c0_261 : Index := 0#32
  ![v416.toNat, 0]

def k0_chk14 (v377 : BitVec 32) : Prop :=
  (∀ a, (k0_off65 v377) a + S8x128.size a ≤ S64512x128.size a) ∧
  (∀ a, (k0_off73 v377) a + S1x128.size a ≤ S64512x128.size a)
theorem k0_off65_inb : ∀ (v377 : BitVec 32) (k0_hw14 : k0_chk14 v377), ∀ a, (k0_off65 v377) a + S8x128.size a ≤ S64512x128.size a := fun v377 k0_hw14 => k0_hw14.1
theorem k0_off73_inb : ∀ (v377 : BitVec 32) (k0_hw14 : k0_chk14 v377), ∀ a, (k0_off73 v377) a + S1x128.size a ≤ S64512x128.size a := fun v377 k0_hw14 => k0_hw14.2

def k0_off74 (v380 : BitVec 32) : Fin 2 → Nat :=
  let c8_i32_262 : BitVec 32 := 8#32
  let v418 : BitVec 32 := Scalar.addi v380 c8_i32_262
  let v419 : Index := Scalar.indexCast v418
  let c0_263 : Index := 0#32
  ![v419.toNat, 0]

def k0_chk15 (v380 : BitVec 32) : Prop :=
  (∀ a, (k0_off66 v380) a + S8x128.size a ≤ S64512x128.size a) ∧
  (∀ a, (k0_off74 v380) a + S1x128.size a ≤ S64512x128.size a)
theorem k0_off66_inb : ∀ (v380 : BitVec 32) (k0_hw15 : k0_chk15 v380), ∀ a, (k0_off66 v380) a + S8x128.size a ≤ S64512x128.size a := fun v380 k0_hw15 => k0_hw15.1
theorem k0_off74_inb : ∀ (v380 : BitVec 32) (k0_hw15 : k0_chk15 v380), ∀ a, (k0_off74 v380) a + S1x128.size a ≤ S64512x128.size a := fun v380 k0_hw15 => k0_hw15.2

def k0_off75 (v383 : BitVec 32) : Fin 2 → Nat :=
  let c8_i32_264 : BitVec 32 := 8#32
  let v421 : BitVec 32 := Scalar.addi v383 c8_i32_264
  let v422 : Index := Scalar.indexCast v421
  let c0_265 : Index := 0#32
  ![v422.toNat, 0]

def k0_chk16 (v383 : BitVec 32) : Prop :=
  (∀ a, (k0_off67 v383) a + S8x128.size a ≤ S64512x128.size a) ∧
  (∀ a, (k0_off75 v383) a + S1x128.size a ≤ S64512x128.size a)
theorem k0_off67_inb : ∀ (v383 : BitVec 32) (k0_hw16 : k0_chk16 v383), ∀ a, (k0_off67 v383) a + S8x128.size a ≤ S64512x128.size a := fun v383 k0_hw16 => k0_hw16.1
theorem k0_off75_inb : ∀ (v383 : BitVec 32) (k0_hw16 : k0_chk16 v383), ∀ a, (k0_off75 v383) a + S1x128.size a ≤ S64512x128.size a := fun v383 k0_hw16 => k0_hw16.2

def k0_off76 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v545 : Index := Scalar.indexCast v172
  let c0_311 : Index := 0#32
  ![v545.toNat, 0]
def k0_off77 (v546 : BitVec 32) : Fin 2 → Nat :=
  let v568 : Index := Scalar.indexCast v546
  let c0_333 : Index := 0#32
  ![v568.toNat, 0]

def k0_off78 (v549 : BitVec 32) : Fin 2 → Nat :=
  let v570 : Index := Scalar.indexCast v549
  let c0_334 : Index := 0#32
  ![v570.toNat, 0]

def k0_off79 (v552 : BitVec 32) : Fin 2 → Nat :=
  let v572 : Index := Scalar.indexCast v552
  let c0_335 : Index := 0#32
  ![v572.toNat, 0]

def k0_off80 (v555 : BitVec 32) : Fin 2 → Nat :=
  let v574 : Index := Scalar.indexCast v555
  let c0_336 : Index := 0#32
  ![v574.toNat, 0]

def k0_off81 (v558 : BitVec 32) : Fin 2 → Nat :=
  let v576 : Index := Scalar.indexCast v558
  let c0_337 : Index := 0#32
  ![v576.toNat, 0]

def k0_off82 (v561 : BitVec 32) : Fin 2 → Nat :=
  let v578 : Index := Scalar.indexCast v561
  let c0_338 : Index := 0#32
  ![v578.toNat, 0]

def k0_off83 (v564 : BitVec 32) : Fin 2 → Nat :=
  let v580 : Index := Scalar.indexCast v564
  let c0_339 : Index := 0#32
  ![v580.toNat, 0]

def k0_off84 (v567 : BitVec 32) : Fin 2 → Nat :=
  let v582 : Index := Scalar.indexCast v567
  let c0_340 : Index := 0#32
  ![v582.toNat, 0]

def k0_off85 (v546 : BitVec 32) : Fin 2 → Nat :=
  let c8_i32_341 : BitVec 32 := 8#32
  let v584 : BitVec 32 := Scalar.addi v546 c8_i32_341
  let v585 : Index := Scalar.indexCast v584
  let c0_342 : Index := 0#32
  ![v585.toNat, 0]

def k0_chk17 (v546 : BitVec 32) : Prop :=
  (∀ a, (k0_off77 v546) a + S8x128.size a ≤ S64512x128.size a) ∧
  (∀ a, (k0_off85 v546) a + S1x128.size a ≤ S64512x128.size a)
theorem k0_off77_inb : ∀ (v546 : BitVec 32) (k0_hw17 : k0_chk17 v546), ∀ a, (k0_off77 v546) a + S8x128.size a ≤ S64512x128.size a := fun v546 k0_hw17 => k0_hw17.1
theorem k0_off85_inb : ∀ (v546 : BitVec 32) (k0_hw17 : k0_chk17 v546), ∀ a, (k0_off85 v546) a + S1x128.size a ≤ S64512x128.size a := fun v546 k0_hw17 => k0_hw17.2

def k0_off86 (v549 : BitVec 32) : Fin 2 → Nat :=
  let c8_i32_343 : BitVec 32 := 8#32
  let v587 : BitVec 32 := Scalar.addi v549 c8_i32_343
  let v588 : Index := Scalar.indexCast v587
  let c0_344 : Index := 0#32
  ![v588.toNat, 0]

def k0_chk18 (v549 : BitVec 32) : Prop :=
  (∀ a, (k0_off78 v549) a + S8x128.size a ≤ S64512x128.size a) ∧
  (∀ a, (k0_off86 v549) a + S1x128.size a ≤ S64512x128.size a)
theorem k0_off78_inb : ∀ (v549 : BitVec 32) (k0_hw18 : k0_chk18 v549), ∀ a, (k0_off78 v549) a + S8x128.size a ≤ S64512x128.size a := fun v549 k0_hw18 => k0_hw18.1
theorem k0_off86_inb : ∀ (v549 : BitVec 32) (k0_hw18 : k0_chk18 v549), ∀ a, (k0_off86 v549) a + S1x128.size a ≤ S64512x128.size a := fun v549 k0_hw18 => k0_hw18.2

def k0_off87 (v552 : BitVec 32) : Fin 2 → Nat :=
  let c8_i32_345 : BitVec 32 := 8#32
  let v590 : BitVec 32 := Scalar.addi v552 c8_i32_345
  let v591 : Index := Scalar.indexCast v590
  let c0_346 : Index := 0#32
  ![v591.toNat, 0]

def k0_chk19 (v552 : BitVec 32) : Prop :=
  (∀ a, (k0_off79 v552) a + S8x128.size a ≤ S64512x128.size a) ∧
  (∀ a, (k0_off87 v552) a + S1x128.size a ≤ S64512x128.size a)
theorem k0_off79_inb : ∀ (v552 : BitVec 32) (k0_hw19 : k0_chk19 v552), ∀ a, (k0_off79 v552) a + S8x128.size a ≤ S64512x128.size a := fun v552 k0_hw19 => k0_hw19.1
theorem k0_off87_inb : ∀ (v552 : BitVec 32) (k0_hw19 : k0_chk19 v552), ∀ a, (k0_off87 v552) a + S1x128.size a ≤ S64512x128.size a := fun v552 k0_hw19 => k0_hw19.2

def k0_off88 (v555 : BitVec 32) : Fin 2 → Nat :=
  let c8_i32_347 : BitVec 32 := 8#32
  let v593 : BitVec 32 := Scalar.addi v555 c8_i32_347
  let v594 : Index := Scalar.indexCast v593
  let c0_348 : Index := 0#32
  ![v594.toNat, 0]

def k0_chk20 (v555 : BitVec 32) : Prop :=
  (∀ a, (k0_off80 v555) a + S8x128.size a ≤ S64512x128.size a) ∧
  (∀ a, (k0_off88 v555) a + S1x128.size a ≤ S64512x128.size a)
theorem k0_off80_inb : ∀ (v555 : BitVec 32) (k0_hw20 : k0_chk20 v555), ∀ a, (k0_off80 v555) a + S8x128.size a ≤ S64512x128.size a := fun v555 k0_hw20 => k0_hw20.1
theorem k0_off88_inb : ∀ (v555 : BitVec 32) (k0_hw20 : k0_chk20 v555), ∀ a, (k0_off88 v555) a + S1x128.size a ≤ S64512x128.size a := fun v555 k0_hw20 => k0_hw20.2

def k0_off89 (v558 : BitVec 32) : Fin 2 → Nat :=
  let c8_i32_349 : BitVec 32 := 8#32
  let v596 : BitVec 32 := Scalar.addi v558 c8_i32_349
  let v597 : Index := Scalar.indexCast v596
  let c0_350 : Index := 0#32
  ![v597.toNat, 0]

def k0_chk21 (v558 : BitVec 32) : Prop :=
  (∀ a, (k0_off81 v558) a + S8x128.size a ≤ S64512x128.size a) ∧
  (∀ a, (k0_off89 v558) a + S1x128.size a ≤ S64512x128.size a)
theorem k0_off81_inb : ∀ (v558 : BitVec 32) (k0_hw21 : k0_chk21 v558), ∀ a, (k0_off81 v558) a + S8x128.size a ≤ S64512x128.size a := fun v558 k0_hw21 => k0_hw21.1
theorem k0_off89_inb : ∀ (v558 : BitVec 32) (k0_hw21 : k0_chk21 v558), ∀ a, (k0_off89 v558) a + S1x128.size a ≤ S64512x128.size a := fun v558 k0_hw21 => k0_hw21.2

def k0_off90 (v561 : BitVec 32) : Fin 2 → Nat :=
  let c8_i32_351 : BitVec 32 := 8#32
  let v599 : BitVec 32 := Scalar.addi v561 c8_i32_351
  let v600 : Index := Scalar.indexCast v599
  let c0_352 : Index := 0#32
  ![v600.toNat, 0]

def k0_chk22 (v561 : BitVec 32) : Prop :=
  (∀ a, (k0_off82 v561) a + S8x128.size a ≤ S64512x128.size a) ∧
  (∀ a, (k0_off90 v561) a + S1x128.size a ≤ S64512x128.size a)
theorem k0_off82_inb : ∀ (v561 : BitVec 32) (k0_hw22 : k0_chk22 v561), ∀ a, (k0_off82 v561) a + S8x128.size a ≤ S64512x128.size a := fun v561 k0_hw22 => k0_hw22.1
theorem k0_off90_inb : ∀ (v561 : BitVec 32) (k0_hw22 : k0_chk22 v561), ∀ a, (k0_off90 v561) a + S1x128.size a ≤ S64512x128.size a := fun v561 k0_hw22 => k0_hw22.2

def k0_off91 (v564 : BitVec 32) : Fin 2 → Nat :=
  let c8_i32_353 : BitVec 32 := 8#32
  let v602 : BitVec 32 := Scalar.addi v564 c8_i32_353
  let v603 : Index := Scalar.indexCast v602
  let c0_354 : Index := 0#32
  ![v603.toNat, 0]

def k0_chk23 (v564 : BitVec 32) : Prop :=
  (∀ a, (k0_off83 v564) a + S8x128.size a ≤ S64512x128.size a) ∧
  (∀ a, (k0_off91 v564) a + S1x128.size a ≤ S64512x128.size a)
theorem k0_off83_inb : ∀ (v564 : BitVec 32) (k0_hw23 : k0_chk23 v564), ∀ a, (k0_off83 v564) a + S8x128.size a ≤ S64512x128.size a := fun v564 k0_hw23 => k0_hw23.1
theorem k0_off91_inb : ∀ (v564 : BitVec 32) (k0_hw23 : k0_chk23 v564), ∀ a, (k0_off91 v564) a + S1x128.size a ≤ S64512x128.size a := fun v564 k0_hw23 => k0_hw23.2

def k0_off92 (v567 : BitVec 32) : Fin 2 → Nat :=
  let c8_i32_355 : BitVec 32 := 8#32
  let v605 : BitVec 32 := Scalar.addi v567 c8_i32_355
  let v606 : Index := Scalar.indexCast v605
  let c0_356 : Index := 0#32
  ![v606.toNat, 0]

def k0_chk24 (v567 : BitVec 32) : Prop :=
  (∀ a, (k0_off84 v567) a + S8x128.size a ≤ S64512x128.size a) ∧
  (∀ a, (k0_off92 v567) a + S1x128.size a ≤ S64512x128.size a)
theorem k0_off84_inb : ∀ (v567 : BitVec 32) (k0_hw24 : k0_chk24 v567), ∀ a, (k0_off84 v567) a + S8x128.size a ≤ S64512x128.size a := fun v567 k0_hw24 => k0_hw24.1
theorem k0_off92_inb : ∀ (v567 : BitVec 32) (k0_hw24 : k0_chk24 v567), ∀ a, (k0_off92 v567) a + S1x128.size a ≤ S64512x128.size a := fun v567 k0_hw24 => k0_hw24.2

def k0_off93 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v729 : Index := Scalar.indexCast v172
  let c0_402 : Index := 0#32
  ![v729.toNat, 0]
def k0_off94 (v730 : BitVec 32) : Fin 2 → Nat :=
  let v752 : Index := Scalar.indexCast v730
  let c0_421 : Index := 0#32
  ![v752.toNat, 0]

def k0_off95 (v733 : BitVec 32) : Fin 2 → Nat :=
  let v754 : Index := Scalar.indexCast v733
  let c0_422 : Index := 0#32
  ![v754.toNat, 0]

def k0_off96 (v736 : BitVec 32) : Fin 2 → Nat :=
  let v756 : Index := Scalar.indexCast v736
  let c0_423 : Index := 0#32
  ![v756.toNat, 0]

def k0_off97 (v739 : BitVec 32) : Fin 2 → Nat :=
  let v758 : Index := Scalar.indexCast v739
  let c0_424 : Index := 0#32
  ![v758.toNat, 0]

def k0_off98 (v742 : BitVec 32) : Fin 2 → Nat :=
  let v760 : Index := Scalar.indexCast v742
  let c0_425 : Index := 0#32
  ![v760.toNat, 0]

def k0_off99 (v745 : BitVec 32) : Fin 2 → Nat :=
  let v762 : Index := Scalar.indexCast v745
  let c0_426 : Index := 0#32
  ![v762.toNat, 0]

def k0_off100 (v748 : BitVec 32) : Fin 2 → Nat :=
  let v764 : Index := Scalar.indexCast v748
  let c0_427 : Index := 0#32
  ![v764.toNat, 0]

def k0_off101 (v751 : BitVec 32) : Fin 2 → Nat :=
  let v766 : Index := Scalar.indexCast v751
  let c0_428 : Index := 0#32
  ![v766.toNat, 0]

def k0_off102 (v730 : BitVec 32) : Fin 2 → Nat :=
  let c8_i32_429 : BitVec 32 := 8#32
  let v768 : BitVec 32 := Scalar.addi v730 c8_i32_429
  let v769 : Index := Scalar.indexCast v768
  let c0_430 : Index := 0#32
  ![v769.toNat, 0]

def k0_chk25 (v730 : BitVec 32) : Prop :=
  (∀ a, (k0_off94 v730) a + S8x128.size a ≤ S64512x128.size a) ∧
  (∀ a, (k0_off102 v730) a + S1x128.size a ≤ S64512x128.size a)
theorem k0_off94_inb : ∀ (v730 : BitVec 32) (k0_hw25 : k0_chk25 v730), ∀ a, (k0_off94 v730) a + S8x128.size a ≤ S64512x128.size a := fun v730 k0_hw25 => k0_hw25.1
theorem k0_off102_inb : ∀ (v730 : BitVec 32) (k0_hw25 : k0_chk25 v730), ∀ a, (k0_off102 v730) a + S1x128.size a ≤ S64512x128.size a := fun v730 k0_hw25 => k0_hw25.2

def k0_off103 (v733 : BitVec 32) : Fin 2 → Nat :=
  let c8_i32_431 : BitVec 32 := 8#32
  let v771 : BitVec 32 := Scalar.addi v733 c8_i32_431
  let v772 : Index := Scalar.indexCast v771
  let c0_432 : Index := 0#32
  ![v772.toNat, 0]

def k0_chk26 (v733 : BitVec 32) : Prop :=
  (∀ a, (k0_off95 v733) a + S8x128.size a ≤ S64512x128.size a) ∧
  (∀ a, (k0_off103 v733) a + S1x128.size a ≤ S64512x128.size a)
theorem k0_off95_inb : ∀ (v733 : BitVec 32) (k0_hw26 : k0_chk26 v733), ∀ a, (k0_off95 v733) a + S8x128.size a ≤ S64512x128.size a := fun v733 k0_hw26 => k0_hw26.1
theorem k0_off103_inb : ∀ (v733 : BitVec 32) (k0_hw26 : k0_chk26 v733), ∀ a, (k0_off103 v733) a + S1x128.size a ≤ S64512x128.size a := fun v733 k0_hw26 => k0_hw26.2

def k0_off104 (v736 : BitVec 32) : Fin 2 → Nat :=
  let c8_i32_433 : BitVec 32 := 8#32
  let v774 : BitVec 32 := Scalar.addi v736 c8_i32_433
  let v775 : Index := Scalar.indexCast v774
  let c0_434 : Index := 0#32
  ![v775.toNat, 0]

def k0_chk27 (v736 : BitVec 32) : Prop :=
  (∀ a, (k0_off96 v736) a + S8x128.size a ≤ S64512x128.size a) ∧
  (∀ a, (k0_off104 v736) a + S1x128.size a ≤ S64512x128.size a)
theorem k0_off96_inb : ∀ (v736 : BitVec 32) (k0_hw27 : k0_chk27 v736), ∀ a, (k0_off96 v736) a + S8x128.size a ≤ S64512x128.size a := fun v736 k0_hw27 => k0_hw27.1
theorem k0_off104_inb : ∀ (v736 : BitVec 32) (k0_hw27 : k0_chk27 v736), ∀ a, (k0_off104 v736) a + S1x128.size a ≤ S64512x128.size a := fun v736 k0_hw27 => k0_hw27.2

def k0_off105 (v739 : BitVec 32) : Fin 2 → Nat :=
  let c8_i32_435 : BitVec 32 := 8#32
  let v777 : BitVec 32 := Scalar.addi v739 c8_i32_435
  let v778 : Index := Scalar.indexCast v777
  let c0_436 : Index := 0#32
  ![v778.toNat, 0]

def k0_chk28 (v739 : BitVec 32) : Prop :=
  (∀ a, (k0_off97 v739) a + S8x128.size a ≤ S64512x128.size a) ∧
  (∀ a, (k0_off105 v739) a + S1x128.size a ≤ S64512x128.size a)
theorem k0_off97_inb : ∀ (v739 : BitVec 32) (k0_hw28 : k0_chk28 v739), ∀ a, (k0_off97 v739) a + S8x128.size a ≤ S64512x128.size a := fun v739 k0_hw28 => k0_hw28.1
theorem k0_off105_inb : ∀ (v739 : BitVec 32) (k0_hw28 : k0_chk28 v739), ∀ a, (k0_off105 v739) a + S1x128.size a ≤ S64512x128.size a := fun v739 k0_hw28 => k0_hw28.2

def k0_off106 (v742 : BitVec 32) : Fin 2 → Nat :=
  let c8_i32_437 : BitVec 32 := 8#32
  let v780 : BitVec 32 := Scalar.addi v742 c8_i32_437
  let v781 : Index := Scalar.indexCast v780
  let c0_438 : Index := 0#32
  ![v781.toNat, 0]

def k0_chk29 (v742 : BitVec 32) : Prop :=
  (∀ a, (k0_off98 v742) a + S8x128.size a ≤ S64512x128.size a) ∧
  (∀ a, (k0_off106 v742) a + S1x128.size a ≤ S64512x128.size a)
theorem k0_off98_inb : ∀ (v742 : BitVec 32) (k0_hw29 : k0_chk29 v742), ∀ a, (k0_off98 v742) a + S8x128.size a ≤ S64512x128.size a := fun v742 k0_hw29 => k0_hw29.1
theorem k0_off106_inb : ∀ (v742 : BitVec 32) (k0_hw29 : k0_chk29 v742), ∀ a, (k0_off106 v742) a + S1x128.size a ≤ S64512x128.size a := fun v742 k0_hw29 => k0_hw29.2

def k0_off107 (v745 : BitVec 32) : Fin 2 → Nat :=
  let c8_i32_439 : BitVec 32 := 8#32
  let v783 : BitVec 32 := Scalar.addi v745 c8_i32_439
  let v784 : Index := Scalar.indexCast v783
  let c0_440 : Index := 0#32
  ![v784.toNat, 0]

def k0_chk30 (v745 : BitVec 32) : Prop :=
  (∀ a, (k0_off99 v745) a + S8x128.size a ≤ S64512x128.size a) ∧
  (∀ a, (k0_off107 v745) a + S1x128.size a ≤ S64512x128.size a)
theorem k0_off99_inb : ∀ (v745 : BitVec 32) (k0_hw30 : k0_chk30 v745), ∀ a, (k0_off99 v745) a + S8x128.size a ≤ S64512x128.size a := fun v745 k0_hw30 => k0_hw30.1
theorem k0_off107_inb : ∀ (v745 : BitVec 32) (k0_hw30 : k0_chk30 v745), ∀ a, (k0_off107 v745) a + S1x128.size a ≤ S64512x128.size a := fun v745 k0_hw30 => k0_hw30.2

def k0_off108 (v748 : BitVec 32) : Fin 2 → Nat :=
  let c8_i32_441 : BitVec 32 := 8#32
  let v786 : BitVec 32 := Scalar.addi v748 c8_i32_441
  let v787 : Index := Scalar.indexCast v786
  let c0_442 : Index := 0#32
  ![v787.toNat, 0]

def k0_chk31 (v748 : BitVec 32) : Prop :=
  (∀ a, (k0_off100 v748) a + S8x128.size a ≤ S64512x128.size a) ∧
  (∀ a, (k0_off108 v748) a + S1x128.size a ≤ S64512x128.size a)
theorem k0_off100_inb : ∀ (v748 : BitVec 32) (k0_hw31 : k0_chk31 v748), ∀ a, (k0_off100 v748) a + S8x128.size a ≤ S64512x128.size a := fun v748 k0_hw31 => k0_hw31.1
theorem k0_off108_inb : ∀ (v748 : BitVec 32) (k0_hw31 : k0_chk31 v748), ∀ a, (k0_off108 v748) a + S1x128.size a ≤ S64512x128.size a := fun v748 k0_hw31 => k0_hw31.2

def k0_off109 (v751 : BitVec 32) : Fin 2 → Nat :=
  let c8_i32_443 : BitVec 32 := 8#32
  let v789 : BitVec 32 := Scalar.addi v751 c8_i32_443
  let v790 : Index := Scalar.indexCast v789
  let c0_444 : Index := 0#32
  ![v790.toNat, 0]

def k0_chk32 (v751 : BitVec 32) : Prop :=
  (∀ a, (k0_off101 v751) a + S8x128.size a ≤ S64512x128.size a) ∧
  (∀ a, (k0_off109 v751) a + S1x128.size a ≤ S64512x128.size a)
theorem k0_off101_inb : ∀ (v751 : BitVec 32) (k0_hw32 : k0_chk32 v751), ∀ a, (k0_off101 v751) a + S8x128.size a ≤ S64512x128.size a := fun v751 k0_hw32 => k0_hw32.1
theorem k0_off109_inb : ∀ (v751 : BitVec 32) (k0_hw32 : k0_chk32 v751), ∀ a, (k0_off109 v751) a + S1x128.size a ≤ S64512x128.size a := fun v751 k0_hw32 => k0_hw32.2

def k0_off110 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v913 : Index := Scalar.indexCast v172
  let c0_490 : Index := 0#32
  ![v913.toNat, 0]
def k0_off111 (v914 : BitVec 32) : Fin 2 → Nat :=
  let v936 : Index := Scalar.indexCast v914
  let c0_505 : Index := 0#32
  ![v936.toNat, 0]

def k0_off112 (v917 : BitVec 32) : Fin 2 → Nat :=
  let v938 : Index := Scalar.indexCast v917
  let c0_506 : Index := 0#32
  ![v938.toNat, 0]

def k0_off113 (v920 : BitVec 32) : Fin 2 → Nat :=
  let v940 : Index := Scalar.indexCast v920
  let c0_507 : Index := 0#32
  ![v940.toNat, 0]

def k0_off114 (v923 : BitVec 32) : Fin 2 → Nat :=
  let v942 : Index := Scalar.indexCast v923
  let c0_508 : Index := 0#32
  ![v942.toNat, 0]

def k0_off115 (v926 : BitVec 32) : Fin 2 → Nat :=
  let v944 : Index := Scalar.indexCast v926
  let c0_509 : Index := 0#32
  ![v944.toNat, 0]

def k0_off116 (v929 : BitVec 32) : Fin 2 → Nat :=
  let v946 : Index := Scalar.indexCast v929
  let c0_510 : Index := 0#32
  ![v946.toNat, 0]

def k0_off117 (v932 : BitVec 32) : Fin 2 → Nat :=
  let v948 : Index := Scalar.indexCast v932
  let c0_511 : Index := 0#32
  ![v948.toNat, 0]

def k0_off118 (v935 : BitVec 32) : Fin 2 → Nat :=
  let v950 : Index := Scalar.indexCast v935
  let c0_512 : Index := 0#32
  ![v950.toNat, 0]

def k0_off119 (v914 : BitVec 32) : Fin 2 → Nat :=
  let c8_i32_513 : BitVec 32 := 8#32
  let v952 : BitVec 32 := Scalar.addi v914 c8_i32_513
  let v953 : Index := Scalar.indexCast v952
  let c0_514 : Index := 0#32
  ![v953.toNat, 0]

def k0_chk33 (v914 : BitVec 32) : Prop :=
  (∀ a, (k0_off111 v914) a + S8x128.size a ≤ S64512x128.size a) ∧
  (∀ a, (k0_off119 v914) a + S1x128.size a ≤ S64512x128.size a)
theorem k0_off111_inb : ∀ (v914 : BitVec 32) (k0_hw33 : k0_chk33 v914), ∀ a, (k0_off111 v914) a + S8x128.size a ≤ S64512x128.size a := fun v914 k0_hw33 => k0_hw33.1
theorem k0_off119_inb : ∀ (v914 : BitVec 32) (k0_hw33 : k0_chk33 v914), ∀ a, (k0_off119 v914) a + S1x128.size a ≤ S64512x128.size a := fun v914 k0_hw33 => k0_hw33.2

def k0_off120 (v917 : BitVec 32) : Fin 2 → Nat :=
  let c8_i32_515 : BitVec 32 := 8#32
  let v955 : BitVec 32 := Scalar.addi v917 c8_i32_515
  let v956 : Index := Scalar.indexCast v955
  let c0_516 : Index := 0#32
  ![v956.toNat, 0]

def k0_chk34 (v917 : BitVec 32) : Prop :=
  (∀ a, (k0_off112 v917) a + S8x128.size a ≤ S64512x128.size a) ∧
  (∀ a, (k0_off120 v917) a + S1x128.size a ≤ S64512x128.size a)
theorem k0_off112_inb : ∀ (v917 : BitVec 32) (k0_hw34 : k0_chk34 v917), ∀ a, (k0_off112 v917) a + S8x128.size a ≤ S64512x128.size a := fun v917 k0_hw34 => k0_hw34.1
theorem k0_off120_inb : ∀ (v917 : BitVec 32) (k0_hw34 : k0_chk34 v917), ∀ a, (k0_off120 v917) a + S1x128.size a ≤ S64512x128.size a := fun v917 k0_hw34 => k0_hw34.2

def k0_off121 (v920 : BitVec 32) : Fin 2 → Nat :=
  let c8_i32_517 : BitVec 32 := 8#32
  let v958 : BitVec 32 := Scalar.addi v920 c8_i32_517
  let v959 : Index := Scalar.indexCast v958
  let c0_518 : Index := 0#32
  ![v959.toNat, 0]

def k0_chk35 (v920 : BitVec 32) : Prop :=
  (∀ a, (k0_off113 v920) a + S8x128.size a ≤ S64512x128.size a) ∧
  (∀ a, (k0_off121 v920) a + S1x128.size a ≤ S64512x128.size a)
theorem k0_off113_inb : ∀ (v920 : BitVec 32) (k0_hw35 : k0_chk35 v920), ∀ a, (k0_off113 v920) a + S8x128.size a ≤ S64512x128.size a := fun v920 k0_hw35 => k0_hw35.1
theorem k0_off121_inb : ∀ (v920 : BitVec 32) (k0_hw35 : k0_chk35 v920), ∀ a, (k0_off121 v920) a + S1x128.size a ≤ S64512x128.size a := fun v920 k0_hw35 => k0_hw35.2

def k0_off122 (v923 : BitVec 32) : Fin 2 → Nat :=
  let c8_i32_519 : BitVec 32 := 8#32
  let v961 : BitVec 32 := Scalar.addi v923 c8_i32_519
  let v962 : Index := Scalar.indexCast v961
  let c0_520 : Index := 0#32
  ![v962.toNat, 0]

def k0_chk36 (v923 : BitVec 32) : Prop :=
  (∀ a, (k0_off114 v923) a + S8x128.size a ≤ S64512x128.size a) ∧
  (∀ a, (k0_off122 v923) a + S1x128.size a ≤ S64512x128.size a)
theorem k0_off114_inb : ∀ (v923 : BitVec 32) (k0_hw36 : k0_chk36 v923), ∀ a, (k0_off114 v923) a + S8x128.size a ≤ S64512x128.size a := fun v923 k0_hw36 => k0_hw36.1
theorem k0_off122_inb : ∀ (v923 : BitVec 32) (k0_hw36 : k0_chk36 v923), ∀ a, (k0_off122 v923) a + S1x128.size a ≤ S64512x128.size a := fun v923 k0_hw36 => k0_hw36.2

def k0_off123 (v926 : BitVec 32) : Fin 2 → Nat :=
  let c8_i32_521 : BitVec 32 := 8#32
  let v964 : BitVec 32 := Scalar.addi v926 c8_i32_521
  let v965 : Index := Scalar.indexCast v964
  let c0_522 : Index := 0#32
  ![v965.toNat, 0]

def k0_chk37 (v926 : BitVec 32) : Prop :=
  (∀ a, (k0_off115 v926) a + S8x128.size a ≤ S64512x128.size a) ∧
  (∀ a, (k0_off123 v926) a + S1x128.size a ≤ S64512x128.size a)
theorem k0_off115_inb : ∀ (v926 : BitVec 32) (k0_hw37 : k0_chk37 v926), ∀ a, (k0_off115 v926) a + S8x128.size a ≤ S64512x128.size a := fun v926 k0_hw37 => k0_hw37.1
theorem k0_off123_inb : ∀ (v926 : BitVec 32) (k0_hw37 : k0_chk37 v926), ∀ a, (k0_off123 v926) a + S1x128.size a ≤ S64512x128.size a := fun v926 k0_hw37 => k0_hw37.2

def k0_off124 (v929 : BitVec 32) : Fin 2 → Nat :=
  let c8_i32_523 : BitVec 32 := 8#32
  let v967 : BitVec 32 := Scalar.addi v929 c8_i32_523
  let v968 : Index := Scalar.indexCast v967
  let c0_524 : Index := 0#32
  ![v968.toNat, 0]

def k0_chk38 (v929 : BitVec 32) : Prop :=
  (∀ a, (k0_off116 v929) a + S8x128.size a ≤ S64512x128.size a) ∧
  (∀ a, (k0_off124 v929) a + S1x128.size a ≤ S64512x128.size a)
theorem k0_off116_inb : ∀ (v929 : BitVec 32) (k0_hw38 : k0_chk38 v929), ∀ a, (k0_off116 v929) a + S8x128.size a ≤ S64512x128.size a := fun v929 k0_hw38 => k0_hw38.1
theorem k0_off124_inb : ∀ (v929 : BitVec 32) (k0_hw38 : k0_chk38 v929), ∀ a, (k0_off124 v929) a + S1x128.size a ≤ S64512x128.size a := fun v929 k0_hw38 => k0_hw38.2

def k0_off125 (v932 : BitVec 32) : Fin 2 → Nat :=
  let c8_i32_525 : BitVec 32 := 8#32
  let v970 : BitVec 32 := Scalar.addi v932 c8_i32_525
  let v971 : Index := Scalar.indexCast v970
  let c0_526 : Index := 0#32
  ![v971.toNat, 0]

def k0_chk39 (v932 : BitVec 32) : Prop :=
  (∀ a, (k0_off117 v932) a + S8x128.size a ≤ S64512x128.size a) ∧
  (∀ a, (k0_off125 v932) a + S1x128.size a ≤ S64512x128.size a)
theorem k0_off117_inb : ∀ (v932 : BitVec 32) (k0_hw39 : k0_chk39 v932), ∀ a, (k0_off117 v932) a + S8x128.size a ≤ S64512x128.size a := fun v932 k0_hw39 => k0_hw39.1
theorem k0_off125_inb : ∀ (v932 : BitVec 32) (k0_hw39 : k0_chk39 v932), ∀ a, (k0_off125 v932) a + S1x128.size a ≤ S64512x128.size a := fun v932 k0_hw39 => k0_hw39.2

def k0_off126 (v935 : BitVec 32) : Fin 2 → Nat :=
  let c8_i32_527 : BitVec 32 := 8#32
  let v973 : BitVec 32 := Scalar.addi v935 c8_i32_527
  let v974 : Index := Scalar.indexCast v973
  let c0_528 : Index := 0#32
  ![v974.toNat, 0]

def k0_chk40 (v935 : BitVec 32) : Prop :=
  (∀ a, (k0_off118 v935) a + S8x128.size a ≤ S64512x128.size a) ∧
  (∀ a, (k0_off126 v935) a + S1x128.size a ≤ S64512x128.size a)
theorem k0_off118_inb : ∀ (v935 : BitVec 32) (k0_hw40 : k0_chk40 v935), ∀ a, (k0_off118 v935) a + S8x128.size a ≤ S64512x128.size a := fun v935 k0_hw40 => k0_hw40.1
theorem k0_off126_inb : ∀ (v935 : BitVec 32) (k0_hw40 : k0_chk40 v935), ∀ a, (k0_off126 v935) a + S1x128.size a ≤ S64512x128.size a := fun v935 k0_hw40 => k0_hw40.2

def k0_off127 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v1097 : Index := Scalar.indexCast v172
  let c0_575 : Index := 0#32
  ![v1097.toNat, 0]
def k0_off128 (v1098 : BitVec 32) : Fin 2 → Nat :=
  let v1120 : Index := Scalar.indexCast v1098
  let c0_590 : Index := 0#32
  ![v1120.toNat, 0]

def k0_off129 (v1101 : BitVec 32) : Fin 2 → Nat :=
  let v1122 : Index := Scalar.indexCast v1101
  let c0_591 : Index := 0#32
  ![v1122.toNat, 0]

def k0_off130 (v1104 : BitVec 32) : Fin 2 → Nat :=
  let v1124 : Index := Scalar.indexCast v1104
  let c0_592 : Index := 0#32
  ![v1124.toNat, 0]

def k0_off131 (v1107 : BitVec 32) : Fin 2 → Nat :=
  let v1126 : Index := Scalar.indexCast v1107
  let c0_593 : Index := 0#32
  ![v1126.toNat, 0]

def k0_off132 (v1110 : BitVec 32) : Fin 2 → Nat :=
  let v1128 : Index := Scalar.indexCast v1110
  let c0_594 : Index := 0#32
  ![v1128.toNat, 0]

def k0_off133 (v1113 : BitVec 32) : Fin 2 → Nat :=
  let v1130 : Index := Scalar.indexCast v1113
  let c0_595 : Index := 0#32
  ![v1130.toNat, 0]

def k0_off134 (v1116 : BitVec 32) : Fin 2 → Nat :=
  let v1132 : Index := Scalar.indexCast v1116
  let c0_596 : Index := 0#32
  ![v1132.toNat, 0]

def k0_off135 (v1119 : BitVec 32) : Fin 2 → Nat :=
  let v1134 : Index := Scalar.indexCast v1119
  let c0_597 : Index := 0#32
  ![v1134.toNat, 0]

def k0_off136 (v1098 : BitVec 32) : Fin 2 → Nat :=
  let c8_i32_598 : BitVec 32 := 8#32
  let v1136 : BitVec 32 := Scalar.addi v1098 c8_i32_598
  let v1137 : Index := Scalar.indexCast v1136
  let c0_599 : Index := 0#32
  ![v1137.toNat, 0]

def k0_chk41 (v1098 : BitVec 32) : Prop :=
  (∀ a, (k0_off128 v1098) a + S8x128.size a ≤ S64512x128.size a) ∧
  (∀ a, (k0_off136 v1098) a + S1x128.size a ≤ S64512x128.size a)
theorem k0_off128_inb : ∀ (v1098 : BitVec 32) (k0_hw41 : k0_chk41 v1098), ∀ a, (k0_off128 v1098) a + S8x128.size a ≤ S64512x128.size a := fun v1098 k0_hw41 => k0_hw41.1
theorem k0_off136_inb : ∀ (v1098 : BitVec 32) (k0_hw41 : k0_chk41 v1098), ∀ a, (k0_off136 v1098) a + S1x128.size a ≤ S64512x128.size a := fun v1098 k0_hw41 => k0_hw41.2

def k0_off137 (v1101 : BitVec 32) : Fin 2 → Nat :=
  let c8_i32_600 : BitVec 32 := 8#32
  let v1139 : BitVec 32 := Scalar.addi v1101 c8_i32_600
  let v1140 : Index := Scalar.indexCast v1139
  let c0_601 : Index := 0#32
  ![v1140.toNat, 0]

def k0_chk42 (v1101 : BitVec 32) : Prop :=
  (∀ a, (k0_off129 v1101) a + S8x128.size a ≤ S64512x128.size a) ∧
  (∀ a, (k0_off137 v1101) a + S1x128.size a ≤ S64512x128.size a)
theorem k0_off129_inb : ∀ (v1101 : BitVec 32) (k0_hw42 : k0_chk42 v1101), ∀ a, (k0_off129 v1101) a + S8x128.size a ≤ S64512x128.size a := fun v1101 k0_hw42 => k0_hw42.1
theorem k0_off137_inb : ∀ (v1101 : BitVec 32) (k0_hw42 : k0_chk42 v1101), ∀ a, (k0_off137 v1101) a + S1x128.size a ≤ S64512x128.size a := fun v1101 k0_hw42 => k0_hw42.2

def k0_off138 (v1104 : BitVec 32) : Fin 2 → Nat :=
  let c8_i32_602 : BitVec 32 := 8#32
  let v1142 : BitVec 32 := Scalar.addi v1104 c8_i32_602
  let v1143 : Index := Scalar.indexCast v1142
  let c0_603 : Index := 0#32
  ![v1143.toNat, 0]

def k0_chk43 (v1104 : BitVec 32) : Prop :=
  (∀ a, (k0_off130 v1104) a + S8x128.size a ≤ S64512x128.size a) ∧
  (∀ a, (k0_off138 v1104) a + S1x128.size a ≤ S64512x128.size a)
theorem k0_off130_inb : ∀ (v1104 : BitVec 32) (k0_hw43 : k0_chk43 v1104), ∀ a, (k0_off130 v1104) a + S8x128.size a ≤ S64512x128.size a := fun v1104 k0_hw43 => k0_hw43.1
theorem k0_off138_inb : ∀ (v1104 : BitVec 32) (k0_hw43 : k0_chk43 v1104), ∀ a, (k0_off138 v1104) a + S1x128.size a ≤ S64512x128.size a := fun v1104 k0_hw43 => k0_hw43.2

def k0_off139 (v1107 : BitVec 32) : Fin 2 → Nat :=
  let c8_i32_604 : BitVec 32 := 8#32
  let v1145 : BitVec 32 := Scalar.addi v1107 c8_i32_604
  let v1146 : Index := Scalar.indexCast v1145
  let c0_605 : Index := 0#32
  ![v1146.toNat, 0]

def k0_chk44 (v1107 : BitVec 32) : Prop :=
  (∀ a, (k0_off131 v1107) a + S8x128.size a ≤ S64512x128.size a) ∧
  (∀ a, (k0_off139 v1107) a + S1x128.size a ≤ S64512x128.size a)
theorem k0_off131_inb : ∀ (v1107 : BitVec 32) (k0_hw44 : k0_chk44 v1107), ∀ a, (k0_off131 v1107) a + S8x128.size a ≤ S64512x128.size a := fun v1107 k0_hw44 => k0_hw44.1
theorem k0_off139_inb : ∀ (v1107 : BitVec 32) (k0_hw44 : k0_chk44 v1107), ∀ a, (k0_off139 v1107) a + S1x128.size a ≤ S64512x128.size a := fun v1107 k0_hw44 => k0_hw44.2

def k0_off140 (v1110 : BitVec 32) : Fin 2 → Nat :=
  let c8_i32_606 : BitVec 32 := 8#32
  let v1148 : BitVec 32 := Scalar.addi v1110 c8_i32_606
  let v1149 : Index := Scalar.indexCast v1148
  let c0_607 : Index := 0#32
  ![v1149.toNat, 0]

def k0_chk45 (v1110 : BitVec 32) : Prop :=
  (∀ a, (k0_off132 v1110) a + S8x128.size a ≤ S64512x128.size a) ∧
  (∀ a, (k0_off140 v1110) a + S1x128.size a ≤ S64512x128.size a)
theorem k0_off132_inb : ∀ (v1110 : BitVec 32) (k0_hw45 : k0_chk45 v1110), ∀ a, (k0_off132 v1110) a + S8x128.size a ≤ S64512x128.size a := fun v1110 k0_hw45 => k0_hw45.1
theorem k0_off140_inb : ∀ (v1110 : BitVec 32) (k0_hw45 : k0_chk45 v1110), ∀ a, (k0_off140 v1110) a + S1x128.size a ≤ S64512x128.size a := fun v1110 k0_hw45 => k0_hw45.2

def k0_off141 (v1113 : BitVec 32) : Fin 2 → Nat :=
  let c8_i32_608 : BitVec 32 := 8#32
  let v1151 : BitVec 32 := Scalar.addi v1113 c8_i32_608
  let v1152 : Index := Scalar.indexCast v1151
  let c0_609 : Index := 0#32
  ![v1152.toNat, 0]

def k0_chk46 (v1113 : BitVec 32) : Prop :=
  (∀ a, (k0_off133 v1113) a + S8x128.size a ≤ S64512x128.size a) ∧
  (∀ a, (k0_off141 v1113) a + S1x128.size a ≤ S64512x128.size a)
theorem k0_off133_inb : ∀ (v1113 : BitVec 32) (k0_hw46 : k0_chk46 v1113), ∀ a, (k0_off133 v1113) a + S8x128.size a ≤ S64512x128.size a := fun v1113 k0_hw46 => k0_hw46.1
theorem k0_off141_inb : ∀ (v1113 : BitVec 32) (k0_hw46 : k0_chk46 v1113), ∀ a, (k0_off141 v1113) a + S1x128.size a ≤ S64512x128.size a := fun v1113 k0_hw46 => k0_hw46.2

def k0_off142 (v1116 : BitVec 32) : Fin 2 → Nat :=
  let c8_i32_610 : BitVec 32 := 8#32
  let v1154 : BitVec 32 := Scalar.addi v1116 c8_i32_610
  let v1155 : Index := Scalar.indexCast v1154
  let c0_611 : Index := 0#32
  ![v1155.toNat, 0]

def k0_chk47 (v1116 : BitVec 32) : Prop :=
  (∀ a, (k0_off134 v1116) a + S8x128.size a ≤ S64512x128.size a) ∧
  (∀ a, (k0_off142 v1116) a + S1x128.size a ≤ S64512x128.size a)
theorem k0_off134_inb : ∀ (v1116 : BitVec 32) (k0_hw47 : k0_chk47 v1116), ∀ a, (k0_off134 v1116) a + S8x128.size a ≤ S64512x128.size a := fun v1116 k0_hw47 => k0_hw47.1
theorem k0_off142_inb : ∀ (v1116 : BitVec 32) (k0_hw47 : k0_chk47 v1116), ∀ a, (k0_off142 v1116) a + S1x128.size a ≤ S64512x128.size a := fun v1116 k0_hw47 => k0_hw47.2

def k0_off143 (v1119 : BitVec 32) : Fin 2 → Nat :=
  let c8_i32_612 : BitVec 32 := 8#32
  let v1157 : BitVec 32 := Scalar.addi v1119 c8_i32_612
  let v1158 : Index := Scalar.indexCast v1157
  let c0_613 : Index := 0#32
  ![v1158.toNat, 0]

def k0_chk48 (v1119 : BitVec 32) : Prop :=
  (∀ a, (k0_off135 v1119) a + S8x128.size a ≤ S64512x128.size a) ∧
  (∀ a, (k0_off143 v1119) a + S1x128.size a ≤ S64512x128.size a)
theorem k0_off135_inb : ∀ (v1119 : BitVec 32) (k0_hw48 : k0_chk48 v1119), ∀ a, (k0_off135 v1119) a + S8x128.size a ≤ S64512x128.size a := fun v1119 k0_hw48 => k0_hw48.1
theorem k0_off143_inb : ∀ (v1119 : BitVec 32) (k0_hw48 : k0_chk48 v1119), ∀ a, (k0_off143 v1119) a + S1x128.size a ≤ S64512x128.size a := fun v1119 k0_hw48 => k0_hw48.2

def k0_off144 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v1281 : Index := Scalar.indexCast v172
  let c0_660 : Index := 0#32
  ![v1281.toNat, 0]
def k0_off145 (v1282 : BitVec 32) : Fin 2 → Nat :=
  let v1304 : Index := Scalar.indexCast v1282
  let c0_677 : Index := 0#32
  ![v1304.toNat, 0]

def k0_off146 (v1285 : BitVec 32) : Fin 2 → Nat :=
  let v1306 : Index := Scalar.indexCast v1285
  let c0_678 : Index := 0#32
  ![v1306.toNat, 0]

def k0_off147 (v1288 : BitVec 32) : Fin 2 → Nat :=
  let v1308 : Index := Scalar.indexCast v1288
  let c0_679 : Index := 0#32
  ![v1308.toNat, 0]

def k0_off148 (v1291 : BitVec 32) : Fin 2 → Nat :=
  let v1310 : Index := Scalar.indexCast v1291
  let c0_680 : Index := 0#32
  ![v1310.toNat, 0]

def k0_off149 (v1294 : BitVec 32) : Fin 2 → Nat :=
  let v1312 : Index := Scalar.indexCast v1294
  let c0_681 : Index := 0#32
  ![v1312.toNat, 0]

def k0_off150 (v1297 : BitVec 32) : Fin 2 → Nat :=
  let v1314 : Index := Scalar.indexCast v1297
  let c0_682 : Index := 0#32
  ![v1314.toNat, 0]

def k0_off151 (v1300 : BitVec 32) : Fin 2 → Nat :=
  let v1316 : Index := Scalar.indexCast v1300
  let c0_683 : Index := 0#32
  ![v1316.toNat, 0]

def k0_off152 (v1303 : BitVec 32) : Fin 2 → Nat :=
  let v1318 : Index := Scalar.indexCast v1303
  let c0_684 : Index := 0#32
  ![v1318.toNat, 0]

def k0_off153 (v1282 : BitVec 32) : Fin 2 → Nat :=
  let c8_i32_685 : BitVec 32 := 8#32
  let v1320 : BitVec 32 := Scalar.addi v1282 c8_i32_685
  let v1321 : Index := Scalar.indexCast v1320
  let c0_686 : Index := 0#32
  ![v1321.toNat, 0]

def k0_chk49 (v1282 : BitVec 32) : Prop :=
  (∀ a, (k0_off145 v1282) a + S8x128.size a ≤ S64512x128.size a) ∧
  (∀ a, (k0_off153 v1282) a + S1x128.size a ≤ S64512x128.size a)
theorem k0_off145_inb : ∀ (v1282 : BitVec 32) (k0_hw49 : k0_chk49 v1282), ∀ a, (k0_off145 v1282) a + S8x128.size a ≤ S64512x128.size a := fun v1282 k0_hw49 => k0_hw49.1
theorem k0_off153_inb : ∀ (v1282 : BitVec 32) (k0_hw49 : k0_chk49 v1282), ∀ a, (k0_off153 v1282) a + S1x128.size a ≤ S64512x128.size a := fun v1282 k0_hw49 => k0_hw49.2

def k0_off154 (v1285 : BitVec 32) : Fin 2 → Nat :=
  let c8_i32_687 : BitVec 32 := 8#32
  let v1323 : BitVec 32 := Scalar.addi v1285 c8_i32_687
  let v1324 : Index := Scalar.indexCast v1323
  let c0_688 : Index := 0#32
  ![v1324.toNat, 0]

def k0_chk50 (v1285 : BitVec 32) : Prop :=
  (∀ a, (k0_off146 v1285) a + S8x128.size a ≤ S64512x128.size a) ∧
  (∀ a, (k0_off154 v1285) a + S1x128.size a ≤ S64512x128.size a)
theorem k0_off146_inb : ∀ (v1285 : BitVec 32) (k0_hw50 : k0_chk50 v1285), ∀ a, (k0_off146 v1285) a + S8x128.size a ≤ S64512x128.size a := fun v1285 k0_hw50 => k0_hw50.1
theorem k0_off154_inb : ∀ (v1285 : BitVec 32) (k0_hw50 : k0_chk50 v1285), ∀ a, (k0_off154 v1285) a + S1x128.size a ≤ S64512x128.size a := fun v1285 k0_hw50 => k0_hw50.2

def k0_off155 (v1288 : BitVec 32) : Fin 2 → Nat :=
  let c8_i32_689 : BitVec 32 := 8#32
  let v1326 : BitVec 32 := Scalar.addi v1288 c8_i32_689
  let v1327 : Index := Scalar.indexCast v1326
  let c0_690 : Index := 0#32
  ![v1327.toNat, 0]

def k0_chk51 (v1288 : BitVec 32) : Prop :=
  (∀ a, (k0_off147 v1288) a + S8x128.size a ≤ S64512x128.size a) ∧
  (∀ a, (k0_off155 v1288) a + S1x128.size a ≤ S64512x128.size a)
theorem k0_off147_inb : ∀ (v1288 : BitVec 32) (k0_hw51 : k0_chk51 v1288), ∀ a, (k0_off147 v1288) a + S8x128.size a ≤ S64512x128.size a := fun v1288 k0_hw51 => k0_hw51.1
theorem k0_off155_inb : ∀ (v1288 : BitVec 32) (k0_hw51 : k0_chk51 v1288), ∀ a, (k0_off155 v1288) a + S1x128.size a ≤ S64512x128.size a := fun v1288 k0_hw51 => k0_hw51.2

def k0_off156 (v1291 : BitVec 32) : Fin 2 → Nat :=
  let c8_i32_691 : BitVec 32 := 8#32
  let v1329 : BitVec 32 := Scalar.addi v1291 c8_i32_691
  let v1330 : Index := Scalar.indexCast v1329
  let c0_692 : Index := 0#32
  ![v1330.toNat, 0]

def k0_chk52 (v1291 : BitVec 32) : Prop :=
  (∀ a, (k0_off148 v1291) a + S8x128.size a ≤ S64512x128.size a) ∧
  (∀ a, (k0_off156 v1291) a + S1x128.size a ≤ S64512x128.size a)
theorem k0_off148_inb : ∀ (v1291 : BitVec 32) (k0_hw52 : k0_chk52 v1291), ∀ a, (k0_off148 v1291) a + S8x128.size a ≤ S64512x128.size a := fun v1291 k0_hw52 => k0_hw52.1
theorem k0_off156_inb : ∀ (v1291 : BitVec 32) (k0_hw52 : k0_chk52 v1291), ∀ a, (k0_off156 v1291) a + S1x128.size a ≤ S64512x128.size a := fun v1291 k0_hw52 => k0_hw52.2

def k0_off157 (v1294 : BitVec 32) : Fin 2 → Nat :=
  let c8_i32_693 : BitVec 32 := 8#32
  let v1332 : BitVec 32 := Scalar.addi v1294 c8_i32_693
  let v1333 : Index := Scalar.indexCast v1332
  let c0_694 : Index := 0#32
  ![v1333.toNat, 0]

def k0_chk53 (v1294 : BitVec 32) : Prop :=
  (∀ a, (k0_off149 v1294) a + S8x128.size a ≤ S64512x128.size a) ∧
  (∀ a, (k0_off157 v1294) a + S1x128.size a ≤ S64512x128.size a)
theorem k0_off149_inb : ∀ (v1294 : BitVec 32) (k0_hw53 : k0_chk53 v1294), ∀ a, (k0_off149 v1294) a + S8x128.size a ≤ S64512x128.size a := fun v1294 k0_hw53 => k0_hw53.1
theorem k0_off157_inb : ∀ (v1294 : BitVec 32) (k0_hw53 : k0_chk53 v1294), ∀ a, (k0_off157 v1294) a + S1x128.size a ≤ S64512x128.size a := fun v1294 k0_hw53 => k0_hw53.2

def k0_off158 (v1297 : BitVec 32) : Fin 2 → Nat :=
  let c8_i32_695 : BitVec 32 := 8#32
  let v1335 : BitVec 32 := Scalar.addi v1297 c8_i32_695
  let v1336 : Index := Scalar.indexCast v1335
  let c0_696 : Index := 0#32
  ![v1336.toNat, 0]

def k0_chk54 (v1297 : BitVec 32) : Prop :=
  (∀ a, (k0_off150 v1297) a + S8x128.size a ≤ S64512x128.size a) ∧
  (∀ a, (k0_off158 v1297) a + S1x128.size a ≤ S64512x128.size a)
theorem k0_off150_inb : ∀ (v1297 : BitVec 32) (k0_hw54 : k0_chk54 v1297), ∀ a, (k0_off150 v1297) a + S8x128.size a ≤ S64512x128.size a := fun v1297 k0_hw54 => k0_hw54.1
theorem k0_off158_inb : ∀ (v1297 : BitVec 32) (k0_hw54 : k0_chk54 v1297), ∀ a, (k0_off158 v1297) a + S1x128.size a ≤ S64512x128.size a := fun v1297 k0_hw54 => k0_hw54.2

def k0_off159 (v1300 : BitVec 32) : Fin 2 → Nat :=
  let c8_i32_697 : BitVec 32 := 8#32
  let v1338 : BitVec 32 := Scalar.addi v1300 c8_i32_697
  let v1339 : Index := Scalar.indexCast v1338
  let c0_698 : Index := 0#32
  ![v1339.toNat, 0]

def k0_chk55 (v1300 : BitVec 32) : Prop :=
  (∀ a, (k0_off151 v1300) a + S8x128.size a ≤ S64512x128.size a) ∧
  (∀ a, (k0_off159 v1300) a + S1x128.size a ≤ S64512x128.size a)
theorem k0_off151_inb : ∀ (v1300 : BitVec 32) (k0_hw55 : k0_chk55 v1300), ∀ a, (k0_off151 v1300) a + S8x128.size a ≤ S64512x128.size a := fun v1300 k0_hw55 => k0_hw55.1
theorem k0_off159_inb : ∀ (v1300 : BitVec 32) (k0_hw55 : k0_chk55 v1300), ∀ a, (k0_off159 v1300) a + S1x128.size a ≤ S64512x128.size a := fun v1300 k0_hw55 => k0_hw55.2

def k0_off160 (v1303 : BitVec 32) : Fin 2 → Nat :=
  let c8_i32_699 : BitVec 32 := 8#32
  let v1341 : BitVec 32 := Scalar.addi v1303 c8_i32_699
  let v1342 : Index := Scalar.indexCast v1341
  let c0_700 : Index := 0#32
  ![v1342.toNat, 0]

def k0_chk56 (v1303 : BitVec 32) : Prop :=
  (∀ a, (k0_off152 v1303) a + S8x128.size a ≤ S64512x128.size a) ∧
  (∀ a, (k0_off160 v1303) a + S1x128.size a ≤ S64512x128.size a)
theorem k0_off152_inb : ∀ (v1303 : BitVec 32) (k0_hw56 : k0_chk56 v1303), ∀ a, (k0_off152 v1303) a + S8x128.size a ≤ S64512x128.size a := fun v1303 k0_hw56 => k0_hw56.1
theorem k0_off160_inb : ∀ (v1303 : BitVec 32) (k0_hw56 : k0_chk56 v1303), ∀ a, (k0_off160 v1303) a + S1x128.size a ≤ S64512x128.size a := fun v1303 k0_hw56 => k0_hw56.2

def k0_off161 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v1465 : Index := Scalar.indexCast v172
  let c0_747 : Index := 0#32
  ![v1465.toNat, 0]
def k0_off162 (v1466 : BitVec 32) : Fin 2 → Nat :=
  let v1488 : Index := Scalar.indexCast v1466
  let c0_762 : Index := 0#32
  ![v1488.toNat, 0]

def k0_off163 (v1469 : BitVec 32) : Fin 2 → Nat :=
  let v1490 : Index := Scalar.indexCast v1469
  let c0_763 : Index := 0#32
  ![v1490.toNat, 0]

def k0_off164 (v1472 : BitVec 32) : Fin 2 → Nat :=
  let v1492 : Index := Scalar.indexCast v1472
  let c0_764 : Index := 0#32
  ![v1492.toNat, 0]

def k0_off165 (v1475 : BitVec 32) : Fin 2 → Nat :=
  let v1494 : Index := Scalar.indexCast v1475
  let c0_765 : Index := 0#32
  ![v1494.toNat, 0]

def k0_off166 (v1478 : BitVec 32) : Fin 2 → Nat :=
  let v1496 : Index := Scalar.indexCast v1478
  let c0_766 : Index := 0#32
  ![v1496.toNat, 0]

def k0_off167 (v1481 : BitVec 32) : Fin 2 → Nat :=
  let v1498 : Index := Scalar.indexCast v1481
  let c0_767 : Index := 0#32
  ![v1498.toNat, 0]

def k0_off168 (v1484 : BitVec 32) : Fin 2 → Nat :=
  let v1500 : Index := Scalar.indexCast v1484
  let c0_768 : Index := 0#32
  ![v1500.toNat, 0]

def k0_off169 (v1487 : BitVec 32) : Fin 2 → Nat :=
  let v1502 : Index := Scalar.indexCast v1487
  let c0_769 : Index := 0#32
  ![v1502.toNat, 0]

def k0_off170 (v1466 : BitVec 32) : Fin 2 → Nat :=
  let c8_i32_770 : BitVec 32 := 8#32
  let v1504 : BitVec 32 := Scalar.addi v1466 c8_i32_770
  let v1505 : Index := Scalar.indexCast v1504
  let c0_771 : Index := 0#32
  ![v1505.toNat, 0]

def k0_chk57 (v1466 : BitVec 32) : Prop :=
  (∀ a, (k0_off162 v1466) a + S8x128.size a ≤ S64512x128.size a) ∧
  (∀ a, (k0_off170 v1466) a + S1x128.size a ≤ S64512x128.size a)
theorem k0_off162_inb : ∀ (v1466 : BitVec 32) (k0_hw57 : k0_chk57 v1466), ∀ a, (k0_off162 v1466) a + S8x128.size a ≤ S64512x128.size a := fun v1466 k0_hw57 => k0_hw57.1
theorem k0_off170_inb : ∀ (v1466 : BitVec 32) (k0_hw57 : k0_chk57 v1466), ∀ a, (k0_off170 v1466) a + S1x128.size a ≤ S64512x128.size a := fun v1466 k0_hw57 => k0_hw57.2

def k0_off171 (v1469 : BitVec 32) : Fin 2 → Nat :=
  let c8_i32_772 : BitVec 32 := 8#32
  let v1507 : BitVec 32 := Scalar.addi v1469 c8_i32_772
  let v1508 : Index := Scalar.indexCast v1507
  let c0_773 : Index := 0#32
  ![v1508.toNat, 0]

def k0_chk58 (v1469 : BitVec 32) : Prop :=
  (∀ a, (k0_off163 v1469) a + S8x128.size a ≤ S64512x128.size a) ∧
  (∀ a, (k0_off171 v1469) a + S1x128.size a ≤ S64512x128.size a)
theorem k0_off163_inb : ∀ (v1469 : BitVec 32) (k0_hw58 : k0_chk58 v1469), ∀ a, (k0_off163 v1469) a + S8x128.size a ≤ S64512x128.size a := fun v1469 k0_hw58 => k0_hw58.1
theorem k0_off171_inb : ∀ (v1469 : BitVec 32) (k0_hw58 : k0_chk58 v1469), ∀ a, (k0_off171 v1469) a + S1x128.size a ≤ S64512x128.size a := fun v1469 k0_hw58 => k0_hw58.2

def k0_off172 (v1472 : BitVec 32) : Fin 2 → Nat :=
  let c8_i32_774 : BitVec 32 := 8#32
  let v1510 : BitVec 32 := Scalar.addi v1472 c8_i32_774
  let v1511 : Index := Scalar.indexCast v1510
  let c0_775 : Index := 0#32
  ![v1511.toNat, 0]

def k0_chk59 (v1472 : BitVec 32) : Prop :=
  (∀ a, (k0_off164 v1472) a + S8x128.size a ≤ S64512x128.size a) ∧
  (∀ a, (k0_off172 v1472) a + S1x128.size a ≤ S64512x128.size a)
theorem k0_off164_inb : ∀ (v1472 : BitVec 32) (k0_hw59 : k0_chk59 v1472), ∀ a, (k0_off164 v1472) a + S8x128.size a ≤ S64512x128.size a := fun v1472 k0_hw59 => k0_hw59.1
theorem k0_off172_inb : ∀ (v1472 : BitVec 32) (k0_hw59 : k0_chk59 v1472), ∀ a, (k0_off172 v1472) a + S1x128.size a ≤ S64512x128.size a := fun v1472 k0_hw59 => k0_hw59.2

def k0_off173 (v1475 : BitVec 32) : Fin 2 → Nat :=
  let c8_i32_776 : BitVec 32 := 8#32
  let v1513 : BitVec 32 := Scalar.addi v1475 c8_i32_776
  let v1514 : Index := Scalar.indexCast v1513
  let c0_777 : Index := 0#32
  ![v1514.toNat, 0]

def k0_chk60 (v1475 : BitVec 32) : Prop :=
  (∀ a, (k0_off165 v1475) a + S8x128.size a ≤ S64512x128.size a) ∧
  (∀ a, (k0_off173 v1475) a + S1x128.size a ≤ S64512x128.size a)
theorem k0_off165_inb : ∀ (v1475 : BitVec 32) (k0_hw60 : k0_chk60 v1475), ∀ a, (k0_off165 v1475) a + S8x128.size a ≤ S64512x128.size a := fun v1475 k0_hw60 => k0_hw60.1
theorem k0_off173_inb : ∀ (v1475 : BitVec 32) (k0_hw60 : k0_chk60 v1475), ∀ a, (k0_off173 v1475) a + S1x128.size a ≤ S64512x128.size a := fun v1475 k0_hw60 => k0_hw60.2

def k0_off174 (v1478 : BitVec 32) : Fin 2 → Nat :=
  let c8_i32_778 : BitVec 32 := 8#32
  let v1516 : BitVec 32 := Scalar.addi v1478 c8_i32_778
  let v1517 : Index := Scalar.indexCast v1516
  let c0_779 : Index := 0#32
  ![v1517.toNat, 0]

def k0_chk61 (v1478 : BitVec 32) : Prop :=
  (∀ a, (k0_off166 v1478) a + S8x128.size a ≤ S64512x128.size a) ∧
  (∀ a, (k0_off174 v1478) a + S1x128.size a ≤ S64512x128.size a)
theorem k0_off166_inb : ∀ (v1478 : BitVec 32) (k0_hw61 : k0_chk61 v1478), ∀ a, (k0_off166 v1478) a + S8x128.size a ≤ S64512x128.size a := fun v1478 k0_hw61 => k0_hw61.1
theorem k0_off174_inb : ∀ (v1478 : BitVec 32) (k0_hw61 : k0_chk61 v1478), ∀ a, (k0_off174 v1478) a + S1x128.size a ≤ S64512x128.size a := fun v1478 k0_hw61 => k0_hw61.2

def k0_off175 (v1481 : BitVec 32) : Fin 2 → Nat :=
  let c8_i32_780 : BitVec 32 := 8#32
  let v1519 : BitVec 32 := Scalar.addi v1481 c8_i32_780
  let v1520 : Index := Scalar.indexCast v1519
  let c0_781 : Index := 0#32
  ![v1520.toNat, 0]

def k0_chk62 (v1481 : BitVec 32) : Prop :=
  (∀ a, (k0_off167 v1481) a + S8x128.size a ≤ S64512x128.size a) ∧
  (∀ a, (k0_off175 v1481) a + S1x128.size a ≤ S64512x128.size a)
theorem k0_off167_inb : ∀ (v1481 : BitVec 32) (k0_hw62 : k0_chk62 v1481), ∀ a, (k0_off167 v1481) a + S8x128.size a ≤ S64512x128.size a := fun v1481 k0_hw62 => k0_hw62.1
theorem k0_off175_inb : ∀ (v1481 : BitVec 32) (k0_hw62 : k0_chk62 v1481), ∀ a, (k0_off175 v1481) a + S1x128.size a ≤ S64512x128.size a := fun v1481 k0_hw62 => k0_hw62.2

def k0_off176 (v1484 : BitVec 32) : Fin 2 → Nat :=
  let c8_i32_782 : BitVec 32 := 8#32
  let v1522 : BitVec 32 := Scalar.addi v1484 c8_i32_782
  let v1523 : Index := Scalar.indexCast v1522
  let c0_783 : Index := 0#32
  ![v1523.toNat, 0]

def k0_chk63 (v1484 : BitVec 32) : Prop :=
  (∀ a, (k0_off168 v1484) a + S8x128.size a ≤ S64512x128.size a) ∧
  (∀ a, (k0_off176 v1484) a + S1x128.size a ≤ S64512x128.size a)
theorem k0_off168_inb : ∀ (v1484 : BitVec 32) (k0_hw63 : k0_chk63 v1484), ∀ a, (k0_off168 v1484) a + S8x128.size a ≤ S64512x128.size a := fun v1484 k0_hw63 => k0_hw63.1
theorem k0_off176_inb : ∀ (v1484 : BitVec 32) (k0_hw63 : k0_chk63 v1484), ∀ a, (k0_off176 v1484) a + S1x128.size a ≤ S64512x128.size a := fun v1484 k0_hw63 => k0_hw63.2

def k0_off177 (v1487 : BitVec 32) : Fin 2 → Nat :=
  let c8_i32_784 : BitVec 32 := 8#32
  let v1525 : BitVec 32 := Scalar.addi v1487 c8_i32_784
  let v1526 : Index := Scalar.indexCast v1525
  let c0_785 : Index := 0#32
  ![v1526.toNat, 0]

def k0_chk64 (v1487 : BitVec 32) : Prop :=
  (∀ a, (k0_off169 v1487) a + S8x128.size a ≤ S64512x128.size a) ∧
  (∀ a, (k0_off177 v1487) a + S1x128.size a ≤ S64512x128.size a)
theorem k0_off169_inb : ∀ (v1487 : BitVec 32) (k0_hw64 : k0_chk64 v1487), ∀ a, (k0_off169 v1487) a + S8x128.size a ≤ S64512x128.size a := fun v1487 k0_hw64 => k0_hw64.1
theorem k0_off177_inb : ∀ (v1487 : BitVec 32) (k0_hw64 : k0_chk64 v1487), ∀ a, (k0_off177 v1487) a + S1x128.size a ≤ S64512x128.size a := fun v1487 k0_hw64 => k0_hw64.2

def k0_off178 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v1705 : Index := Scalar.indexCast v172
  let c0_855 : Index := 0#32
  ![v1705.toNat, 0]
def k0_off179 (v1706 : BitVec 32) : Fin 2 → Nat :=
  let v1728 : Index := Scalar.indexCast v1706
  let c0_870 : Index := 0#32
  ![v1728.toNat, 0]

def k0_off180 (v1709 : BitVec 32) : Fin 2 → Nat :=
  let v1730 : Index := Scalar.indexCast v1709
  let c0_871 : Index := 0#32
  ![v1730.toNat, 0]

def k0_off181 (v1712 : BitVec 32) : Fin 2 → Nat :=
  let v1732 : Index := Scalar.indexCast v1712
  let c0_872 : Index := 0#32
  ![v1732.toNat, 0]

def k0_off182 (v1715 : BitVec 32) : Fin 2 → Nat :=
  let v1734 : Index := Scalar.indexCast v1715
  let c0_873 : Index := 0#32
  ![v1734.toNat, 0]

def k0_off183 (v1718 : BitVec 32) : Fin 2 → Nat :=
  let v1736 : Index := Scalar.indexCast v1718
  let c0_874 : Index := 0#32
  ![v1736.toNat, 0]

def k0_off184 (v1721 : BitVec 32) : Fin 2 → Nat :=
  let v1738 : Index := Scalar.indexCast v1721
  let c0_875 : Index := 0#32
  ![v1738.toNat, 0]

def k0_off185 (v1724 : BitVec 32) : Fin 2 → Nat :=
  let v1740 : Index := Scalar.indexCast v1724
  let c0_876 : Index := 0#32
  ![v1740.toNat, 0]

def k0_off186 (v1727 : BitVec 32) : Fin 2 → Nat :=
  let v1742 : Index := Scalar.indexCast v1727
  let c0_877 : Index := 0#32
  ![v1742.toNat, 0]

def k0_off187 (v1706 : BitVec 32) : Fin 2 → Nat :=
  let c8_i32_878 : BitVec 32 := 8#32
  let v1744 : BitVec 32 := Scalar.addi v1706 c8_i32_878
  let v1745 : Index := Scalar.indexCast v1744
  let c0_879 : Index := 0#32
  ![v1745.toNat, 0]

def k0_chk65 (v1706 : BitVec 32) : Prop :=
  (∀ a, (k0_off179 v1706) a + S8x128.size a ≤ S64512x128.size a) ∧
  (∀ a, (k0_off187 v1706) a + S1x128.size a ≤ S64512x128.size a)
theorem k0_off179_inb : ∀ (v1706 : BitVec 32) (k0_hw65 : k0_chk65 v1706), ∀ a, (k0_off179 v1706) a + S8x128.size a ≤ S64512x128.size a := fun v1706 k0_hw65 => k0_hw65.1
theorem k0_off187_inb : ∀ (v1706 : BitVec 32) (k0_hw65 : k0_chk65 v1706), ∀ a, (k0_off187 v1706) a + S1x128.size a ≤ S64512x128.size a := fun v1706 k0_hw65 => k0_hw65.2

def k0_off188 (v1709 : BitVec 32) : Fin 2 → Nat :=
  let c8_i32_880 : BitVec 32 := 8#32
  let v1747 : BitVec 32 := Scalar.addi v1709 c8_i32_880
  let v1748 : Index := Scalar.indexCast v1747
  let c0_881 : Index := 0#32
  ![v1748.toNat, 0]

def k0_chk66 (v1709 : BitVec 32) : Prop :=
  (∀ a, (k0_off180 v1709) a + S8x128.size a ≤ S64512x128.size a) ∧
  (∀ a, (k0_off188 v1709) a + S1x128.size a ≤ S64512x128.size a)
theorem k0_off180_inb : ∀ (v1709 : BitVec 32) (k0_hw66 : k0_chk66 v1709), ∀ a, (k0_off180 v1709) a + S8x128.size a ≤ S64512x128.size a := fun v1709 k0_hw66 => k0_hw66.1
theorem k0_off188_inb : ∀ (v1709 : BitVec 32) (k0_hw66 : k0_chk66 v1709), ∀ a, (k0_off188 v1709) a + S1x128.size a ≤ S64512x128.size a := fun v1709 k0_hw66 => k0_hw66.2

def k0_off189 (v1712 : BitVec 32) : Fin 2 → Nat :=
  let c8_i32_882 : BitVec 32 := 8#32
  let v1750 : BitVec 32 := Scalar.addi v1712 c8_i32_882
  let v1751 : Index := Scalar.indexCast v1750
  let c0_883 : Index := 0#32
  ![v1751.toNat, 0]

def k0_chk67 (v1712 : BitVec 32) : Prop :=
  (∀ a, (k0_off181 v1712) a + S8x128.size a ≤ S64512x128.size a) ∧
  (∀ a, (k0_off189 v1712) a + S1x128.size a ≤ S64512x128.size a)
theorem k0_off181_inb : ∀ (v1712 : BitVec 32) (k0_hw67 : k0_chk67 v1712), ∀ a, (k0_off181 v1712) a + S8x128.size a ≤ S64512x128.size a := fun v1712 k0_hw67 => k0_hw67.1
theorem k0_off189_inb : ∀ (v1712 : BitVec 32) (k0_hw67 : k0_chk67 v1712), ∀ a, (k0_off189 v1712) a + S1x128.size a ≤ S64512x128.size a := fun v1712 k0_hw67 => k0_hw67.2

def k0_off190 (v1715 : BitVec 32) : Fin 2 → Nat :=
  let c8_i32_884 : BitVec 32 := 8#32
  let v1753 : BitVec 32 := Scalar.addi v1715 c8_i32_884
  let v1754 : Index := Scalar.indexCast v1753
  let c0_885 : Index := 0#32
  ![v1754.toNat, 0]

def k0_chk68 (v1715 : BitVec 32) : Prop :=
  (∀ a, (k0_off182 v1715) a + S8x128.size a ≤ S64512x128.size a) ∧
  (∀ a, (k0_off190 v1715) a + S1x128.size a ≤ S64512x128.size a)
theorem k0_off182_inb : ∀ (v1715 : BitVec 32) (k0_hw68 : k0_chk68 v1715), ∀ a, (k0_off182 v1715) a + S8x128.size a ≤ S64512x128.size a := fun v1715 k0_hw68 => k0_hw68.1
theorem k0_off190_inb : ∀ (v1715 : BitVec 32) (k0_hw68 : k0_chk68 v1715), ∀ a, (k0_off190 v1715) a + S1x128.size a ≤ S64512x128.size a := fun v1715 k0_hw68 => k0_hw68.2

def k0_off191 (v1718 : BitVec 32) : Fin 2 → Nat :=
  let c8_i32_886 : BitVec 32 := 8#32
  let v1756 : BitVec 32 := Scalar.addi v1718 c8_i32_886
  let v1757 : Index := Scalar.indexCast v1756
  let c0_887 : Index := 0#32
  ![v1757.toNat, 0]

def k0_chk69 (v1718 : BitVec 32) : Prop :=
  (∀ a, (k0_off183 v1718) a + S8x128.size a ≤ S64512x128.size a) ∧
  (∀ a, (k0_off191 v1718) a + S1x128.size a ≤ S64512x128.size a)
theorem k0_off183_inb : ∀ (v1718 : BitVec 32) (k0_hw69 : k0_chk69 v1718), ∀ a, (k0_off183 v1718) a + S8x128.size a ≤ S64512x128.size a := fun v1718 k0_hw69 => k0_hw69.1
theorem k0_off191_inb : ∀ (v1718 : BitVec 32) (k0_hw69 : k0_chk69 v1718), ∀ a, (k0_off191 v1718) a + S1x128.size a ≤ S64512x128.size a := fun v1718 k0_hw69 => k0_hw69.2

def k0_off192 (v1721 : BitVec 32) : Fin 2 → Nat :=
  let c8_i32_888 : BitVec 32 := 8#32
  let v1759 : BitVec 32 := Scalar.addi v1721 c8_i32_888
  let v1760 : Index := Scalar.indexCast v1759
  let c0_889 : Index := 0#32
  ![v1760.toNat, 0]

def k0_chk70 (v1721 : BitVec 32) : Prop :=
  (∀ a, (k0_off184 v1721) a + S8x128.size a ≤ S64512x128.size a) ∧
  (∀ a, (k0_off192 v1721) a + S1x128.size a ≤ S64512x128.size a)
theorem k0_off184_inb : ∀ (v1721 : BitVec 32) (k0_hw70 : k0_chk70 v1721), ∀ a, (k0_off184 v1721) a + S8x128.size a ≤ S64512x128.size a := fun v1721 k0_hw70 => k0_hw70.1
theorem k0_off192_inb : ∀ (v1721 : BitVec 32) (k0_hw70 : k0_chk70 v1721), ∀ a, (k0_off192 v1721) a + S1x128.size a ≤ S64512x128.size a := fun v1721 k0_hw70 => k0_hw70.2

def k0_off193 (v1724 : BitVec 32) : Fin 2 → Nat :=
  let c8_i32_890 : BitVec 32 := 8#32
  let v1762 : BitVec 32 := Scalar.addi v1724 c8_i32_890
  let v1763 : Index := Scalar.indexCast v1762
  let c0_891 : Index := 0#32
  ![v1763.toNat, 0]

def k0_chk71 (v1724 : BitVec 32) : Prop :=
  (∀ a, (k0_off185 v1724) a + S8x128.size a ≤ S64512x128.size a) ∧
  (∀ a, (k0_off193 v1724) a + S1x128.size a ≤ S64512x128.size a)
theorem k0_off185_inb : ∀ (v1724 : BitVec 32) (k0_hw71 : k0_chk71 v1724), ∀ a, (k0_off185 v1724) a + S8x128.size a ≤ S64512x128.size a := fun v1724 k0_hw71 => k0_hw71.1
theorem k0_off193_inb : ∀ (v1724 : BitVec 32) (k0_hw71 : k0_chk71 v1724), ∀ a, (k0_off193 v1724) a + S1x128.size a ≤ S64512x128.size a := fun v1724 k0_hw71 => k0_hw71.2

def k0_off194 (v1727 : BitVec 32) : Fin 2 → Nat :=
  let c8_i32_892 : BitVec 32 := 8#32
  let v1765 : BitVec 32 := Scalar.addi v1727 c8_i32_892
  let v1766 : Index := Scalar.indexCast v1765
  let c0_893 : Index := 0#32
  ![v1766.toNat, 0]

def k0_chk72 (v1727 : BitVec 32) : Prop :=
  (∀ a, (k0_off186 v1727) a + S8x128.size a ≤ S64512x128.size a) ∧
  (∀ a, (k0_off194 v1727) a + S1x128.size a ≤ S64512x128.size a)
theorem k0_off186_inb : ∀ (v1727 : BitVec 32) (k0_hw72 : k0_chk72 v1727), ∀ a, (k0_off186 v1727) a + S8x128.size a ≤ S64512x128.size a := fun v1727 k0_hw72 => k0_hw72.1
theorem k0_off194_inb : ∀ (v1727 : BitVec 32) (k0_hw72 : k0_chk72 v1727), ∀ a, (k0_off194 v1727) a + S1x128.size a ≤ S64512x128.size a := fun v1727 k0_hw72 => k0_hw72.2

def k0_off195 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v1889 : Index := Scalar.indexCast v172
  let c0_939 : Index := 0#32
  ![v1889.toNat, 0]
def k0_off196 (v1890 : BitVec 32) : Fin 2 → Nat :=
  let v1912 : Index := Scalar.indexCast v1890
  let c0_954 : Index := 0#32
  ![v1912.toNat, 0]

def k0_off197 (v1893 : BitVec 32) : Fin 2 → Nat :=
  let v1914 : Index := Scalar.indexCast v1893
  let c0_955 : Index := 0#32
  ![v1914.toNat, 0]

def k0_off198 (v1896 : BitVec 32) : Fin 2 → Nat :=
  let v1916 : Index := Scalar.indexCast v1896
  let c0_956 : Index := 0#32
  ![v1916.toNat, 0]

def k0_off199 (v1899 : BitVec 32) : Fin 2 → Nat :=
  let v1918 : Index := Scalar.indexCast v1899
  let c0_957 : Index := 0#32
  ![v1918.toNat, 0]

def k0_off200 (v1902 : BitVec 32) : Fin 2 → Nat :=
  let v1920 : Index := Scalar.indexCast v1902
  let c0_958 : Index := 0#32
  ![v1920.toNat, 0]

def k0_off201 (v1905 : BitVec 32) : Fin 2 → Nat :=
  let v1922 : Index := Scalar.indexCast v1905
  let c0_959 : Index := 0#32
  ![v1922.toNat, 0]

def k0_off202 (v1908 : BitVec 32) : Fin 2 → Nat :=
  let v1924 : Index := Scalar.indexCast v1908
  let c0_960 : Index := 0#32
  ![v1924.toNat, 0]

def k0_off203 (v1911 : BitVec 32) : Fin 2 → Nat :=
  let v1926 : Index := Scalar.indexCast v1911
  let c0_961 : Index := 0#32
  ![v1926.toNat, 0]

def k0_off204 (v1890 : BitVec 32) : Fin 2 → Nat :=
  let c8_i32_962 : BitVec 32 := 8#32
  let v1928 : BitVec 32 := Scalar.addi v1890 c8_i32_962
  let v1929 : Index := Scalar.indexCast v1928
  let c0_963 : Index := 0#32
  ![v1929.toNat, 0]

def k0_chk73 (v1890 : BitVec 32) : Prop :=
  (∀ a, (k0_off196 v1890) a + S8x128.size a ≤ S64512x128.size a) ∧
  (∀ a, (k0_off204 v1890) a + S1x128.size a ≤ S64512x128.size a)
theorem k0_off196_inb : ∀ (v1890 : BitVec 32) (k0_hw73 : k0_chk73 v1890), ∀ a, (k0_off196 v1890) a + S8x128.size a ≤ S64512x128.size a := fun v1890 k0_hw73 => k0_hw73.1
theorem k0_off204_inb : ∀ (v1890 : BitVec 32) (k0_hw73 : k0_chk73 v1890), ∀ a, (k0_off204 v1890) a + S1x128.size a ≤ S64512x128.size a := fun v1890 k0_hw73 => k0_hw73.2

def k0_off205 (v1893 : BitVec 32) : Fin 2 → Nat :=
  let c8_i32_964 : BitVec 32 := 8#32
  let v1931 : BitVec 32 := Scalar.addi v1893 c8_i32_964
  let v1932 : Index := Scalar.indexCast v1931
  let c0_965 : Index := 0#32
  ![v1932.toNat, 0]

def k0_chk74 (v1893 : BitVec 32) : Prop :=
  (∀ a, (k0_off197 v1893) a + S8x128.size a ≤ S64512x128.size a) ∧
  (∀ a, (k0_off205 v1893) a + S1x128.size a ≤ S64512x128.size a)
theorem k0_off197_inb : ∀ (v1893 : BitVec 32) (k0_hw74 : k0_chk74 v1893), ∀ a, (k0_off197 v1893) a + S8x128.size a ≤ S64512x128.size a := fun v1893 k0_hw74 => k0_hw74.1
theorem k0_off205_inb : ∀ (v1893 : BitVec 32) (k0_hw74 : k0_chk74 v1893), ∀ a, (k0_off205 v1893) a + S1x128.size a ≤ S64512x128.size a := fun v1893 k0_hw74 => k0_hw74.2

def k0_off206 (v1896 : BitVec 32) : Fin 2 → Nat :=
  let c8_i32_966 : BitVec 32 := 8#32
  let v1934 : BitVec 32 := Scalar.addi v1896 c8_i32_966
  let v1935 : Index := Scalar.indexCast v1934
  let c0_967 : Index := 0#32
  ![v1935.toNat, 0]

def k0_chk75 (v1896 : BitVec 32) : Prop :=
  (∀ a, (k0_off198 v1896) a + S8x128.size a ≤ S64512x128.size a) ∧
  (∀ a, (k0_off206 v1896) a + S1x128.size a ≤ S64512x128.size a)
theorem k0_off198_inb : ∀ (v1896 : BitVec 32) (k0_hw75 : k0_chk75 v1896), ∀ a, (k0_off198 v1896) a + S8x128.size a ≤ S64512x128.size a := fun v1896 k0_hw75 => k0_hw75.1
theorem k0_off206_inb : ∀ (v1896 : BitVec 32) (k0_hw75 : k0_chk75 v1896), ∀ a, (k0_off206 v1896) a + S1x128.size a ≤ S64512x128.size a := fun v1896 k0_hw75 => k0_hw75.2

def k0_off207 (v1899 : BitVec 32) : Fin 2 → Nat :=
  let c8_i32_968 : BitVec 32 := 8#32
  let v1937 : BitVec 32 := Scalar.addi v1899 c8_i32_968
  let v1938 : Index := Scalar.indexCast v1937
  let c0_969 : Index := 0#32
  ![v1938.toNat, 0]

def k0_chk76 (v1899 : BitVec 32) : Prop :=
  (∀ a, (k0_off199 v1899) a + S8x128.size a ≤ S64512x128.size a) ∧
  (∀ a, (k0_off207 v1899) a + S1x128.size a ≤ S64512x128.size a)
theorem k0_off199_inb : ∀ (v1899 : BitVec 32) (k0_hw76 : k0_chk76 v1899), ∀ a, (k0_off199 v1899) a + S8x128.size a ≤ S64512x128.size a := fun v1899 k0_hw76 => k0_hw76.1
theorem k0_off207_inb : ∀ (v1899 : BitVec 32) (k0_hw76 : k0_chk76 v1899), ∀ a, (k0_off207 v1899) a + S1x128.size a ≤ S64512x128.size a := fun v1899 k0_hw76 => k0_hw76.2

def k0_off208 (v1902 : BitVec 32) : Fin 2 → Nat :=
  let c8_i32_970 : BitVec 32 := 8#32
  let v1940 : BitVec 32 := Scalar.addi v1902 c8_i32_970
  let v1941 : Index := Scalar.indexCast v1940
  let c0_971 : Index := 0#32
  ![v1941.toNat, 0]

def k0_chk77 (v1902 : BitVec 32) : Prop :=
  (∀ a, (k0_off200 v1902) a + S8x128.size a ≤ S64512x128.size a) ∧
  (∀ a, (k0_off208 v1902) a + S1x128.size a ≤ S64512x128.size a)
theorem k0_off200_inb : ∀ (v1902 : BitVec 32) (k0_hw77 : k0_chk77 v1902), ∀ a, (k0_off200 v1902) a + S8x128.size a ≤ S64512x128.size a := fun v1902 k0_hw77 => k0_hw77.1
theorem k0_off208_inb : ∀ (v1902 : BitVec 32) (k0_hw77 : k0_chk77 v1902), ∀ a, (k0_off208 v1902) a + S1x128.size a ≤ S64512x128.size a := fun v1902 k0_hw77 => k0_hw77.2

def k0_off209 (v1905 : BitVec 32) : Fin 2 → Nat :=
  let c8_i32_972 : BitVec 32 := 8#32
  let v1943 : BitVec 32 := Scalar.addi v1905 c8_i32_972
  let v1944 : Index := Scalar.indexCast v1943
  let c0_973 : Index := 0#32
  ![v1944.toNat, 0]

def k0_chk78 (v1905 : BitVec 32) : Prop :=
  (∀ a, (k0_off201 v1905) a + S8x128.size a ≤ S64512x128.size a) ∧
  (∀ a, (k0_off209 v1905) a + S1x128.size a ≤ S64512x128.size a)
theorem k0_off201_inb : ∀ (v1905 : BitVec 32) (k0_hw78 : k0_chk78 v1905), ∀ a, (k0_off201 v1905) a + S8x128.size a ≤ S64512x128.size a := fun v1905 k0_hw78 => k0_hw78.1
theorem k0_off209_inb : ∀ (v1905 : BitVec 32) (k0_hw78 : k0_chk78 v1905), ∀ a, (k0_off209 v1905) a + S1x128.size a ≤ S64512x128.size a := fun v1905 k0_hw78 => k0_hw78.2

def k0_off210 (v1908 : BitVec 32) : Fin 2 → Nat :=
  let c8_i32_974 : BitVec 32 := 8#32
  let v1946 : BitVec 32 := Scalar.addi v1908 c8_i32_974
  let v1947 : Index := Scalar.indexCast v1946
  let c0_975 : Index := 0#32
  ![v1947.toNat, 0]

def k0_chk79 (v1908 : BitVec 32) : Prop :=
  (∀ a, (k0_off202 v1908) a + S8x128.size a ≤ S64512x128.size a) ∧
  (∀ a, (k0_off210 v1908) a + S1x128.size a ≤ S64512x128.size a)
theorem k0_off202_inb : ∀ (v1908 : BitVec 32) (k0_hw79 : k0_chk79 v1908), ∀ a, (k0_off202 v1908) a + S8x128.size a ≤ S64512x128.size a := fun v1908 k0_hw79 => k0_hw79.1
theorem k0_off210_inb : ∀ (v1908 : BitVec 32) (k0_hw79 : k0_chk79 v1908), ∀ a, (k0_off210 v1908) a + S1x128.size a ≤ S64512x128.size a := fun v1908 k0_hw79 => k0_hw79.2

def k0_off211 (v1911 : BitVec 32) : Fin 2 → Nat :=
  let c8_i32_976 : BitVec 32 := 8#32
  let v1949 : BitVec 32 := Scalar.addi v1911 c8_i32_976
  let v1950 : Index := Scalar.indexCast v1949
  let c0_977 : Index := 0#32
  ![v1950.toNat, 0]

def k0_chk80 (v1911 : BitVec 32) : Prop :=
  (∀ a, (k0_off203 v1911) a + S8x128.size a ≤ S64512x128.size a) ∧
  (∀ a, (k0_off211 v1911) a + S1x128.size a ≤ S64512x128.size a)
theorem k0_off203_inb : ∀ (v1911 : BitVec 32) (k0_hw80 : k0_chk80 v1911), ∀ a, (k0_off203 v1911) a + S8x128.size a ≤ S64512x128.size a := fun v1911 k0_hw80 => k0_hw80.1
theorem k0_off211_inb : ∀ (v1911 : BitVec 32) (k0_hw80 : k0_chk80 v1911), ∀ a, (k0_off211 v1911) a + S1x128.size a ≤ S64512x128.size a := fun v1911 k0_hw80 => k0_hw80.2

def k0_off212 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v2073 : Index := Scalar.indexCast v172
  let c0_1023 : Index := 0#32
  ![v2073.toNat, 0]
def k0_off213 (v2074 : BitVec 32) : Fin 2 → Nat :=
  let v2096 : Index := Scalar.indexCast v2074
  let c0_1038 : Index := 0#32
  ![v2096.toNat, 0]

def k0_off214 (v2077 : BitVec 32) : Fin 2 → Nat :=
  let v2098 : Index := Scalar.indexCast v2077
  let c0_1039 : Index := 0#32
  ![v2098.toNat, 0]

def k0_off215 (v2080 : BitVec 32) : Fin 2 → Nat :=
  let v2100 : Index := Scalar.indexCast v2080
  let c0_1040 : Index := 0#32
  ![v2100.toNat, 0]

def k0_off216 (v2083 : BitVec 32) : Fin 2 → Nat :=
  let v2102 : Index := Scalar.indexCast v2083
  let c0_1041 : Index := 0#32
  ![v2102.toNat, 0]

def k0_off217 (v2086 : BitVec 32) : Fin 2 → Nat :=
  let v2104 : Index := Scalar.indexCast v2086
  let c0_1042 : Index := 0#32
  ![v2104.toNat, 0]

def k0_off218 (v2089 : BitVec 32) : Fin 2 → Nat :=
  let v2106 : Index := Scalar.indexCast v2089
  let c0_1043 : Index := 0#32
  ![v2106.toNat, 0]

def k0_off219 (v2092 : BitVec 32) : Fin 2 → Nat :=
  let v2108 : Index := Scalar.indexCast v2092
  let c0_1044 : Index := 0#32
  ![v2108.toNat, 0]

def k0_off220 (v2095 : BitVec 32) : Fin 2 → Nat :=
  let v2110 : Index := Scalar.indexCast v2095
  let c0_1045 : Index := 0#32
  ![v2110.toNat, 0]

def k0_off221 (v2074 : BitVec 32) : Fin 2 → Nat :=
  let c8_i32_1046 : BitVec 32 := 8#32
  let v2112 : BitVec 32 := Scalar.addi v2074 c8_i32_1046
  let v2113 : Index := Scalar.indexCast v2112
  let c0_1047 : Index := 0#32
  ![v2113.toNat, 0]

def k0_chk81 (v2074 : BitVec 32) : Prop :=
  (∀ a, (k0_off213 v2074) a + S8x128.size a ≤ S64512x128.size a) ∧
  (∀ a, (k0_off221 v2074) a + S1x128.size a ≤ S64512x128.size a)
theorem k0_off213_inb : ∀ (v2074 : BitVec 32) (k0_hw81 : k0_chk81 v2074), ∀ a, (k0_off213 v2074) a + S8x128.size a ≤ S64512x128.size a := fun v2074 k0_hw81 => k0_hw81.1
theorem k0_off221_inb : ∀ (v2074 : BitVec 32) (k0_hw81 : k0_chk81 v2074), ∀ a, (k0_off221 v2074) a + S1x128.size a ≤ S64512x128.size a := fun v2074 k0_hw81 => k0_hw81.2

def k0_off222 (v2077 : BitVec 32) : Fin 2 → Nat :=
  let c8_i32_1048 : BitVec 32 := 8#32
  let v2115 : BitVec 32 := Scalar.addi v2077 c8_i32_1048
  let v2116 : Index := Scalar.indexCast v2115
  let c0_1049 : Index := 0#32
  ![v2116.toNat, 0]

def k0_chk82 (v2077 : BitVec 32) : Prop :=
  (∀ a, (k0_off214 v2077) a + S8x128.size a ≤ S64512x128.size a) ∧
  (∀ a, (k0_off222 v2077) a + S1x128.size a ≤ S64512x128.size a)
theorem k0_off214_inb : ∀ (v2077 : BitVec 32) (k0_hw82 : k0_chk82 v2077), ∀ a, (k0_off214 v2077) a + S8x128.size a ≤ S64512x128.size a := fun v2077 k0_hw82 => k0_hw82.1
theorem k0_off222_inb : ∀ (v2077 : BitVec 32) (k0_hw82 : k0_chk82 v2077), ∀ a, (k0_off222 v2077) a + S1x128.size a ≤ S64512x128.size a := fun v2077 k0_hw82 => k0_hw82.2

def k0_off223 (v2080 : BitVec 32) : Fin 2 → Nat :=
  let c8_i32_1050 : BitVec 32 := 8#32
  let v2118 : BitVec 32 := Scalar.addi v2080 c8_i32_1050
  let v2119 : Index := Scalar.indexCast v2118
  let c0_1051 : Index := 0#32
  ![v2119.toNat, 0]

def k0_chk83 (v2080 : BitVec 32) : Prop :=
  (∀ a, (k0_off215 v2080) a + S8x128.size a ≤ S64512x128.size a) ∧
  (∀ a, (k0_off223 v2080) a + S1x128.size a ≤ S64512x128.size a)
theorem k0_off215_inb : ∀ (v2080 : BitVec 32) (k0_hw83 : k0_chk83 v2080), ∀ a, (k0_off215 v2080) a + S8x128.size a ≤ S64512x128.size a := fun v2080 k0_hw83 => k0_hw83.1
theorem k0_off223_inb : ∀ (v2080 : BitVec 32) (k0_hw83 : k0_chk83 v2080), ∀ a, (k0_off223 v2080) a + S1x128.size a ≤ S64512x128.size a := fun v2080 k0_hw83 => k0_hw83.2

def k0_off224 (v2083 : BitVec 32) : Fin 2 → Nat :=
  let c8_i32_1052 : BitVec 32 := 8#32
  let v2121 : BitVec 32 := Scalar.addi v2083 c8_i32_1052
  let v2122 : Index := Scalar.indexCast v2121
  let c0_1053 : Index := 0#32
  ![v2122.toNat, 0]

def k0_chk84 (v2083 : BitVec 32) : Prop :=
  (∀ a, (k0_off216 v2083) a + S8x128.size a ≤ S64512x128.size a) ∧
  (∀ a, (k0_off224 v2083) a + S1x128.size a ≤ S64512x128.size a)
theorem k0_off216_inb : ∀ (v2083 : BitVec 32) (k0_hw84 : k0_chk84 v2083), ∀ a, (k0_off216 v2083) a + S8x128.size a ≤ S64512x128.size a := fun v2083 k0_hw84 => k0_hw84.1
theorem k0_off224_inb : ∀ (v2083 : BitVec 32) (k0_hw84 : k0_chk84 v2083), ∀ a, (k0_off224 v2083) a + S1x128.size a ≤ S64512x128.size a := fun v2083 k0_hw84 => k0_hw84.2

def k0_off225 (v2086 : BitVec 32) : Fin 2 → Nat :=
  let c8_i32_1054 : BitVec 32 := 8#32
  let v2124 : BitVec 32 := Scalar.addi v2086 c8_i32_1054
  let v2125 : Index := Scalar.indexCast v2124
  let c0_1055 : Index := 0#32
  ![v2125.toNat, 0]

def k0_chk85 (v2086 : BitVec 32) : Prop :=
  (∀ a, (k0_off217 v2086) a + S8x128.size a ≤ S64512x128.size a) ∧
  (∀ a, (k0_off225 v2086) a + S1x128.size a ≤ S64512x128.size a)
theorem k0_off217_inb : ∀ (v2086 : BitVec 32) (k0_hw85 : k0_chk85 v2086), ∀ a, (k0_off217 v2086) a + S8x128.size a ≤ S64512x128.size a := fun v2086 k0_hw85 => k0_hw85.1
theorem k0_off225_inb : ∀ (v2086 : BitVec 32) (k0_hw85 : k0_chk85 v2086), ∀ a, (k0_off225 v2086) a + S1x128.size a ≤ S64512x128.size a := fun v2086 k0_hw85 => k0_hw85.2

def k0_off226 (v2089 : BitVec 32) : Fin 2 → Nat :=
  let c8_i32_1056 : BitVec 32 := 8#32
  let v2127 : BitVec 32 := Scalar.addi v2089 c8_i32_1056
  let v2128 : Index := Scalar.indexCast v2127
  let c0_1057 : Index := 0#32
  ![v2128.toNat, 0]

def k0_chk86 (v2089 : BitVec 32) : Prop :=
  (∀ a, (k0_off218 v2089) a + S8x128.size a ≤ S64512x128.size a) ∧
  (∀ a, (k0_off226 v2089) a + S1x128.size a ≤ S64512x128.size a)
theorem k0_off218_inb : ∀ (v2089 : BitVec 32) (k0_hw86 : k0_chk86 v2089), ∀ a, (k0_off218 v2089) a + S8x128.size a ≤ S64512x128.size a := fun v2089 k0_hw86 => k0_hw86.1
theorem k0_off226_inb : ∀ (v2089 : BitVec 32) (k0_hw86 : k0_chk86 v2089), ∀ a, (k0_off226 v2089) a + S1x128.size a ≤ S64512x128.size a := fun v2089 k0_hw86 => k0_hw86.2

def k0_off227 (v2092 : BitVec 32) : Fin 2 → Nat :=
  let c8_i32_1058 : BitVec 32 := 8#32
  let v2130 : BitVec 32 := Scalar.addi v2092 c8_i32_1058
  let v2131 : Index := Scalar.indexCast v2130
  let c0_1059 : Index := 0#32
  ![v2131.toNat, 0]

def k0_chk87 (v2092 : BitVec 32) : Prop :=
  (∀ a, (k0_off219 v2092) a + S8x128.size a ≤ S64512x128.size a) ∧
  (∀ a, (k0_off227 v2092) a + S1x128.size a ≤ S64512x128.size a)
theorem k0_off219_inb : ∀ (v2092 : BitVec 32) (k0_hw87 : k0_chk87 v2092), ∀ a, (k0_off219 v2092) a + S8x128.size a ≤ S64512x128.size a := fun v2092 k0_hw87 => k0_hw87.1
theorem k0_off227_inb : ∀ (v2092 : BitVec 32) (k0_hw87 : k0_chk87 v2092), ∀ a, (k0_off227 v2092) a + S1x128.size a ≤ S64512x128.size a := fun v2092 k0_hw87 => k0_hw87.2

def k0_off228 (v2095 : BitVec 32) : Fin 2 → Nat :=
  let c8_i32_1060 : BitVec 32 := 8#32
  let v2133 : BitVec 32 := Scalar.addi v2095 c8_i32_1060
  let v2134 : Index := Scalar.indexCast v2133
  let c0_1061 : Index := 0#32
  ![v2134.toNat, 0]

def k0_chk88 (v2095 : BitVec 32) : Prop :=
  (∀ a, (k0_off220 v2095) a + S8x128.size a ≤ S64512x128.size a) ∧
  (∀ a, (k0_off228 v2095) a + S1x128.size a ≤ S64512x128.size a)
theorem k0_off220_inb : ∀ (v2095 : BitVec 32) (k0_hw88 : k0_chk88 v2095), ∀ a, (k0_off220 v2095) a + S8x128.size a ≤ S64512x128.size a := fun v2095 k0_hw88 => k0_hw88.1
theorem k0_off228_inb : ∀ (v2095 : BitVec 32) (k0_hw88 : k0_chk88 v2095), ∀ a, (k0_off228 v2095) a + S1x128.size a ≤ S64512x128.size a := fun v2095 k0_hw88 => k0_hw88.2

def k0_off229 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v2257 : Index := Scalar.indexCast v172
  let c0_1107 : Index := 0#32
  ![v2257.toNat, 0]
def k0_off230 (v2258 : BitVec 32) : Fin 2 → Nat :=
  let v2280 : Index := Scalar.indexCast v2258
  let c0_1122 : Index := 0#32
  ![v2280.toNat, 0]

def k0_off231 (v2261 : BitVec 32) : Fin 2 → Nat :=
  let v2282 : Index := Scalar.indexCast v2261
  let c0_1123 : Index := 0#32
  ![v2282.toNat, 0]

def k0_off232 (v2264 : BitVec 32) : Fin 2 → Nat :=
  let v2284 : Index := Scalar.indexCast v2264
  let c0_1124 : Index := 0#32
  ![v2284.toNat, 0]

def k0_off233 (v2267 : BitVec 32) : Fin 2 → Nat :=
  let v2286 : Index := Scalar.indexCast v2267
  let c0_1125 : Index := 0#32
  ![v2286.toNat, 0]

def k0_off234 (v2270 : BitVec 32) : Fin 2 → Nat :=
  let v2288 : Index := Scalar.indexCast v2270
  let c0_1126 : Index := 0#32
  ![v2288.toNat, 0]

def k0_off235 (v2273 : BitVec 32) : Fin 2 → Nat :=
  let v2290 : Index := Scalar.indexCast v2273
  let c0_1127 : Index := 0#32
  ![v2290.toNat, 0]

def k0_off236 (v2276 : BitVec 32) : Fin 2 → Nat :=
  let v2292 : Index := Scalar.indexCast v2276
  let c0_1128 : Index := 0#32
  ![v2292.toNat, 0]

def k0_off237 (v2279 : BitVec 32) : Fin 2 → Nat :=
  let v2294 : Index := Scalar.indexCast v2279
  let c0_1129 : Index := 0#32
  ![v2294.toNat, 0]

def k0_off238 (v2258 : BitVec 32) : Fin 2 → Nat :=
  let c8_i32_1130 : BitVec 32 := 8#32
  let v2296 : BitVec 32 := Scalar.addi v2258 c8_i32_1130
  let v2297 : Index := Scalar.indexCast v2296
  let c0_1131 : Index := 0#32
  ![v2297.toNat, 0]

def k0_chk89 (v2258 : BitVec 32) : Prop :=
  (∀ a, (k0_off230 v2258) a + S8x128.size a ≤ S64512x128.size a) ∧
  (∀ a, (k0_off238 v2258) a + S1x128.size a ≤ S64512x128.size a)
theorem k0_off230_inb : ∀ (v2258 : BitVec 32) (k0_hw89 : k0_chk89 v2258), ∀ a, (k0_off230 v2258) a + S8x128.size a ≤ S64512x128.size a := fun v2258 k0_hw89 => k0_hw89.1
theorem k0_off238_inb : ∀ (v2258 : BitVec 32) (k0_hw89 : k0_chk89 v2258), ∀ a, (k0_off238 v2258) a + S1x128.size a ≤ S64512x128.size a := fun v2258 k0_hw89 => k0_hw89.2

def k0_off239 (v2261 : BitVec 32) : Fin 2 → Nat :=
  let c8_i32_1132 : BitVec 32 := 8#32
  let v2299 : BitVec 32 := Scalar.addi v2261 c8_i32_1132
  let v2300 : Index := Scalar.indexCast v2299
  let c0_1133 : Index := 0#32
  ![v2300.toNat, 0]

def k0_chk90 (v2261 : BitVec 32) : Prop :=
  (∀ a, (k0_off231 v2261) a + S8x128.size a ≤ S64512x128.size a) ∧
  (∀ a, (k0_off239 v2261) a + S1x128.size a ≤ S64512x128.size a)
theorem k0_off231_inb : ∀ (v2261 : BitVec 32) (k0_hw90 : k0_chk90 v2261), ∀ a, (k0_off231 v2261) a + S8x128.size a ≤ S64512x128.size a := fun v2261 k0_hw90 => k0_hw90.1
theorem k0_off239_inb : ∀ (v2261 : BitVec 32) (k0_hw90 : k0_chk90 v2261), ∀ a, (k0_off239 v2261) a + S1x128.size a ≤ S64512x128.size a := fun v2261 k0_hw90 => k0_hw90.2

def k0_off240 (v2264 : BitVec 32) : Fin 2 → Nat :=
  let c8_i32_1134 : BitVec 32 := 8#32
  let v2302 : BitVec 32 := Scalar.addi v2264 c8_i32_1134
  let v2303 : Index := Scalar.indexCast v2302
  let c0_1135 : Index := 0#32
  ![v2303.toNat, 0]

def k0_chk91 (v2264 : BitVec 32) : Prop :=
  (∀ a, (k0_off232 v2264) a + S8x128.size a ≤ S64512x128.size a) ∧
  (∀ a, (k0_off240 v2264) a + S1x128.size a ≤ S64512x128.size a)
theorem k0_off232_inb : ∀ (v2264 : BitVec 32) (k0_hw91 : k0_chk91 v2264), ∀ a, (k0_off232 v2264) a + S8x128.size a ≤ S64512x128.size a := fun v2264 k0_hw91 => k0_hw91.1
theorem k0_off240_inb : ∀ (v2264 : BitVec 32) (k0_hw91 : k0_chk91 v2264), ∀ a, (k0_off240 v2264) a + S1x128.size a ≤ S64512x128.size a := fun v2264 k0_hw91 => k0_hw91.2

def k0_off241 (v2267 : BitVec 32) : Fin 2 → Nat :=
  let c8_i32_1136 : BitVec 32 := 8#32
  let v2305 : BitVec 32 := Scalar.addi v2267 c8_i32_1136
  let v2306 : Index := Scalar.indexCast v2305
  let c0_1137 : Index := 0#32
  ![v2306.toNat, 0]

def k0_chk92 (v2267 : BitVec 32) : Prop :=
  (∀ a, (k0_off233 v2267) a + S8x128.size a ≤ S64512x128.size a) ∧
  (∀ a, (k0_off241 v2267) a + S1x128.size a ≤ S64512x128.size a)
theorem k0_off233_inb : ∀ (v2267 : BitVec 32) (k0_hw92 : k0_chk92 v2267), ∀ a, (k0_off233 v2267) a + S8x128.size a ≤ S64512x128.size a := fun v2267 k0_hw92 => k0_hw92.1
theorem k0_off241_inb : ∀ (v2267 : BitVec 32) (k0_hw92 : k0_chk92 v2267), ∀ a, (k0_off241 v2267) a + S1x128.size a ≤ S64512x128.size a := fun v2267 k0_hw92 => k0_hw92.2

def k0_off242 (v2270 : BitVec 32) : Fin 2 → Nat :=
  let c8_i32_1138 : BitVec 32 := 8#32
  let v2308 : BitVec 32 := Scalar.addi v2270 c8_i32_1138
  let v2309 : Index := Scalar.indexCast v2308
  let c0_1139 : Index := 0#32
  ![v2309.toNat, 0]

def k0_chk93 (v2270 : BitVec 32) : Prop :=
  (∀ a, (k0_off234 v2270) a + S8x128.size a ≤ S64512x128.size a) ∧
  (∀ a, (k0_off242 v2270) a + S1x128.size a ≤ S64512x128.size a)
theorem k0_off234_inb : ∀ (v2270 : BitVec 32) (k0_hw93 : k0_chk93 v2270), ∀ a, (k0_off234 v2270) a + S8x128.size a ≤ S64512x128.size a := fun v2270 k0_hw93 => k0_hw93.1
theorem k0_off242_inb : ∀ (v2270 : BitVec 32) (k0_hw93 : k0_chk93 v2270), ∀ a, (k0_off242 v2270) a + S1x128.size a ≤ S64512x128.size a := fun v2270 k0_hw93 => k0_hw93.2

def k0_off243 (v2273 : BitVec 32) : Fin 2 → Nat :=
  let c8_i32_1140 : BitVec 32 := 8#32
  let v2311 : BitVec 32 := Scalar.addi v2273 c8_i32_1140
  let v2312 : Index := Scalar.indexCast v2311
  let c0_1141 : Index := 0#32
  ![v2312.toNat, 0]

def k0_chk94 (v2273 : BitVec 32) : Prop :=
  (∀ a, (k0_off235 v2273) a + S8x128.size a ≤ S64512x128.size a) ∧
  (∀ a, (k0_off243 v2273) a + S1x128.size a ≤ S64512x128.size a)
theorem k0_off235_inb : ∀ (v2273 : BitVec 32) (k0_hw94 : k0_chk94 v2273), ∀ a, (k0_off235 v2273) a + S8x128.size a ≤ S64512x128.size a := fun v2273 k0_hw94 => k0_hw94.1
theorem k0_off243_inb : ∀ (v2273 : BitVec 32) (k0_hw94 : k0_chk94 v2273), ∀ a, (k0_off243 v2273) a + S1x128.size a ≤ S64512x128.size a := fun v2273 k0_hw94 => k0_hw94.2

def k0_off244 (v2276 : BitVec 32) : Fin 2 → Nat :=
  let c8_i32_1142 : BitVec 32 := 8#32
  let v2314 : BitVec 32 := Scalar.addi v2276 c8_i32_1142
  let v2315 : Index := Scalar.indexCast v2314
  let c0_1143 : Index := 0#32
  ![v2315.toNat, 0]

def k0_chk95 (v2276 : BitVec 32) : Prop :=
  (∀ a, (k0_off236 v2276) a + S8x128.size a ≤ S64512x128.size a) ∧
  (∀ a, (k0_off244 v2276) a + S1x128.size a ≤ S64512x128.size a)
theorem k0_off236_inb : ∀ (v2276 : BitVec 32) (k0_hw95 : k0_chk95 v2276), ∀ a, (k0_off236 v2276) a + S8x128.size a ≤ S64512x128.size a := fun v2276 k0_hw95 => k0_hw95.1
theorem k0_off244_inb : ∀ (v2276 : BitVec 32) (k0_hw95 : k0_chk95 v2276), ∀ a, (k0_off244 v2276) a + S1x128.size a ≤ S64512x128.size a := fun v2276 k0_hw95 => k0_hw95.2

def k0_off245 (v2279 : BitVec 32) : Fin 2 → Nat :=
  let c8_i32_1144 : BitVec 32 := 8#32
  let v2317 : BitVec 32 := Scalar.addi v2279 c8_i32_1144
  let v2318 : Index := Scalar.indexCast v2317
  let c0_1145 : Index := 0#32
  ![v2318.toNat, 0]

def k0_chk96 (v2279 : BitVec 32) : Prop :=
  (∀ a, (k0_off237 v2279) a + S8x128.size a ≤ S64512x128.size a) ∧
  (∀ a, (k0_off245 v2279) a + S1x128.size a ≤ S64512x128.size a)
theorem k0_off237_inb : ∀ (v2279 : BitVec 32) (k0_hw96 : k0_chk96 v2279), ∀ a, (k0_off237 v2279) a + S8x128.size a ≤ S64512x128.size a := fun v2279 k0_hw96 => k0_hw96.1
theorem k0_off245_inb : ∀ (v2279 : BitVec 32) (k0_hw96 : k0_chk96 v2279), ∀ a, (k0_off245 v2279) a + S1x128.size a ≤ S64512x128.size a := fun v2279 k0_hw96 => k0_hw96.2

def k0_off246 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v2441 : Index := Scalar.indexCast v172
  let c0_1192 : Index := 0#32
  ![v2441.toNat, 0]
def k0_off247 (v2442 : BitVec 32) : Fin 2 → Nat :=
  let v2464 : Index := Scalar.indexCast v2442
  let c0_1207 : Index := 0#32
  ![v2464.toNat, 0]

def k0_off248 (v2445 : BitVec 32) : Fin 2 → Nat :=
  let v2466 : Index := Scalar.indexCast v2445
  let c0_1208 : Index := 0#32
  ![v2466.toNat, 0]

def k0_off249 (v2448 : BitVec 32) : Fin 2 → Nat :=
  let v2468 : Index := Scalar.indexCast v2448
  let c0_1209 : Index := 0#32
  ![v2468.toNat, 0]

def k0_off250 (v2451 : BitVec 32) : Fin 2 → Nat :=
  let v2470 : Index := Scalar.indexCast v2451
  let c0_1210 : Index := 0#32
  ![v2470.toNat, 0]

def k0_off251 (v2454 : BitVec 32) : Fin 2 → Nat :=
  let v2472 : Index := Scalar.indexCast v2454
  let c0_1211 : Index := 0#32
  ![v2472.toNat, 0]

def k0_off252 (v2457 : BitVec 32) : Fin 2 → Nat :=
  let v2474 : Index := Scalar.indexCast v2457
  let c0_1212 : Index := 0#32
  ![v2474.toNat, 0]

def k0_off253 (v2460 : BitVec 32) : Fin 2 → Nat :=
  let v2476 : Index := Scalar.indexCast v2460
  let c0_1213 : Index := 0#32
  ![v2476.toNat, 0]

def k0_off254 (v2463 : BitVec 32) : Fin 2 → Nat :=
  let v2478 : Index := Scalar.indexCast v2463
  let c0_1214 : Index := 0#32
  ![v2478.toNat, 0]

def k0_off255 (v2442 : BitVec 32) : Fin 2 → Nat :=
  let c8_i32_1215 : BitVec 32 := 8#32
  let v2480 : BitVec 32 := Scalar.addi v2442 c8_i32_1215
  let v2481 : Index := Scalar.indexCast v2480
  let c0_1216 : Index := 0#32
  ![v2481.toNat, 0]

def k0_chk97 (v2442 : BitVec 32) : Prop :=
  (∀ a, (k0_off247 v2442) a + S8x128.size a ≤ S64512x128.size a) ∧
  (∀ a, (k0_off255 v2442) a + S1x128.size a ≤ S64512x128.size a)
theorem k0_off247_inb : ∀ (v2442 : BitVec 32) (k0_hw97 : k0_chk97 v2442), ∀ a, (k0_off247 v2442) a + S8x128.size a ≤ S64512x128.size a := fun v2442 k0_hw97 => k0_hw97.1
theorem k0_off255_inb : ∀ (v2442 : BitVec 32) (k0_hw97 : k0_chk97 v2442), ∀ a, (k0_off255 v2442) a + S1x128.size a ≤ S64512x128.size a := fun v2442 k0_hw97 => k0_hw97.2

def k0_off256 (v2445 : BitVec 32) : Fin 2 → Nat :=
  let c8_i32_1217 : BitVec 32 := 8#32
  let v2483 : BitVec 32 := Scalar.addi v2445 c8_i32_1217
  let v2484 : Index := Scalar.indexCast v2483
  let c0_1218 : Index := 0#32
  ![v2484.toNat, 0]

def k0_chk98 (v2445 : BitVec 32) : Prop :=
  (∀ a, (k0_off248 v2445) a + S8x128.size a ≤ S64512x128.size a) ∧
  (∀ a, (k0_off256 v2445) a + S1x128.size a ≤ S64512x128.size a)
theorem k0_off248_inb : ∀ (v2445 : BitVec 32) (k0_hw98 : k0_chk98 v2445), ∀ a, (k0_off248 v2445) a + S8x128.size a ≤ S64512x128.size a := fun v2445 k0_hw98 => k0_hw98.1
theorem k0_off256_inb : ∀ (v2445 : BitVec 32) (k0_hw98 : k0_chk98 v2445), ∀ a, (k0_off256 v2445) a + S1x128.size a ≤ S64512x128.size a := fun v2445 k0_hw98 => k0_hw98.2

def k0_off257 (v2448 : BitVec 32) : Fin 2 → Nat :=
  let c8_i32_1219 : BitVec 32 := 8#32
  let v2486 : BitVec 32 := Scalar.addi v2448 c8_i32_1219
  let v2487 : Index := Scalar.indexCast v2486
  let c0_1220 : Index := 0#32
  ![v2487.toNat, 0]

def k0_chk99 (v2448 : BitVec 32) : Prop :=
  (∀ a, (k0_off249 v2448) a + S8x128.size a ≤ S64512x128.size a) ∧
  (∀ a, (k0_off257 v2448) a + S1x128.size a ≤ S64512x128.size a)
theorem k0_off249_inb : ∀ (v2448 : BitVec 32) (k0_hw99 : k0_chk99 v2448), ∀ a, (k0_off249 v2448) a + S8x128.size a ≤ S64512x128.size a := fun v2448 k0_hw99 => k0_hw99.1
theorem k0_off257_inb : ∀ (v2448 : BitVec 32) (k0_hw99 : k0_chk99 v2448), ∀ a, (k0_off257 v2448) a + S1x128.size a ≤ S64512x128.size a := fun v2448 k0_hw99 => k0_hw99.2

def k0_off258 (v2451 : BitVec 32) : Fin 2 → Nat :=
  let c8_i32_1221 : BitVec 32 := 8#32
  let v2489 : BitVec 32 := Scalar.addi v2451 c8_i32_1221
  let v2490 : Index := Scalar.indexCast v2489
  let c0_1222 : Index := 0#32
  ![v2490.toNat, 0]

def k0_chk100 (v2451 : BitVec 32) : Prop :=
  (∀ a, (k0_off250 v2451) a + S8x128.size a ≤ S64512x128.size a) ∧
  (∀ a, (k0_off258 v2451) a + S1x128.size a ≤ S64512x128.size a)
theorem k0_off250_inb : ∀ (v2451 : BitVec 32) (k0_hw100 : k0_chk100 v2451), ∀ a, (k0_off250 v2451) a + S8x128.size a ≤ S64512x128.size a := fun v2451 k0_hw100 => k0_hw100.1
theorem k0_off258_inb : ∀ (v2451 : BitVec 32) (k0_hw100 : k0_chk100 v2451), ∀ a, (k0_off258 v2451) a + S1x128.size a ≤ S64512x128.size a := fun v2451 k0_hw100 => k0_hw100.2

def k0_off259 (v2454 : BitVec 32) : Fin 2 → Nat :=
  let c8_i32_1223 : BitVec 32 := 8#32
  let v2492 : BitVec 32 := Scalar.addi v2454 c8_i32_1223
  let v2493 : Index := Scalar.indexCast v2492
  let c0_1224 : Index := 0#32
  ![v2493.toNat, 0]

def k0_chk101 (v2454 : BitVec 32) : Prop :=
  (∀ a, (k0_off251 v2454) a + S8x128.size a ≤ S64512x128.size a) ∧
  (∀ a, (k0_off259 v2454) a + S1x128.size a ≤ S64512x128.size a)
theorem k0_off251_inb : ∀ (v2454 : BitVec 32) (k0_hw101 : k0_chk101 v2454), ∀ a, (k0_off251 v2454) a + S8x128.size a ≤ S64512x128.size a := fun v2454 k0_hw101 => k0_hw101.1
theorem k0_off259_inb : ∀ (v2454 : BitVec 32) (k0_hw101 : k0_chk101 v2454), ∀ a, (k0_off259 v2454) a + S1x128.size a ≤ S64512x128.size a := fun v2454 k0_hw101 => k0_hw101.2

def k0_off260 (v2457 : BitVec 32) : Fin 2 → Nat :=
  let c8_i32_1225 : BitVec 32 := 8#32
  let v2495 : BitVec 32 := Scalar.addi v2457 c8_i32_1225
  let v2496 : Index := Scalar.indexCast v2495
  let c0_1226 : Index := 0#32
  ![v2496.toNat, 0]

def k0_chk102 (v2457 : BitVec 32) : Prop :=
  (∀ a, (k0_off252 v2457) a + S8x128.size a ≤ S64512x128.size a) ∧
  (∀ a, (k0_off260 v2457) a + S1x128.size a ≤ S64512x128.size a)
theorem k0_off252_inb : ∀ (v2457 : BitVec 32) (k0_hw102 : k0_chk102 v2457), ∀ a, (k0_off252 v2457) a + S8x128.size a ≤ S64512x128.size a := fun v2457 k0_hw102 => k0_hw102.1
theorem k0_off260_inb : ∀ (v2457 : BitVec 32) (k0_hw102 : k0_chk102 v2457), ∀ a, (k0_off260 v2457) a + S1x128.size a ≤ S64512x128.size a := fun v2457 k0_hw102 => k0_hw102.2

def k0_off261 (v2460 : BitVec 32) : Fin 2 → Nat :=
  let c8_i32_1227 : BitVec 32 := 8#32
  let v2498 : BitVec 32 := Scalar.addi v2460 c8_i32_1227
  let v2499 : Index := Scalar.indexCast v2498
  let c0_1228 : Index := 0#32
  ![v2499.toNat, 0]

def k0_chk103 (v2460 : BitVec 32) : Prop :=
  (∀ a, (k0_off253 v2460) a + S8x128.size a ≤ S64512x128.size a) ∧
  (∀ a, (k0_off261 v2460) a + S1x128.size a ≤ S64512x128.size a)
theorem k0_off253_inb : ∀ (v2460 : BitVec 32) (k0_hw103 : k0_chk103 v2460), ∀ a, (k0_off253 v2460) a + S8x128.size a ≤ S64512x128.size a := fun v2460 k0_hw103 => k0_hw103.1
theorem k0_off261_inb : ∀ (v2460 : BitVec 32) (k0_hw103 : k0_chk103 v2460), ∀ a, (k0_off261 v2460) a + S1x128.size a ≤ S64512x128.size a := fun v2460 k0_hw103 => k0_hw103.2

def k0_off262 (v2463 : BitVec 32) : Fin 2 → Nat :=
  let c8_i32_1229 : BitVec 32 := 8#32
  let v2501 : BitVec 32 := Scalar.addi v2463 c8_i32_1229
  let v2502 : Index := Scalar.indexCast v2501
  let c0_1230 : Index := 0#32
  ![v2502.toNat, 0]

def k0_chk104 (v2463 : BitVec 32) : Prop :=
  (∀ a, (k0_off254 v2463) a + S8x128.size a ≤ S64512x128.size a) ∧
  (∀ a, (k0_off262 v2463) a + S1x128.size a ≤ S64512x128.size a)
theorem k0_off254_inb : ∀ (v2463 : BitVec 32) (k0_hw104 : k0_chk104 v2463), ∀ a, (k0_off254 v2463) a + S8x128.size a ≤ S64512x128.size a := fun v2463 k0_hw104 => k0_hw104.1
theorem k0_off262_inb : ∀ (v2463 : BitVec 32) (k0_hw104 : k0_chk104 v2463), ∀ a, (k0_off262 v2463) a + S1x128.size a ≤ S64512x128.size a := fun v2463 k0_hw104 => k0_hw104.2

def k0_off263 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v2625 : Index := Scalar.indexCast v172
  let c0_1276 : Index := 0#32
  ![v2625.toNat, 0]
def k0_off264 (v2626 : BitVec 32) : Fin 2 → Nat :=
  let v2648 : Index := Scalar.indexCast v2626
  let c0_1291 : Index := 0#32
  ![v2648.toNat, 0]

def k0_off265 (v2629 : BitVec 32) : Fin 2 → Nat :=
  let v2650 : Index := Scalar.indexCast v2629
  let c0_1292 : Index := 0#32
  ![v2650.toNat, 0]

def k0_off266 (v2632 : BitVec 32) : Fin 2 → Nat :=
  let v2652 : Index := Scalar.indexCast v2632
  let c0_1293 : Index := 0#32
  ![v2652.toNat, 0]

def k0_off267 (v2635 : BitVec 32) : Fin 2 → Nat :=
  let v2654 : Index := Scalar.indexCast v2635
  let c0_1294 : Index := 0#32
  ![v2654.toNat, 0]

def k0_off268 (v2638 : BitVec 32) : Fin 2 → Nat :=
  let v2656 : Index := Scalar.indexCast v2638
  let c0_1295 : Index := 0#32
  ![v2656.toNat, 0]

def k0_off269 (v2641 : BitVec 32) : Fin 2 → Nat :=
  let v2658 : Index := Scalar.indexCast v2641
  let c0_1296 : Index := 0#32
  ![v2658.toNat, 0]

def k0_off270 (v2644 : BitVec 32) : Fin 2 → Nat :=
  let v2660 : Index := Scalar.indexCast v2644
  let c0_1297 : Index := 0#32
  ![v2660.toNat, 0]

def k0_off271 (v2647 : BitVec 32) : Fin 2 → Nat :=
  let v2662 : Index := Scalar.indexCast v2647
  let c0_1298 : Index := 0#32
  ![v2662.toNat, 0]

def k0_off272 (v2626 : BitVec 32) : Fin 2 → Nat :=
  let c8_i32_1299 : BitVec 32 := 8#32
  let v2664 : BitVec 32 := Scalar.addi v2626 c8_i32_1299
  let v2665 : Index := Scalar.indexCast v2664
  let c0_1300 : Index := 0#32
  ![v2665.toNat, 0]

def k0_chk105 (v2626 : BitVec 32) : Prop :=
  (∀ a, (k0_off264 v2626) a + S8x128.size a ≤ S64512x128.size a) ∧
  (∀ a, (k0_off272 v2626) a + S1x128.size a ≤ S64512x128.size a)
theorem k0_off264_inb : ∀ (v2626 : BitVec 32) (k0_hw105 : k0_chk105 v2626), ∀ a, (k0_off264 v2626) a + S8x128.size a ≤ S64512x128.size a := fun v2626 k0_hw105 => k0_hw105.1
theorem k0_off272_inb : ∀ (v2626 : BitVec 32) (k0_hw105 : k0_chk105 v2626), ∀ a, (k0_off272 v2626) a + S1x128.size a ≤ S64512x128.size a := fun v2626 k0_hw105 => k0_hw105.2

def k0_off273 (v2629 : BitVec 32) : Fin 2 → Nat :=
  let c8_i32_1301 : BitVec 32 := 8#32
  let v2667 : BitVec 32 := Scalar.addi v2629 c8_i32_1301
  let v2668 : Index := Scalar.indexCast v2667
  let c0_1302 : Index := 0#32
  ![v2668.toNat, 0]

def k0_chk106 (v2629 : BitVec 32) : Prop :=
  (∀ a, (k0_off265 v2629) a + S8x128.size a ≤ S64512x128.size a) ∧
  (∀ a, (k0_off273 v2629) a + S1x128.size a ≤ S64512x128.size a)
theorem k0_off265_inb : ∀ (v2629 : BitVec 32) (k0_hw106 : k0_chk106 v2629), ∀ a, (k0_off265 v2629) a + S8x128.size a ≤ S64512x128.size a := fun v2629 k0_hw106 => k0_hw106.1
theorem k0_off273_inb : ∀ (v2629 : BitVec 32) (k0_hw106 : k0_chk106 v2629), ∀ a, (k0_off273 v2629) a + S1x128.size a ≤ S64512x128.size a := fun v2629 k0_hw106 => k0_hw106.2

def k0_off274 (v2632 : BitVec 32) : Fin 2 → Nat :=
  let c8_i32_1303 : BitVec 32 := 8#32
  let v2670 : BitVec 32 := Scalar.addi v2632 c8_i32_1303
  let v2671 : Index := Scalar.indexCast v2670
  let c0_1304 : Index := 0#32
  ![v2671.toNat, 0]

def k0_chk107 (v2632 : BitVec 32) : Prop :=
  (∀ a, (k0_off266 v2632) a + S8x128.size a ≤ S64512x128.size a) ∧
  (∀ a, (k0_off274 v2632) a + S1x128.size a ≤ S64512x128.size a)
theorem k0_off266_inb : ∀ (v2632 : BitVec 32) (k0_hw107 : k0_chk107 v2632), ∀ a, (k0_off266 v2632) a + S8x128.size a ≤ S64512x128.size a := fun v2632 k0_hw107 => k0_hw107.1
theorem k0_off274_inb : ∀ (v2632 : BitVec 32) (k0_hw107 : k0_chk107 v2632), ∀ a, (k0_off274 v2632) a + S1x128.size a ≤ S64512x128.size a := fun v2632 k0_hw107 => k0_hw107.2

def k0_off275 (v2635 : BitVec 32) : Fin 2 → Nat :=
  let c8_i32_1305 : BitVec 32 := 8#32
  let v2673 : BitVec 32 := Scalar.addi v2635 c8_i32_1305
  let v2674 : Index := Scalar.indexCast v2673
  let c0_1306 : Index := 0#32
  ![v2674.toNat, 0]

def k0_chk108 (v2635 : BitVec 32) : Prop :=
  (∀ a, (k0_off267 v2635) a + S8x128.size a ≤ S64512x128.size a) ∧
  (∀ a, (k0_off275 v2635) a + S1x128.size a ≤ S64512x128.size a)
theorem k0_off267_inb : ∀ (v2635 : BitVec 32) (k0_hw108 : k0_chk108 v2635), ∀ a, (k0_off267 v2635) a + S8x128.size a ≤ S64512x128.size a := fun v2635 k0_hw108 => k0_hw108.1
theorem k0_off275_inb : ∀ (v2635 : BitVec 32) (k0_hw108 : k0_chk108 v2635), ∀ a, (k0_off275 v2635) a + S1x128.size a ≤ S64512x128.size a := fun v2635 k0_hw108 => k0_hw108.2

def k0_off276 (v2638 : BitVec 32) : Fin 2 → Nat :=
  let c8_i32_1307 : BitVec 32 := 8#32
  let v2676 : BitVec 32 := Scalar.addi v2638 c8_i32_1307
  let v2677 : Index := Scalar.indexCast v2676
  let c0_1308 : Index := 0#32
  ![v2677.toNat, 0]

def k0_chk109 (v2638 : BitVec 32) : Prop :=
  (∀ a, (k0_off268 v2638) a + S8x128.size a ≤ S64512x128.size a) ∧
  (∀ a, (k0_off276 v2638) a + S1x128.size a ≤ S64512x128.size a)
theorem k0_off268_inb : ∀ (v2638 : BitVec 32) (k0_hw109 : k0_chk109 v2638), ∀ a, (k0_off268 v2638) a + S8x128.size a ≤ S64512x128.size a := fun v2638 k0_hw109 => k0_hw109.1
theorem k0_off276_inb : ∀ (v2638 : BitVec 32) (k0_hw109 : k0_chk109 v2638), ∀ a, (k0_off276 v2638) a + S1x128.size a ≤ S64512x128.size a := fun v2638 k0_hw109 => k0_hw109.2

def k0_off277 (v2641 : BitVec 32) : Fin 2 → Nat :=
  let c8_i32_1309 : BitVec 32 := 8#32
  let v2679 : BitVec 32 := Scalar.addi v2641 c8_i32_1309
  let v2680 : Index := Scalar.indexCast v2679
  let c0_1310 : Index := 0#32
  ![v2680.toNat, 0]

def k0_chk110 (v2641 : BitVec 32) : Prop :=
  (∀ a, (k0_off269 v2641) a + S8x128.size a ≤ S64512x128.size a) ∧
  (∀ a, (k0_off277 v2641) a + S1x128.size a ≤ S64512x128.size a)
theorem k0_off269_inb : ∀ (v2641 : BitVec 32) (k0_hw110 : k0_chk110 v2641), ∀ a, (k0_off269 v2641) a + S8x128.size a ≤ S64512x128.size a := fun v2641 k0_hw110 => k0_hw110.1
theorem k0_off277_inb : ∀ (v2641 : BitVec 32) (k0_hw110 : k0_chk110 v2641), ∀ a, (k0_off277 v2641) a + S1x128.size a ≤ S64512x128.size a := fun v2641 k0_hw110 => k0_hw110.2

def k0_off278 (v2644 : BitVec 32) : Fin 2 → Nat :=
  let c8_i32_1311 : BitVec 32 := 8#32
  let v2682 : BitVec 32 := Scalar.addi v2644 c8_i32_1311
  let v2683 : Index := Scalar.indexCast v2682
  let c0_1312 : Index := 0#32
  ![v2683.toNat, 0]

def k0_chk111 (v2644 : BitVec 32) : Prop :=
  (∀ a, (k0_off270 v2644) a + S8x128.size a ≤ S64512x128.size a) ∧
  (∀ a, (k0_off278 v2644) a + S1x128.size a ≤ S64512x128.size a)
theorem k0_off270_inb : ∀ (v2644 : BitVec 32) (k0_hw111 : k0_chk111 v2644), ∀ a, (k0_off270 v2644) a + S8x128.size a ≤ S64512x128.size a := fun v2644 k0_hw111 => k0_hw111.1
theorem k0_off278_inb : ∀ (v2644 : BitVec 32) (k0_hw111 : k0_chk111 v2644), ∀ a, (k0_off278 v2644) a + S1x128.size a ≤ S64512x128.size a := fun v2644 k0_hw111 => k0_hw111.2

def k0_off279 (v2647 : BitVec 32) : Fin 2 → Nat :=
  let c8_i32_1313 : BitVec 32 := 8#32
  let v2685 : BitVec 32 := Scalar.addi v2647 c8_i32_1313
  let v2686 : Index := Scalar.indexCast v2685
  let c0_1314 : Index := 0#32
  ![v2686.toNat, 0]

def k0_chk112 (v2647 : BitVec 32) : Prop :=
  (∀ a, (k0_off271 v2647) a + S8x128.size a ≤ S64512x128.size a) ∧
  (∀ a, (k0_off279 v2647) a + S1x128.size a ≤ S64512x128.size a)
theorem k0_off271_inb : ∀ (v2647 : BitVec 32) (k0_hw112 : k0_chk112 v2647), ∀ a, (k0_off271 v2647) a + S8x128.size a ≤ S64512x128.size a := fun v2647 k0_hw112 => k0_hw112.1
theorem k0_off279_inb : ∀ (v2647 : BitVec 32) (k0_hw112 : k0_chk112 v2647), ∀ a, (k0_off279 v2647) a + S1x128.size a ≤ S64512x128.size a := fun v2647 k0_hw112 => k0_hw112.2

def k0_off280 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v2809 : Index := Scalar.indexCast v172
  let c0_1360 : Index := 0#32
  ![v2809.toNat, 0]
def k0_off281 (v2810 : BitVec 32) : Fin 2 → Nat :=
  let v2832 : Index := Scalar.indexCast v2810
  let c0_1375 : Index := 0#32
  ![v2832.toNat, 0]

def k0_off282 (v2813 : BitVec 32) : Fin 2 → Nat :=
  let v2834 : Index := Scalar.indexCast v2813
  let c0_1376 : Index := 0#32
  ![v2834.toNat, 0]

def k0_off283 (v2816 : BitVec 32) : Fin 2 → Nat :=
  let v2836 : Index := Scalar.indexCast v2816
  let c0_1377 : Index := 0#32
  ![v2836.toNat, 0]

def k0_off284 (v2819 : BitVec 32) : Fin 2 → Nat :=
  let v2838 : Index := Scalar.indexCast v2819
  let c0_1378 : Index := 0#32
  ![v2838.toNat, 0]

def k0_off285 (v2822 : BitVec 32) : Fin 2 → Nat :=
  let v2840 : Index := Scalar.indexCast v2822
  let c0_1379 : Index := 0#32
  ![v2840.toNat, 0]

def k0_off286 (v2825 : BitVec 32) : Fin 2 → Nat :=
  let v2842 : Index := Scalar.indexCast v2825
  let c0_1380 : Index := 0#32
  ![v2842.toNat, 0]

def k0_off287 (v2828 : BitVec 32) : Fin 2 → Nat :=
  let v2844 : Index := Scalar.indexCast v2828
  let c0_1381 : Index := 0#32
  ![v2844.toNat, 0]

def k0_off288 (v2831 : BitVec 32) : Fin 2 → Nat :=
  let v2846 : Index := Scalar.indexCast v2831
  let c0_1382 : Index := 0#32
  ![v2846.toNat, 0]

def k0_off289 (v2810 : BitVec 32) : Fin 2 → Nat :=
  let c8_i32_1383 : BitVec 32 := 8#32
  let v2848 : BitVec 32 := Scalar.addi v2810 c8_i32_1383
  let v2849 : Index := Scalar.indexCast v2848
  let c0_1384 : Index := 0#32
  ![v2849.toNat, 0]

def k0_chk113 (v2810 : BitVec 32) : Prop :=
  (∀ a, (k0_off281 v2810) a + S8x128.size a ≤ S64512x128.size a) ∧
  (∀ a, (k0_off289 v2810) a + S1x128.size a ≤ S64512x128.size a)
theorem k0_off281_inb : ∀ (v2810 : BitVec 32) (k0_hw113 : k0_chk113 v2810), ∀ a, (k0_off281 v2810) a + S8x128.size a ≤ S64512x128.size a := fun v2810 k0_hw113 => k0_hw113.1
theorem k0_off289_inb : ∀ (v2810 : BitVec 32) (k0_hw113 : k0_chk113 v2810), ∀ a, (k0_off289 v2810) a + S1x128.size a ≤ S64512x128.size a := fun v2810 k0_hw113 => k0_hw113.2

def k0_off290 (v2813 : BitVec 32) : Fin 2 → Nat :=
  let c8_i32_1385 : BitVec 32 := 8#32
  let v2851 : BitVec 32 := Scalar.addi v2813 c8_i32_1385
  let v2852 : Index := Scalar.indexCast v2851
  let c0_1386 : Index := 0#32
  ![v2852.toNat, 0]

def k0_chk114 (v2813 : BitVec 32) : Prop :=
  (∀ a, (k0_off282 v2813) a + S8x128.size a ≤ S64512x128.size a) ∧
  (∀ a, (k0_off290 v2813) a + S1x128.size a ≤ S64512x128.size a)
theorem k0_off282_inb : ∀ (v2813 : BitVec 32) (k0_hw114 : k0_chk114 v2813), ∀ a, (k0_off282 v2813) a + S8x128.size a ≤ S64512x128.size a := fun v2813 k0_hw114 => k0_hw114.1
theorem k0_off290_inb : ∀ (v2813 : BitVec 32) (k0_hw114 : k0_chk114 v2813), ∀ a, (k0_off290 v2813) a + S1x128.size a ≤ S64512x128.size a := fun v2813 k0_hw114 => k0_hw114.2

def k0_off291 (v2816 : BitVec 32) : Fin 2 → Nat :=
  let c8_i32_1387 : BitVec 32 := 8#32
  let v2854 : BitVec 32 := Scalar.addi v2816 c8_i32_1387
  let v2855 : Index := Scalar.indexCast v2854
  let c0_1388 : Index := 0#32
  ![v2855.toNat, 0]

def k0_chk115 (v2816 : BitVec 32) : Prop :=
  (∀ a, (k0_off283 v2816) a + S8x128.size a ≤ S64512x128.size a) ∧
  (∀ a, (k0_off291 v2816) a + S1x128.size a ≤ S64512x128.size a)
theorem k0_off283_inb : ∀ (v2816 : BitVec 32) (k0_hw115 : k0_chk115 v2816), ∀ a, (k0_off283 v2816) a + S8x128.size a ≤ S64512x128.size a := fun v2816 k0_hw115 => k0_hw115.1
theorem k0_off291_inb : ∀ (v2816 : BitVec 32) (k0_hw115 : k0_chk115 v2816), ∀ a, (k0_off291 v2816) a + S1x128.size a ≤ S64512x128.size a := fun v2816 k0_hw115 => k0_hw115.2

def k0_off292 (v2819 : BitVec 32) : Fin 2 → Nat :=
  let c8_i32_1389 : BitVec 32 := 8#32
  let v2857 : BitVec 32 := Scalar.addi v2819 c8_i32_1389
  let v2858 : Index := Scalar.indexCast v2857
  let c0_1390 : Index := 0#32
  ![v2858.toNat, 0]

def k0_chk116 (v2819 : BitVec 32) : Prop :=
  (∀ a, (k0_off284 v2819) a + S8x128.size a ≤ S64512x128.size a) ∧
  (∀ a, (k0_off292 v2819) a + S1x128.size a ≤ S64512x128.size a)
theorem k0_off284_inb : ∀ (v2819 : BitVec 32) (k0_hw116 : k0_chk116 v2819), ∀ a, (k0_off284 v2819) a + S8x128.size a ≤ S64512x128.size a := fun v2819 k0_hw116 => k0_hw116.1
theorem k0_off292_inb : ∀ (v2819 : BitVec 32) (k0_hw116 : k0_chk116 v2819), ∀ a, (k0_off292 v2819) a + S1x128.size a ≤ S64512x128.size a := fun v2819 k0_hw116 => k0_hw116.2

def k0_off293 (v2822 : BitVec 32) : Fin 2 → Nat :=
  let c8_i32_1391 : BitVec 32 := 8#32
  let v2860 : BitVec 32 := Scalar.addi v2822 c8_i32_1391
  let v2861 : Index := Scalar.indexCast v2860
  let c0_1392 : Index := 0#32
  ![v2861.toNat, 0]

def k0_chk117 (v2822 : BitVec 32) : Prop :=
  (∀ a, (k0_off285 v2822) a + S8x128.size a ≤ S64512x128.size a) ∧
  (∀ a, (k0_off293 v2822) a + S1x128.size a ≤ S64512x128.size a)
theorem k0_off285_inb : ∀ (v2822 : BitVec 32) (k0_hw117 : k0_chk117 v2822), ∀ a, (k0_off285 v2822) a + S8x128.size a ≤ S64512x128.size a := fun v2822 k0_hw117 => k0_hw117.1
theorem k0_off293_inb : ∀ (v2822 : BitVec 32) (k0_hw117 : k0_chk117 v2822), ∀ a, (k0_off293 v2822) a + S1x128.size a ≤ S64512x128.size a := fun v2822 k0_hw117 => k0_hw117.2

def k0_off294 (v2825 : BitVec 32) : Fin 2 → Nat :=
  let c8_i32_1393 : BitVec 32 := 8#32
  let v2863 : BitVec 32 := Scalar.addi v2825 c8_i32_1393
  let v2864 : Index := Scalar.indexCast v2863
  let c0_1394 : Index := 0#32
  ![v2864.toNat, 0]

def k0_chk118 (v2825 : BitVec 32) : Prop :=
  (∀ a, (k0_off286 v2825) a + S8x128.size a ≤ S64512x128.size a) ∧
  (∀ a, (k0_off294 v2825) a + S1x128.size a ≤ S64512x128.size a)
theorem k0_off286_inb : ∀ (v2825 : BitVec 32) (k0_hw118 : k0_chk118 v2825), ∀ a, (k0_off286 v2825) a + S8x128.size a ≤ S64512x128.size a := fun v2825 k0_hw118 => k0_hw118.1
theorem k0_off294_inb : ∀ (v2825 : BitVec 32) (k0_hw118 : k0_chk118 v2825), ∀ a, (k0_off294 v2825) a + S1x128.size a ≤ S64512x128.size a := fun v2825 k0_hw118 => k0_hw118.2

def k0_off295 (v2828 : BitVec 32) : Fin 2 → Nat :=
  let c8_i32_1395 : BitVec 32 := 8#32
  let v2866 : BitVec 32 := Scalar.addi v2828 c8_i32_1395
  let v2867 : Index := Scalar.indexCast v2866
  let c0_1396 : Index := 0#32
  ![v2867.toNat, 0]

def k0_chk119 (v2828 : BitVec 32) : Prop :=
  (∀ a, (k0_off287 v2828) a + S8x128.size a ≤ S64512x128.size a) ∧
  (∀ a, (k0_off295 v2828) a + S1x128.size a ≤ S64512x128.size a)
theorem k0_off287_inb : ∀ (v2828 : BitVec 32) (k0_hw119 : k0_chk119 v2828), ∀ a, (k0_off287 v2828) a + S8x128.size a ≤ S64512x128.size a := fun v2828 k0_hw119 => k0_hw119.1
theorem k0_off295_inb : ∀ (v2828 : BitVec 32) (k0_hw119 : k0_chk119 v2828), ∀ a, (k0_off295 v2828) a + S1x128.size a ≤ S64512x128.size a := fun v2828 k0_hw119 => k0_hw119.2

def k0_off296 (v2831 : BitVec 32) : Fin 2 → Nat :=
  let c8_i32_1397 : BitVec 32 := 8#32
  let v2869 : BitVec 32 := Scalar.addi v2831 c8_i32_1397
  let v2870 : Index := Scalar.indexCast v2869
  let c0_1398 : Index := 0#32
  ![v2870.toNat, 0]

def k0_chk120 (v2831 : BitVec 32) : Prop :=
  (∀ a, (k0_off288 v2831) a + S8x128.size a ≤ S64512x128.size a) ∧
  (∀ a, (k0_off296 v2831) a + S1x128.size a ≤ S64512x128.size a)
theorem k0_off288_inb : ∀ (v2831 : BitVec 32) (k0_hw120 : k0_chk120 v2831), ∀ a, (k0_off288 v2831) a + S8x128.size a ≤ S64512x128.size a := fun v2831 k0_hw120 => k0_hw120.1
theorem k0_off296_inb : ∀ (v2831 : BitVec 32) (k0_hw120 : k0_chk120 v2831), ∀ a, (k0_off296 v2831) a + S1x128.size a ≤ S64512x128.size a := fun v2831 k0_hw120 => k0_hw120.2

def k0_off297 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let v2993 : Index := Scalar.indexCast v172
  let c0_1444 : Index := 0#32
  ![v2993.toNat, 0]
def k0_off298 (v2994 : BitVec 32) : Fin 2 → Nat :=
  let v3016 : Index := Scalar.indexCast v2994
  let c0_1459 : Index := 0#32
  ![v3016.toNat, 0]

def k0_off299 (v2997 : BitVec 32) : Fin 2 → Nat :=
  let v3018 : Index := Scalar.indexCast v2997
  let c0_1460 : Index := 0#32
  ![v3018.toNat, 0]

def k0_off300 (v3000 : BitVec 32) : Fin 2 → Nat :=
  let v3020 : Index := Scalar.indexCast v3000
  let c0_1461 : Index := 0#32
  ![v3020.toNat, 0]

def k0_off301 (v3003 : BitVec 32) : Fin 2 → Nat :=
  let v3022 : Index := Scalar.indexCast v3003
  let c0_1462 : Index := 0#32
  ![v3022.toNat, 0]

def k0_off302 (v3006 : BitVec 32) : Fin 2 → Nat :=
  let v3024 : Index := Scalar.indexCast v3006
  let c0_1463 : Index := 0#32
  ![v3024.toNat, 0]

def k0_off303 (v3009 : BitVec 32) : Fin 2 → Nat :=
  let v3026 : Index := Scalar.indexCast v3009
  let c0_1464 : Index := 0#32
  ![v3026.toNat, 0]

def k0_off304 (v3012 : BitVec 32) : Fin 2 → Nat :=
  let v3028 : Index := Scalar.indexCast v3012
  let c0_1465 : Index := 0#32
  ![v3028.toNat, 0]

def k0_off305 (v3015 : BitVec 32) : Fin 2 → Nat :=
  let v3030 : Index := Scalar.indexCast v3015
  let c0_1466 : Index := 0#32
  ![v3030.toNat, 0]

def k0_off306 (v2994 : BitVec 32) : Fin 2 → Nat :=
  let c8_i32_1467 : BitVec 32 := 8#32
  let v3032 : BitVec 32 := Scalar.addi v2994 c8_i32_1467
  let v3033 : Index := Scalar.indexCast v3032
  let c0_1468 : Index := 0#32
  ![v3033.toNat, 0]

def k0_chk121 (v2994 : BitVec 32) : Prop :=
  (∀ a, (k0_off298 v2994) a + S8x128.size a ≤ S64512x128.size a) ∧
  (∀ a, (k0_off306 v2994) a + S1x128.size a ≤ S64512x128.size a)
theorem k0_off298_inb : ∀ (v2994 : BitVec 32) (k0_hw121 : k0_chk121 v2994), ∀ a, (k0_off298 v2994) a + S8x128.size a ≤ S64512x128.size a := fun v2994 k0_hw121 => k0_hw121.1
theorem k0_off306_inb : ∀ (v2994 : BitVec 32) (k0_hw121 : k0_chk121 v2994), ∀ a, (k0_off306 v2994) a + S1x128.size a ≤ S64512x128.size a := fun v2994 k0_hw121 => k0_hw121.2

def k0_off307 (v2997 : BitVec 32) : Fin 2 → Nat :=
  let c8_i32_1469 : BitVec 32 := 8#32
  let v3035 : BitVec 32 := Scalar.addi v2997 c8_i32_1469
  let v3036 : Index := Scalar.indexCast v3035
  let c0_1470 : Index := 0#32
  ![v3036.toNat, 0]

def k0_chk122 (v2997 : BitVec 32) : Prop :=
  (∀ a, (k0_off299 v2997) a + S8x128.size a ≤ S64512x128.size a) ∧
  (∀ a, (k0_off307 v2997) a + S1x128.size a ≤ S64512x128.size a)
theorem k0_off299_inb : ∀ (v2997 : BitVec 32) (k0_hw122 : k0_chk122 v2997), ∀ a, (k0_off299 v2997) a + S8x128.size a ≤ S64512x128.size a := fun v2997 k0_hw122 => k0_hw122.1
theorem k0_off307_inb : ∀ (v2997 : BitVec 32) (k0_hw122 : k0_chk122 v2997), ∀ a, (k0_off307 v2997) a + S1x128.size a ≤ S64512x128.size a := fun v2997 k0_hw122 => k0_hw122.2

def k0_off308 (v3000 : BitVec 32) : Fin 2 → Nat :=
  let c8_i32_1471 : BitVec 32 := 8#32
  let v3038 : BitVec 32 := Scalar.addi v3000 c8_i32_1471
  let v3039 : Index := Scalar.indexCast v3038
  let c0_1472 : Index := 0#32
  ![v3039.toNat, 0]

def k0_chk123 (v3000 : BitVec 32) : Prop :=
  (∀ a, (k0_off300 v3000) a + S8x128.size a ≤ S64512x128.size a) ∧
  (∀ a, (k0_off308 v3000) a + S1x128.size a ≤ S64512x128.size a)
theorem k0_off300_inb : ∀ (v3000 : BitVec 32) (k0_hw123 : k0_chk123 v3000), ∀ a, (k0_off300 v3000) a + S8x128.size a ≤ S64512x128.size a := fun v3000 k0_hw123 => k0_hw123.1
theorem k0_off308_inb : ∀ (v3000 : BitVec 32) (k0_hw123 : k0_chk123 v3000), ∀ a, (k0_off308 v3000) a + S1x128.size a ≤ S64512x128.size a := fun v3000 k0_hw123 => k0_hw123.2

def k0_off309 (v3003 : BitVec 32) : Fin 2 → Nat :=
  let c8_i32_1473 : BitVec 32 := 8#32
  let v3041 : BitVec 32 := Scalar.addi v3003 c8_i32_1473
  let v3042 : Index := Scalar.indexCast v3041
  let c0_1474 : Index := 0#32
  ![v3042.toNat, 0]

def k0_chk124 (v3003 : BitVec 32) : Prop :=
  (∀ a, (k0_off301 v3003) a + S8x128.size a ≤ S64512x128.size a) ∧
  (∀ a, (k0_off309 v3003) a + S1x128.size a ≤ S64512x128.size a)
theorem k0_off301_inb : ∀ (v3003 : BitVec 32) (k0_hw124 : k0_chk124 v3003), ∀ a, (k0_off301 v3003) a + S8x128.size a ≤ S64512x128.size a := fun v3003 k0_hw124 => k0_hw124.1
theorem k0_off309_inb : ∀ (v3003 : BitVec 32) (k0_hw124 : k0_chk124 v3003), ∀ a, (k0_off309 v3003) a + S1x128.size a ≤ S64512x128.size a := fun v3003 k0_hw124 => k0_hw124.2

def k0_off310 (v3006 : BitVec 32) : Fin 2 → Nat :=
  let c8_i32_1475 : BitVec 32 := 8#32
  let v3044 : BitVec 32 := Scalar.addi v3006 c8_i32_1475
  let v3045 : Index := Scalar.indexCast v3044
  let c0_1476 : Index := 0#32
  ![v3045.toNat, 0]

def k0_chk125 (v3006 : BitVec 32) : Prop :=
  (∀ a, (k0_off302 v3006) a + S8x128.size a ≤ S64512x128.size a) ∧
  (∀ a, (k0_off310 v3006) a + S1x128.size a ≤ S64512x128.size a)
theorem k0_off302_inb : ∀ (v3006 : BitVec 32) (k0_hw125 : k0_chk125 v3006), ∀ a, (k0_off302 v3006) a + S8x128.size a ≤ S64512x128.size a := fun v3006 k0_hw125 => k0_hw125.1
theorem k0_off310_inb : ∀ (v3006 : BitVec 32) (k0_hw125 : k0_chk125 v3006), ∀ a, (k0_off310 v3006) a + S1x128.size a ≤ S64512x128.size a := fun v3006 k0_hw125 => k0_hw125.2

def k0_off311 (v3009 : BitVec 32) : Fin 2 → Nat :=
  let c8_i32_1477 : BitVec 32 := 8#32
  let v3047 : BitVec 32 := Scalar.addi v3009 c8_i32_1477
  let v3048 : Index := Scalar.indexCast v3047
  let c0_1478 : Index := 0#32
  ![v3048.toNat, 0]

def k0_chk126 (v3009 : BitVec 32) : Prop :=
  (∀ a, (k0_off303 v3009) a + S8x128.size a ≤ S64512x128.size a) ∧
  (∀ a, (k0_off311 v3009) a + S1x128.size a ≤ S64512x128.size a)
theorem k0_off303_inb : ∀ (v3009 : BitVec 32) (k0_hw126 : k0_chk126 v3009), ∀ a, (k0_off303 v3009) a + S8x128.size a ≤ S64512x128.size a := fun v3009 k0_hw126 => k0_hw126.1
theorem k0_off311_inb : ∀ (v3009 : BitVec 32) (k0_hw126 : k0_chk126 v3009), ∀ a, (k0_off311 v3009) a + S1x128.size a ≤ S64512x128.size a := fun v3009 k0_hw126 => k0_hw126.2

def k0_off312 (v3012 : BitVec 32) : Fin 2 → Nat :=
  let c8_i32_1479 : BitVec 32 := 8#32
  let v3050 : BitVec 32 := Scalar.addi v3012 c8_i32_1479
  let v3051 : Index := Scalar.indexCast v3050
  let c0_1480 : Index := 0#32
  ![v3051.toNat, 0]

def k0_chk127 (v3012 : BitVec 32) : Prop :=
  (∀ a, (k0_off304 v3012) a + S8x128.size a ≤ S64512x128.size a) ∧
  (∀ a, (k0_off312 v3012) a + S1x128.size a ≤ S64512x128.size a)
theorem k0_off304_inb : ∀ (v3012 : BitVec 32) (k0_hw127 : k0_chk127 v3012), ∀ a, (k0_off304 v3012) a + S8x128.size a ≤ S64512x128.size a := fun v3012 k0_hw127 => k0_hw127.1
theorem k0_off312_inb : ∀ (v3012 : BitVec 32) (k0_hw127 : k0_chk127 v3012), ∀ a, (k0_off312 v3012) a + S1x128.size a ≤ S64512x128.size a := fun v3012 k0_hw127 => k0_hw127.2

def k0_off313 (v3015 : BitVec 32) : Fin 2 → Nat :=
  let c8_i32_1481 : BitVec 32 := 8#32
  let v3053 : BitVec 32 := Scalar.addi v3015 c8_i32_1481
  let v3054 : Index := Scalar.indexCast v3053
  let c0_1482 : Index := 0#32
  ![v3054.toNat, 0]

def k0_chk128 (v3015 : BitVec 32) : Prop :=
  (∀ a, (k0_off305 v3015) a + S8x128.size a ≤ S64512x128.size a) ∧
  (∀ a, (k0_off313 v3015) a + S1x128.size a ≤ S64512x128.size a)
theorem k0_off305_inb : ∀ (v3015 : BitVec 32) (k0_hw128 : k0_chk128 v3015), ∀ a, (k0_off305 v3015) a + S8x128.size a ≤ S64512x128.size a := fun v3015 k0_hw128 => k0_hw128.1
theorem k0_off313_inb : ∀ (v3015 : BitVec 32) (k0_hw128 : k0_chk128 v3015), ∀ a, (k0_off313 v3015) a + S1x128.size a ≤ S64512x128.size a := fun v3015 k0_hw128 => k0_hw128.2

def k0_off314 (k0_t2 : Fin k0_t2_loop.trips) : Fin 4 → Nat :=
  let c0_i32_104 : BitVec 32 := 0#32
  let c1_i32_106 : BitVec 32 := 1#32
  let arg13 : BitVec 32 := Scf.iv c0_i32_104 c1_i32_106 k0_t2
  let c2_i32_124 : BitVec 32 := 2#32
  let v171 : BitVec 32 := Scalar.muli arg13 c2_i32_124
  let c0_i32_125 : BitVec 32 := 0#32
  let v172 : BitVec 32 := Scalar.addi v171 c0_i32_125
  let c0_i32_1551 : BitVec 32 := 0#32
  let c0_i32_1552 : BitVec 32 := 0#32
  let c0_i32_1553 : BitVec 32 := 0#32
  ![v172.toNat, 0, 0, 0]
def k0_cond2 (k0_t2 : Fin k0_t2_loop.trips) : BitVec 1 :=
  let c0_i32_104 : BitVec 32 := 0#32
  let c1_i32_106 : BitVec 32 := 1#32
  let arg13 : BitVec 32 := Scf.iv c0_i32_104 c1_i32_106 k0_t2
  let c0_i32_1559 : BitVec 32 := 0#32
  let v3241 : BitVec 1 := Scalar.cmpi .sgt arg13 c0_i32_1559
  let v3242 : BitVec 32 := Scalar.extui v3241
  let c0_i32_1560 : BitVec 32 := 0#32
  let v3243 : BitVec 1 := Scalar.cmpi .ne v3242 c0_i32_1560
  v3243

def k0_off315 (k0_t2 : Fin k0_t2_loop.trips) : Fin 4 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let c0_i32_3055 : BitVec 32 := 0#32
  let c0_i32_3056 : BitVec 32 := 0#32
  let c0_i32_3057 : BitVec 32 := 0#32
  ![v3240.toNat, 0, 0, 0]
def k0_off316 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v3245 : Index := Scalar.indexCast v3240
  let c0_1563 : Index := 0#32
  ![v3245.toNat, 0]
def k0_off317 (v3246 : BitVec 32) : Fin 2 → Nat :=
  let v3268 : Index := Scalar.indexCast v3246
  let c0_1585 : Index := 0#32
  ![v3268.toNat, 0]

def k0_off318 (v3249 : BitVec 32) : Fin 2 → Nat :=
  let v3270 : Index := Scalar.indexCast v3249
  let c0_1586 : Index := 0#32
  ![v3270.toNat, 0]

def k0_off319 (v3252 : BitVec 32) : Fin 2 → Nat :=
  let v3272 : Index := Scalar.indexCast v3252
  let c0_1587 : Index := 0#32
  ![v3272.toNat, 0]

def k0_off320 (v3255 : BitVec 32) : Fin 2 → Nat :=
  let v3274 : Index := Scalar.indexCast v3255
  let c0_1588 : Index := 0#32
  ![v3274.toNat, 0]

def k0_off321 (v3258 : BitVec 32) : Fin 2 → Nat :=
  let v3276 : Index := Scalar.indexCast v3258
  let c0_1589 : Index := 0#32
  ![v3276.toNat, 0]

def k0_off322 (v3261 : BitVec 32) : Fin 2 → Nat :=
  let v3278 : Index := Scalar.indexCast v3261
  let c0_1590 : Index := 0#32
  ![v3278.toNat, 0]

def k0_off323 (v3264 : BitVec 32) : Fin 2 → Nat :=
  let v3280 : Index := Scalar.indexCast v3264
  let c0_1591 : Index := 0#32
  ![v3280.toNat, 0]

def k0_off324 (v3267 : BitVec 32) : Fin 2 → Nat :=
  let v3282 : Index := Scalar.indexCast v3267
  let c0_1592 : Index := 0#32
  ![v3282.toNat, 0]

def k0_off325 (v3246 : BitVec 32) : Fin 2 → Nat :=
  let c8_i32_1593 : BitVec 32 := 8#32
  let v3284 : BitVec 32 := Scalar.addi v3246 c8_i32_1593
  let v3285 : Index := Scalar.indexCast v3284
  let c0_1594 : Index := 0#32
  ![v3285.toNat, 0]

def k0_chk129 (v3246 : BitVec 32) : Prop :=
  (∀ a, (k0_off317 v3246) a + S8x128.size a ≤ S64512x128.size a) ∧
  (∀ a, (k0_off325 v3246) a + S1x128.size a ≤ S64512x128.size a)
theorem k0_off317_inb : ∀ (v3246 : BitVec 32) (k0_hw129 : k0_chk129 v3246), ∀ a, (k0_off317 v3246) a + S8x128.size a ≤ S64512x128.size a := fun v3246 k0_hw129 => k0_hw129.1
theorem k0_off325_inb : ∀ (v3246 : BitVec 32) (k0_hw129 : k0_chk129 v3246), ∀ a, (k0_off325 v3246) a + S1x128.size a ≤ S64512x128.size a := fun v3246 k0_hw129 => k0_hw129.2

def k0_off326 (v3249 : BitVec 32) : Fin 2 → Nat :=
  let c8_i32_1595 : BitVec 32 := 8#32
  let v3287 : BitVec 32 := Scalar.addi v3249 c8_i32_1595
  let v3288 : Index := Scalar.indexCast v3287
  let c0_1596 : Index := 0#32
  ![v3288.toNat, 0]

def k0_chk130 (v3249 : BitVec 32) : Prop :=
  (∀ a, (k0_off318 v3249) a + S8x128.size a ≤ S64512x128.size a) ∧
  (∀ a, (k0_off326 v3249) a + S1x128.size a ≤ S64512x128.size a)
theorem k0_off318_inb : ∀ (v3249 : BitVec 32) (k0_hw130 : k0_chk130 v3249), ∀ a, (k0_off318 v3249) a + S8x128.size a ≤ S64512x128.size a := fun v3249 k0_hw130 => k0_hw130.1
theorem k0_off326_inb : ∀ (v3249 : BitVec 32) (k0_hw130 : k0_chk130 v3249), ∀ a, (k0_off326 v3249) a + S1x128.size a ≤ S64512x128.size a := fun v3249 k0_hw130 => k0_hw130.2

def k0_off327 (v3252 : BitVec 32) : Fin 2 → Nat :=
  let c8_i32_1597 : BitVec 32 := 8#32
  let v3290 : BitVec 32 := Scalar.addi v3252 c8_i32_1597
  let v3291 : Index := Scalar.indexCast v3290
  let c0_1598 : Index := 0#32
  ![v3291.toNat, 0]

def k0_chk131 (v3252 : BitVec 32) : Prop :=
  (∀ a, (k0_off319 v3252) a + S8x128.size a ≤ S64512x128.size a) ∧
  (∀ a, (k0_off327 v3252) a + S1x128.size a ≤ S64512x128.size a)
theorem k0_off319_inb : ∀ (v3252 : BitVec 32) (k0_hw131 : k0_chk131 v3252), ∀ a, (k0_off319 v3252) a + S8x128.size a ≤ S64512x128.size a := fun v3252 k0_hw131 => k0_hw131.1
theorem k0_off327_inb : ∀ (v3252 : BitVec 32) (k0_hw131 : k0_chk131 v3252), ∀ a, (k0_off327 v3252) a + S1x128.size a ≤ S64512x128.size a := fun v3252 k0_hw131 => k0_hw131.2

def k0_off328 (v3255 : BitVec 32) : Fin 2 → Nat :=
  let c8_i32_1599 : BitVec 32 := 8#32
  let v3293 : BitVec 32 := Scalar.addi v3255 c8_i32_1599
  let v3294 : Index := Scalar.indexCast v3293
  let c0_1600 : Index := 0#32
  ![v3294.toNat, 0]

def k0_chk132 (v3255 : BitVec 32) : Prop :=
  (∀ a, (k0_off320 v3255) a + S8x128.size a ≤ S64512x128.size a) ∧
  (∀ a, (k0_off328 v3255) a + S1x128.size a ≤ S64512x128.size a)
theorem k0_off320_inb : ∀ (v3255 : BitVec 32) (k0_hw132 : k0_chk132 v3255), ∀ a, (k0_off320 v3255) a + S8x128.size a ≤ S64512x128.size a := fun v3255 k0_hw132 => k0_hw132.1
theorem k0_off328_inb : ∀ (v3255 : BitVec 32) (k0_hw132 : k0_chk132 v3255), ∀ a, (k0_off328 v3255) a + S1x128.size a ≤ S64512x128.size a := fun v3255 k0_hw132 => k0_hw132.2

def k0_off329 (v3258 : BitVec 32) : Fin 2 → Nat :=
  let c8_i32_1601 : BitVec 32 := 8#32
  let v3296 : BitVec 32 := Scalar.addi v3258 c8_i32_1601
  let v3297 : Index := Scalar.indexCast v3296
  let c0_1602 : Index := 0#32
  ![v3297.toNat, 0]

def k0_chk133 (v3258 : BitVec 32) : Prop :=
  (∀ a, (k0_off321 v3258) a + S8x128.size a ≤ S64512x128.size a) ∧
  (∀ a, (k0_off329 v3258) a + S1x128.size a ≤ S64512x128.size a)
theorem k0_off321_inb : ∀ (v3258 : BitVec 32) (k0_hw133 : k0_chk133 v3258), ∀ a, (k0_off321 v3258) a + S8x128.size a ≤ S64512x128.size a := fun v3258 k0_hw133 => k0_hw133.1
theorem k0_off329_inb : ∀ (v3258 : BitVec 32) (k0_hw133 : k0_chk133 v3258), ∀ a, (k0_off329 v3258) a + S1x128.size a ≤ S64512x128.size a := fun v3258 k0_hw133 => k0_hw133.2

def k0_off330 (v3261 : BitVec 32) : Fin 2 → Nat :=
  let c8_i32_1603 : BitVec 32 := 8#32
  let v3299 : BitVec 32 := Scalar.addi v3261 c8_i32_1603
  let v3300 : Index := Scalar.indexCast v3299
  let c0_1604 : Index := 0#32
  ![v3300.toNat, 0]

def k0_chk134 (v3261 : BitVec 32) : Prop :=
  (∀ a, (k0_off322 v3261) a + S8x128.size a ≤ S64512x128.size a) ∧
  (∀ a, (k0_off330 v3261) a + S1x128.size a ≤ S64512x128.size a)
theorem k0_off322_inb : ∀ (v3261 : BitVec 32) (k0_hw134 : k0_chk134 v3261), ∀ a, (k0_off322 v3261) a + S8x128.size a ≤ S64512x128.size a := fun v3261 k0_hw134 => k0_hw134.1
theorem k0_off330_inb : ∀ (v3261 : BitVec 32) (k0_hw134 : k0_chk134 v3261), ∀ a, (k0_off330 v3261) a + S1x128.size a ≤ S64512x128.size a := fun v3261 k0_hw134 => k0_hw134.2

def k0_off331 (v3264 : BitVec 32) : Fin 2 → Nat :=
  let c8_i32_1605 : BitVec 32 := 8#32
  let v3302 : BitVec 32 := Scalar.addi v3264 c8_i32_1605
  let v3303 : Index := Scalar.indexCast v3302
  let c0_1606 : Index := 0#32
  ![v3303.toNat, 0]

def k0_chk135 (v3264 : BitVec 32) : Prop :=
  (∀ a, (k0_off323 v3264) a + S8x128.size a ≤ S64512x128.size a) ∧
  (∀ a, (k0_off331 v3264) a + S1x128.size a ≤ S64512x128.size a)
theorem k0_off323_inb : ∀ (v3264 : BitVec 32) (k0_hw135 : k0_chk135 v3264), ∀ a, (k0_off323 v3264) a + S8x128.size a ≤ S64512x128.size a := fun v3264 k0_hw135 => k0_hw135.1
theorem k0_off331_inb : ∀ (v3264 : BitVec 32) (k0_hw135 : k0_chk135 v3264), ∀ a, (k0_off331 v3264) a + S1x128.size a ≤ S64512x128.size a := fun v3264 k0_hw135 => k0_hw135.2

def k0_off332 (v3267 : BitVec 32) : Fin 2 → Nat :=
  let c8_i32_1607 : BitVec 32 := 8#32
  let v3305 : BitVec 32 := Scalar.addi v3267 c8_i32_1607
  let v3306 : Index := Scalar.indexCast v3305
  let c0_1608 : Index := 0#32
  ![v3306.toNat, 0]

def k0_chk136 (v3267 : BitVec 32) : Prop :=
  (∀ a, (k0_off324 v3267) a + S8x128.size a ≤ S64512x128.size a) ∧
  (∀ a, (k0_off332 v3267) a + S1x128.size a ≤ S64512x128.size a)
theorem k0_off324_inb : ∀ (v3267 : BitVec 32) (k0_hw136 : k0_chk136 v3267), ∀ a, (k0_off324 v3267) a + S8x128.size a ≤ S64512x128.size a := fun v3267 k0_hw136 => k0_hw136.1
theorem k0_off332_inb : ∀ (v3267 : BitVec 32) (k0_hw136 : k0_chk136 v3267), ∀ a, (k0_off332 v3267) a + S1x128.size a ≤ S64512x128.size a := fun v3267 k0_hw136 => k0_hw136.2

def k0_off333 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v3429 : Index := Scalar.indexCast v3240
  let c0_1653 : Index := 0#32
  ![v3429.toNat, 0]
def k0_off334 (v3430 : BitVec 32) : Fin 2 → Nat :=
  let v3452 : Index := Scalar.indexCast v3430
  let c0_1675 : Index := 0#32
  ![v3452.toNat, 0]

def k0_off335 (v3433 : BitVec 32) : Fin 2 → Nat :=
  let v3454 : Index := Scalar.indexCast v3433
  let c0_1676 : Index := 0#32
  ![v3454.toNat, 0]

def k0_off336 (v3436 : BitVec 32) : Fin 2 → Nat :=
  let v3456 : Index := Scalar.indexCast v3436
  let c0_1677 : Index := 0#32
  ![v3456.toNat, 0]

def k0_off337 (v3439 : BitVec 32) : Fin 2 → Nat :=
  let v3458 : Index := Scalar.indexCast v3439
  let c0_1678 : Index := 0#32
  ![v3458.toNat, 0]

def k0_off338 (v3442 : BitVec 32) : Fin 2 → Nat :=
  let v3460 : Index := Scalar.indexCast v3442
  let c0_1679 : Index := 0#32
  ![v3460.toNat, 0]

def k0_off339 (v3445 : BitVec 32) : Fin 2 → Nat :=
  let v3462 : Index := Scalar.indexCast v3445
  let c0_1680 : Index := 0#32
  ![v3462.toNat, 0]

def k0_off340 (v3448 : BitVec 32) : Fin 2 → Nat :=
  let v3464 : Index := Scalar.indexCast v3448
  let c0_1681 : Index := 0#32
  ![v3464.toNat, 0]

def k0_off341 (v3451 : BitVec 32) : Fin 2 → Nat :=
  let v3466 : Index := Scalar.indexCast v3451
  let c0_1682 : Index := 0#32
  ![v3466.toNat, 0]

def k0_off342 (v3430 : BitVec 32) : Fin 2 → Nat :=
  let c8_i32_1683 : BitVec 32 := 8#32
  let v3468 : BitVec 32 := Scalar.addi v3430 c8_i32_1683
  let v3469 : Index := Scalar.indexCast v3468
  let c0_1684 : Index := 0#32
  ![v3469.toNat, 0]

def k0_chk137 (v3430 : BitVec 32) : Prop :=
  (∀ a, (k0_off334 v3430) a + S8x128.size a ≤ S64512x128.size a) ∧
  (∀ a, (k0_off342 v3430) a + S1x128.size a ≤ S64512x128.size a)
theorem k0_off334_inb : ∀ (v3430 : BitVec 32) (k0_hw137 : k0_chk137 v3430), ∀ a, (k0_off334 v3430) a + S8x128.size a ≤ S64512x128.size a := fun v3430 k0_hw137 => k0_hw137.1
theorem k0_off342_inb : ∀ (v3430 : BitVec 32) (k0_hw137 : k0_chk137 v3430), ∀ a, (k0_off342 v3430) a + S1x128.size a ≤ S64512x128.size a := fun v3430 k0_hw137 => k0_hw137.2

def k0_off343 (v3433 : BitVec 32) : Fin 2 → Nat :=
  let c8_i32_1685 : BitVec 32 := 8#32
  let v3471 : BitVec 32 := Scalar.addi v3433 c8_i32_1685
  let v3472 : Index := Scalar.indexCast v3471
  let c0_1686 : Index := 0#32
  ![v3472.toNat, 0]

def k0_chk138 (v3433 : BitVec 32) : Prop :=
  (∀ a, (k0_off335 v3433) a + S8x128.size a ≤ S64512x128.size a) ∧
  (∀ a, (k0_off343 v3433) a + S1x128.size a ≤ S64512x128.size a)
theorem k0_off335_inb : ∀ (v3433 : BitVec 32) (k0_hw138 : k0_chk138 v3433), ∀ a, (k0_off335 v3433) a + S8x128.size a ≤ S64512x128.size a := fun v3433 k0_hw138 => k0_hw138.1
theorem k0_off343_inb : ∀ (v3433 : BitVec 32) (k0_hw138 : k0_chk138 v3433), ∀ a, (k0_off343 v3433) a + S1x128.size a ≤ S64512x128.size a := fun v3433 k0_hw138 => k0_hw138.2

def k0_off344 (v3436 : BitVec 32) : Fin 2 → Nat :=
  let c8_i32_1687 : BitVec 32 := 8#32
  let v3474 : BitVec 32 := Scalar.addi v3436 c8_i32_1687
  let v3475 : Index := Scalar.indexCast v3474
  let c0_1688 : Index := 0#32
  ![v3475.toNat, 0]

def k0_chk139 (v3436 : BitVec 32) : Prop :=
  (∀ a, (k0_off336 v3436) a + S8x128.size a ≤ S64512x128.size a) ∧
  (∀ a, (k0_off344 v3436) a + S1x128.size a ≤ S64512x128.size a)
theorem k0_off336_inb : ∀ (v3436 : BitVec 32) (k0_hw139 : k0_chk139 v3436), ∀ a, (k0_off336 v3436) a + S8x128.size a ≤ S64512x128.size a := fun v3436 k0_hw139 => k0_hw139.1
theorem k0_off344_inb : ∀ (v3436 : BitVec 32) (k0_hw139 : k0_chk139 v3436), ∀ a, (k0_off344 v3436) a + S1x128.size a ≤ S64512x128.size a := fun v3436 k0_hw139 => k0_hw139.2

def k0_off345 (v3439 : BitVec 32) : Fin 2 → Nat :=
  let c8_i32_1689 : BitVec 32 := 8#32
  let v3477 : BitVec 32 := Scalar.addi v3439 c8_i32_1689
  let v3478 : Index := Scalar.indexCast v3477
  let c0_1690 : Index := 0#32
  ![v3478.toNat, 0]

def k0_chk140 (v3439 : BitVec 32) : Prop :=
  (∀ a, (k0_off337 v3439) a + S8x128.size a ≤ S64512x128.size a) ∧
  (∀ a, (k0_off345 v3439) a + S1x128.size a ≤ S64512x128.size a)
theorem k0_off337_inb : ∀ (v3439 : BitVec 32) (k0_hw140 : k0_chk140 v3439), ∀ a, (k0_off337 v3439) a + S8x128.size a ≤ S64512x128.size a := fun v3439 k0_hw140 => k0_hw140.1
theorem k0_off345_inb : ∀ (v3439 : BitVec 32) (k0_hw140 : k0_chk140 v3439), ∀ a, (k0_off345 v3439) a + S1x128.size a ≤ S64512x128.size a := fun v3439 k0_hw140 => k0_hw140.2

def k0_off346 (v3442 : BitVec 32) : Fin 2 → Nat :=
  let c8_i32_1691 : BitVec 32 := 8#32
  let v3480 : BitVec 32 := Scalar.addi v3442 c8_i32_1691
  let v3481 : Index := Scalar.indexCast v3480
  let c0_1692 : Index := 0#32
  ![v3481.toNat, 0]

def k0_chk141 (v3442 : BitVec 32) : Prop :=
  (∀ a, (k0_off338 v3442) a + S8x128.size a ≤ S64512x128.size a) ∧
  (∀ a, (k0_off346 v3442) a + S1x128.size a ≤ S64512x128.size a)
theorem k0_off338_inb : ∀ (v3442 : BitVec 32) (k0_hw141 : k0_chk141 v3442), ∀ a, (k0_off338 v3442) a + S8x128.size a ≤ S64512x128.size a := fun v3442 k0_hw141 => k0_hw141.1
theorem k0_off346_inb : ∀ (v3442 : BitVec 32) (k0_hw141 : k0_chk141 v3442), ∀ a, (k0_off346 v3442) a + S1x128.size a ≤ S64512x128.size a := fun v3442 k0_hw141 => k0_hw141.2

def k0_off347 (v3445 : BitVec 32) : Fin 2 → Nat :=
  let c8_i32_1693 : BitVec 32 := 8#32
  let v3483 : BitVec 32 := Scalar.addi v3445 c8_i32_1693
  let v3484 : Index := Scalar.indexCast v3483
  let c0_1694 : Index := 0#32
  ![v3484.toNat, 0]

def k0_chk142 (v3445 : BitVec 32) : Prop :=
  (∀ a, (k0_off339 v3445) a + S8x128.size a ≤ S64512x128.size a) ∧
  (∀ a, (k0_off347 v3445) a + S1x128.size a ≤ S64512x128.size a)
theorem k0_off339_inb : ∀ (v3445 : BitVec 32) (k0_hw142 : k0_chk142 v3445), ∀ a, (k0_off339 v3445) a + S8x128.size a ≤ S64512x128.size a := fun v3445 k0_hw142 => k0_hw142.1
theorem k0_off347_inb : ∀ (v3445 : BitVec 32) (k0_hw142 : k0_chk142 v3445), ∀ a, (k0_off347 v3445) a + S1x128.size a ≤ S64512x128.size a := fun v3445 k0_hw142 => k0_hw142.2

def k0_off348 (v3448 : BitVec 32) : Fin 2 → Nat :=
  let c8_i32_1695 : BitVec 32 := 8#32
  let v3486 : BitVec 32 := Scalar.addi v3448 c8_i32_1695
  let v3487 : Index := Scalar.indexCast v3486
  let c0_1696 : Index := 0#32
  ![v3487.toNat, 0]

def k0_chk143 (v3448 : BitVec 32) : Prop :=
  (∀ a, (k0_off340 v3448) a + S8x128.size a ≤ S64512x128.size a) ∧
  (∀ a, (k0_off348 v3448) a + S1x128.size a ≤ S64512x128.size a)
theorem k0_off340_inb : ∀ (v3448 : BitVec 32) (k0_hw143 : k0_chk143 v3448), ∀ a, (k0_off340 v3448) a + S8x128.size a ≤ S64512x128.size a := fun v3448 k0_hw143 => k0_hw143.1
theorem k0_off348_inb : ∀ (v3448 : BitVec 32) (k0_hw143 : k0_chk143 v3448), ∀ a, (k0_off348 v3448) a + S1x128.size a ≤ S64512x128.size a := fun v3448 k0_hw143 => k0_hw143.2

def k0_off349 (v3451 : BitVec 32) : Fin 2 → Nat :=
  let c8_i32_1697 : BitVec 32 := 8#32
  let v3489 : BitVec 32 := Scalar.addi v3451 c8_i32_1697
  let v3490 : Index := Scalar.indexCast v3489
  let c0_1698 : Index := 0#32
  ![v3490.toNat, 0]

def k0_chk144 (v3451 : BitVec 32) : Prop :=
  (∀ a, (k0_off341 v3451) a + S8x128.size a ≤ S64512x128.size a) ∧
  (∀ a, (k0_off349 v3451) a + S1x128.size a ≤ S64512x128.size a)
theorem k0_off341_inb : ∀ (v3451 : BitVec 32) (k0_hw144 : k0_chk144 v3451), ∀ a, (k0_off341 v3451) a + S8x128.size a ≤ S64512x128.size a := fun v3451 k0_hw144 => k0_hw144.1
theorem k0_off349_inb : ∀ (v3451 : BitVec 32) (k0_hw144 : k0_chk144 v3451), ∀ a, (k0_off349 v3451) a + S1x128.size a ≤ S64512x128.size a := fun v3451 k0_hw144 => k0_hw144.2

def k0_off350 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v3613 : Index := Scalar.indexCast v3240
  let c0_1743 : Index := 0#32
  ![v3613.toNat, 0]
def k0_off351 (v3614 : BitVec 32) : Fin 2 → Nat :=
  let v3636 : Index := Scalar.indexCast v3614
  let c0_1765 : Index := 0#32
  ![v3636.toNat, 0]

def k0_off352 (v3617 : BitVec 32) : Fin 2 → Nat :=
  let v3638 : Index := Scalar.indexCast v3617
  let c0_1766 : Index := 0#32
  ![v3638.toNat, 0]

def k0_off353 (v3620 : BitVec 32) : Fin 2 → Nat :=
  let v3640 : Index := Scalar.indexCast v3620
  let c0_1767 : Index := 0#32
  ![v3640.toNat, 0]

def k0_off354 (v3623 : BitVec 32) : Fin 2 → Nat :=
  let v3642 : Index := Scalar.indexCast v3623
  let c0_1768 : Index := 0#32
  ![v3642.toNat, 0]

def k0_off355 (v3626 : BitVec 32) : Fin 2 → Nat :=
  let v3644 : Index := Scalar.indexCast v3626
  let c0_1769 : Index := 0#32
  ![v3644.toNat, 0]

def k0_off356 (v3629 : BitVec 32) : Fin 2 → Nat :=
  let v3646 : Index := Scalar.indexCast v3629
  let c0_1770 : Index := 0#32
  ![v3646.toNat, 0]

def k0_off357 (v3632 : BitVec 32) : Fin 2 → Nat :=
  let v3648 : Index := Scalar.indexCast v3632
  let c0_1771 : Index := 0#32
  ![v3648.toNat, 0]

def k0_off358 (v3635 : BitVec 32) : Fin 2 → Nat :=
  let v3650 : Index := Scalar.indexCast v3635
  let c0_1772 : Index := 0#32
  ![v3650.toNat, 0]

def k0_off359 (v3614 : BitVec 32) : Fin 2 → Nat :=
  let c8_i32_1773 : BitVec 32 := 8#32
  let v3652 : BitVec 32 := Scalar.addi v3614 c8_i32_1773
  let v3653 : Index := Scalar.indexCast v3652
  let c0_1774 : Index := 0#32
  ![v3653.toNat, 0]

def k0_chk145 (v3614 : BitVec 32) : Prop :=
  (∀ a, (k0_off351 v3614) a + S8x128.size a ≤ S64512x128.size a) ∧
  (∀ a, (k0_off359 v3614) a + S1x128.size a ≤ S64512x128.size a)
theorem k0_off351_inb : ∀ (v3614 : BitVec 32) (k0_hw145 : k0_chk145 v3614), ∀ a, (k0_off351 v3614) a + S8x128.size a ≤ S64512x128.size a := fun v3614 k0_hw145 => k0_hw145.1
theorem k0_off359_inb : ∀ (v3614 : BitVec 32) (k0_hw145 : k0_chk145 v3614), ∀ a, (k0_off359 v3614) a + S1x128.size a ≤ S64512x128.size a := fun v3614 k0_hw145 => k0_hw145.2

def k0_off360 (v3617 : BitVec 32) : Fin 2 → Nat :=
  let c8_i32_1775 : BitVec 32 := 8#32
  let v3655 : BitVec 32 := Scalar.addi v3617 c8_i32_1775
  let v3656 : Index := Scalar.indexCast v3655
  let c0_1776 : Index := 0#32
  ![v3656.toNat, 0]

def k0_chk146 (v3617 : BitVec 32) : Prop :=
  (∀ a, (k0_off352 v3617) a + S8x128.size a ≤ S64512x128.size a) ∧
  (∀ a, (k0_off360 v3617) a + S1x128.size a ≤ S64512x128.size a)
theorem k0_off352_inb : ∀ (v3617 : BitVec 32) (k0_hw146 : k0_chk146 v3617), ∀ a, (k0_off352 v3617) a + S8x128.size a ≤ S64512x128.size a := fun v3617 k0_hw146 => k0_hw146.1
theorem k0_off360_inb : ∀ (v3617 : BitVec 32) (k0_hw146 : k0_chk146 v3617), ∀ a, (k0_off360 v3617) a + S1x128.size a ≤ S64512x128.size a := fun v3617 k0_hw146 => k0_hw146.2

def k0_off361 (v3620 : BitVec 32) : Fin 2 → Nat :=
  let c8_i32_1777 : BitVec 32 := 8#32
  let v3658 : BitVec 32 := Scalar.addi v3620 c8_i32_1777
  let v3659 : Index := Scalar.indexCast v3658
  let c0_1778 : Index := 0#32
  ![v3659.toNat, 0]

def k0_chk147 (v3620 : BitVec 32) : Prop :=
  (∀ a, (k0_off353 v3620) a + S8x128.size a ≤ S64512x128.size a) ∧
  (∀ a, (k0_off361 v3620) a + S1x128.size a ≤ S64512x128.size a)
theorem k0_off353_inb : ∀ (v3620 : BitVec 32) (k0_hw147 : k0_chk147 v3620), ∀ a, (k0_off353 v3620) a + S8x128.size a ≤ S64512x128.size a := fun v3620 k0_hw147 => k0_hw147.1
theorem k0_off361_inb : ∀ (v3620 : BitVec 32) (k0_hw147 : k0_chk147 v3620), ∀ a, (k0_off361 v3620) a + S1x128.size a ≤ S64512x128.size a := fun v3620 k0_hw147 => k0_hw147.2

def k0_off362 (v3623 : BitVec 32) : Fin 2 → Nat :=
  let c8_i32_1779 : BitVec 32 := 8#32
  let v3661 : BitVec 32 := Scalar.addi v3623 c8_i32_1779
  let v3662 : Index := Scalar.indexCast v3661
  let c0_1780 : Index := 0#32
  ![v3662.toNat, 0]

def k0_chk148 (v3623 : BitVec 32) : Prop :=
  (∀ a, (k0_off354 v3623) a + S8x128.size a ≤ S64512x128.size a) ∧
  (∀ a, (k0_off362 v3623) a + S1x128.size a ≤ S64512x128.size a)
theorem k0_off354_inb : ∀ (v3623 : BitVec 32) (k0_hw148 : k0_chk148 v3623), ∀ a, (k0_off354 v3623) a + S8x128.size a ≤ S64512x128.size a := fun v3623 k0_hw148 => k0_hw148.1
theorem k0_off362_inb : ∀ (v3623 : BitVec 32) (k0_hw148 : k0_chk148 v3623), ∀ a, (k0_off362 v3623) a + S1x128.size a ≤ S64512x128.size a := fun v3623 k0_hw148 => k0_hw148.2

def k0_off363 (v3626 : BitVec 32) : Fin 2 → Nat :=
  let c8_i32_1781 : BitVec 32 := 8#32
  let v3664 : BitVec 32 := Scalar.addi v3626 c8_i32_1781
  let v3665 : Index := Scalar.indexCast v3664
  let c0_1782 : Index := 0#32
  ![v3665.toNat, 0]

def k0_chk149 (v3626 : BitVec 32) : Prop :=
  (∀ a, (k0_off355 v3626) a + S8x128.size a ≤ S64512x128.size a) ∧
  (∀ a, (k0_off363 v3626) a + S1x128.size a ≤ S64512x128.size a)
theorem k0_off355_inb : ∀ (v3626 : BitVec 32) (k0_hw149 : k0_chk149 v3626), ∀ a, (k0_off355 v3626) a + S8x128.size a ≤ S64512x128.size a := fun v3626 k0_hw149 => k0_hw149.1
theorem k0_off363_inb : ∀ (v3626 : BitVec 32) (k0_hw149 : k0_chk149 v3626), ∀ a, (k0_off363 v3626) a + S1x128.size a ≤ S64512x128.size a := fun v3626 k0_hw149 => k0_hw149.2

def k0_off364 (v3629 : BitVec 32) : Fin 2 → Nat :=
  let c8_i32_1783 : BitVec 32 := 8#32
  let v3667 : BitVec 32 := Scalar.addi v3629 c8_i32_1783
  let v3668 : Index := Scalar.indexCast v3667
  let c0_1784 : Index := 0#32
  ![v3668.toNat, 0]

def k0_chk150 (v3629 : BitVec 32) : Prop :=
  (∀ a, (k0_off356 v3629) a + S8x128.size a ≤ S64512x128.size a) ∧
  (∀ a, (k0_off364 v3629) a + S1x128.size a ≤ S64512x128.size a)
theorem k0_off356_inb : ∀ (v3629 : BitVec 32) (k0_hw150 : k0_chk150 v3629), ∀ a, (k0_off356 v3629) a + S8x128.size a ≤ S64512x128.size a := fun v3629 k0_hw150 => k0_hw150.1
theorem k0_off364_inb : ∀ (v3629 : BitVec 32) (k0_hw150 : k0_chk150 v3629), ∀ a, (k0_off364 v3629) a + S1x128.size a ≤ S64512x128.size a := fun v3629 k0_hw150 => k0_hw150.2

def k0_off365 (v3632 : BitVec 32) : Fin 2 → Nat :=
  let c8_i32_1785 : BitVec 32 := 8#32
  let v3670 : BitVec 32 := Scalar.addi v3632 c8_i32_1785
  let v3671 : Index := Scalar.indexCast v3670
  let c0_1786 : Index := 0#32
  ![v3671.toNat, 0]

def k0_chk151 (v3632 : BitVec 32) : Prop :=
  (∀ a, (k0_off357 v3632) a + S8x128.size a ≤ S64512x128.size a) ∧
  (∀ a, (k0_off365 v3632) a + S1x128.size a ≤ S64512x128.size a)
theorem k0_off357_inb : ∀ (v3632 : BitVec 32) (k0_hw151 : k0_chk151 v3632), ∀ a, (k0_off357 v3632) a + S8x128.size a ≤ S64512x128.size a := fun v3632 k0_hw151 => k0_hw151.1
theorem k0_off365_inb : ∀ (v3632 : BitVec 32) (k0_hw151 : k0_chk151 v3632), ∀ a, (k0_off365 v3632) a + S1x128.size a ≤ S64512x128.size a := fun v3632 k0_hw151 => k0_hw151.2

def k0_off366 (v3635 : BitVec 32) : Fin 2 → Nat :=
  let c8_i32_1787 : BitVec 32 := 8#32
  let v3673 : BitVec 32 := Scalar.addi v3635 c8_i32_1787
  let v3674 : Index := Scalar.indexCast v3673
  let c0_1788 : Index := 0#32
  ![v3674.toNat, 0]

def k0_chk152 (v3635 : BitVec 32) : Prop :=
  (∀ a, (k0_off358 v3635) a + S8x128.size a ≤ S64512x128.size a) ∧
  (∀ a, (k0_off366 v3635) a + S1x128.size a ≤ S64512x128.size a)
theorem k0_off358_inb : ∀ (v3635 : BitVec 32) (k0_hw152 : k0_chk152 v3635), ∀ a, (k0_off358 v3635) a + S8x128.size a ≤ S64512x128.size a := fun v3635 k0_hw152 => k0_hw152.1
theorem k0_off366_inb : ∀ (v3635 : BitVec 32) (k0_hw152 : k0_chk152 v3635), ∀ a, (k0_off366 v3635) a + S1x128.size a ≤ S64512x128.size a := fun v3635 k0_hw152 => k0_hw152.2

def k0_off367 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v3797 : Index := Scalar.indexCast v3240
  let c0_1833 : Index := 0#32
  ![v3797.toNat, 0]
def k0_off368 (v3798 : BitVec 32) : Fin 2 → Nat :=
  let v3820 : Index := Scalar.indexCast v3798
  let c0_1855 : Index := 0#32
  ![v3820.toNat, 0]

def k0_off369 (v3801 : BitVec 32) : Fin 2 → Nat :=
  let v3822 : Index := Scalar.indexCast v3801
  let c0_1856 : Index := 0#32
  ![v3822.toNat, 0]

def k0_off370 (v3804 : BitVec 32) : Fin 2 → Nat :=
  let v3824 : Index := Scalar.indexCast v3804
  let c0_1857 : Index := 0#32
  ![v3824.toNat, 0]

def k0_off371 (v3807 : BitVec 32) : Fin 2 → Nat :=
  let v3826 : Index := Scalar.indexCast v3807
  let c0_1858 : Index := 0#32
  ![v3826.toNat, 0]

def k0_off372 (v3810 : BitVec 32) : Fin 2 → Nat :=
  let v3828 : Index := Scalar.indexCast v3810
  let c0_1859 : Index := 0#32
  ![v3828.toNat, 0]

def k0_off373 (v3813 : BitVec 32) : Fin 2 → Nat :=
  let v3830 : Index := Scalar.indexCast v3813
  let c0_1860 : Index := 0#32
  ![v3830.toNat, 0]

def k0_off374 (v3816 : BitVec 32) : Fin 2 → Nat :=
  let v3832 : Index := Scalar.indexCast v3816
  let c0_1861 : Index := 0#32
  ![v3832.toNat, 0]

def k0_off375 (v3819 : BitVec 32) : Fin 2 → Nat :=
  let v3834 : Index := Scalar.indexCast v3819
  let c0_1862 : Index := 0#32
  ![v3834.toNat, 0]

def k0_off376 (v3798 : BitVec 32) : Fin 2 → Nat :=
  let c8_i32_1863 : BitVec 32 := 8#32
  let v3836 : BitVec 32 := Scalar.addi v3798 c8_i32_1863
  let v3837 : Index := Scalar.indexCast v3836
  let c0_1864 : Index := 0#32
  ![v3837.toNat, 0]

def k0_chk153 (v3798 : BitVec 32) : Prop :=
  (∀ a, (k0_off368 v3798) a + S8x128.size a ≤ S64512x128.size a) ∧
  (∀ a, (k0_off376 v3798) a + S1x128.size a ≤ S64512x128.size a)
theorem k0_off368_inb : ∀ (v3798 : BitVec 32) (k0_hw153 : k0_chk153 v3798), ∀ a, (k0_off368 v3798) a + S8x128.size a ≤ S64512x128.size a := fun v3798 k0_hw153 => k0_hw153.1
theorem k0_off376_inb : ∀ (v3798 : BitVec 32) (k0_hw153 : k0_chk153 v3798), ∀ a, (k0_off376 v3798) a + S1x128.size a ≤ S64512x128.size a := fun v3798 k0_hw153 => k0_hw153.2

def k0_off377 (v3801 : BitVec 32) : Fin 2 → Nat :=
  let c8_i32_1865 : BitVec 32 := 8#32
  let v3839 : BitVec 32 := Scalar.addi v3801 c8_i32_1865
  let v3840 : Index := Scalar.indexCast v3839
  let c0_1866 : Index := 0#32
  ![v3840.toNat, 0]

def k0_chk154 (v3801 : BitVec 32) : Prop :=
  (∀ a, (k0_off369 v3801) a + S8x128.size a ≤ S64512x128.size a) ∧
  (∀ a, (k0_off377 v3801) a + S1x128.size a ≤ S64512x128.size a)
theorem k0_off369_inb : ∀ (v3801 : BitVec 32) (k0_hw154 : k0_chk154 v3801), ∀ a, (k0_off369 v3801) a + S8x128.size a ≤ S64512x128.size a := fun v3801 k0_hw154 => k0_hw154.1
theorem k0_off377_inb : ∀ (v3801 : BitVec 32) (k0_hw154 : k0_chk154 v3801), ∀ a, (k0_off377 v3801) a + S1x128.size a ≤ S64512x128.size a := fun v3801 k0_hw154 => k0_hw154.2

def k0_off378 (v3804 : BitVec 32) : Fin 2 → Nat :=
  let c8_i32_1867 : BitVec 32 := 8#32
  let v3842 : BitVec 32 := Scalar.addi v3804 c8_i32_1867
  let v3843 : Index := Scalar.indexCast v3842
  let c0_1868 : Index := 0#32
  ![v3843.toNat, 0]

def k0_chk155 (v3804 : BitVec 32) : Prop :=
  (∀ a, (k0_off370 v3804) a + S8x128.size a ≤ S64512x128.size a) ∧
  (∀ a, (k0_off378 v3804) a + S1x128.size a ≤ S64512x128.size a)
theorem k0_off370_inb : ∀ (v3804 : BitVec 32) (k0_hw155 : k0_chk155 v3804), ∀ a, (k0_off370 v3804) a + S8x128.size a ≤ S64512x128.size a := fun v3804 k0_hw155 => k0_hw155.1
theorem k0_off378_inb : ∀ (v3804 : BitVec 32) (k0_hw155 : k0_chk155 v3804), ∀ a, (k0_off378 v3804) a + S1x128.size a ≤ S64512x128.size a := fun v3804 k0_hw155 => k0_hw155.2

def k0_off379 (v3807 : BitVec 32) : Fin 2 → Nat :=
  let c8_i32_1869 : BitVec 32 := 8#32
  let v3845 : BitVec 32 := Scalar.addi v3807 c8_i32_1869
  let v3846 : Index := Scalar.indexCast v3845
  let c0_1870 : Index := 0#32
  ![v3846.toNat, 0]

def k0_chk156 (v3807 : BitVec 32) : Prop :=
  (∀ a, (k0_off371 v3807) a + S8x128.size a ≤ S64512x128.size a) ∧
  (∀ a, (k0_off379 v3807) a + S1x128.size a ≤ S64512x128.size a)
theorem k0_off371_inb : ∀ (v3807 : BitVec 32) (k0_hw156 : k0_chk156 v3807), ∀ a, (k0_off371 v3807) a + S8x128.size a ≤ S64512x128.size a := fun v3807 k0_hw156 => k0_hw156.1
theorem k0_off379_inb : ∀ (v3807 : BitVec 32) (k0_hw156 : k0_chk156 v3807), ∀ a, (k0_off379 v3807) a + S1x128.size a ≤ S64512x128.size a := fun v3807 k0_hw156 => k0_hw156.2

def k0_off380 (v3810 : BitVec 32) : Fin 2 → Nat :=
  let c8_i32_1871 : BitVec 32 := 8#32
  let v3848 : BitVec 32 := Scalar.addi v3810 c8_i32_1871
  let v3849 : Index := Scalar.indexCast v3848
  let c0_1872 : Index := 0#32
  ![v3849.toNat, 0]

def k0_chk157 (v3810 : BitVec 32) : Prop :=
  (∀ a, (k0_off372 v3810) a + S8x128.size a ≤ S64512x128.size a) ∧
  (∀ a, (k0_off380 v3810) a + S1x128.size a ≤ S64512x128.size a)
theorem k0_off372_inb : ∀ (v3810 : BitVec 32) (k0_hw157 : k0_chk157 v3810), ∀ a, (k0_off372 v3810) a + S8x128.size a ≤ S64512x128.size a := fun v3810 k0_hw157 => k0_hw157.1
theorem k0_off380_inb : ∀ (v3810 : BitVec 32) (k0_hw157 : k0_chk157 v3810), ∀ a, (k0_off380 v3810) a + S1x128.size a ≤ S64512x128.size a := fun v3810 k0_hw157 => k0_hw157.2

def k0_off381 (v3813 : BitVec 32) : Fin 2 → Nat :=
  let c8_i32_1873 : BitVec 32 := 8#32
  let v3851 : BitVec 32 := Scalar.addi v3813 c8_i32_1873
  let v3852 : Index := Scalar.indexCast v3851
  let c0_1874 : Index := 0#32
  ![v3852.toNat, 0]

def k0_chk158 (v3813 : BitVec 32) : Prop :=
  (∀ a, (k0_off373 v3813) a + S8x128.size a ≤ S64512x128.size a) ∧
  (∀ a, (k0_off381 v3813) a + S1x128.size a ≤ S64512x128.size a)
theorem k0_off373_inb : ∀ (v3813 : BitVec 32) (k0_hw158 : k0_chk158 v3813), ∀ a, (k0_off373 v3813) a + S8x128.size a ≤ S64512x128.size a := fun v3813 k0_hw158 => k0_hw158.1
theorem k0_off381_inb : ∀ (v3813 : BitVec 32) (k0_hw158 : k0_chk158 v3813), ∀ a, (k0_off381 v3813) a + S1x128.size a ≤ S64512x128.size a := fun v3813 k0_hw158 => k0_hw158.2

def k0_off382 (v3816 : BitVec 32) : Fin 2 → Nat :=
  let c8_i32_1875 : BitVec 32 := 8#32
  let v3854 : BitVec 32 := Scalar.addi v3816 c8_i32_1875
  let v3855 : Index := Scalar.indexCast v3854
  let c0_1876 : Index := 0#32
  ![v3855.toNat, 0]

def k0_chk159 (v3816 : BitVec 32) : Prop :=
  (∀ a, (k0_off374 v3816) a + S8x128.size a ≤ S64512x128.size a) ∧
  (∀ a, (k0_off382 v3816) a + S1x128.size a ≤ S64512x128.size a)
theorem k0_off374_inb : ∀ (v3816 : BitVec 32) (k0_hw159 : k0_chk159 v3816), ∀ a, (k0_off374 v3816) a + S8x128.size a ≤ S64512x128.size a := fun v3816 k0_hw159 => k0_hw159.1
theorem k0_off382_inb : ∀ (v3816 : BitVec 32) (k0_hw159 : k0_chk159 v3816), ∀ a, (k0_off382 v3816) a + S1x128.size a ≤ S64512x128.size a := fun v3816 k0_hw159 => k0_hw159.2

def k0_off383 (v3819 : BitVec 32) : Fin 2 → Nat :=
  let c8_i32_1877 : BitVec 32 := 8#32
  let v3857 : BitVec 32 := Scalar.addi v3819 c8_i32_1877
  let v3858 : Index := Scalar.indexCast v3857
  let c0_1878 : Index := 0#32
  ![v3858.toNat, 0]

def k0_chk160 (v3819 : BitVec 32) : Prop :=
  (∀ a, (k0_off375 v3819) a + S8x128.size a ≤ S64512x128.size a) ∧
  (∀ a, (k0_off383 v3819) a + S1x128.size a ≤ S64512x128.size a)
theorem k0_off375_inb : ∀ (v3819 : BitVec 32) (k0_hw160 : k0_chk160 v3819), ∀ a, (k0_off375 v3819) a + S8x128.size a ≤ S64512x128.size a := fun v3819 k0_hw160 => k0_hw160.1
theorem k0_off383_inb : ∀ (v3819 : BitVec 32) (k0_hw160 : k0_chk160 v3819), ∀ a, (k0_off383 v3819) a + S1x128.size a ≤ S64512x128.size a := fun v3819 k0_hw160 => k0_hw160.2

def k0_off384 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v3981 : Index := Scalar.indexCast v3240
  let c0_1923 : Index := 0#32
  ![v3981.toNat, 0]
def k0_off385 (v3982 : BitVec 32) : Fin 2 → Nat :=
  let v4004 : Index := Scalar.indexCast v3982
  let c0_1945 : Index := 0#32
  ![v4004.toNat, 0]

def k0_off386 (v3985 : BitVec 32) : Fin 2 → Nat :=
  let v4006 : Index := Scalar.indexCast v3985
  let c0_1946 : Index := 0#32
  ![v4006.toNat, 0]

def k0_off387 (v3988 : BitVec 32) : Fin 2 → Nat :=
  let v4008 : Index := Scalar.indexCast v3988
  let c0_1947 : Index := 0#32
  ![v4008.toNat, 0]

def k0_off388 (v3991 : BitVec 32) : Fin 2 → Nat :=
  let v4010 : Index := Scalar.indexCast v3991
  let c0_1948 : Index := 0#32
  ![v4010.toNat, 0]

def k0_off389 (v3994 : BitVec 32) : Fin 2 → Nat :=
  let v4012 : Index := Scalar.indexCast v3994
  let c0_1949 : Index := 0#32
  ![v4012.toNat, 0]

def k0_off390 (v3997 : BitVec 32) : Fin 2 → Nat :=
  let v4014 : Index := Scalar.indexCast v3997
  let c0_1950 : Index := 0#32
  ![v4014.toNat, 0]

def k0_off391 (v4000 : BitVec 32) : Fin 2 → Nat :=
  let v4016 : Index := Scalar.indexCast v4000
  let c0_1951 : Index := 0#32
  ![v4016.toNat, 0]

def k0_off392 (v4003 : BitVec 32) : Fin 2 → Nat :=
  let v4018 : Index := Scalar.indexCast v4003
  let c0_1952 : Index := 0#32
  ![v4018.toNat, 0]

def k0_off393 (v3982 : BitVec 32) : Fin 2 → Nat :=
  let c8_i32_1953 : BitVec 32 := 8#32
  let v4020 : BitVec 32 := Scalar.addi v3982 c8_i32_1953
  let v4021 : Index := Scalar.indexCast v4020
  let c0_1954 : Index := 0#32
  ![v4021.toNat, 0]

def k0_chk161 (v3982 : BitVec 32) : Prop :=
  (∀ a, (k0_off385 v3982) a + S8x128.size a ≤ S64512x128.size a) ∧
  (∀ a, (k0_off393 v3982) a + S1x128.size a ≤ S64512x128.size a)
theorem k0_off385_inb : ∀ (v3982 : BitVec 32) (k0_hw161 : k0_chk161 v3982), ∀ a, (k0_off385 v3982) a + S8x128.size a ≤ S64512x128.size a := fun v3982 k0_hw161 => k0_hw161.1
theorem k0_off393_inb : ∀ (v3982 : BitVec 32) (k0_hw161 : k0_chk161 v3982), ∀ a, (k0_off393 v3982) a + S1x128.size a ≤ S64512x128.size a := fun v3982 k0_hw161 => k0_hw161.2

def k0_off394 (v3985 : BitVec 32) : Fin 2 → Nat :=
  let c8_i32_1955 : BitVec 32 := 8#32
  let v4023 : BitVec 32 := Scalar.addi v3985 c8_i32_1955
  let v4024 : Index := Scalar.indexCast v4023
  let c0_1956 : Index := 0#32
  ![v4024.toNat, 0]

def k0_chk162 (v3985 : BitVec 32) : Prop :=
  (∀ a, (k0_off386 v3985) a + S8x128.size a ≤ S64512x128.size a) ∧
  (∀ a, (k0_off394 v3985) a + S1x128.size a ≤ S64512x128.size a)
theorem k0_off386_inb : ∀ (v3985 : BitVec 32) (k0_hw162 : k0_chk162 v3985), ∀ a, (k0_off386 v3985) a + S8x128.size a ≤ S64512x128.size a := fun v3985 k0_hw162 => k0_hw162.1
theorem k0_off394_inb : ∀ (v3985 : BitVec 32) (k0_hw162 : k0_chk162 v3985), ∀ a, (k0_off394 v3985) a + S1x128.size a ≤ S64512x128.size a := fun v3985 k0_hw162 => k0_hw162.2

def k0_off395 (v3988 : BitVec 32) : Fin 2 → Nat :=
  let c8_i32_1957 : BitVec 32 := 8#32
  let v4026 : BitVec 32 := Scalar.addi v3988 c8_i32_1957
  let v4027 : Index := Scalar.indexCast v4026
  let c0_1958 : Index := 0#32
  ![v4027.toNat, 0]

def k0_chk163 (v3988 : BitVec 32) : Prop :=
  (∀ a, (k0_off387 v3988) a + S8x128.size a ≤ S64512x128.size a) ∧
  (∀ a, (k0_off395 v3988) a + S1x128.size a ≤ S64512x128.size a)
theorem k0_off387_inb : ∀ (v3988 : BitVec 32) (k0_hw163 : k0_chk163 v3988), ∀ a, (k0_off387 v3988) a + S8x128.size a ≤ S64512x128.size a := fun v3988 k0_hw163 => k0_hw163.1
theorem k0_off395_inb : ∀ (v3988 : BitVec 32) (k0_hw163 : k0_chk163 v3988), ∀ a, (k0_off395 v3988) a + S1x128.size a ≤ S64512x128.size a := fun v3988 k0_hw163 => k0_hw163.2

def k0_off396 (v3991 : BitVec 32) : Fin 2 → Nat :=
  let c8_i32_1959 : BitVec 32 := 8#32
  let v4029 : BitVec 32 := Scalar.addi v3991 c8_i32_1959
  let v4030 : Index := Scalar.indexCast v4029
  let c0_1960 : Index := 0#32
  ![v4030.toNat, 0]

def k0_chk164 (v3991 : BitVec 32) : Prop :=
  (∀ a, (k0_off388 v3991) a + S8x128.size a ≤ S64512x128.size a) ∧
  (∀ a, (k0_off396 v3991) a + S1x128.size a ≤ S64512x128.size a)
theorem k0_off388_inb : ∀ (v3991 : BitVec 32) (k0_hw164 : k0_chk164 v3991), ∀ a, (k0_off388 v3991) a + S8x128.size a ≤ S64512x128.size a := fun v3991 k0_hw164 => k0_hw164.1
theorem k0_off396_inb : ∀ (v3991 : BitVec 32) (k0_hw164 : k0_chk164 v3991), ∀ a, (k0_off396 v3991) a + S1x128.size a ≤ S64512x128.size a := fun v3991 k0_hw164 => k0_hw164.2

def k0_off397 (v3994 : BitVec 32) : Fin 2 → Nat :=
  let c8_i32_1961 : BitVec 32 := 8#32
  let v4032 : BitVec 32 := Scalar.addi v3994 c8_i32_1961
  let v4033 : Index := Scalar.indexCast v4032
  let c0_1962 : Index := 0#32
  ![v4033.toNat, 0]

def k0_chk165 (v3994 : BitVec 32) : Prop :=
  (∀ a, (k0_off389 v3994) a + S8x128.size a ≤ S64512x128.size a) ∧
  (∀ a, (k0_off397 v3994) a + S1x128.size a ≤ S64512x128.size a)
theorem k0_off389_inb : ∀ (v3994 : BitVec 32) (k0_hw165 : k0_chk165 v3994), ∀ a, (k0_off389 v3994) a + S8x128.size a ≤ S64512x128.size a := fun v3994 k0_hw165 => k0_hw165.1
theorem k0_off397_inb : ∀ (v3994 : BitVec 32) (k0_hw165 : k0_chk165 v3994), ∀ a, (k0_off397 v3994) a + S1x128.size a ≤ S64512x128.size a := fun v3994 k0_hw165 => k0_hw165.2

def k0_off398 (v3997 : BitVec 32) : Fin 2 → Nat :=
  let c8_i32_1963 : BitVec 32 := 8#32
  let v4035 : BitVec 32 := Scalar.addi v3997 c8_i32_1963
  let v4036 : Index := Scalar.indexCast v4035
  let c0_1964 : Index := 0#32
  ![v4036.toNat, 0]

def k0_chk166 (v3997 : BitVec 32) : Prop :=
  (∀ a, (k0_off390 v3997) a + S8x128.size a ≤ S64512x128.size a) ∧
  (∀ a, (k0_off398 v3997) a + S1x128.size a ≤ S64512x128.size a)
theorem k0_off390_inb : ∀ (v3997 : BitVec 32) (k0_hw166 : k0_chk166 v3997), ∀ a, (k0_off390 v3997) a + S8x128.size a ≤ S64512x128.size a := fun v3997 k0_hw166 => k0_hw166.1
theorem k0_off398_inb : ∀ (v3997 : BitVec 32) (k0_hw166 : k0_chk166 v3997), ∀ a, (k0_off398 v3997) a + S1x128.size a ≤ S64512x128.size a := fun v3997 k0_hw166 => k0_hw166.2

def k0_off399 (v4000 : BitVec 32) : Fin 2 → Nat :=
  let c8_i32_1965 : BitVec 32 := 8#32
  let v4038 : BitVec 32 := Scalar.addi v4000 c8_i32_1965
  let v4039 : Index := Scalar.indexCast v4038
  let c0_1966 : Index := 0#32
  ![v4039.toNat, 0]

def k0_chk167 (v4000 : BitVec 32) : Prop :=
  (∀ a, (k0_off391 v4000) a + S8x128.size a ≤ S64512x128.size a) ∧
  (∀ a, (k0_off399 v4000) a + S1x128.size a ≤ S64512x128.size a)
theorem k0_off391_inb : ∀ (v4000 : BitVec 32) (k0_hw167 : k0_chk167 v4000), ∀ a, (k0_off391 v4000) a + S8x128.size a ≤ S64512x128.size a := fun v4000 k0_hw167 => k0_hw167.1
theorem k0_off399_inb : ∀ (v4000 : BitVec 32) (k0_hw167 : k0_chk167 v4000), ∀ a, (k0_off399 v4000) a + S1x128.size a ≤ S64512x128.size a := fun v4000 k0_hw167 => k0_hw167.2

def k0_off400 (v4003 : BitVec 32) : Fin 2 → Nat :=
  let c8_i32_1967 : BitVec 32 := 8#32
  let v4041 : BitVec 32 := Scalar.addi v4003 c8_i32_1967
  let v4042 : Index := Scalar.indexCast v4041
  let c0_1968 : Index := 0#32
  ![v4042.toNat, 0]

def k0_chk168 (v4003 : BitVec 32) : Prop :=
  (∀ a, (k0_off392 v4003) a + S8x128.size a ≤ S64512x128.size a) ∧
  (∀ a, (k0_off400 v4003) a + S1x128.size a ≤ S64512x128.size a)
theorem k0_off392_inb : ∀ (v4003 : BitVec 32) (k0_hw168 : k0_chk168 v4003), ∀ a, (k0_off392 v4003) a + S8x128.size a ≤ S64512x128.size a := fun v4003 k0_hw168 => k0_hw168.1
theorem k0_off400_inb : ∀ (v4003 : BitVec 32) (k0_hw168 : k0_chk168 v4003), ∀ a, (k0_off400 v4003) a + S1x128.size a ≤ S64512x128.size a := fun v4003 k0_hw168 => k0_hw168.2

def k0_off401 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v4165 : Index := Scalar.indexCast v3240
  let c0_2013 : Index := 0#32
  ![v4165.toNat, 0]
def k0_off402 (v4166 : BitVec 32) : Fin 2 → Nat :=
  let v4188 : Index := Scalar.indexCast v4166
  let c0_2035 : Index := 0#32
  ![v4188.toNat, 0]

def k0_off403 (v4169 : BitVec 32) : Fin 2 → Nat :=
  let v4190 : Index := Scalar.indexCast v4169
  let c0_2036 : Index := 0#32
  ![v4190.toNat, 0]

def k0_off404 (v4172 : BitVec 32) : Fin 2 → Nat :=
  let v4192 : Index := Scalar.indexCast v4172
  let c0_2037 : Index := 0#32
  ![v4192.toNat, 0]

def k0_off405 (v4175 : BitVec 32) : Fin 2 → Nat :=
  let v4194 : Index := Scalar.indexCast v4175
  let c0_2038 : Index := 0#32
  ![v4194.toNat, 0]

def k0_off406 (v4178 : BitVec 32) : Fin 2 → Nat :=
  let v4196 : Index := Scalar.indexCast v4178
  let c0_2039 : Index := 0#32
  ![v4196.toNat, 0]

def k0_off407 (v4181 : BitVec 32) : Fin 2 → Nat :=
  let v4198 : Index := Scalar.indexCast v4181
  let c0_2040 : Index := 0#32
  ![v4198.toNat, 0]

def k0_off408 (v4184 : BitVec 32) : Fin 2 → Nat :=
  let v4200 : Index := Scalar.indexCast v4184
  let c0_2041 : Index := 0#32
  ![v4200.toNat, 0]

def k0_off409 (v4187 : BitVec 32) : Fin 2 → Nat :=
  let v4202 : Index := Scalar.indexCast v4187
  let c0_2042 : Index := 0#32
  ![v4202.toNat, 0]

def k0_off410 (v4166 : BitVec 32) : Fin 2 → Nat :=
  let c8_i32_2043 : BitVec 32 := 8#32
  let v4204 : BitVec 32 := Scalar.addi v4166 c8_i32_2043
  let v4205 : Index := Scalar.indexCast v4204
  let c0_2044 : Index := 0#32
  ![v4205.toNat, 0]

def k0_chk169 (v4166 : BitVec 32) : Prop :=
  (∀ a, (k0_off402 v4166) a + S8x128.size a ≤ S64512x128.size a) ∧
  (∀ a, (k0_off410 v4166) a + S1x128.size a ≤ S64512x128.size a)
theorem k0_off402_inb : ∀ (v4166 : BitVec 32) (k0_hw169 : k0_chk169 v4166), ∀ a, (k0_off402 v4166) a + S8x128.size a ≤ S64512x128.size a := fun v4166 k0_hw169 => k0_hw169.1
theorem k0_off410_inb : ∀ (v4166 : BitVec 32) (k0_hw169 : k0_chk169 v4166), ∀ a, (k0_off410 v4166) a + S1x128.size a ≤ S64512x128.size a := fun v4166 k0_hw169 => k0_hw169.2

def k0_off411 (v4169 : BitVec 32) : Fin 2 → Nat :=
  let c8_i32_2045 : BitVec 32 := 8#32
  let v4207 : BitVec 32 := Scalar.addi v4169 c8_i32_2045
  let v4208 : Index := Scalar.indexCast v4207
  let c0_2046 : Index := 0#32
  ![v4208.toNat, 0]

def k0_chk170 (v4169 : BitVec 32) : Prop :=
  (∀ a, (k0_off403 v4169) a + S8x128.size a ≤ S64512x128.size a) ∧
  (∀ a, (k0_off411 v4169) a + S1x128.size a ≤ S64512x128.size a)
theorem k0_off403_inb : ∀ (v4169 : BitVec 32) (k0_hw170 : k0_chk170 v4169), ∀ a, (k0_off403 v4169) a + S8x128.size a ≤ S64512x128.size a := fun v4169 k0_hw170 => k0_hw170.1
theorem k0_off411_inb : ∀ (v4169 : BitVec 32) (k0_hw170 : k0_chk170 v4169), ∀ a, (k0_off411 v4169) a + S1x128.size a ≤ S64512x128.size a := fun v4169 k0_hw170 => k0_hw170.2

def k0_off412 (v4172 : BitVec 32) : Fin 2 → Nat :=
  let c8_i32_2047 : BitVec 32 := 8#32
  let v4210 : BitVec 32 := Scalar.addi v4172 c8_i32_2047
  let v4211 : Index := Scalar.indexCast v4210
  let c0_2048 : Index := 0#32
  ![v4211.toNat, 0]

def k0_chk171 (v4172 : BitVec 32) : Prop :=
  (∀ a, (k0_off404 v4172) a + S8x128.size a ≤ S64512x128.size a) ∧
  (∀ a, (k0_off412 v4172) a + S1x128.size a ≤ S64512x128.size a)
theorem k0_off404_inb : ∀ (v4172 : BitVec 32) (k0_hw171 : k0_chk171 v4172), ∀ a, (k0_off404 v4172) a + S8x128.size a ≤ S64512x128.size a := fun v4172 k0_hw171 => k0_hw171.1
theorem k0_off412_inb : ∀ (v4172 : BitVec 32) (k0_hw171 : k0_chk171 v4172), ∀ a, (k0_off412 v4172) a + S1x128.size a ≤ S64512x128.size a := fun v4172 k0_hw171 => k0_hw171.2

def k0_off413 (v4175 : BitVec 32) : Fin 2 → Nat :=
  let c8_i32_2049 : BitVec 32 := 8#32
  let v4213 : BitVec 32 := Scalar.addi v4175 c8_i32_2049
  let v4214 : Index := Scalar.indexCast v4213
  let c0_2050 : Index := 0#32
  ![v4214.toNat, 0]

def k0_chk172 (v4175 : BitVec 32) : Prop :=
  (∀ a, (k0_off405 v4175) a + S8x128.size a ≤ S64512x128.size a) ∧
  (∀ a, (k0_off413 v4175) a + S1x128.size a ≤ S64512x128.size a)
theorem k0_off405_inb : ∀ (v4175 : BitVec 32) (k0_hw172 : k0_chk172 v4175), ∀ a, (k0_off405 v4175) a + S8x128.size a ≤ S64512x128.size a := fun v4175 k0_hw172 => k0_hw172.1
theorem k0_off413_inb : ∀ (v4175 : BitVec 32) (k0_hw172 : k0_chk172 v4175), ∀ a, (k0_off413 v4175) a + S1x128.size a ≤ S64512x128.size a := fun v4175 k0_hw172 => k0_hw172.2

def k0_off414 (v4178 : BitVec 32) : Fin 2 → Nat :=
  let c8_i32_2051 : BitVec 32 := 8#32
  let v4216 : BitVec 32 := Scalar.addi v4178 c8_i32_2051
  let v4217 : Index := Scalar.indexCast v4216
  let c0_2052 : Index := 0#32
  ![v4217.toNat, 0]

def k0_chk173 (v4178 : BitVec 32) : Prop :=
  (∀ a, (k0_off406 v4178) a + S8x128.size a ≤ S64512x128.size a) ∧
  (∀ a, (k0_off414 v4178) a + S1x128.size a ≤ S64512x128.size a)
theorem k0_off406_inb : ∀ (v4178 : BitVec 32) (k0_hw173 : k0_chk173 v4178), ∀ a, (k0_off406 v4178) a + S8x128.size a ≤ S64512x128.size a := fun v4178 k0_hw173 => k0_hw173.1
theorem k0_off414_inb : ∀ (v4178 : BitVec 32) (k0_hw173 : k0_chk173 v4178), ∀ a, (k0_off414 v4178) a + S1x128.size a ≤ S64512x128.size a := fun v4178 k0_hw173 => k0_hw173.2

def k0_off415 (v4181 : BitVec 32) : Fin 2 → Nat :=
  let c8_i32_2053 : BitVec 32 := 8#32
  let v4219 : BitVec 32 := Scalar.addi v4181 c8_i32_2053
  let v4220 : Index := Scalar.indexCast v4219
  let c0_2054 : Index := 0#32
  ![v4220.toNat, 0]

def k0_chk174 (v4181 : BitVec 32) : Prop :=
  (∀ a, (k0_off407 v4181) a + S8x128.size a ≤ S64512x128.size a) ∧
  (∀ a, (k0_off415 v4181) a + S1x128.size a ≤ S64512x128.size a)
theorem k0_off407_inb : ∀ (v4181 : BitVec 32) (k0_hw174 : k0_chk174 v4181), ∀ a, (k0_off407 v4181) a + S8x128.size a ≤ S64512x128.size a := fun v4181 k0_hw174 => k0_hw174.1
theorem k0_off415_inb : ∀ (v4181 : BitVec 32) (k0_hw174 : k0_chk174 v4181), ∀ a, (k0_off415 v4181) a + S1x128.size a ≤ S64512x128.size a := fun v4181 k0_hw174 => k0_hw174.2

def k0_off416 (v4184 : BitVec 32) : Fin 2 → Nat :=
  let c8_i32_2055 : BitVec 32 := 8#32
  let v4222 : BitVec 32 := Scalar.addi v4184 c8_i32_2055
  let v4223 : Index := Scalar.indexCast v4222
  let c0_2056 : Index := 0#32
  ![v4223.toNat, 0]

def k0_chk175 (v4184 : BitVec 32) : Prop :=
  (∀ a, (k0_off408 v4184) a + S8x128.size a ≤ S64512x128.size a) ∧
  (∀ a, (k0_off416 v4184) a + S1x128.size a ≤ S64512x128.size a)
theorem k0_off408_inb : ∀ (v4184 : BitVec 32) (k0_hw175 : k0_chk175 v4184), ∀ a, (k0_off408 v4184) a + S8x128.size a ≤ S64512x128.size a := fun v4184 k0_hw175 => k0_hw175.1
theorem k0_off416_inb : ∀ (v4184 : BitVec 32) (k0_hw175 : k0_chk175 v4184), ∀ a, (k0_off416 v4184) a + S1x128.size a ≤ S64512x128.size a := fun v4184 k0_hw175 => k0_hw175.2

def k0_off417 (v4187 : BitVec 32) : Fin 2 → Nat :=
  let c8_i32_2057 : BitVec 32 := 8#32
  let v4225 : BitVec 32 := Scalar.addi v4187 c8_i32_2057
  let v4226 : Index := Scalar.indexCast v4225
  let c0_2058 : Index := 0#32
  ![v4226.toNat, 0]

def k0_chk176 (v4187 : BitVec 32) : Prop :=
  (∀ a, (k0_off409 v4187) a + S8x128.size a ≤ S64512x128.size a) ∧
  (∀ a, (k0_off417 v4187) a + S1x128.size a ≤ S64512x128.size a)
theorem k0_off409_inb : ∀ (v4187 : BitVec 32) (k0_hw176 : k0_chk176 v4187), ∀ a, (k0_off409 v4187) a + S8x128.size a ≤ S64512x128.size a := fun v4187 k0_hw176 => k0_hw176.1
theorem k0_off417_inb : ∀ (v4187 : BitVec 32) (k0_hw176 : k0_chk176 v4187), ∀ a, (k0_off417 v4187) a + S1x128.size a ≤ S64512x128.size a := fun v4187 k0_hw176 => k0_hw176.2

def k0_off418 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v4349 : Index := Scalar.indexCast v3240
  let c0_2103 : Index := 0#32
  ![v4349.toNat, 0]
def k0_off419 (v4350 : BitVec 32) : Fin 2 → Nat :=
  let v4372 : Index := Scalar.indexCast v4350
  let c0_2125 : Index := 0#32
  ![v4372.toNat, 0]

def k0_off420 (v4353 : BitVec 32) : Fin 2 → Nat :=
  let v4374 : Index := Scalar.indexCast v4353
  let c0_2126 : Index := 0#32
  ![v4374.toNat, 0]

def k0_off421 (v4356 : BitVec 32) : Fin 2 → Nat :=
  let v4376 : Index := Scalar.indexCast v4356
  let c0_2127 : Index := 0#32
  ![v4376.toNat, 0]

def k0_off422 (v4359 : BitVec 32) : Fin 2 → Nat :=
  let v4378 : Index := Scalar.indexCast v4359
  let c0_2128 : Index := 0#32
  ![v4378.toNat, 0]

def k0_off423 (v4362 : BitVec 32) : Fin 2 → Nat :=
  let v4380 : Index := Scalar.indexCast v4362
  let c0_2129 : Index := 0#32
  ![v4380.toNat, 0]

def k0_off424 (v4365 : BitVec 32) : Fin 2 → Nat :=
  let v4382 : Index := Scalar.indexCast v4365
  let c0_2130 : Index := 0#32
  ![v4382.toNat, 0]

def k0_off425 (v4368 : BitVec 32) : Fin 2 → Nat :=
  let v4384 : Index := Scalar.indexCast v4368
  let c0_2131 : Index := 0#32
  ![v4384.toNat, 0]

def k0_off426 (v4371 : BitVec 32) : Fin 2 → Nat :=
  let v4386 : Index := Scalar.indexCast v4371
  let c0_2132 : Index := 0#32
  ![v4386.toNat, 0]

def k0_off427 (v4350 : BitVec 32) : Fin 2 → Nat :=
  let c8_i32_2133 : BitVec 32 := 8#32
  let v4388 : BitVec 32 := Scalar.addi v4350 c8_i32_2133
  let v4389 : Index := Scalar.indexCast v4388
  let c0_2134 : Index := 0#32
  ![v4389.toNat, 0]

def k0_chk177 (v4350 : BitVec 32) : Prop :=
  (∀ a, (k0_off419 v4350) a + S8x128.size a ≤ S64512x128.size a) ∧
  (∀ a, (k0_off427 v4350) a + S1x128.size a ≤ S64512x128.size a)
theorem k0_off419_inb : ∀ (v4350 : BitVec 32) (k0_hw177 : k0_chk177 v4350), ∀ a, (k0_off419 v4350) a + S8x128.size a ≤ S64512x128.size a := fun v4350 k0_hw177 => k0_hw177.1
theorem k0_off427_inb : ∀ (v4350 : BitVec 32) (k0_hw177 : k0_chk177 v4350), ∀ a, (k0_off427 v4350) a + S1x128.size a ≤ S64512x128.size a := fun v4350 k0_hw177 => k0_hw177.2

def k0_off428 (v4353 : BitVec 32) : Fin 2 → Nat :=
  let c8_i32_2135 : BitVec 32 := 8#32
  let v4391 : BitVec 32 := Scalar.addi v4353 c8_i32_2135
  let v4392 : Index := Scalar.indexCast v4391
  let c0_2136 : Index := 0#32
  ![v4392.toNat, 0]

def k0_chk178 (v4353 : BitVec 32) : Prop :=
  (∀ a, (k0_off420 v4353) a + S8x128.size a ≤ S64512x128.size a) ∧
  (∀ a, (k0_off428 v4353) a + S1x128.size a ≤ S64512x128.size a)
theorem k0_off420_inb : ∀ (v4353 : BitVec 32) (k0_hw178 : k0_chk178 v4353), ∀ a, (k0_off420 v4353) a + S8x128.size a ≤ S64512x128.size a := fun v4353 k0_hw178 => k0_hw178.1
theorem k0_off428_inb : ∀ (v4353 : BitVec 32) (k0_hw178 : k0_chk178 v4353), ∀ a, (k0_off428 v4353) a + S1x128.size a ≤ S64512x128.size a := fun v4353 k0_hw178 => k0_hw178.2

def k0_off429 (v4356 : BitVec 32) : Fin 2 → Nat :=
  let c8_i32_2137 : BitVec 32 := 8#32
  let v4394 : BitVec 32 := Scalar.addi v4356 c8_i32_2137
  let v4395 : Index := Scalar.indexCast v4394
  let c0_2138 : Index := 0#32
  ![v4395.toNat, 0]

def k0_chk179 (v4356 : BitVec 32) : Prop :=
  (∀ a, (k0_off421 v4356) a + S8x128.size a ≤ S64512x128.size a) ∧
  (∀ a, (k0_off429 v4356) a + S1x128.size a ≤ S64512x128.size a)
theorem k0_off421_inb : ∀ (v4356 : BitVec 32) (k0_hw179 : k0_chk179 v4356), ∀ a, (k0_off421 v4356) a + S8x128.size a ≤ S64512x128.size a := fun v4356 k0_hw179 => k0_hw179.1
theorem k0_off429_inb : ∀ (v4356 : BitVec 32) (k0_hw179 : k0_chk179 v4356), ∀ a, (k0_off429 v4356) a + S1x128.size a ≤ S64512x128.size a := fun v4356 k0_hw179 => k0_hw179.2

def k0_off430 (v4359 : BitVec 32) : Fin 2 → Nat :=
  let c8_i32_2139 : BitVec 32 := 8#32
  let v4397 : BitVec 32 := Scalar.addi v4359 c8_i32_2139
  let v4398 : Index := Scalar.indexCast v4397
  let c0_2140 : Index := 0#32
  ![v4398.toNat, 0]

def k0_chk180 (v4359 : BitVec 32) : Prop :=
  (∀ a, (k0_off422 v4359) a + S8x128.size a ≤ S64512x128.size a) ∧
  (∀ a, (k0_off430 v4359) a + S1x128.size a ≤ S64512x128.size a)
theorem k0_off422_inb : ∀ (v4359 : BitVec 32) (k0_hw180 : k0_chk180 v4359), ∀ a, (k0_off422 v4359) a + S8x128.size a ≤ S64512x128.size a := fun v4359 k0_hw180 => k0_hw180.1
theorem k0_off430_inb : ∀ (v4359 : BitVec 32) (k0_hw180 : k0_chk180 v4359), ∀ a, (k0_off430 v4359) a + S1x128.size a ≤ S64512x128.size a := fun v4359 k0_hw180 => k0_hw180.2

def k0_off431 (v4362 : BitVec 32) : Fin 2 → Nat :=
  let c8_i32_2141 : BitVec 32 := 8#32
  let v4400 : BitVec 32 := Scalar.addi v4362 c8_i32_2141
  let v4401 : Index := Scalar.indexCast v4400
  let c0_2142 : Index := 0#32
  ![v4401.toNat, 0]

def k0_chk181 (v4362 : BitVec 32) : Prop :=
  (∀ a, (k0_off423 v4362) a + S8x128.size a ≤ S64512x128.size a) ∧
  (∀ a, (k0_off431 v4362) a + S1x128.size a ≤ S64512x128.size a)
theorem k0_off423_inb : ∀ (v4362 : BitVec 32) (k0_hw181 : k0_chk181 v4362), ∀ a, (k0_off423 v4362) a + S8x128.size a ≤ S64512x128.size a := fun v4362 k0_hw181 => k0_hw181.1
theorem k0_off431_inb : ∀ (v4362 : BitVec 32) (k0_hw181 : k0_chk181 v4362), ∀ a, (k0_off431 v4362) a + S1x128.size a ≤ S64512x128.size a := fun v4362 k0_hw181 => k0_hw181.2

def k0_off432 (v4365 : BitVec 32) : Fin 2 → Nat :=
  let c8_i32_2143 : BitVec 32 := 8#32
  let v4403 : BitVec 32 := Scalar.addi v4365 c8_i32_2143
  let v4404 : Index := Scalar.indexCast v4403
  let c0_2144 : Index := 0#32
  ![v4404.toNat, 0]

def k0_chk182 (v4365 : BitVec 32) : Prop :=
  (∀ a, (k0_off424 v4365) a + S8x128.size a ≤ S64512x128.size a) ∧
  (∀ a, (k0_off432 v4365) a + S1x128.size a ≤ S64512x128.size a)
theorem k0_off424_inb : ∀ (v4365 : BitVec 32) (k0_hw182 : k0_chk182 v4365), ∀ a, (k0_off424 v4365) a + S8x128.size a ≤ S64512x128.size a := fun v4365 k0_hw182 => k0_hw182.1
theorem k0_off432_inb : ∀ (v4365 : BitVec 32) (k0_hw182 : k0_chk182 v4365), ∀ a, (k0_off432 v4365) a + S1x128.size a ≤ S64512x128.size a := fun v4365 k0_hw182 => k0_hw182.2

def k0_off433 (v4368 : BitVec 32) : Fin 2 → Nat :=
  let c8_i32_2145 : BitVec 32 := 8#32
  let v4406 : BitVec 32 := Scalar.addi v4368 c8_i32_2145
  let v4407 : Index := Scalar.indexCast v4406
  let c0_2146 : Index := 0#32
  ![v4407.toNat, 0]

def k0_chk183 (v4368 : BitVec 32) : Prop :=
  (∀ a, (k0_off425 v4368) a + S8x128.size a ≤ S64512x128.size a) ∧
  (∀ a, (k0_off433 v4368) a + S1x128.size a ≤ S64512x128.size a)
theorem k0_off425_inb : ∀ (v4368 : BitVec 32) (k0_hw183 : k0_chk183 v4368), ∀ a, (k0_off425 v4368) a + S8x128.size a ≤ S64512x128.size a := fun v4368 k0_hw183 => k0_hw183.1
theorem k0_off433_inb : ∀ (v4368 : BitVec 32) (k0_hw183 : k0_chk183 v4368), ∀ a, (k0_off433 v4368) a + S1x128.size a ≤ S64512x128.size a := fun v4368 k0_hw183 => k0_hw183.2

def k0_off434 (v4371 : BitVec 32) : Fin 2 → Nat :=
  let c8_i32_2147 : BitVec 32 := 8#32
  let v4409 : BitVec 32 := Scalar.addi v4371 c8_i32_2147
  let v4410 : Index := Scalar.indexCast v4409
  let c0_2148 : Index := 0#32
  ![v4410.toNat, 0]

def k0_chk184 (v4371 : BitVec 32) : Prop :=
  (∀ a, (k0_off426 v4371) a + S8x128.size a ≤ S64512x128.size a) ∧
  (∀ a, (k0_off434 v4371) a + S1x128.size a ≤ S64512x128.size a)
theorem k0_off426_inb : ∀ (v4371 : BitVec 32) (k0_hw184 : k0_chk184 v4371), ∀ a, (k0_off426 v4371) a + S8x128.size a ≤ S64512x128.size a := fun v4371 k0_hw184 => k0_hw184.1
theorem k0_off434_inb : ∀ (v4371 : BitVec 32) (k0_hw184 : k0_chk184 v4371), ∀ a, (k0_off434 v4371) a + S1x128.size a ≤ S64512x128.size a := fun v4371 k0_hw184 => k0_hw184.2

def k0_off435 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v4533 : Index := Scalar.indexCast v3240
  let c0_2193 : Index := 0#32
  ![v4533.toNat, 0]
def k0_off436 (v4534 : BitVec 32) : Fin 2 → Nat :=
  let v4556 : Index := Scalar.indexCast v4534
  let c0_2215 : Index := 0#32
  ![v4556.toNat, 0]

def k0_off437 (v4537 : BitVec 32) : Fin 2 → Nat :=
  let v4558 : Index := Scalar.indexCast v4537
  let c0_2216 : Index := 0#32
  ![v4558.toNat, 0]

def k0_off438 (v4540 : BitVec 32) : Fin 2 → Nat :=
  let v4560 : Index := Scalar.indexCast v4540
  let c0_2217 : Index := 0#32
  ![v4560.toNat, 0]

def k0_off439 (v4543 : BitVec 32) : Fin 2 → Nat :=
  let v4562 : Index := Scalar.indexCast v4543
  let c0_2218 : Index := 0#32
  ![v4562.toNat, 0]

def k0_off440 (v4546 : BitVec 32) : Fin 2 → Nat :=
  let v4564 : Index := Scalar.indexCast v4546
  let c0_2219 : Index := 0#32
  ![v4564.toNat, 0]

def k0_off441 (v4549 : BitVec 32) : Fin 2 → Nat :=
  let v4566 : Index := Scalar.indexCast v4549
  let c0_2220 : Index := 0#32
  ![v4566.toNat, 0]

def k0_off442 (v4552 : BitVec 32) : Fin 2 → Nat :=
  let v4568 : Index := Scalar.indexCast v4552
  let c0_2221 : Index := 0#32
  ![v4568.toNat, 0]

def k0_off443 (v4555 : BitVec 32) : Fin 2 → Nat :=
  let v4570 : Index := Scalar.indexCast v4555
  let c0_2222 : Index := 0#32
  ![v4570.toNat, 0]

def k0_off444 (v4534 : BitVec 32) : Fin 2 → Nat :=
  let c8_i32_2223 : BitVec 32 := 8#32
  let v4572 : BitVec 32 := Scalar.addi v4534 c8_i32_2223
  let v4573 : Index := Scalar.indexCast v4572
  let c0_2224 : Index := 0#32
  ![v4573.toNat, 0]

def k0_chk185 (v4534 : BitVec 32) : Prop :=
  (∀ a, (k0_off436 v4534) a + S8x128.size a ≤ S64512x128.size a) ∧
  (∀ a, (k0_off444 v4534) a + S1x128.size a ≤ S64512x128.size a)
theorem k0_off436_inb : ∀ (v4534 : BitVec 32) (k0_hw185 : k0_chk185 v4534), ∀ a, (k0_off436 v4534) a + S8x128.size a ≤ S64512x128.size a := fun v4534 k0_hw185 => k0_hw185.1
theorem k0_off444_inb : ∀ (v4534 : BitVec 32) (k0_hw185 : k0_chk185 v4534), ∀ a, (k0_off444 v4534) a + S1x128.size a ≤ S64512x128.size a := fun v4534 k0_hw185 => k0_hw185.2

def k0_off445 (v4537 : BitVec 32) : Fin 2 → Nat :=
  let c8_i32_2225 : BitVec 32 := 8#32
  let v4575 : BitVec 32 := Scalar.addi v4537 c8_i32_2225
  let v4576 : Index := Scalar.indexCast v4575
  let c0_2226 : Index := 0#32
  ![v4576.toNat, 0]

def k0_chk186 (v4537 : BitVec 32) : Prop :=
  (∀ a, (k0_off437 v4537) a + S8x128.size a ≤ S64512x128.size a) ∧
  (∀ a, (k0_off445 v4537) a + S1x128.size a ≤ S64512x128.size a)
theorem k0_off437_inb : ∀ (v4537 : BitVec 32) (k0_hw186 : k0_chk186 v4537), ∀ a, (k0_off437 v4537) a + S8x128.size a ≤ S64512x128.size a := fun v4537 k0_hw186 => k0_hw186.1
theorem k0_off445_inb : ∀ (v4537 : BitVec 32) (k0_hw186 : k0_chk186 v4537), ∀ a, (k0_off445 v4537) a + S1x128.size a ≤ S64512x128.size a := fun v4537 k0_hw186 => k0_hw186.2

def k0_off446 (v4540 : BitVec 32) : Fin 2 → Nat :=
  let c8_i32_2227 : BitVec 32 := 8#32
  let v4578 : BitVec 32 := Scalar.addi v4540 c8_i32_2227
  let v4579 : Index := Scalar.indexCast v4578
  let c0_2228 : Index := 0#32
  ![v4579.toNat, 0]

def k0_chk187 (v4540 : BitVec 32) : Prop :=
  (∀ a, (k0_off438 v4540) a + S8x128.size a ≤ S64512x128.size a) ∧
  (∀ a, (k0_off446 v4540) a + S1x128.size a ≤ S64512x128.size a)
theorem k0_off438_inb : ∀ (v4540 : BitVec 32) (k0_hw187 : k0_chk187 v4540), ∀ a, (k0_off438 v4540) a + S8x128.size a ≤ S64512x128.size a := fun v4540 k0_hw187 => k0_hw187.1
theorem k0_off446_inb : ∀ (v4540 : BitVec 32) (k0_hw187 : k0_chk187 v4540), ∀ a, (k0_off446 v4540) a + S1x128.size a ≤ S64512x128.size a := fun v4540 k0_hw187 => k0_hw187.2

def k0_off447 (v4543 : BitVec 32) : Fin 2 → Nat :=
  let c8_i32_2229 : BitVec 32 := 8#32
  let v4581 : BitVec 32 := Scalar.addi v4543 c8_i32_2229
  let v4582 : Index := Scalar.indexCast v4581
  let c0_2230 : Index := 0#32
  ![v4582.toNat, 0]

def k0_chk188 (v4543 : BitVec 32) : Prop :=
  (∀ a, (k0_off439 v4543) a + S8x128.size a ≤ S64512x128.size a) ∧
  (∀ a, (k0_off447 v4543) a + S1x128.size a ≤ S64512x128.size a)
theorem k0_off439_inb : ∀ (v4543 : BitVec 32) (k0_hw188 : k0_chk188 v4543), ∀ a, (k0_off439 v4543) a + S8x128.size a ≤ S64512x128.size a := fun v4543 k0_hw188 => k0_hw188.1
theorem k0_off447_inb : ∀ (v4543 : BitVec 32) (k0_hw188 : k0_chk188 v4543), ∀ a, (k0_off447 v4543) a + S1x128.size a ≤ S64512x128.size a := fun v4543 k0_hw188 => k0_hw188.2

def k0_off448 (v4546 : BitVec 32) : Fin 2 → Nat :=
  let c8_i32_2231 : BitVec 32 := 8#32
  let v4584 : BitVec 32 := Scalar.addi v4546 c8_i32_2231
  let v4585 : Index := Scalar.indexCast v4584
  let c0_2232 : Index := 0#32
  ![v4585.toNat, 0]

def k0_chk189 (v4546 : BitVec 32) : Prop :=
  (∀ a, (k0_off440 v4546) a + S8x128.size a ≤ S64512x128.size a) ∧
  (∀ a, (k0_off448 v4546) a + S1x128.size a ≤ S64512x128.size a)
theorem k0_off440_inb : ∀ (v4546 : BitVec 32) (k0_hw189 : k0_chk189 v4546), ∀ a, (k0_off440 v4546) a + S8x128.size a ≤ S64512x128.size a := fun v4546 k0_hw189 => k0_hw189.1
theorem k0_off448_inb : ∀ (v4546 : BitVec 32) (k0_hw189 : k0_chk189 v4546), ∀ a, (k0_off448 v4546) a + S1x128.size a ≤ S64512x128.size a := fun v4546 k0_hw189 => k0_hw189.2

def k0_off449 (v4549 : BitVec 32) : Fin 2 → Nat :=
  let c8_i32_2233 : BitVec 32 := 8#32
  let v4587 : BitVec 32 := Scalar.addi v4549 c8_i32_2233
  let v4588 : Index := Scalar.indexCast v4587
  let c0_2234 : Index := 0#32
  ![v4588.toNat, 0]

def k0_chk190 (v4549 : BitVec 32) : Prop :=
  (∀ a, (k0_off441 v4549) a + S8x128.size a ≤ S64512x128.size a) ∧
  (∀ a, (k0_off449 v4549) a + S1x128.size a ≤ S64512x128.size a)
theorem k0_off441_inb : ∀ (v4549 : BitVec 32) (k0_hw190 : k0_chk190 v4549), ∀ a, (k0_off441 v4549) a + S8x128.size a ≤ S64512x128.size a := fun v4549 k0_hw190 => k0_hw190.1
theorem k0_off449_inb : ∀ (v4549 : BitVec 32) (k0_hw190 : k0_chk190 v4549), ∀ a, (k0_off449 v4549) a + S1x128.size a ≤ S64512x128.size a := fun v4549 k0_hw190 => k0_hw190.2

def k0_off450 (v4552 : BitVec 32) : Fin 2 → Nat :=
  let c8_i32_2235 : BitVec 32 := 8#32
  let v4590 : BitVec 32 := Scalar.addi v4552 c8_i32_2235
  let v4591 : Index := Scalar.indexCast v4590
  let c0_2236 : Index := 0#32
  ![v4591.toNat, 0]

def k0_chk191 (v4552 : BitVec 32) : Prop :=
  (∀ a, (k0_off442 v4552) a + S8x128.size a ≤ S64512x128.size a) ∧
  (∀ a, (k0_off450 v4552) a + S1x128.size a ≤ S64512x128.size a)
theorem k0_off442_inb : ∀ (v4552 : BitVec 32) (k0_hw191 : k0_chk191 v4552), ∀ a, (k0_off442 v4552) a + S8x128.size a ≤ S64512x128.size a := fun v4552 k0_hw191 => k0_hw191.1
theorem k0_off450_inb : ∀ (v4552 : BitVec 32) (k0_hw191 : k0_chk191 v4552), ∀ a, (k0_off450 v4552) a + S1x128.size a ≤ S64512x128.size a := fun v4552 k0_hw191 => k0_hw191.2

def k0_off451 (v4555 : BitVec 32) : Fin 2 → Nat :=
  let c8_i32_2237 : BitVec 32 := 8#32
  let v4593 : BitVec 32 := Scalar.addi v4555 c8_i32_2237
  let v4594 : Index := Scalar.indexCast v4593
  let c0_2238 : Index := 0#32
  ![v4594.toNat, 0]

def k0_chk192 (v4555 : BitVec 32) : Prop :=
  (∀ a, (k0_off443 v4555) a + S8x128.size a ≤ S64512x128.size a) ∧
  (∀ a, (k0_off451 v4555) a + S1x128.size a ≤ S64512x128.size a)
theorem k0_off443_inb : ∀ (v4555 : BitVec 32) (k0_hw192 : k0_chk192 v4555), ∀ a, (k0_off443 v4555) a + S8x128.size a ≤ S64512x128.size a := fun v4555 k0_hw192 => k0_hw192.1
theorem k0_off451_inb : ∀ (v4555 : BitVec 32) (k0_hw192 : k0_chk192 v4555), ∀ a, (k0_off451 v4555) a + S1x128.size a ≤ S64512x128.size a := fun v4555 k0_hw192 => k0_hw192.2

def k0_off452 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v4773 : Index := Scalar.indexCast v3240
  let c0_2305 : Index := 0#32
  ![v4773.toNat, 0]
def k0_off453 (v4774 : BitVec 32) : Fin 2 → Nat :=
  let v4796 : Index := Scalar.indexCast v4774
  let c0_2327 : Index := 0#32
  ![v4796.toNat, 0]

def k0_off454 (v4777 : BitVec 32) : Fin 2 → Nat :=
  let v4798 : Index := Scalar.indexCast v4777
  let c0_2328 : Index := 0#32
  ![v4798.toNat, 0]

def k0_off455 (v4780 : BitVec 32) : Fin 2 → Nat :=
  let v4800 : Index := Scalar.indexCast v4780
  let c0_2329 : Index := 0#32
  ![v4800.toNat, 0]

def k0_off456 (v4783 : BitVec 32) : Fin 2 → Nat :=
  let v4802 : Index := Scalar.indexCast v4783
  let c0_2330 : Index := 0#32
  ![v4802.toNat, 0]

def k0_off457 (v4786 : BitVec 32) : Fin 2 → Nat :=
  let v4804 : Index := Scalar.indexCast v4786
  let c0_2331 : Index := 0#32
  ![v4804.toNat, 0]

def k0_off458 (v4789 : BitVec 32) : Fin 2 → Nat :=
  let v4806 : Index := Scalar.indexCast v4789
  let c0_2332 : Index := 0#32
  ![v4806.toNat, 0]

def k0_off459 (v4792 : BitVec 32) : Fin 2 → Nat :=
  let v4808 : Index := Scalar.indexCast v4792
  let c0_2333 : Index := 0#32
  ![v4808.toNat, 0]

def k0_off460 (v4795 : BitVec 32) : Fin 2 → Nat :=
  let v4810 : Index := Scalar.indexCast v4795
  let c0_2334 : Index := 0#32
  ![v4810.toNat, 0]

def k0_off461 (v4774 : BitVec 32) : Fin 2 → Nat :=
  let c8_i32_2335 : BitVec 32 := 8#32
  let v4812 : BitVec 32 := Scalar.addi v4774 c8_i32_2335
  let v4813 : Index := Scalar.indexCast v4812
  let c0_2336 : Index := 0#32
  ![v4813.toNat, 0]

def k0_chk193 (v4774 : BitVec 32) : Prop :=
  (∀ a, (k0_off453 v4774) a + S8x128.size a ≤ S64512x128.size a) ∧
  (∀ a, (k0_off461 v4774) a + S1x128.size a ≤ S64512x128.size a)
theorem k0_off453_inb : ∀ (v4774 : BitVec 32) (k0_hw193 : k0_chk193 v4774), ∀ a, (k0_off453 v4774) a + S8x128.size a ≤ S64512x128.size a := fun v4774 k0_hw193 => k0_hw193.1
theorem k0_off461_inb : ∀ (v4774 : BitVec 32) (k0_hw193 : k0_chk193 v4774), ∀ a, (k0_off461 v4774) a + S1x128.size a ≤ S64512x128.size a := fun v4774 k0_hw193 => k0_hw193.2

def k0_off462 (v4777 : BitVec 32) : Fin 2 → Nat :=
  let c8_i32_2337 : BitVec 32 := 8#32
  let v4815 : BitVec 32 := Scalar.addi v4777 c8_i32_2337
  let v4816 : Index := Scalar.indexCast v4815
  let c0_2338 : Index := 0#32
  ![v4816.toNat, 0]

def k0_chk194 (v4777 : BitVec 32) : Prop :=
  (∀ a, (k0_off454 v4777) a + S8x128.size a ≤ S64512x128.size a) ∧
  (∀ a, (k0_off462 v4777) a + S1x128.size a ≤ S64512x128.size a)
theorem k0_off454_inb : ∀ (v4777 : BitVec 32) (k0_hw194 : k0_chk194 v4777), ∀ a, (k0_off454 v4777) a + S8x128.size a ≤ S64512x128.size a := fun v4777 k0_hw194 => k0_hw194.1
theorem k0_off462_inb : ∀ (v4777 : BitVec 32) (k0_hw194 : k0_chk194 v4777), ∀ a, (k0_off462 v4777) a + S1x128.size a ≤ S64512x128.size a := fun v4777 k0_hw194 => k0_hw194.2

def k0_off463 (v4780 : BitVec 32) : Fin 2 → Nat :=
  let c8_i32_2339 : BitVec 32 := 8#32
  let v4818 : BitVec 32 := Scalar.addi v4780 c8_i32_2339
  let v4819 : Index := Scalar.indexCast v4818
  let c0_2340 : Index := 0#32
  ![v4819.toNat, 0]

def k0_chk195 (v4780 : BitVec 32) : Prop :=
  (∀ a, (k0_off455 v4780) a + S8x128.size a ≤ S64512x128.size a) ∧
  (∀ a, (k0_off463 v4780) a + S1x128.size a ≤ S64512x128.size a)
theorem k0_off455_inb : ∀ (v4780 : BitVec 32) (k0_hw195 : k0_chk195 v4780), ∀ a, (k0_off455 v4780) a + S8x128.size a ≤ S64512x128.size a := fun v4780 k0_hw195 => k0_hw195.1
theorem k0_off463_inb : ∀ (v4780 : BitVec 32) (k0_hw195 : k0_chk195 v4780), ∀ a, (k0_off463 v4780) a + S1x128.size a ≤ S64512x128.size a := fun v4780 k0_hw195 => k0_hw195.2

def k0_off464 (v4783 : BitVec 32) : Fin 2 → Nat :=
  let c8_i32_2341 : BitVec 32 := 8#32
  let v4821 : BitVec 32 := Scalar.addi v4783 c8_i32_2341
  let v4822 : Index := Scalar.indexCast v4821
  let c0_2342 : Index := 0#32
  ![v4822.toNat, 0]

def k0_chk196 (v4783 : BitVec 32) : Prop :=
  (∀ a, (k0_off456 v4783) a + S8x128.size a ≤ S64512x128.size a) ∧
  (∀ a, (k0_off464 v4783) a + S1x128.size a ≤ S64512x128.size a)
theorem k0_off456_inb : ∀ (v4783 : BitVec 32) (k0_hw196 : k0_chk196 v4783), ∀ a, (k0_off456 v4783) a + S8x128.size a ≤ S64512x128.size a := fun v4783 k0_hw196 => k0_hw196.1
theorem k0_off464_inb : ∀ (v4783 : BitVec 32) (k0_hw196 : k0_chk196 v4783), ∀ a, (k0_off464 v4783) a + S1x128.size a ≤ S64512x128.size a := fun v4783 k0_hw196 => k0_hw196.2

def k0_off465 (v4786 : BitVec 32) : Fin 2 → Nat :=
  let c8_i32_2343 : BitVec 32 := 8#32
  let v4824 : BitVec 32 := Scalar.addi v4786 c8_i32_2343
  let v4825 : Index := Scalar.indexCast v4824
  let c0_2344 : Index := 0#32
  ![v4825.toNat, 0]

def k0_chk197 (v4786 : BitVec 32) : Prop :=
  (∀ a, (k0_off457 v4786) a + S8x128.size a ≤ S64512x128.size a) ∧
  (∀ a, (k0_off465 v4786) a + S1x128.size a ≤ S64512x128.size a)
theorem k0_off457_inb : ∀ (v4786 : BitVec 32) (k0_hw197 : k0_chk197 v4786), ∀ a, (k0_off457 v4786) a + S8x128.size a ≤ S64512x128.size a := fun v4786 k0_hw197 => k0_hw197.1
theorem k0_off465_inb : ∀ (v4786 : BitVec 32) (k0_hw197 : k0_chk197 v4786), ∀ a, (k0_off465 v4786) a + S1x128.size a ≤ S64512x128.size a := fun v4786 k0_hw197 => k0_hw197.2

def k0_off466 (v4789 : BitVec 32) : Fin 2 → Nat :=
  let c8_i32_2345 : BitVec 32 := 8#32
  let v4827 : BitVec 32 := Scalar.addi v4789 c8_i32_2345
  let v4828 : Index := Scalar.indexCast v4827
  let c0_2346 : Index := 0#32
  ![v4828.toNat, 0]

def k0_chk198 (v4789 : BitVec 32) : Prop :=
  (∀ a, (k0_off458 v4789) a + S8x128.size a ≤ S64512x128.size a) ∧
  (∀ a, (k0_off466 v4789) a + S1x128.size a ≤ S64512x128.size a)
theorem k0_off458_inb : ∀ (v4789 : BitVec 32) (k0_hw198 : k0_chk198 v4789), ∀ a, (k0_off458 v4789) a + S8x128.size a ≤ S64512x128.size a := fun v4789 k0_hw198 => k0_hw198.1
theorem k0_off466_inb : ∀ (v4789 : BitVec 32) (k0_hw198 : k0_chk198 v4789), ∀ a, (k0_off466 v4789) a + S1x128.size a ≤ S64512x128.size a := fun v4789 k0_hw198 => k0_hw198.2

def k0_off467 (v4792 : BitVec 32) : Fin 2 → Nat :=
  let c8_i32_2347 : BitVec 32 := 8#32
  let v4830 : BitVec 32 := Scalar.addi v4792 c8_i32_2347
  let v4831 : Index := Scalar.indexCast v4830
  let c0_2348 : Index := 0#32
  ![v4831.toNat, 0]

def k0_chk199 (v4792 : BitVec 32) : Prop :=
  (∀ a, (k0_off459 v4792) a + S8x128.size a ≤ S64512x128.size a) ∧
  (∀ a, (k0_off467 v4792) a + S1x128.size a ≤ S64512x128.size a)
theorem k0_off459_inb : ∀ (v4792 : BitVec 32) (k0_hw199 : k0_chk199 v4792), ∀ a, (k0_off459 v4792) a + S8x128.size a ≤ S64512x128.size a := fun v4792 k0_hw199 => k0_hw199.1
theorem k0_off467_inb : ∀ (v4792 : BitVec 32) (k0_hw199 : k0_chk199 v4792), ∀ a, (k0_off467 v4792) a + S1x128.size a ≤ S64512x128.size a := fun v4792 k0_hw199 => k0_hw199.2

def k0_off468 (v4795 : BitVec 32) : Fin 2 → Nat :=
  let c8_i32_2349 : BitVec 32 := 8#32
  let v4833 : BitVec 32 := Scalar.addi v4795 c8_i32_2349
  let v4834 : Index := Scalar.indexCast v4833
  let c0_2350 : Index := 0#32
  ![v4834.toNat, 0]

def k0_chk200 (v4795 : BitVec 32) : Prop :=
  (∀ a, (k0_off460 v4795) a + S8x128.size a ≤ S64512x128.size a) ∧
  (∀ a, (k0_off468 v4795) a + S1x128.size a ≤ S64512x128.size a)
theorem k0_off460_inb : ∀ (v4795 : BitVec 32) (k0_hw200 : k0_chk200 v4795), ∀ a, (k0_off460 v4795) a + S8x128.size a ≤ S64512x128.size a := fun v4795 k0_hw200 => k0_hw200.1
theorem k0_off468_inb : ∀ (v4795 : BitVec 32) (k0_hw200 : k0_chk200 v4795), ∀ a, (k0_off468 v4795) a + S1x128.size a ≤ S64512x128.size a := fun v4795 k0_hw200 => k0_hw200.2

def k0_off469 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v4957 : Index := Scalar.indexCast v3240
  let c0_2395 : Index := 0#32
  ![v4957.toNat, 0]
def k0_off470 (v4958 : BitVec 32) : Fin 2 → Nat :=
  let v4980 : Index := Scalar.indexCast v4958
  let c0_2417 : Index := 0#32
  ![v4980.toNat, 0]

def k0_off471 (v4961 : BitVec 32) : Fin 2 → Nat :=
  let v4982 : Index := Scalar.indexCast v4961
  let c0_2418 : Index := 0#32
  ![v4982.toNat, 0]

def k0_off472 (v4964 : BitVec 32) : Fin 2 → Nat :=
  let v4984 : Index := Scalar.indexCast v4964
  let c0_2419 : Index := 0#32
  ![v4984.toNat, 0]

def k0_off473 (v4967 : BitVec 32) : Fin 2 → Nat :=
  let v4986 : Index := Scalar.indexCast v4967
  let c0_2420 : Index := 0#32
  ![v4986.toNat, 0]

def k0_off474 (v4970 : BitVec 32) : Fin 2 → Nat :=
  let v4988 : Index := Scalar.indexCast v4970
  let c0_2421 : Index := 0#32
  ![v4988.toNat, 0]

def k0_off475 (v4973 : BitVec 32) : Fin 2 → Nat :=
  let v4990 : Index := Scalar.indexCast v4973
  let c0_2422 : Index := 0#32
  ![v4990.toNat, 0]

def k0_off476 (v4976 : BitVec 32) : Fin 2 → Nat :=
  let v4992 : Index := Scalar.indexCast v4976
  let c0_2423 : Index := 0#32
  ![v4992.toNat, 0]

def k0_off477 (v4979 : BitVec 32) : Fin 2 → Nat :=
  let v4994 : Index := Scalar.indexCast v4979
  let c0_2424 : Index := 0#32
  ![v4994.toNat, 0]

def k0_off478 (v4958 : BitVec 32) : Fin 2 → Nat :=
  let c8_i32_2425 : BitVec 32 := 8#32
  let v4996 : BitVec 32 := Scalar.addi v4958 c8_i32_2425
  let v4997 : Index := Scalar.indexCast v4996
  let c0_2426 : Index := 0#32
  ![v4997.toNat, 0]

def k0_chk201 (v4958 : BitVec 32) : Prop :=
  (∀ a, (k0_off470 v4958) a + S8x128.size a ≤ S64512x128.size a) ∧
  (∀ a, (k0_off478 v4958) a + S1x128.size a ≤ S64512x128.size a)
theorem k0_off470_inb : ∀ (v4958 : BitVec 32) (k0_hw201 : k0_chk201 v4958), ∀ a, (k0_off470 v4958) a + S8x128.size a ≤ S64512x128.size a := fun v4958 k0_hw201 => k0_hw201.1
theorem k0_off478_inb : ∀ (v4958 : BitVec 32) (k0_hw201 : k0_chk201 v4958), ∀ a, (k0_off478 v4958) a + S1x128.size a ≤ S64512x128.size a := fun v4958 k0_hw201 => k0_hw201.2

def k0_off479 (v4961 : BitVec 32) : Fin 2 → Nat :=
  let c8_i32_2427 : BitVec 32 := 8#32
  let v4999 : BitVec 32 := Scalar.addi v4961 c8_i32_2427
  let v5000 : Index := Scalar.indexCast v4999
  let c0_2428 : Index := 0#32
  ![v5000.toNat, 0]

def k0_chk202 (v4961 : BitVec 32) : Prop :=
  (∀ a, (k0_off471 v4961) a + S8x128.size a ≤ S64512x128.size a) ∧
  (∀ a, (k0_off479 v4961) a + S1x128.size a ≤ S64512x128.size a)
theorem k0_off471_inb : ∀ (v4961 : BitVec 32) (k0_hw202 : k0_chk202 v4961), ∀ a, (k0_off471 v4961) a + S8x128.size a ≤ S64512x128.size a := fun v4961 k0_hw202 => k0_hw202.1
theorem k0_off479_inb : ∀ (v4961 : BitVec 32) (k0_hw202 : k0_chk202 v4961), ∀ a, (k0_off479 v4961) a + S1x128.size a ≤ S64512x128.size a := fun v4961 k0_hw202 => k0_hw202.2

def k0_off480 (v4964 : BitVec 32) : Fin 2 → Nat :=
  let c8_i32_2429 : BitVec 32 := 8#32
  let v5002 : BitVec 32 := Scalar.addi v4964 c8_i32_2429
  let v5003 : Index := Scalar.indexCast v5002
  let c0_2430 : Index := 0#32
  ![v5003.toNat, 0]

def k0_chk203 (v4964 : BitVec 32) : Prop :=
  (∀ a, (k0_off472 v4964) a + S8x128.size a ≤ S64512x128.size a) ∧
  (∀ a, (k0_off480 v4964) a + S1x128.size a ≤ S64512x128.size a)
theorem k0_off472_inb : ∀ (v4964 : BitVec 32) (k0_hw203 : k0_chk203 v4964), ∀ a, (k0_off472 v4964) a + S8x128.size a ≤ S64512x128.size a := fun v4964 k0_hw203 => k0_hw203.1
theorem k0_off480_inb : ∀ (v4964 : BitVec 32) (k0_hw203 : k0_chk203 v4964), ∀ a, (k0_off480 v4964) a + S1x128.size a ≤ S64512x128.size a := fun v4964 k0_hw203 => k0_hw203.2

def k0_off481 (v4967 : BitVec 32) : Fin 2 → Nat :=
  let c8_i32_2431 : BitVec 32 := 8#32
  let v5005 : BitVec 32 := Scalar.addi v4967 c8_i32_2431
  let v5006 : Index := Scalar.indexCast v5005
  let c0_2432 : Index := 0#32
  ![v5006.toNat, 0]

def k0_chk204 (v4967 : BitVec 32) : Prop :=
  (∀ a, (k0_off473 v4967) a + S8x128.size a ≤ S64512x128.size a) ∧
  (∀ a, (k0_off481 v4967) a + S1x128.size a ≤ S64512x128.size a)
theorem k0_off473_inb : ∀ (v4967 : BitVec 32) (k0_hw204 : k0_chk204 v4967), ∀ a, (k0_off473 v4967) a + S8x128.size a ≤ S64512x128.size a := fun v4967 k0_hw204 => k0_hw204.1
theorem k0_off481_inb : ∀ (v4967 : BitVec 32) (k0_hw204 : k0_chk204 v4967), ∀ a, (k0_off481 v4967) a + S1x128.size a ≤ S64512x128.size a := fun v4967 k0_hw204 => k0_hw204.2

def k0_off482 (v4970 : BitVec 32) : Fin 2 → Nat :=
  let c8_i32_2433 : BitVec 32 := 8#32
  let v5008 : BitVec 32 := Scalar.addi v4970 c8_i32_2433
  let v5009 : Index := Scalar.indexCast v5008
  let c0_2434 : Index := 0#32
  ![v5009.toNat, 0]

def k0_chk205 (v4970 : BitVec 32) : Prop :=
  (∀ a, (k0_off474 v4970) a + S8x128.size a ≤ S64512x128.size a) ∧
  (∀ a, (k0_off482 v4970) a + S1x128.size a ≤ S64512x128.size a)
theorem k0_off474_inb : ∀ (v4970 : BitVec 32) (k0_hw205 : k0_chk205 v4970), ∀ a, (k0_off474 v4970) a + S8x128.size a ≤ S64512x128.size a := fun v4970 k0_hw205 => k0_hw205.1
theorem k0_off482_inb : ∀ (v4970 : BitVec 32) (k0_hw205 : k0_chk205 v4970), ∀ a, (k0_off482 v4970) a + S1x128.size a ≤ S64512x128.size a := fun v4970 k0_hw205 => k0_hw205.2

def k0_off483 (v4973 : BitVec 32) : Fin 2 → Nat :=
  let c8_i32_2435 : BitVec 32 := 8#32
  let v5011 : BitVec 32 := Scalar.addi v4973 c8_i32_2435
  let v5012 : Index := Scalar.indexCast v5011
  let c0_2436 : Index := 0#32
  ![v5012.toNat, 0]

def k0_chk206 (v4973 : BitVec 32) : Prop :=
  (∀ a, (k0_off475 v4973) a + S8x128.size a ≤ S64512x128.size a) ∧
  (∀ a, (k0_off483 v4973) a + S1x128.size a ≤ S64512x128.size a)
theorem k0_off475_inb : ∀ (v4973 : BitVec 32) (k0_hw206 : k0_chk206 v4973), ∀ a, (k0_off475 v4973) a + S8x128.size a ≤ S64512x128.size a := fun v4973 k0_hw206 => k0_hw206.1
theorem k0_off483_inb : ∀ (v4973 : BitVec 32) (k0_hw206 : k0_chk206 v4973), ∀ a, (k0_off483 v4973) a + S1x128.size a ≤ S64512x128.size a := fun v4973 k0_hw206 => k0_hw206.2

def k0_off484 (v4976 : BitVec 32) : Fin 2 → Nat :=
  let c8_i32_2437 : BitVec 32 := 8#32
  let v5014 : BitVec 32 := Scalar.addi v4976 c8_i32_2437
  let v5015 : Index := Scalar.indexCast v5014
  let c0_2438 : Index := 0#32
  ![v5015.toNat, 0]

def k0_chk207 (v4976 : BitVec 32) : Prop :=
  (∀ a, (k0_off476 v4976) a + S8x128.size a ≤ S64512x128.size a) ∧
  (∀ a, (k0_off484 v4976) a + S1x128.size a ≤ S64512x128.size a)
theorem k0_off476_inb : ∀ (v4976 : BitVec 32) (k0_hw207 : k0_chk207 v4976), ∀ a, (k0_off476 v4976) a + S8x128.size a ≤ S64512x128.size a := fun v4976 k0_hw207 => k0_hw207.1
theorem k0_off484_inb : ∀ (v4976 : BitVec 32) (k0_hw207 : k0_chk207 v4976), ∀ a, (k0_off484 v4976) a + S1x128.size a ≤ S64512x128.size a := fun v4976 k0_hw207 => k0_hw207.2

def k0_off485 (v4979 : BitVec 32) : Fin 2 → Nat :=
  let c8_i32_2439 : BitVec 32 := 8#32
  let v5017 : BitVec 32 := Scalar.addi v4979 c8_i32_2439
  let v5018 : Index := Scalar.indexCast v5017
  let c0_2440 : Index := 0#32
  ![v5018.toNat, 0]

def k0_chk208 (v4979 : BitVec 32) : Prop :=
  (∀ a, (k0_off477 v4979) a + S8x128.size a ≤ S64512x128.size a) ∧
  (∀ a, (k0_off485 v4979) a + S1x128.size a ≤ S64512x128.size a)
theorem k0_off477_inb : ∀ (v4979 : BitVec 32) (k0_hw208 : k0_chk208 v4979), ∀ a, (k0_off477 v4979) a + S8x128.size a ≤ S64512x128.size a := fun v4979 k0_hw208 => k0_hw208.1
theorem k0_off485_inb : ∀ (v4979 : BitVec 32) (k0_hw208 : k0_chk208 v4979), ∀ a, (k0_off485 v4979) a + S1x128.size a ≤ S64512x128.size a := fun v4979 k0_hw208 => k0_hw208.2

def k0_off486 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v5141 : Index := Scalar.indexCast v3240
  let c0_2485 : Index := 0#32
  ![v5141.toNat, 0]
def k0_off487 (v5142 : BitVec 32) : Fin 2 → Nat :=
  let v5164 : Index := Scalar.indexCast v5142
  let c0_2507 : Index := 0#32
  ![v5164.toNat, 0]

def k0_off488 (v5145 : BitVec 32) : Fin 2 → Nat :=
  let v5166 : Index := Scalar.indexCast v5145
  let c0_2508 : Index := 0#32
  ![v5166.toNat, 0]

def k0_off489 (v5148 : BitVec 32) : Fin 2 → Nat :=
  let v5168 : Index := Scalar.indexCast v5148
  let c0_2509 : Index := 0#32
  ![v5168.toNat, 0]

def k0_off490 (v5151 : BitVec 32) : Fin 2 → Nat :=
  let v5170 : Index := Scalar.indexCast v5151
  let c0_2510 : Index := 0#32
  ![v5170.toNat, 0]

def k0_off491 (v5154 : BitVec 32) : Fin 2 → Nat :=
  let v5172 : Index := Scalar.indexCast v5154
  let c0_2511 : Index := 0#32
  ![v5172.toNat, 0]

def k0_off492 (v5157 : BitVec 32) : Fin 2 → Nat :=
  let v5174 : Index := Scalar.indexCast v5157
  let c0_2512 : Index := 0#32
  ![v5174.toNat, 0]

def k0_off493 (v5160 : BitVec 32) : Fin 2 → Nat :=
  let v5176 : Index := Scalar.indexCast v5160
  let c0_2513 : Index := 0#32
  ![v5176.toNat, 0]

def k0_off494 (v5163 : BitVec 32) : Fin 2 → Nat :=
  let v5178 : Index := Scalar.indexCast v5163
  let c0_2514 : Index := 0#32
  ![v5178.toNat, 0]

def k0_off495 (v5142 : BitVec 32) : Fin 2 → Nat :=
  let c8_i32_2515 : BitVec 32 := 8#32
  let v5180 : BitVec 32 := Scalar.addi v5142 c8_i32_2515
  let v5181 : Index := Scalar.indexCast v5180
  let c0_2516 : Index := 0#32
  ![v5181.toNat, 0]

def k0_chk209 (v5142 : BitVec 32) : Prop :=
  (∀ a, (k0_off487 v5142) a + S8x128.size a ≤ S64512x128.size a) ∧
  (∀ a, (k0_off495 v5142) a + S1x128.size a ≤ S64512x128.size a)
theorem k0_off487_inb : ∀ (v5142 : BitVec 32) (k0_hw209 : k0_chk209 v5142), ∀ a, (k0_off487 v5142) a + S8x128.size a ≤ S64512x128.size a := fun v5142 k0_hw209 => k0_hw209.1
theorem k0_off495_inb : ∀ (v5142 : BitVec 32) (k0_hw209 : k0_chk209 v5142), ∀ a, (k0_off495 v5142) a + S1x128.size a ≤ S64512x128.size a := fun v5142 k0_hw209 => k0_hw209.2

def k0_off496 (v5145 : BitVec 32) : Fin 2 → Nat :=
  let c8_i32_2517 : BitVec 32 := 8#32
  let v5183 : BitVec 32 := Scalar.addi v5145 c8_i32_2517
  let v5184 : Index := Scalar.indexCast v5183
  let c0_2518 : Index := 0#32
  ![v5184.toNat, 0]

def k0_chk210 (v5145 : BitVec 32) : Prop :=
  (∀ a, (k0_off488 v5145) a + S8x128.size a ≤ S64512x128.size a) ∧
  (∀ a, (k0_off496 v5145) a + S1x128.size a ≤ S64512x128.size a)
theorem k0_off488_inb : ∀ (v5145 : BitVec 32) (k0_hw210 : k0_chk210 v5145), ∀ a, (k0_off488 v5145) a + S8x128.size a ≤ S64512x128.size a := fun v5145 k0_hw210 => k0_hw210.1
theorem k0_off496_inb : ∀ (v5145 : BitVec 32) (k0_hw210 : k0_chk210 v5145), ∀ a, (k0_off496 v5145) a + S1x128.size a ≤ S64512x128.size a := fun v5145 k0_hw210 => k0_hw210.2

def k0_off497 (v5148 : BitVec 32) : Fin 2 → Nat :=
  let c8_i32_2519 : BitVec 32 := 8#32
  let v5186 : BitVec 32 := Scalar.addi v5148 c8_i32_2519
  let v5187 : Index := Scalar.indexCast v5186
  let c0_2520 : Index := 0#32
  ![v5187.toNat, 0]

def k0_chk211 (v5148 : BitVec 32) : Prop :=
  (∀ a, (k0_off489 v5148) a + S8x128.size a ≤ S64512x128.size a) ∧
  (∀ a, (k0_off497 v5148) a + S1x128.size a ≤ S64512x128.size a)
theorem k0_off489_inb : ∀ (v5148 : BitVec 32) (k0_hw211 : k0_chk211 v5148), ∀ a, (k0_off489 v5148) a + S8x128.size a ≤ S64512x128.size a := fun v5148 k0_hw211 => k0_hw211.1
theorem k0_off497_inb : ∀ (v5148 : BitVec 32) (k0_hw211 : k0_chk211 v5148), ∀ a, (k0_off497 v5148) a + S1x128.size a ≤ S64512x128.size a := fun v5148 k0_hw211 => k0_hw211.2

def k0_off498 (v5151 : BitVec 32) : Fin 2 → Nat :=
  let c8_i32_2521 : BitVec 32 := 8#32
  let v5189 : BitVec 32 := Scalar.addi v5151 c8_i32_2521
  let v5190 : Index := Scalar.indexCast v5189
  let c0_2522 : Index := 0#32
  ![v5190.toNat, 0]

def k0_chk212 (v5151 : BitVec 32) : Prop :=
  (∀ a, (k0_off490 v5151) a + S8x128.size a ≤ S64512x128.size a) ∧
  (∀ a, (k0_off498 v5151) a + S1x128.size a ≤ S64512x128.size a)
theorem k0_off490_inb : ∀ (v5151 : BitVec 32) (k0_hw212 : k0_chk212 v5151), ∀ a, (k0_off490 v5151) a + S8x128.size a ≤ S64512x128.size a := fun v5151 k0_hw212 => k0_hw212.1
theorem k0_off498_inb : ∀ (v5151 : BitVec 32) (k0_hw212 : k0_chk212 v5151), ∀ a, (k0_off498 v5151) a + S1x128.size a ≤ S64512x128.size a := fun v5151 k0_hw212 => k0_hw212.2

def k0_off499 (v5154 : BitVec 32) : Fin 2 → Nat :=
  let c8_i32_2523 : BitVec 32 := 8#32
  let v5192 : BitVec 32 := Scalar.addi v5154 c8_i32_2523
  let v5193 : Index := Scalar.indexCast v5192
  let c0_2524 : Index := 0#32
  ![v5193.toNat, 0]

def k0_chk213 (v5154 : BitVec 32) : Prop :=
  (∀ a, (k0_off491 v5154) a + S8x128.size a ≤ S64512x128.size a) ∧
  (∀ a, (k0_off499 v5154) a + S1x128.size a ≤ S64512x128.size a)
theorem k0_off491_inb : ∀ (v5154 : BitVec 32) (k0_hw213 : k0_chk213 v5154), ∀ a, (k0_off491 v5154) a + S8x128.size a ≤ S64512x128.size a := fun v5154 k0_hw213 => k0_hw213.1
theorem k0_off499_inb : ∀ (v5154 : BitVec 32) (k0_hw213 : k0_chk213 v5154), ∀ a, (k0_off499 v5154) a + S1x128.size a ≤ S64512x128.size a := fun v5154 k0_hw213 => k0_hw213.2

def k0_off500 (v5157 : BitVec 32) : Fin 2 → Nat :=
  let c8_i32_2525 : BitVec 32 := 8#32
  let v5195 : BitVec 32 := Scalar.addi v5157 c8_i32_2525
  let v5196 : Index := Scalar.indexCast v5195
  let c0_2526 : Index := 0#32
  ![v5196.toNat, 0]

def k0_chk214 (v5157 : BitVec 32) : Prop :=
  (∀ a, (k0_off492 v5157) a + S8x128.size a ≤ S64512x128.size a) ∧
  (∀ a, (k0_off500 v5157) a + S1x128.size a ≤ S64512x128.size a)
theorem k0_off492_inb : ∀ (v5157 : BitVec 32) (k0_hw214 : k0_chk214 v5157), ∀ a, (k0_off492 v5157) a + S8x128.size a ≤ S64512x128.size a := fun v5157 k0_hw214 => k0_hw214.1
theorem k0_off500_inb : ∀ (v5157 : BitVec 32) (k0_hw214 : k0_chk214 v5157), ∀ a, (k0_off500 v5157) a + S1x128.size a ≤ S64512x128.size a := fun v5157 k0_hw214 => k0_hw214.2

def k0_off501 (v5160 : BitVec 32) : Fin 2 → Nat :=
  let c8_i32_2527 : BitVec 32 := 8#32
  let v5198 : BitVec 32 := Scalar.addi v5160 c8_i32_2527
  let v5199 : Index := Scalar.indexCast v5198
  let c0_2528 : Index := 0#32
  ![v5199.toNat, 0]

def k0_chk215 (v5160 : BitVec 32) : Prop :=
  (∀ a, (k0_off493 v5160) a + S8x128.size a ≤ S64512x128.size a) ∧
  (∀ a, (k0_off501 v5160) a + S1x128.size a ≤ S64512x128.size a)
theorem k0_off493_inb : ∀ (v5160 : BitVec 32) (k0_hw215 : k0_chk215 v5160), ∀ a, (k0_off493 v5160) a + S8x128.size a ≤ S64512x128.size a := fun v5160 k0_hw215 => k0_hw215.1
theorem k0_off501_inb : ∀ (v5160 : BitVec 32) (k0_hw215 : k0_chk215 v5160), ∀ a, (k0_off501 v5160) a + S1x128.size a ≤ S64512x128.size a := fun v5160 k0_hw215 => k0_hw215.2

def k0_off502 (v5163 : BitVec 32) : Fin 2 → Nat :=
  let c8_i32_2529 : BitVec 32 := 8#32
  let v5201 : BitVec 32 := Scalar.addi v5163 c8_i32_2529
  let v5202 : Index := Scalar.indexCast v5201
  let c0_2530 : Index := 0#32
  ![v5202.toNat, 0]

def k0_chk216 (v5163 : BitVec 32) : Prop :=
  (∀ a, (k0_off494 v5163) a + S8x128.size a ≤ S64512x128.size a) ∧
  (∀ a, (k0_off502 v5163) a + S1x128.size a ≤ S64512x128.size a)
theorem k0_off494_inb : ∀ (v5163 : BitVec 32) (k0_hw216 : k0_chk216 v5163), ∀ a, (k0_off494 v5163) a + S8x128.size a ≤ S64512x128.size a := fun v5163 k0_hw216 => k0_hw216.1
theorem k0_off502_inb : ∀ (v5163 : BitVec 32) (k0_hw216 : k0_chk216 v5163), ∀ a, (k0_off502 v5163) a + S1x128.size a ≤ S64512x128.size a := fun v5163 k0_hw216 => k0_hw216.2

def k0_off503 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v5325 : Index := Scalar.indexCast v3240
  let c0_2575 : Index := 0#32
  ![v5325.toNat, 0]
def k0_off504 (v5326 : BitVec 32) : Fin 2 → Nat :=
  let v5348 : Index := Scalar.indexCast v5326
  let c0_2597 : Index := 0#32
  ![v5348.toNat, 0]

def k0_off505 (v5329 : BitVec 32) : Fin 2 → Nat :=
  let v5350 : Index := Scalar.indexCast v5329
  let c0_2598 : Index := 0#32
  ![v5350.toNat, 0]

def k0_off506 (v5332 : BitVec 32) : Fin 2 → Nat :=
  let v5352 : Index := Scalar.indexCast v5332
  let c0_2599 : Index := 0#32
  ![v5352.toNat, 0]

def k0_off507 (v5335 : BitVec 32) : Fin 2 → Nat :=
  let v5354 : Index := Scalar.indexCast v5335
  let c0_2600 : Index := 0#32
  ![v5354.toNat, 0]

def k0_off508 (v5338 : BitVec 32) : Fin 2 → Nat :=
  let v5356 : Index := Scalar.indexCast v5338
  let c0_2601 : Index := 0#32
  ![v5356.toNat, 0]

def k0_off509 (v5341 : BitVec 32) : Fin 2 → Nat :=
  let v5358 : Index := Scalar.indexCast v5341
  let c0_2602 : Index := 0#32
  ![v5358.toNat, 0]

def k0_off510 (v5344 : BitVec 32) : Fin 2 → Nat :=
  let v5360 : Index := Scalar.indexCast v5344
  let c0_2603 : Index := 0#32
  ![v5360.toNat, 0]

def k0_off511 (v5347 : BitVec 32) : Fin 2 → Nat :=
  let v5362 : Index := Scalar.indexCast v5347
  let c0_2604 : Index := 0#32
  ![v5362.toNat, 0]

def k0_off512 (v5326 : BitVec 32) : Fin 2 → Nat :=
  let c8_i32_2605 : BitVec 32 := 8#32
  let v5364 : BitVec 32 := Scalar.addi v5326 c8_i32_2605
  let v5365 : Index := Scalar.indexCast v5364
  let c0_2606 : Index := 0#32
  ![v5365.toNat, 0]

def k0_chk217 (v5326 : BitVec 32) : Prop :=
  (∀ a, (k0_off504 v5326) a + S8x128.size a ≤ S64512x128.size a) ∧
  (∀ a, (k0_off512 v5326) a + S1x128.size a ≤ S64512x128.size a)
theorem k0_off504_inb : ∀ (v5326 : BitVec 32) (k0_hw217 : k0_chk217 v5326), ∀ a, (k0_off504 v5326) a + S8x128.size a ≤ S64512x128.size a := fun v5326 k0_hw217 => k0_hw217.1
theorem k0_off512_inb : ∀ (v5326 : BitVec 32) (k0_hw217 : k0_chk217 v5326), ∀ a, (k0_off512 v5326) a + S1x128.size a ≤ S64512x128.size a := fun v5326 k0_hw217 => k0_hw217.2

def k0_off513 (v5329 : BitVec 32) : Fin 2 → Nat :=
  let c8_i32_2607 : BitVec 32 := 8#32
  let v5367 : BitVec 32 := Scalar.addi v5329 c8_i32_2607
  let v5368 : Index := Scalar.indexCast v5367
  let c0_2608 : Index := 0#32
  ![v5368.toNat, 0]

def k0_chk218 (v5329 : BitVec 32) : Prop :=
  (∀ a, (k0_off505 v5329) a + S8x128.size a ≤ S64512x128.size a) ∧
  (∀ a, (k0_off513 v5329) a + S1x128.size a ≤ S64512x128.size a)
theorem k0_off505_inb : ∀ (v5329 : BitVec 32) (k0_hw218 : k0_chk218 v5329), ∀ a, (k0_off505 v5329) a + S8x128.size a ≤ S64512x128.size a := fun v5329 k0_hw218 => k0_hw218.1
theorem k0_off513_inb : ∀ (v5329 : BitVec 32) (k0_hw218 : k0_chk218 v5329), ∀ a, (k0_off513 v5329) a + S1x128.size a ≤ S64512x128.size a := fun v5329 k0_hw218 => k0_hw218.2

def k0_off514 (v5332 : BitVec 32) : Fin 2 → Nat :=
  let c8_i32_2609 : BitVec 32 := 8#32
  let v5370 : BitVec 32 := Scalar.addi v5332 c8_i32_2609
  let v5371 : Index := Scalar.indexCast v5370
  let c0_2610 : Index := 0#32
  ![v5371.toNat, 0]

def k0_chk219 (v5332 : BitVec 32) : Prop :=
  (∀ a, (k0_off506 v5332) a + S8x128.size a ≤ S64512x128.size a) ∧
  (∀ a, (k0_off514 v5332) a + S1x128.size a ≤ S64512x128.size a)
theorem k0_off506_inb : ∀ (v5332 : BitVec 32) (k0_hw219 : k0_chk219 v5332), ∀ a, (k0_off506 v5332) a + S8x128.size a ≤ S64512x128.size a := fun v5332 k0_hw219 => k0_hw219.1
theorem k0_off514_inb : ∀ (v5332 : BitVec 32) (k0_hw219 : k0_chk219 v5332), ∀ a, (k0_off514 v5332) a + S1x128.size a ≤ S64512x128.size a := fun v5332 k0_hw219 => k0_hw219.2

def k0_off515 (v5335 : BitVec 32) : Fin 2 → Nat :=
  let c8_i32_2611 : BitVec 32 := 8#32
  let v5373 : BitVec 32 := Scalar.addi v5335 c8_i32_2611
  let v5374 : Index := Scalar.indexCast v5373
  let c0_2612 : Index := 0#32
  ![v5374.toNat, 0]

def k0_chk220 (v5335 : BitVec 32) : Prop :=
  (∀ a, (k0_off507 v5335) a + S8x128.size a ≤ S64512x128.size a) ∧
  (∀ a, (k0_off515 v5335) a + S1x128.size a ≤ S64512x128.size a)
theorem k0_off507_inb : ∀ (v5335 : BitVec 32) (k0_hw220 : k0_chk220 v5335), ∀ a, (k0_off507 v5335) a + S8x128.size a ≤ S64512x128.size a := fun v5335 k0_hw220 => k0_hw220.1
theorem k0_off515_inb : ∀ (v5335 : BitVec 32) (k0_hw220 : k0_chk220 v5335), ∀ a, (k0_off515 v5335) a + S1x128.size a ≤ S64512x128.size a := fun v5335 k0_hw220 => k0_hw220.2

def k0_off516 (v5338 : BitVec 32) : Fin 2 → Nat :=
  let c8_i32_2613 : BitVec 32 := 8#32
  let v5376 : BitVec 32 := Scalar.addi v5338 c8_i32_2613
  let v5377 : Index := Scalar.indexCast v5376
  let c0_2614 : Index := 0#32
  ![v5377.toNat, 0]

def k0_chk221 (v5338 : BitVec 32) : Prop :=
  (∀ a, (k0_off508 v5338) a + S8x128.size a ≤ S64512x128.size a) ∧
  (∀ a, (k0_off516 v5338) a + S1x128.size a ≤ S64512x128.size a)
theorem k0_off508_inb : ∀ (v5338 : BitVec 32) (k0_hw221 : k0_chk221 v5338), ∀ a, (k0_off508 v5338) a + S8x128.size a ≤ S64512x128.size a := fun v5338 k0_hw221 => k0_hw221.1
theorem k0_off516_inb : ∀ (v5338 : BitVec 32) (k0_hw221 : k0_chk221 v5338), ∀ a, (k0_off516 v5338) a + S1x128.size a ≤ S64512x128.size a := fun v5338 k0_hw221 => k0_hw221.2

def k0_off517 (v5341 : BitVec 32) : Fin 2 → Nat :=
  let c8_i32_2615 : BitVec 32 := 8#32
  let v5379 : BitVec 32 := Scalar.addi v5341 c8_i32_2615
  let v5380 : Index := Scalar.indexCast v5379
  let c0_2616 : Index := 0#32
  ![v5380.toNat, 0]

def k0_chk222 (v5341 : BitVec 32) : Prop :=
  (∀ a, (k0_off509 v5341) a + S8x128.size a ≤ S64512x128.size a) ∧
  (∀ a, (k0_off517 v5341) a + S1x128.size a ≤ S64512x128.size a)
theorem k0_off509_inb : ∀ (v5341 : BitVec 32) (k0_hw222 : k0_chk222 v5341), ∀ a, (k0_off509 v5341) a + S8x128.size a ≤ S64512x128.size a := fun v5341 k0_hw222 => k0_hw222.1
theorem k0_off517_inb : ∀ (v5341 : BitVec 32) (k0_hw222 : k0_chk222 v5341), ∀ a, (k0_off517 v5341) a + S1x128.size a ≤ S64512x128.size a := fun v5341 k0_hw222 => k0_hw222.2

def k0_off518 (v5344 : BitVec 32) : Fin 2 → Nat :=
  let c8_i32_2617 : BitVec 32 := 8#32
  let v5382 : BitVec 32 := Scalar.addi v5344 c8_i32_2617
  let v5383 : Index := Scalar.indexCast v5382
  let c0_2618 : Index := 0#32
  ![v5383.toNat, 0]

def k0_chk223 (v5344 : BitVec 32) : Prop :=
  (∀ a, (k0_off510 v5344) a + S8x128.size a ≤ S64512x128.size a) ∧
  (∀ a, (k0_off518 v5344) a + S1x128.size a ≤ S64512x128.size a)
theorem k0_off510_inb : ∀ (v5344 : BitVec 32) (k0_hw223 : k0_chk223 v5344), ∀ a, (k0_off510 v5344) a + S8x128.size a ≤ S64512x128.size a := fun v5344 k0_hw223 => k0_hw223.1
theorem k0_off518_inb : ∀ (v5344 : BitVec 32) (k0_hw223 : k0_chk223 v5344), ∀ a, (k0_off518 v5344) a + S1x128.size a ≤ S64512x128.size a := fun v5344 k0_hw223 => k0_hw223.2

def k0_off519 (v5347 : BitVec 32) : Fin 2 → Nat :=
  let c8_i32_2619 : BitVec 32 := 8#32
  let v5385 : BitVec 32 := Scalar.addi v5347 c8_i32_2619
  let v5386 : Index := Scalar.indexCast v5385
  let c0_2620 : Index := 0#32
  ![v5386.toNat, 0]

def k0_chk224 (v5347 : BitVec 32) : Prop :=
  (∀ a, (k0_off511 v5347) a + S8x128.size a ≤ S64512x128.size a) ∧
  (∀ a, (k0_off519 v5347) a + S1x128.size a ≤ S64512x128.size a)
theorem k0_off511_inb : ∀ (v5347 : BitVec 32) (k0_hw224 : k0_chk224 v5347), ∀ a, (k0_off511 v5347) a + S8x128.size a ≤ S64512x128.size a := fun v5347 k0_hw224 => k0_hw224.1
theorem k0_off519_inb : ∀ (v5347 : BitVec 32) (k0_hw224 : k0_chk224 v5347), ∀ a, (k0_off519 v5347) a + S1x128.size a ≤ S64512x128.size a := fun v5347 k0_hw224 => k0_hw224.2

def k0_off520 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v5509 : Index := Scalar.indexCast v3240
  let c0_2665 : Index := 0#32
  ![v5509.toNat, 0]
def k0_off521 (v5510 : BitVec 32) : Fin 2 → Nat :=
  let v5532 : Index := Scalar.indexCast v5510
  let c0_2687 : Index := 0#32
  ![v5532.toNat, 0]

def k0_off522 (v5513 : BitVec 32) : Fin 2 → Nat :=
  let v5534 : Index := Scalar.indexCast v5513
  let c0_2688 : Index := 0#32
  ![v5534.toNat, 0]

def k0_off523 (v5516 : BitVec 32) : Fin 2 → Nat :=
  let v5536 : Index := Scalar.indexCast v5516
  let c0_2689 : Index := 0#32
  ![v5536.toNat, 0]

def k0_off524 (v5519 : BitVec 32) : Fin 2 → Nat :=
  let v5538 : Index := Scalar.indexCast v5519
  let c0_2690 : Index := 0#32
  ![v5538.toNat, 0]

def k0_off525 (v5522 : BitVec 32) : Fin 2 → Nat :=
  let v5540 : Index := Scalar.indexCast v5522
  let c0_2691 : Index := 0#32
  ![v5540.toNat, 0]

def k0_off526 (v5525 : BitVec 32) : Fin 2 → Nat :=
  let v5542 : Index := Scalar.indexCast v5525
  let c0_2692 : Index := 0#32
  ![v5542.toNat, 0]

def k0_off527 (v5528 : BitVec 32) : Fin 2 → Nat :=
  let v5544 : Index := Scalar.indexCast v5528
  let c0_2693 : Index := 0#32
  ![v5544.toNat, 0]

def k0_off528 (v5531 : BitVec 32) : Fin 2 → Nat :=
  let v5546 : Index := Scalar.indexCast v5531
  let c0_2694 : Index := 0#32
  ![v5546.toNat, 0]

def k0_off529 (v5510 : BitVec 32) : Fin 2 → Nat :=
  let c8_i32_2695 : BitVec 32 := 8#32
  let v5548 : BitVec 32 := Scalar.addi v5510 c8_i32_2695
  let v5549 : Index := Scalar.indexCast v5548
  let c0_2696 : Index := 0#32
  ![v5549.toNat, 0]

def k0_chk225 (v5510 : BitVec 32) : Prop :=
  (∀ a, (k0_off521 v5510) a + S8x128.size a ≤ S64512x128.size a) ∧
  (∀ a, (k0_off529 v5510) a + S1x128.size a ≤ S64512x128.size a)
theorem k0_off521_inb : ∀ (v5510 : BitVec 32) (k0_hw225 : k0_chk225 v5510), ∀ a, (k0_off521 v5510) a + S8x128.size a ≤ S64512x128.size a := fun v5510 k0_hw225 => k0_hw225.1
theorem k0_off529_inb : ∀ (v5510 : BitVec 32) (k0_hw225 : k0_chk225 v5510), ∀ a, (k0_off529 v5510) a + S1x128.size a ≤ S64512x128.size a := fun v5510 k0_hw225 => k0_hw225.2

def k0_off530 (v5513 : BitVec 32) : Fin 2 → Nat :=
  let c8_i32_2697 : BitVec 32 := 8#32
  let v5551 : BitVec 32 := Scalar.addi v5513 c8_i32_2697
  let v5552 : Index := Scalar.indexCast v5551
  let c0_2698 : Index := 0#32
  ![v5552.toNat, 0]

def k0_chk226 (v5513 : BitVec 32) : Prop :=
  (∀ a, (k0_off522 v5513) a + S8x128.size a ≤ S64512x128.size a) ∧
  (∀ a, (k0_off530 v5513) a + S1x128.size a ≤ S64512x128.size a)
theorem k0_off522_inb : ∀ (v5513 : BitVec 32) (k0_hw226 : k0_chk226 v5513), ∀ a, (k0_off522 v5513) a + S8x128.size a ≤ S64512x128.size a := fun v5513 k0_hw226 => k0_hw226.1
theorem k0_off530_inb : ∀ (v5513 : BitVec 32) (k0_hw226 : k0_chk226 v5513), ∀ a, (k0_off530 v5513) a + S1x128.size a ≤ S64512x128.size a := fun v5513 k0_hw226 => k0_hw226.2

def k0_off531 (v5516 : BitVec 32) : Fin 2 → Nat :=
  let c8_i32_2699 : BitVec 32 := 8#32
  let v5554 : BitVec 32 := Scalar.addi v5516 c8_i32_2699
  let v5555 : Index := Scalar.indexCast v5554
  let c0_2700 : Index := 0#32
  ![v5555.toNat, 0]

def k0_chk227 (v5516 : BitVec 32) : Prop :=
  (∀ a, (k0_off523 v5516) a + S8x128.size a ≤ S64512x128.size a) ∧
  (∀ a, (k0_off531 v5516) a + S1x128.size a ≤ S64512x128.size a)
theorem k0_off523_inb : ∀ (v5516 : BitVec 32) (k0_hw227 : k0_chk227 v5516), ∀ a, (k0_off523 v5516) a + S8x128.size a ≤ S64512x128.size a := fun v5516 k0_hw227 => k0_hw227.1
theorem k0_off531_inb : ∀ (v5516 : BitVec 32) (k0_hw227 : k0_chk227 v5516), ∀ a, (k0_off531 v5516) a + S1x128.size a ≤ S64512x128.size a := fun v5516 k0_hw227 => k0_hw227.2

def k0_off532 (v5519 : BitVec 32) : Fin 2 → Nat :=
  let c8_i32_2701 : BitVec 32 := 8#32
  let v5557 : BitVec 32 := Scalar.addi v5519 c8_i32_2701
  let v5558 : Index := Scalar.indexCast v5557
  let c0_2702 : Index := 0#32
  ![v5558.toNat, 0]

def k0_chk228 (v5519 : BitVec 32) : Prop :=
  (∀ a, (k0_off524 v5519) a + S8x128.size a ≤ S64512x128.size a) ∧
  (∀ a, (k0_off532 v5519) a + S1x128.size a ≤ S64512x128.size a)
theorem k0_off524_inb : ∀ (v5519 : BitVec 32) (k0_hw228 : k0_chk228 v5519), ∀ a, (k0_off524 v5519) a + S8x128.size a ≤ S64512x128.size a := fun v5519 k0_hw228 => k0_hw228.1
theorem k0_off532_inb : ∀ (v5519 : BitVec 32) (k0_hw228 : k0_chk228 v5519), ∀ a, (k0_off532 v5519) a + S1x128.size a ≤ S64512x128.size a := fun v5519 k0_hw228 => k0_hw228.2

def k0_off533 (v5522 : BitVec 32) : Fin 2 → Nat :=
  let c8_i32_2703 : BitVec 32 := 8#32
  let v5560 : BitVec 32 := Scalar.addi v5522 c8_i32_2703
  let v5561 : Index := Scalar.indexCast v5560
  let c0_2704 : Index := 0#32
  ![v5561.toNat, 0]

def k0_chk229 (v5522 : BitVec 32) : Prop :=
  (∀ a, (k0_off525 v5522) a + S8x128.size a ≤ S64512x128.size a) ∧
  (∀ a, (k0_off533 v5522) a + S1x128.size a ≤ S64512x128.size a)
theorem k0_off525_inb : ∀ (v5522 : BitVec 32) (k0_hw229 : k0_chk229 v5522), ∀ a, (k0_off525 v5522) a + S8x128.size a ≤ S64512x128.size a := fun v5522 k0_hw229 => k0_hw229.1
theorem k0_off533_inb : ∀ (v5522 : BitVec 32) (k0_hw229 : k0_chk229 v5522), ∀ a, (k0_off533 v5522) a + S1x128.size a ≤ S64512x128.size a := fun v5522 k0_hw229 => k0_hw229.2

def k0_off534 (v5525 : BitVec 32) : Fin 2 → Nat :=
  let c8_i32_2705 : BitVec 32 := 8#32
  let v5563 : BitVec 32 := Scalar.addi v5525 c8_i32_2705
  let v5564 : Index := Scalar.indexCast v5563
  let c0_2706 : Index := 0#32
  ![v5564.toNat, 0]

def k0_chk230 (v5525 : BitVec 32) : Prop :=
  (∀ a, (k0_off526 v5525) a + S8x128.size a ≤ S64512x128.size a) ∧
  (∀ a, (k0_off534 v5525) a + S1x128.size a ≤ S64512x128.size a)
theorem k0_off526_inb : ∀ (v5525 : BitVec 32) (k0_hw230 : k0_chk230 v5525), ∀ a, (k0_off526 v5525) a + S8x128.size a ≤ S64512x128.size a := fun v5525 k0_hw230 => k0_hw230.1
theorem k0_off534_inb : ∀ (v5525 : BitVec 32) (k0_hw230 : k0_chk230 v5525), ∀ a, (k0_off534 v5525) a + S1x128.size a ≤ S64512x128.size a := fun v5525 k0_hw230 => k0_hw230.2

def k0_off535 (v5528 : BitVec 32) : Fin 2 → Nat :=
  let c8_i32_2707 : BitVec 32 := 8#32
  let v5566 : BitVec 32 := Scalar.addi v5528 c8_i32_2707
  let v5567 : Index := Scalar.indexCast v5566
  let c0_2708 : Index := 0#32
  ![v5567.toNat, 0]

def k0_chk231 (v5528 : BitVec 32) : Prop :=
  (∀ a, (k0_off527 v5528) a + S8x128.size a ≤ S64512x128.size a) ∧
  (∀ a, (k0_off535 v5528) a + S1x128.size a ≤ S64512x128.size a)
theorem k0_off527_inb : ∀ (v5528 : BitVec 32) (k0_hw231 : k0_chk231 v5528), ∀ a, (k0_off527 v5528) a + S8x128.size a ≤ S64512x128.size a := fun v5528 k0_hw231 => k0_hw231.1
theorem k0_off535_inb : ∀ (v5528 : BitVec 32) (k0_hw231 : k0_chk231 v5528), ∀ a, (k0_off535 v5528) a + S1x128.size a ≤ S64512x128.size a := fun v5528 k0_hw231 => k0_hw231.2

def k0_off536 (v5531 : BitVec 32) : Fin 2 → Nat :=
  let c8_i32_2709 : BitVec 32 := 8#32
  let v5569 : BitVec 32 := Scalar.addi v5531 c8_i32_2709
  let v5570 : Index := Scalar.indexCast v5569
  let c0_2710 : Index := 0#32
  ![v5570.toNat, 0]

def k0_chk232 (v5531 : BitVec 32) : Prop :=
  (∀ a, (k0_off528 v5531) a + S8x128.size a ≤ S64512x128.size a) ∧
  (∀ a, (k0_off536 v5531) a + S1x128.size a ≤ S64512x128.size a)
theorem k0_off528_inb : ∀ (v5531 : BitVec 32) (k0_hw232 : k0_chk232 v5531), ∀ a, (k0_off528 v5531) a + S8x128.size a ≤ S64512x128.size a := fun v5531 k0_hw232 => k0_hw232.1
theorem k0_off536_inb : ∀ (v5531 : BitVec 32) (k0_hw232 : k0_chk232 v5531), ∀ a, (k0_off536 v5531) a + S1x128.size a ≤ S64512x128.size a := fun v5531 k0_hw232 => k0_hw232.2

def k0_off537 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v5693 : Index := Scalar.indexCast v3240
  let c0_2755 : Index := 0#32
  ![v5693.toNat, 0]
def k0_off538 (v5694 : BitVec 32) : Fin 2 → Nat :=
  let v5716 : Index := Scalar.indexCast v5694
  let c0_2777 : Index := 0#32
  ![v5716.toNat, 0]

def k0_off539 (v5697 : BitVec 32) : Fin 2 → Nat :=
  let v5718 : Index := Scalar.indexCast v5697
  let c0_2778 : Index := 0#32
  ![v5718.toNat, 0]

def k0_off540 (v5700 : BitVec 32) : Fin 2 → Nat :=
  let v5720 : Index := Scalar.indexCast v5700
  let c0_2779 : Index := 0#32
  ![v5720.toNat, 0]

def k0_off541 (v5703 : BitVec 32) : Fin 2 → Nat :=
  let v5722 : Index := Scalar.indexCast v5703
  let c0_2780 : Index := 0#32
  ![v5722.toNat, 0]

def k0_off542 (v5706 : BitVec 32) : Fin 2 → Nat :=
  let v5724 : Index := Scalar.indexCast v5706
  let c0_2781 : Index := 0#32
  ![v5724.toNat, 0]

def k0_off543 (v5709 : BitVec 32) : Fin 2 → Nat :=
  let v5726 : Index := Scalar.indexCast v5709
  let c0_2782 : Index := 0#32
  ![v5726.toNat, 0]

def k0_off544 (v5712 : BitVec 32) : Fin 2 → Nat :=
  let v5728 : Index := Scalar.indexCast v5712
  let c0_2783 : Index := 0#32
  ![v5728.toNat, 0]

def k0_off545 (v5715 : BitVec 32) : Fin 2 → Nat :=
  let v5730 : Index := Scalar.indexCast v5715
  let c0_2784 : Index := 0#32
  ![v5730.toNat, 0]

def k0_off546 (v5694 : BitVec 32) : Fin 2 → Nat :=
  let c8_i32_2785 : BitVec 32 := 8#32
  let v5732 : BitVec 32 := Scalar.addi v5694 c8_i32_2785
  let v5733 : Index := Scalar.indexCast v5732
  let c0_2786 : Index := 0#32
  ![v5733.toNat, 0]

def k0_chk233 (v5694 : BitVec 32) : Prop :=
  (∀ a, (k0_off538 v5694) a + S8x128.size a ≤ S64512x128.size a) ∧
  (∀ a, (k0_off546 v5694) a + S1x128.size a ≤ S64512x128.size a)
theorem k0_off538_inb : ∀ (v5694 : BitVec 32) (k0_hw233 : k0_chk233 v5694), ∀ a, (k0_off538 v5694) a + S8x128.size a ≤ S64512x128.size a := fun v5694 k0_hw233 => k0_hw233.1
theorem k0_off546_inb : ∀ (v5694 : BitVec 32) (k0_hw233 : k0_chk233 v5694), ∀ a, (k0_off546 v5694) a + S1x128.size a ≤ S64512x128.size a := fun v5694 k0_hw233 => k0_hw233.2

def k0_off547 (v5697 : BitVec 32) : Fin 2 → Nat :=
  let c8_i32_2787 : BitVec 32 := 8#32
  let v5735 : BitVec 32 := Scalar.addi v5697 c8_i32_2787
  let v5736 : Index := Scalar.indexCast v5735
  let c0_2788 : Index := 0#32
  ![v5736.toNat, 0]

def k0_chk234 (v5697 : BitVec 32) : Prop :=
  (∀ a, (k0_off539 v5697) a + S8x128.size a ≤ S64512x128.size a) ∧
  (∀ a, (k0_off547 v5697) a + S1x128.size a ≤ S64512x128.size a)
theorem k0_off539_inb : ∀ (v5697 : BitVec 32) (k0_hw234 : k0_chk234 v5697), ∀ a, (k0_off539 v5697) a + S8x128.size a ≤ S64512x128.size a := fun v5697 k0_hw234 => k0_hw234.1
theorem k0_off547_inb : ∀ (v5697 : BitVec 32) (k0_hw234 : k0_chk234 v5697), ∀ a, (k0_off547 v5697) a + S1x128.size a ≤ S64512x128.size a := fun v5697 k0_hw234 => k0_hw234.2

def k0_off548 (v5700 : BitVec 32) : Fin 2 → Nat :=
  let c8_i32_2789 : BitVec 32 := 8#32
  let v5738 : BitVec 32 := Scalar.addi v5700 c8_i32_2789
  let v5739 : Index := Scalar.indexCast v5738
  let c0_2790 : Index := 0#32
  ![v5739.toNat, 0]

def k0_chk235 (v5700 : BitVec 32) : Prop :=
  (∀ a, (k0_off540 v5700) a + S8x128.size a ≤ S64512x128.size a) ∧
  (∀ a, (k0_off548 v5700) a + S1x128.size a ≤ S64512x128.size a)
theorem k0_off540_inb : ∀ (v5700 : BitVec 32) (k0_hw235 : k0_chk235 v5700), ∀ a, (k0_off540 v5700) a + S8x128.size a ≤ S64512x128.size a := fun v5700 k0_hw235 => k0_hw235.1
theorem k0_off548_inb : ∀ (v5700 : BitVec 32) (k0_hw235 : k0_chk235 v5700), ∀ a, (k0_off548 v5700) a + S1x128.size a ≤ S64512x128.size a := fun v5700 k0_hw235 => k0_hw235.2

def k0_off549 (v5703 : BitVec 32) : Fin 2 → Nat :=
  let c8_i32_2791 : BitVec 32 := 8#32
  let v5741 : BitVec 32 := Scalar.addi v5703 c8_i32_2791
  let v5742 : Index := Scalar.indexCast v5741
  let c0_2792 : Index := 0#32
  ![v5742.toNat, 0]

def k0_chk236 (v5703 : BitVec 32) : Prop :=
  (∀ a, (k0_off541 v5703) a + S8x128.size a ≤ S64512x128.size a) ∧
  (∀ a, (k0_off549 v5703) a + S1x128.size a ≤ S64512x128.size a)
theorem k0_off541_inb : ∀ (v5703 : BitVec 32) (k0_hw236 : k0_chk236 v5703), ∀ a, (k0_off541 v5703) a + S8x128.size a ≤ S64512x128.size a := fun v5703 k0_hw236 => k0_hw236.1
theorem k0_off549_inb : ∀ (v5703 : BitVec 32) (k0_hw236 : k0_chk236 v5703), ∀ a, (k0_off549 v5703) a + S1x128.size a ≤ S64512x128.size a := fun v5703 k0_hw236 => k0_hw236.2

def k0_off550 (v5706 : BitVec 32) : Fin 2 → Nat :=
  let c8_i32_2793 : BitVec 32 := 8#32
  let v5744 : BitVec 32 := Scalar.addi v5706 c8_i32_2793
  let v5745 : Index := Scalar.indexCast v5744
  let c0_2794 : Index := 0#32
  ![v5745.toNat, 0]

def k0_chk237 (v5706 : BitVec 32) : Prop :=
  (∀ a, (k0_off542 v5706) a + S8x128.size a ≤ S64512x128.size a) ∧
  (∀ a, (k0_off550 v5706) a + S1x128.size a ≤ S64512x128.size a)
theorem k0_off542_inb : ∀ (v5706 : BitVec 32) (k0_hw237 : k0_chk237 v5706), ∀ a, (k0_off542 v5706) a + S8x128.size a ≤ S64512x128.size a := fun v5706 k0_hw237 => k0_hw237.1
theorem k0_off550_inb : ∀ (v5706 : BitVec 32) (k0_hw237 : k0_chk237 v5706), ∀ a, (k0_off550 v5706) a + S1x128.size a ≤ S64512x128.size a := fun v5706 k0_hw237 => k0_hw237.2

def k0_off551 (v5709 : BitVec 32) : Fin 2 → Nat :=
  let c8_i32_2795 : BitVec 32 := 8#32
  let v5747 : BitVec 32 := Scalar.addi v5709 c8_i32_2795
  let v5748 : Index := Scalar.indexCast v5747
  let c0_2796 : Index := 0#32
  ![v5748.toNat, 0]

def k0_chk238 (v5709 : BitVec 32) : Prop :=
  (∀ a, (k0_off543 v5709) a + S8x128.size a ≤ S64512x128.size a) ∧
  (∀ a, (k0_off551 v5709) a + S1x128.size a ≤ S64512x128.size a)
theorem k0_off543_inb : ∀ (v5709 : BitVec 32) (k0_hw238 : k0_chk238 v5709), ∀ a, (k0_off543 v5709) a + S8x128.size a ≤ S64512x128.size a := fun v5709 k0_hw238 => k0_hw238.1
theorem k0_off551_inb : ∀ (v5709 : BitVec 32) (k0_hw238 : k0_chk238 v5709), ∀ a, (k0_off551 v5709) a + S1x128.size a ≤ S64512x128.size a := fun v5709 k0_hw238 => k0_hw238.2

def k0_off552 (v5712 : BitVec 32) : Fin 2 → Nat :=
  let c8_i32_2797 : BitVec 32 := 8#32
  let v5750 : BitVec 32 := Scalar.addi v5712 c8_i32_2797
  let v5751 : Index := Scalar.indexCast v5750
  let c0_2798 : Index := 0#32
  ![v5751.toNat, 0]

def k0_chk239 (v5712 : BitVec 32) : Prop :=
  (∀ a, (k0_off544 v5712) a + S8x128.size a ≤ S64512x128.size a) ∧
  (∀ a, (k0_off552 v5712) a + S1x128.size a ≤ S64512x128.size a)
theorem k0_off544_inb : ∀ (v5712 : BitVec 32) (k0_hw239 : k0_chk239 v5712), ∀ a, (k0_off544 v5712) a + S8x128.size a ≤ S64512x128.size a := fun v5712 k0_hw239 => k0_hw239.1
theorem k0_off552_inb : ∀ (v5712 : BitVec 32) (k0_hw239 : k0_chk239 v5712), ∀ a, (k0_off552 v5712) a + S1x128.size a ≤ S64512x128.size a := fun v5712 k0_hw239 => k0_hw239.2

def k0_off553 (v5715 : BitVec 32) : Fin 2 → Nat :=
  let c8_i32_2799 : BitVec 32 := 8#32
  let v5753 : BitVec 32 := Scalar.addi v5715 c8_i32_2799
  let v5754 : Index := Scalar.indexCast v5753
  let c0_2800 : Index := 0#32
  ![v5754.toNat, 0]

def k0_chk240 (v5715 : BitVec 32) : Prop :=
  (∀ a, (k0_off545 v5715) a + S8x128.size a ≤ S64512x128.size a) ∧
  (∀ a, (k0_off553 v5715) a + S1x128.size a ≤ S64512x128.size a)
theorem k0_off545_inb : ∀ (v5715 : BitVec 32) (k0_hw240 : k0_chk240 v5715), ∀ a, (k0_off545 v5715) a + S8x128.size a ≤ S64512x128.size a := fun v5715 k0_hw240 => k0_hw240.1
theorem k0_off553_inb : ∀ (v5715 : BitVec 32) (k0_hw240 : k0_chk240 v5715), ∀ a, (k0_off553 v5715) a + S1x128.size a ≤ S64512x128.size a := fun v5715 k0_hw240 => k0_hw240.2

def k0_off554 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v5877 : Index := Scalar.indexCast v3240
  let c0_2845 : Index := 0#32
  ![v5877.toNat, 0]
def k0_off555 (v5878 : BitVec 32) : Fin 2 → Nat :=
  let v5900 : Index := Scalar.indexCast v5878
  let c0_2867 : Index := 0#32
  ![v5900.toNat, 0]

def k0_off556 (v5881 : BitVec 32) : Fin 2 → Nat :=
  let v5902 : Index := Scalar.indexCast v5881
  let c0_2868 : Index := 0#32
  ![v5902.toNat, 0]

def k0_off557 (v5884 : BitVec 32) : Fin 2 → Nat :=
  let v5904 : Index := Scalar.indexCast v5884
  let c0_2869 : Index := 0#32
  ![v5904.toNat, 0]

def k0_off558 (v5887 : BitVec 32) : Fin 2 → Nat :=
  let v5906 : Index := Scalar.indexCast v5887
  let c0_2870 : Index := 0#32
  ![v5906.toNat, 0]

def k0_off559 (v5890 : BitVec 32) : Fin 2 → Nat :=
  let v5908 : Index := Scalar.indexCast v5890
  let c0_2871 : Index := 0#32
  ![v5908.toNat, 0]

def k0_off560 (v5893 : BitVec 32) : Fin 2 → Nat :=
  let v5910 : Index := Scalar.indexCast v5893
  let c0_2872 : Index := 0#32
  ![v5910.toNat, 0]

def k0_off561 (v5896 : BitVec 32) : Fin 2 → Nat :=
  let v5912 : Index := Scalar.indexCast v5896
  let c0_2873 : Index := 0#32
  ![v5912.toNat, 0]

def k0_off562 (v5899 : BitVec 32) : Fin 2 → Nat :=
  let v5914 : Index := Scalar.indexCast v5899
  let c0_2874 : Index := 0#32
  ![v5914.toNat, 0]

def k0_off563 (v5878 : BitVec 32) : Fin 2 → Nat :=
  let c8_i32_2875 : BitVec 32 := 8#32
  let v5916 : BitVec 32 := Scalar.addi v5878 c8_i32_2875
  let v5917 : Index := Scalar.indexCast v5916
  let c0_2876 : Index := 0#32
  ![v5917.toNat, 0]

def k0_chk241 (v5878 : BitVec 32) : Prop :=
  (∀ a, (k0_off555 v5878) a + S8x128.size a ≤ S64512x128.size a) ∧
  (∀ a, (k0_off563 v5878) a + S1x128.size a ≤ S64512x128.size a)
theorem k0_off555_inb : ∀ (v5878 : BitVec 32) (k0_hw241 : k0_chk241 v5878), ∀ a, (k0_off555 v5878) a + S8x128.size a ≤ S64512x128.size a := fun v5878 k0_hw241 => k0_hw241.1
theorem k0_off563_inb : ∀ (v5878 : BitVec 32) (k0_hw241 : k0_chk241 v5878), ∀ a, (k0_off563 v5878) a + S1x128.size a ≤ S64512x128.size a := fun v5878 k0_hw241 => k0_hw241.2

def k0_off564 (v5881 : BitVec 32) : Fin 2 → Nat :=
  let c8_i32_2877 : BitVec 32 := 8#32
  let v5919 : BitVec 32 := Scalar.addi v5881 c8_i32_2877
  let v5920 : Index := Scalar.indexCast v5919
  let c0_2878 : Index := 0#32
  ![v5920.toNat, 0]

def k0_chk242 (v5881 : BitVec 32) : Prop :=
  (∀ a, (k0_off556 v5881) a + S8x128.size a ≤ S64512x128.size a) ∧
  (∀ a, (k0_off564 v5881) a + S1x128.size a ≤ S64512x128.size a)
theorem k0_off556_inb : ∀ (v5881 : BitVec 32) (k0_hw242 : k0_chk242 v5881), ∀ a, (k0_off556 v5881) a + S8x128.size a ≤ S64512x128.size a := fun v5881 k0_hw242 => k0_hw242.1
theorem k0_off564_inb : ∀ (v5881 : BitVec 32) (k0_hw242 : k0_chk242 v5881), ∀ a, (k0_off564 v5881) a + S1x128.size a ≤ S64512x128.size a := fun v5881 k0_hw242 => k0_hw242.2

def k0_off565 (v5884 : BitVec 32) : Fin 2 → Nat :=
  let c8_i32_2879 : BitVec 32 := 8#32
  let v5922 : BitVec 32 := Scalar.addi v5884 c8_i32_2879
  let v5923 : Index := Scalar.indexCast v5922
  let c0_2880 : Index := 0#32
  ![v5923.toNat, 0]

def k0_chk243 (v5884 : BitVec 32) : Prop :=
  (∀ a, (k0_off557 v5884) a + S8x128.size a ≤ S64512x128.size a) ∧
  (∀ a, (k0_off565 v5884) a + S1x128.size a ≤ S64512x128.size a)
theorem k0_off557_inb : ∀ (v5884 : BitVec 32) (k0_hw243 : k0_chk243 v5884), ∀ a, (k0_off557 v5884) a + S8x128.size a ≤ S64512x128.size a := fun v5884 k0_hw243 => k0_hw243.1
theorem k0_off565_inb : ∀ (v5884 : BitVec 32) (k0_hw243 : k0_chk243 v5884), ∀ a, (k0_off565 v5884) a + S1x128.size a ≤ S64512x128.size a := fun v5884 k0_hw243 => k0_hw243.2

def k0_off566 (v5887 : BitVec 32) : Fin 2 → Nat :=
  let c8_i32_2881 : BitVec 32 := 8#32
  let v5925 : BitVec 32 := Scalar.addi v5887 c8_i32_2881
  let v5926 : Index := Scalar.indexCast v5925
  let c0_2882 : Index := 0#32
  ![v5926.toNat, 0]

def k0_chk244 (v5887 : BitVec 32) : Prop :=
  (∀ a, (k0_off558 v5887) a + S8x128.size a ≤ S64512x128.size a) ∧
  (∀ a, (k0_off566 v5887) a + S1x128.size a ≤ S64512x128.size a)
theorem k0_off558_inb : ∀ (v5887 : BitVec 32) (k0_hw244 : k0_chk244 v5887), ∀ a, (k0_off558 v5887) a + S8x128.size a ≤ S64512x128.size a := fun v5887 k0_hw244 => k0_hw244.1
theorem k0_off566_inb : ∀ (v5887 : BitVec 32) (k0_hw244 : k0_chk244 v5887), ∀ a, (k0_off566 v5887) a + S1x128.size a ≤ S64512x128.size a := fun v5887 k0_hw244 => k0_hw244.2

def k0_off567 (v5890 : BitVec 32) : Fin 2 → Nat :=
  let c8_i32_2883 : BitVec 32 := 8#32
  let v5928 : BitVec 32 := Scalar.addi v5890 c8_i32_2883
  let v5929 : Index := Scalar.indexCast v5928
  let c0_2884 : Index := 0#32
  ![v5929.toNat, 0]

def k0_chk245 (v5890 : BitVec 32) : Prop :=
  (∀ a, (k0_off559 v5890) a + S8x128.size a ≤ S64512x128.size a) ∧
  (∀ a, (k0_off567 v5890) a + S1x128.size a ≤ S64512x128.size a)
theorem k0_off559_inb : ∀ (v5890 : BitVec 32) (k0_hw245 : k0_chk245 v5890), ∀ a, (k0_off559 v5890) a + S8x128.size a ≤ S64512x128.size a := fun v5890 k0_hw245 => k0_hw245.1
theorem k0_off567_inb : ∀ (v5890 : BitVec 32) (k0_hw245 : k0_chk245 v5890), ∀ a, (k0_off567 v5890) a + S1x128.size a ≤ S64512x128.size a := fun v5890 k0_hw245 => k0_hw245.2

def k0_off568 (v5893 : BitVec 32) : Fin 2 → Nat :=
  let c8_i32_2885 : BitVec 32 := 8#32
  let v5931 : BitVec 32 := Scalar.addi v5893 c8_i32_2885
  let v5932 : Index := Scalar.indexCast v5931
  let c0_2886 : Index := 0#32
  ![v5932.toNat, 0]

def k0_chk246 (v5893 : BitVec 32) : Prop :=
  (∀ a, (k0_off560 v5893) a + S8x128.size a ≤ S64512x128.size a) ∧
  (∀ a, (k0_off568 v5893) a + S1x128.size a ≤ S64512x128.size a)
theorem k0_off560_inb : ∀ (v5893 : BitVec 32) (k0_hw246 : k0_chk246 v5893), ∀ a, (k0_off560 v5893) a + S8x128.size a ≤ S64512x128.size a := fun v5893 k0_hw246 => k0_hw246.1
theorem k0_off568_inb : ∀ (v5893 : BitVec 32) (k0_hw246 : k0_chk246 v5893), ∀ a, (k0_off568 v5893) a + S1x128.size a ≤ S64512x128.size a := fun v5893 k0_hw246 => k0_hw246.2

def k0_off569 (v5896 : BitVec 32) : Fin 2 → Nat :=
  let c8_i32_2887 : BitVec 32 := 8#32
  let v5934 : BitVec 32 := Scalar.addi v5896 c8_i32_2887
  let v5935 : Index := Scalar.indexCast v5934
  let c0_2888 : Index := 0#32
  ![v5935.toNat, 0]

def k0_chk247 (v5896 : BitVec 32) : Prop :=
  (∀ a, (k0_off561 v5896) a + S8x128.size a ≤ S64512x128.size a) ∧
  (∀ a, (k0_off569 v5896) a + S1x128.size a ≤ S64512x128.size a)
theorem k0_off561_inb : ∀ (v5896 : BitVec 32) (k0_hw247 : k0_chk247 v5896), ∀ a, (k0_off561 v5896) a + S8x128.size a ≤ S64512x128.size a := fun v5896 k0_hw247 => k0_hw247.1
theorem k0_off569_inb : ∀ (v5896 : BitVec 32) (k0_hw247 : k0_chk247 v5896), ∀ a, (k0_off569 v5896) a + S1x128.size a ≤ S64512x128.size a := fun v5896 k0_hw247 => k0_hw247.2

def k0_off570 (v5899 : BitVec 32) : Fin 2 → Nat :=
  let c8_i32_2889 : BitVec 32 := 8#32
  let v5937 : BitVec 32 := Scalar.addi v5899 c8_i32_2889
  let v5938 : Index := Scalar.indexCast v5937
  let c0_2890 : Index := 0#32
  ![v5938.toNat, 0]

def k0_chk248 (v5899 : BitVec 32) : Prop :=
  (∀ a, (k0_off562 v5899) a + S8x128.size a ≤ S64512x128.size a) ∧
  (∀ a, (k0_off570 v5899) a + S1x128.size a ≤ S64512x128.size a)
theorem k0_off562_inb : ∀ (v5899 : BitVec 32) (k0_hw248 : k0_chk248 v5899), ∀ a, (k0_off562 v5899) a + S8x128.size a ≤ S64512x128.size a := fun v5899 k0_hw248 => k0_hw248.1
theorem k0_off570_inb : ∀ (v5899 : BitVec 32) (k0_hw248 : k0_chk248 v5899), ∀ a, (k0_off570 v5899) a + S1x128.size a ≤ S64512x128.size a := fun v5899 k0_hw248 => k0_hw248.2

def k0_off571 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let v6061 : Index := Scalar.indexCast v3240
  let c0_2935 : Index := 0#32
  ![v6061.toNat, 0]
def k0_off572 (v6062 : BitVec 32) : Fin 2 → Nat :=
  let v6084 : Index := Scalar.indexCast v6062
  let c0_2957 : Index := 0#32
  ![v6084.toNat, 0]

def k0_off573 (v6065 : BitVec 32) : Fin 2 → Nat :=
  let v6086 : Index := Scalar.indexCast v6065
  let c0_2958 : Index := 0#32
  ![v6086.toNat, 0]

def k0_off574 (v6068 : BitVec 32) : Fin 2 → Nat :=
  let v6088 : Index := Scalar.indexCast v6068
  let c0_2959 : Index := 0#32
  ![v6088.toNat, 0]

def k0_off575 (v6071 : BitVec 32) : Fin 2 → Nat :=
  let v6090 : Index := Scalar.indexCast v6071
  let c0_2960 : Index := 0#32
  ![v6090.toNat, 0]

def k0_off576 (v6074 : BitVec 32) : Fin 2 → Nat :=
  let v6092 : Index := Scalar.indexCast v6074
  let c0_2961 : Index := 0#32
  ![v6092.toNat, 0]

def k0_off577 (v6077 : BitVec 32) : Fin 2 → Nat :=
  let v6094 : Index := Scalar.indexCast v6077
  let c0_2962 : Index := 0#32
  ![v6094.toNat, 0]

def k0_off578 (v6080 : BitVec 32) : Fin 2 → Nat :=
  let v6096 : Index := Scalar.indexCast v6080
  let c0_2963 : Index := 0#32
  ![v6096.toNat, 0]

def k0_off579 (v6083 : BitVec 32) : Fin 2 → Nat :=
  let v6098 : Index := Scalar.indexCast v6083
  let c0_2964 : Index := 0#32
  ![v6098.toNat, 0]

def k0_off580 (v6062 : BitVec 32) : Fin 2 → Nat :=
  let c8_i32_2965 : BitVec 32 := 8#32
  let v6100 : BitVec 32 := Scalar.addi v6062 c8_i32_2965
  let v6101 : Index := Scalar.indexCast v6100
  let c0_2966 : Index := 0#32
  ![v6101.toNat, 0]

def k0_chk249 (v6062 : BitVec 32) : Prop :=
  (∀ a, (k0_off572 v6062) a + S8x128.size a ≤ S64512x128.size a) ∧
  (∀ a, (k0_off580 v6062) a + S1x128.size a ≤ S64512x128.size a)
theorem k0_off572_inb : ∀ (v6062 : BitVec 32) (k0_hw249 : k0_chk249 v6062), ∀ a, (k0_off572 v6062) a + S8x128.size a ≤ S64512x128.size a := fun v6062 k0_hw249 => k0_hw249.1
theorem k0_off580_inb : ∀ (v6062 : BitVec 32) (k0_hw249 : k0_chk249 v6062), ∀ a, (k0_off580 v6062) a + S1x128.size a ≤ S64512x128.size a := fun v6062 k0_hw249 => k0_hw249.2

def k0_off581 (v6065 : BitVec 32) : Fin 2 → Nat :=
  let c8_i32_2967 : BitVec 32 := 8#32
  let v6103 : BitVec 32 := Scalar.addi v6065 c8_i32_2967
  let v6104 : Index := Scalar.indexCast v6103
  let c0_2968 : Index := 0#32
  ![v6104.toNat, 0]

def k0_chk250 (v6065 : BitVec 32) : Prop :=
  (∀ a, (k0_off573 v6065) a + S8x128.size a ≤ S64512x128.size a) ∧
  (∀ a, (k0_off581 v6065) a + S1x128.size a ≤ S64512x128.size a)
theorem k0_off573_inb : ∀ (v6065 : BitVec 32) (k0_hw250 : k0_chk250 v6065), ∀ a, (k0_off573 v6065) a + S8x128.size a ≤ S64512x128.size a := fun v6065 k0_hw250 => k0_hw250.1
theorem k0_off581_inb : ∀ (v6065 : BitVec 32) (k0_hw250 : k0_chk250 v6065), ∀ a, (k0_off581 v6065) a + S1x128.size a ≤ S64512x128.size a := fun v6065 k0_hw250 => k0_hw250.2

def k0_off582 (v6068 : BitVec 32) : Fin 2 → Nat :=
  let c8_i32_2969 : BitVec 32 := 8#32
  let v6106 : BitVec 32 := Scalar.addi v6068 c8_i32_2969
  let v6107 : Index := Scalar.indexCast v6106
  let c0_2970 : Index := 0#32
  ![v6107.toNat, 0]

def k0_chk251 (v6068 : BitVec 32) : Prop :=
  (∀ a, (k0_off574 v6068) a + S8x128.size a ≤ S64512x128.size a) ∧
  (∀ a, (k0_off582 v6068) a + S1x128.size a ≤ S64512x128.size a)
theorem k0_off574_inb : ∀ (v6068 : BitVec 32) (k0_hw251 : k0_chk251 v6068), ∀ a, (k0_off574 v6068) a + S8x128.size a ≤ S64512x128.size a := fun v6068 k0_hw251 => k0_hw251.1
theorem k0_off582_inb : ∀ (v6068 : BitVec 32) (k0_hw251 : k0_chk251 v6068), ∀ a, (k0_off582 v6068) a + S1x128.size a ≤ S64512x128.size a := fun v6068 k0_hw251 => k0_hw251.2

def k0_off583 (v6071 : BitVec 32) : Fin 2 → Nat :=
  let c8_i32_2971 : BitVec 32 := 8#32
  let v6109 : BitVec 32 := Scalar.addi v6071 c8_i32_2971
  let v6110 : Index := Scalar.indexCast v6109
  let c0_2972 : Index := 0#32
  ![v6110.toNat, 0]

def k0_chk252 (v6071 : BitVec 32) : Prop :=
  (∀ a, (k0_off575 v6071) a + S8x128.size a ≤ S64512x128.size a) ∧
  (∀ a, (k0_off583 v6071) a + S1x128.size a ≤ S64512x128.size a)
theorem k0_off575_inb : ∀ (v6071 : BitVec 32) (k0_hw252 : k0_chk252 v6071), ∀ a, (k0_off575 v6071) a + S8x128.size a ≤ S64512x128.size a := fun v6071 k0_hw252 => k0_hw252.1
theorem k0_off583_inb : ∀ (v6071 : BitVec 32) (k0_hw252 : k0_chk252 v6071), ∀ a, (k0_off583 v6071) a + S1x128.size a ≤ S64512x128.size a := fun v6071 k0_hw252 => k0_hw252.2

def k0_off584 (v6074 : BitVec 32) : Fin 2 → Nat :=
  let c8_i32_2973 : BitVec 32 := 8#32
  let v6112 : BitVec 32 := Scalar.addi v6074 c8_i32_2973
  let v6113 : Index := Scalar.indexCast v6112
  let c0_2974 : Index := 0#32
  ![v6113.toNat, 0]

def k0_chk253 (v6074 : BitVec 32) : Prop :=
  (∀ a, (k0_off576 v6074) a + S8x128.size a ≤ S64512x128.size a) ∧
  (∀ a, (k0_off584 v6074) a + S1x128.size a ≤ S64512x128.size a)
theorem k0_off576_inb : ∀ (v6074 : BitVec 32) (k0_hw253 : k0_chk253 v6074), ∀ a, (k0_off576 v6074) a + S8x128.size a ≤ S64512x128.size a := fun v6074 k0_hw253 => k0_hw253.1
theorem k0_off584_inb : ∀ (v6074 : BitVec 32) (k0_hw253 : k0_chk253 v6074), ∀ a, (k0_off584 v6074) a + S1x128.size a ≤ S64512x128.size a := fun v6074 k0_hw253 => k0_hw253.2

def k0_off585 (v6077 : BitVec 32) : Fin 2 → Nat :=
  let c8_i32_2975 : BitVec 32 := 8#32
  let v6115 : BitVec 32 := Scalar.addi v6077 c8_i32_2975
  let v6116 : Index := Scalar.indexCast v6115
  let c0_2976 : Index := 0#32
  ![v6116.toNat, 0]

def k0_chk254 (v6077 : BitVec 32) : Prop :=
  (∀ a, (k0_off577 v6077) a + S8x128.size a ≤ S64512x128.size a) ∧
  (∀ a, (k0_off585 v6077) a + S1x128.size a ≤ S64512x128.size a)
theorem k0_off577_inb : ∀ (v6077 : BitVec 32) (k0_hw254 : k0_chk254 v6077), ∀ a, (k0_off577 v6077) a + S8x128.size a ≤ S64512x128.size a := fun v6077 k0_hw254 => k0_hw254.1
theorem k0_off585_inb : ∀ (v6077 : BitVec 32) (k0_hw254 : k0_chk254 v6077), ∀ a, (k0_off585 v6077) a + S1x128.size a ≤ S64512x128.size a := fun v6077 k0_hw254 => k0_hw254.2

def k0_off586 (v6080 : BitVec 32) : Fin 2 → Nat :=
  let c8_i32_2977 : BitVec 32 := 8#32
  let v6118 : BitVec 32 := Scalar.addi v6080 c8_i32_2977
  let v6119 : Index := Scalar.indexCast v6118
  let c0_2978 : Index := 0#32
  ![v6119.toNat, 0]

def k0_chk255 (v6080 : BitVec 32) : Prop :=
  (∀ a, (k0_off578 v6080) a + S8x128.size a ≤ S64512x128.size a) ∧
  (∀ a, (k0_off586 v6080) a + S1x128.size a ≤ S64512x128.size a)
theorem k0_off578_inb : ∀ (v6080 : BitVec 32) (k0_hw255 : k0_chk255 v6080), ∀ a, (k0_off578 v6080) a + S8x128.size a ≤ S64512x128.size a := fun v6080 k0_hw255 => k0_hw255.1
theorem k0_off586_inb : ∀ (v6080 : BitVec 32) (k0_hw255 : k0_chk255 v6080), ∀ a, (k0_off586 v6080) a + S1x128.size a ≤ S64512x128.size a := fun v6080 k0_hw255 => k0_hw255.2

def k0_off587 (v6083 : BitVec 32) : Fin 2 → Nat :=
  let c8_i32_2979 : BitVec 32 := 8#32
  let v6121 : BitVec 32 := Scalar.addi v6083 c8_i32_2979
  let v6122 : Index := Scalar.indexCast v6121
  let c0_2980 : Index := 0#32
  ![v6122.toNat, 0]

def k0_chk256 (v6083 : BitVec 32) : Prop :=
  (∀ a, (k0_off579 v6083) a + S8x128.size a ≤ S64512x128.size a) ∧
  (∀ a, (k0_off587 v6083) a + S1x128.size a ≤ S64512x128.size a)
theorem k0_off579_inb : ∀ (v6083 : BitVec 32) (k0_hw256 : k0_chk256 v6083), ∀ a, (k0_off579 v6083) a + S8x128.size a ≤ S64512x128.size a := fun v6083 k0_hw256 => k0_hw256.1
theorem k0_off587_inb : ∀ (v6083 : BitVec 32) (k0_hw256 : k0_chk256 v6083), ∀ a, (k0_off587 v6083) a + S1x128.size a ≤ S64512x128.size a := fun v6083 k0_hw256 => k0_hw256.2

def k0_off588 (k0_t2 : Fin k0_t2_loop.trips) : Fin 4 → Nat :=
  let c0_i32_104 : BitVec 32 := 0#32
  let c1_i32_106 : BitVec 32 := 1#32
  let arg13 : BitVec 32 := Scf.iv c0_i32_104 c1_i32_106 k0_t2
  let c2_i32_1557 : BitVec 32 := 2#32
  let v3239 : BitVec 32 := Scalar.muli arg13 c2_i32_1557
  let c1_i32_1558 : BitVec 32 := 1#32
  let v3240 : BitVec 32 := Scalar.addi v3239 c1_i32_1558
  let c0_i32_3047 : BitVec 32 := 0#32
  let c0_i32_3048 : BitVec 32 := 0#32
  let c0_i32_3049 : BitVec 32 := 0#32
  ![v3240.toNat, 0, 0, 0]
-- ==== ReferenceIdeal.lean ====
abbrev S896x4608 : Shape := ⟨2, ![896, 4608]⟩
abbrev S7168 : Shape := ⟨1, ![7168]⟩
abbrev S8 : Shape := ⟨1, ![8]⟩
abbrev S_ : Shape := ⟨0, ![]⟩
abbrev S896x1x4608 : Shape := ⟨3, ![896, 1, 4608]⟩
abbrev S1x8x1 : Shape := ⟨3, ![1, 8, 1]⟩
abbrev S896x8x4608 : Shape := ⟨3, ![896, 8, 4608]⟩
abbrev S7168x4608 : Shape := ⟨2, ![7168, 4608]⟩
abbrev S7168x1 : Shape := ⟨2, ![7168, 1]⟩
abbrev S56x16x18x256 : Shape := ⟨4, ![56, 16, 18, 256]⟩
abbrev S56x18x16x256 : Shape := ⟨4, ![56, 18, 16, 256]⟩
abbrev S56x18x32x128 : Shape := ⟨4, ![56, 18, 32, 128]⟩

abbrev nBuf : Space → Nat
  | .hbm => 37
  | .vmem => 0
  | .smem => 0
  | _ => 0

abbrev bufTy : (tb : Table) → Fin (tcTables nBuf tb) → BufTy
  | .hbm, ⟨0, _⟩ => ⟨S896x4608, .i32⟩
  | .hbm, ⟨1, _⟩ => ⟨S7168, .i32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S896x4608, .i32⟩
  | .hbm, ⟨7, _⟩ => ⟨S896x1x4608, .i32⟩
  | .hbm, ⟨8, _⟩ => ⟨S1x8x1, .i32⟩
  | .hbm, ⟨9, _⟩ => ⟨S896x8x4608, .i32⟩
  | .hbm, ⟨10, _⟩ => ⟨S896x8x4608, .i32⟩
  | .hbm, ⟨11, _⟩ => ⟨S896x8x4608, .i32⟩
  | .hbm, ⟨12, _⟩ => ⟨S_, .i32⟩
  | .hbm, ⟨13, _⟩ => ⟨S896x8x4608, .i32⟩
  | .hbm, ⟨14, _⟩ => ⟨S896x8x4608, .i32⟩
  | .hbm, ⟨15, _⟩ => ⟨S896x8x4608, .i8⟩
  | .hbm, ⟨16, _⟩ => ⟨S7168x4608, .i8⟩
  | .hbm, ⟨17, _⟩ => ⟨S_, .i32⟩
  | .hbm, ⟨18, _⟩ => ⟨S7168, .i32⟩
  | .hbm, ⟨19, _⟩ => ⟨S7168, .i1⟩
  | .hbm, ⟨20, _⟩ => ⟨S_, .i32⟩
  | .hbm, ⟨21, _⟩ => ⟨S7168, .i32⟩
  | .hbm, ⟨22, _⟩ => ⟨S7168, .i32⟩
  | .hbm, ⟨23, _⟩ => ⟨S7168, .i32⟩
  | .hbm, ⟨24, _⟩ => ⟨S7168x1, .i32⟩
  | .hbm, ⟨25, _⟩ => ⟨S7168x4608, .i8⟩
  | .hbm, ⟨26, _⟩ => ⟨S896x8x4608, .i8⟩
  | .hbm, ⟨27, _⟩ => ⟨S896x8x4608, .i32⟩
  | .hbm, ⟨28, _⟩ => ⟨S1x8x1, .i32⟩
  | .hbm, ⟨29, _⟩ => ⟨S896x8x4608, .i32⟩
  | .hbm, ⟨30, _⟩ => ⟨S896x8x4608, .i32⟩
  | .hbm, ⟨31, _⟩ => ⟨S_, .i32⟩
  | .hbm, ⟨32, _⟩ => ⟨S896x4608, .i32⟩
  | .hbm, ⟨33, _⟩ => ⟨S56x16x18x256, .i32⟩
  | .hbm, ⟨34, _⟩ => ⟨S56x18x16x256, .i32⟩
  | .hbm, ⟨35, _⟩ => ⟨S56x18x16x256, .i32⟩
  | .hbm, ⟨36, _⟩ => ⟨S56x18x32x128, .i32⟩
  | _, _ => ⟨S896x4608, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.Rules.lean ====
/-
  Whole buffers as vectors. A memref that names a whole buffer is held as `own c h v`: its buffer at the contents that
  read the vector `v`. A load takes `v` at the rectangle's places; a store of a whole rectangle leaves `upd r v w`, the
  vector `v` with `w` laid over the rectangle `r`. The rules are stated for a buffer that is one conjunct of a larger
  resource, so that a straight-line program is run by repeating them.
-/
module

public import Idealize.ShloMosaic.Lib.Exec
public import Idealize.ShloMosaic.Lib.Tactic
public import Idealize.ShloMosaic.Lib.Writes
public import Idealize.ShloMosaic.Lib.WholeRead
public import Idealize.ShloMosaic.Lib.Pipeline.Kit
public import Idealize.ShloMosaic.Lib.Pipeline.Frame

@[expose] public section

noncomputable section

namespace Repack

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### Laying a rectangle over a vector -/

/-- The vector `v` with `w` laid over the rectangle `r`. -/
def upd {s : Shape} {α : Type} (r : Rect s) (v : s.Idx → α) (w : r.shape.Idx → α) : s.Idx → α :=
  open Classical in fun y => if h : ∃ x, r.emb x = y then w h.choose else v y

/-- On the rectangle it is the payload, -/
theorem upd_emb {s : Shape} {α : Type} (r : Rect s) (v : s.Idx → α) (w : r.shape.Idx → α) (x : r.shape.Idx) :
    upd r v w (r.emb x) = w x := by
  unfold upd
  have h : ∃ x', r.emb x' = r.emb x := ⟨x, rfl⟩
  rw [dif_pos h, r.emb.injective h.choose_spec]

/-- at an index known to be the rectangle's place of `x` it is `w x`, -/
theorem upd_hit {s : Shape} {α : Type} (r : Rect s) (v : s.Idx → α) (w : r.shape.Idx → α) (x : r.shape.Idx) (y : s.Idx)
    (h : ∀ a, (y a : Nat) = r.off a + r.stride a * (x a : Nat)) : upd r v w y = w x := by
  have e : r.emb x = y := funext fun a => Fin.ext ((Rect.emb_apply r x a).trans (h a).symm)
  rw [← e, upd_emb]

/-- and off the rectangle the old vector. -/
theorem upd_miss {s : Shape} {α : Type} (r : Rect s) (v : s.Idx → α) (w : r.shape.Idx → α) (y : s.Idx)
    (h : ∀ x : r.shape.Idx, ∃ a, (y a : Nat) ≠ r.off a + r.stride a * (x a : Nat)) : upd r v w y = v y := by
  unfold upd
  rw [dif_neg]
  rintro ⟨x, rfl⟩
  obtain ⟨a, ha⟩ := h x
  exact ha (Rect.emb_apply r x a)

/-! ### Holding a whole buffer -/

section
variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl

/-- The elements `M` of the whole buffer `m` names, at the contents that read `v`. -/
def own (c : Thread nD τ) {sp : Space} {s : Shape} {e : EltTy} {m : Memref sig c.2.kind sp s e} (h : m.IsWhole)
    (M : Finset s.Idx) (v : s.Idx → Val e) : sProp 𝕄 :=
  iprop(m.view.loc c ↦[m.view.setOn M]{fullShare} h.unread v)

variable [Preorder Lvl] {defs : Defs nD τ sig Val Λ} (𝒱 : Variants) (c : Thread nD τ) (bd : Option 𝒱.V) (E : Set Name)
variable {sp : Space} {s : Shape} {e : EltTy} {α : Type}

/-- A rectangle whose places lie in `M` reads and writes inside the elements of `M`. -/
theorem setOn_access {κ : Kind} {sp : Space} {s : Shape} {e : EltTy} {m : Memref sig κ sp s e} {r : Rect s} {M : Finset s.Idx}
    (hM : ∀ x, r.idx x ∈ M) : (m.access r).set ⊆ m.view.setOn M := by
  intro i hi
  obtain ⟨x, -, rfl⟩ := Finset.mem_map.mp hi
  exact Finset.mem_map.mpr ⟨r.emb x, hM x, rfl⟩

/-- What a store leaves in a whole buffer. -/
theorem write_unread {κ : Kind} {m : Memref sig κ sp s e} (h : m.IsWhole) (r : Rect s) (v : s.Idx → Val e)
    (w : r.shape.Idx → Val e) : (m.access r).write Val (h.unread v) w Finset.univ = h.unread (upd r v w) := by
  refine h.eq_unread (funext fun y => ?_)
  have hw : (m.access r).write Val (h.unread v) w Finset.univ = m.view.writes Val (h.unread v) [⟨r, w⟩] := rfl
  rw [hw]
  by_cases hy : ∃ x, r.emb x = y
  · obtain ⟨x, rfl⟩ := hy
    rw [View.read_writes_cons_emb, upd_emb]
  · have hn : y ∉ r.set := fun hc => hy (r.exists_idx_of_mem hc)
    rw [View.read_writes_cons_miss _ _ _ _ _ hn, View.writes_nil, h.read_unread]
    unfold upd; rw [dif_neg hy]

/-- A load from a whole buffer, the buffer any conjunct of what is held. -/
theorem load_step {cs : CoreSpace} {m : Memref sig c.2.kind cs s e} (h : m.IsWhole) (M : Finset s.Idx) (v : s.Idx → Val e)
    {r : LoadRect s} {hl : m.view.LoadsAt r} {k : (r.shape.Idx → Val e) → Prog (TpuEff nD τ sig Val Λ c.2) α}
    {P R : sProp 𝕄} {Q : α → sProp 𝕄} (hP : P ⊣⊢ iprop(own c h M v ∗ R)) (hM : r.set ⊆ M)
    (hk : P ⊢ wp frame (wpE defs 𝒱 c bd) E (k fun x => v (r.idx x)) Q) :
    P ⊢ wp frame (wpE defs 𝒱 c bd) E (.op (.load m r hl) k) Q := by
  have hr : m.view.readAt Val r (h.unread v) = fun x => v (r.idx x) := funext fun x => h.readAt_unread v r x
  refine hP.1.trans ?_
  have := wp_load (defs := defs) 𝒱 c bd (Γ := .empty) E (Q := Q) (m := m) (r := r) (hl := hl) (k := k)
    (S := m.view.setOn M) (q := fullShare) (f := h.unread v) (Finset.map_subset_map.mpr hM)
  rw [hr] at this
  unfold own at hP ⊢
  iintro ⟨H, HR⟩
  iapply this $$ H
  iintro H
  iapply hk
  iapply hP.2
  isplitl [H] <;> iassumption

/-- A store of a whole rectangle to a whole buffer. -/
theorem store_step {cs : CoreSpace} {m : Memref sig c.2.kind cs s e} (h : m.IsWhole) (M : Finset s.Idx) (v : s.Idx → Val e)
    {r : Rect s} {w : r.shape.Idx → Val e} {hx : (m.access r).Stores Finset.univ}
    {hm : Finset.univ = (Finset.univ : Finset r.shape.Idx) ∨ ∀ a, r.stride a = 1}
    {k : PUnit → Prog (TpuEff nD τ sig Val Λ c.2) α} (P : (s.Idx → Val e) → sProp 𝕄) {R : sProp 𝕄} {Q : α → sProp 𝕄}
    (hP : ∀ v, P v ⊣⊢ iprop(own c h M v ∗ R)) (hM : ∀ x, r.idx x ∈ M)
    (hk : P (upd r v w) ⊢ wp frame (wpE defs 𝒱 c bd) E (k ⟨⟩) Q) :
    P v ⊢ wp frame (wpE defs 𝒱 c bd) E (.op (.store m r w Finset.univ hx hm) k) Q := by
  refine (hP v).1.trans ?_
  have := wp_store (defs := defs) 𝒱 c bd (Γ := .empty) E (Q := Q) (m := m) (r := r) (w := w) (Mk := Finset.univ)
    (hx := hx) (hm := hm) (k := k) (S := m.view.setOn M) (f := h.unread v)
    (((m.access r).setOn_subset_set _).trans (setOn_access hM))
  rw [write_unread h] at this
  have h2 := (hP (upd r v w)).2
  unfold own at hP h2 ⊢
  iintro ⟨H, HR⟩
  iapply this $$ H
  iintro H
  iapply hk
  iapply h2
  isplitl [H]
  · iexact H
  · iexact HR

/-- All of the whole buffer `m` names, at the contents that read `v`. -/
def owns (c : Thread nD τ) {sp : Space} {s : Shape} {e : EltTy} {m : Memref sig c.2.kind sp s e} (h : m.IsWhole)
    (v : s.Idx → Val e) : sProp 𝕄 :=
  own c h Finset.univ v

/-- A load from a buffer held as a whole, -/
theorem load_all {cs : CoreSpace} {m : Memref sig c.2.kind cs s e} (h : m.IsWhole) (v : s.Idx → Val e)
    {r : LoadRect s} {hl : m.view.LoadsAt r} {k : (r.shape.Idx → Val e) → Prog (TpuEff nD τ sig Val Λ c.2) α}
    {P R : sProp 𝕄} {Q : α → sProp 𝕄} (hP : P ⊣⊢ iprop(owns c h v ∗ R))
    (hk : P ⊢ wp frame (wpE defs 𝒱 c bd) E (k fun x => v (r.idx x)) Q) :
    P ⊢ wp frame (wpE defs 𝒱 c bd) E (.op (.load m r hl) k) Q :=
  load_step 𝒱 c bd E h Finset.univ v hP (Finset.subset_univ _) hk

/-- and a store to it. -/
theorem store_all {cs : CoreSpace} {m : Memref sig c.2.kind cs s e} (h : m.IsWhole) (v : s.Idx → Val e)
    {r : Rect s} {w : r.shape.Idx → Val e} {hx : (m.access r).Stores Finset.univ}
    {hm : Finset.univ = (Finset.univ : Finset r.shape.Idx) ∨ ∀ a, r.stride a = 1}
    {k : PUnit → Prog (TpuEff nD τ sig Val Λ c.2) α} (P : (s.Idx → Val e) → sProp 𝕄) {R : sProp 𝕄} {Q : α → sProp 𝕄}
    (hP : ∀ v, P v ⊣⊢ iprop(owns c h v ∗ R))
    (hk : P (upd r v w) ⊢ wp frame (wpE defs 𝒱 c bd) E (k ⟨⟩) Q) :
    P v ⊢ wp frame (wpE defs 𝒱 c bd) E (.op (.store m r w Finset.univ hx hm) k) Q :=
  store_step 𝒱 c bd E h Finset.univ v P hP (fun _ => Finset.mem_univ _) hk

/-- A load of one element of a slice of scalar memory at the head of a program. -/
theorem smem_step {m : Memref sig c.2.kind .smem s e} (h : m.IsWhole) (v : s.Idx → Val e) {R0 : Rect s}
    {hs : ∀ a, R0.stride a = 1} {r : Rect R0.shape} {h1 : r.shape.numel = 1}
    {hp : e.packing = 1} {k : Val e → Prog (TpuEff nD τ sig Val Λ c.2) α} {P R : sProp 𝕄} {Q : α → sProp 𝕄}
    (hP : P ⊣⊢ iprop(owns c h v ∗ R))
    (hk : P ⊢ wp frame (wpE defs 𝒱 c bd) E (k (v (R0.idx (r.idx (Shape.Idx.first (h1.symm ▸ Nat.one_pos)))))) Q) :
    P ⊢ wp frame (wpE defs 𝒱 c bd) E (smemLoad (p := c.2) (m.slice R0 hs) r h1 hp >>= k) Q := by
  refine hP.1.trans ?_
  rw [wp_bind]
  unfold smemLoad
  have := wp_smemLoadElt (defs := defs) 𝒱 c bd (Γ := .empty) E (Q := fun x => wp frame (wpE defs 𝒱 c bd) E (k x) Q)
    (m := m.slice R0 hs) (r := r) (hw := View.loads_smem_one hp h1)
    (x := Shape.Idx.first (h1.symm ▸ Nat.one_pos)) (k := .ret)
    (S := m.view.setOn Finset.univ) (q := fullShare) (f := h.unread v) (by
      intro i hi
      obtain ⟨x, -, rfl⟩ := Finset.mem_map.mp hi
      exact Finset.mem_map.mpr ⟨R0.emb (r.emb x), Finset.mem_univ _, rfl⟩)
  have hr : ((m.slice R0 hs).access r).read Val (h.unread v) (Shape.Idx.first (h1.symm ▸ Nat.one_pos))
      = v (R0.idx (r.idx (Shape.Idx.first (h1.symm ▸ Nat.one_pos)))) := congrFun (h.read_unread v) _
  rw [hr, wp_ret] at this
  unfold owns own at hP ⊢
  iintro ⟨H, HR⟩
  iapply this $$ H
  iintro H
  imodintro
  iapply hk
  iapply hP.2
  isplitl [H] <;> iassumption

/-- A stated side condition of the program that holds. -/
theorem assume_step {p : Prop} {d : Decidable p} {k : PLift p → Prog (TpuEff nD τ sig Val Λ c.2) α} {P : sProp 𝕄}
    {Q : α → sProp 𝕄} (hp : p) (hk : P ⊢ wp frame (wpE defs 𝒱 c bd) E (k ⟨hp⟩) Q) :
    P ⊢ wp frame (wpE defs 𝒱 c bd) E (.op (.assume p d) k) Q := by
  rw [wp_assume_of 𝒱 c bd E hp]; exact hk

end

end Repack
-- ==== Proof.Build.lean ====
/-
  The loop that builds the table, as a sequence of equal steps. One trip reads 32 rows of the weights; a step takes the four tiles of
  one place `s` of the pitch in one octet `u` of those rows, transposes their bytes, and stores the four results, as they
  are and shifted right by a nibble, at pitch 9 in the two halves of the table.
-/
module

public import proofs.«01_k».proof.KernelIdeal
public import proofs.«01_k».proof.Proof.Rules

@[expose] public section

noncomputable section

namespace Repack

open Idealize.ShloMosaic Idealize.ShloMosaic.TcCoe
open Idealize.SL.Sem
open Cert.KernelIdeal Cert.KernelIdeal.Facts₀

variable {F : FTy → Type} [FloatOps F] [Facts]

/-- A list of programs run one after another. -/
def runAll {E : Type → Type} : (n : ℕ) → (Fin n → Prog E PUnit) → Prog E PUnit
  | 0, _ => pure ⟨⟩
  | n + 1, f => f 0 >>= fun _ => runAll n fun i => f i.succ

/-- Sixteen bits at a time: the two words that pair the low halves and the high halves of `a` and `b`. -/
def lo16 (a b : IVec S8x128 32) : IVec S8x128 32 := packElementwiseI16 a b

@[inherit_doc lo16]
def hi16 (m16 : IVec S16x128 1) (a b : IVec S8x128 32) : IVec S8x128 32 :=
  bitcast S8x128 32 (select m16 (bitcast S16x128 16 b bitcasts_S8x128_w32_S16x128_w16)
    (bitcast S16x128 16 (shrui a (broadcast S8x128 16#32)) bitcasts_S8x128_w32_S16x128_w16)) bitcasts_S16x128_w16_S8x128_w32

/-- The even bytes of two words, interleaved, -/
def even8 (a b : IVec S8x128 32) : IVec S8x128 32 :=
  ori (andi a (broadcast S8x128 16711935#32)) (shli (andi b (broadcast S8x128 16711935#32)) (broadcast S8x128 8#32))

/-- and the odd ones. -/
def odd8 (m32 : IVec S32x128 1) (a b : IVec S8x128 32) : IVec S8x128 32 :=
  bitcast S8x128 32 (select m32 (bitcast S32x128 8 b bitcasts_S8x128_w32_S32x128_w8)
    (bitcast S32x128 8 (shrui a (broadcast S8x128 8#32)) bitcasts_S8x128_w32_S32x128_w8)) bitcasts_S32x128_w8_S8x128_w32

/-- The bytes of four words transposed: byte `j` of result `b` is byte `b` of argument `j`. -/
def bytes (m16 : IVec S16x128 1) (m32 : IVec S32x128 1) (x0 x1 x2 x3 : IVec S8x128 32) : Fin 4 → IVec S8x128 32
  | 0 => even8 (lo16 x0 x2) (lo16 x1 x3)
  | 1 => odd8 m32 (lo16 x0 x2) (lo16 x1 x3)
  | 2 => even8 (hi16 m16 x0 x2) (hi16 m16 x1 x3)
  | 3 => odd8 m32 (hi16 m16 x0 x2) (hi16 m16 x1 x3)

section
variable (arg3 : Memref sig .tc .vmem S896x4608 .i32) (arg4 : Memref sig .tc .vmem S64512x128 .i32)
variable (m16 : IVec S16x128 1) (m32 : IVec S32x128 1) (k : Fin k0_t1_loop.trips)

/-- One transposed tile stored: as it is and shifted by a nibble. -/
def putB (u b : Fin 4) (s : Fin 9) (y : IVec S8x128 32) : Prog (TpuEff nD τ sig (Elt F) Λ₀ .tc) PUnit := do
  let _ : Vec F S8x128 .i32 ← Prog.lift (.load arg4 (⟨k0_off7 k (BitVec.ofNat 32 u) (BitVec.ofNat 32 (8 * b)) (BitVec.ofNat 32 s), S8x128.size, ![9, 1], k0_off7_inb k u b s⟩ : LoadRect S64512x128) (View.loadsAt_vmem h_S8x128))
  Prog.lift (.store arg4 ⟨(⟨k0_off7 k (BitVec.ofNat 32 u) (BitVec.ofNat 32 (8 * b)) (BitVec.ofNat 32 s), S8x128.size, ![9, 1], k0_off7_inb k u b s⟩ : LoadRect S64512x128), spos_9_1⟩ (shapeCast S8x128 y shapeCasts_S8x128_S8x128) Finset.univ (View.stores_vmem_bits_univ h_S8x128 rfl) (.inl rfl))
  let _ : Vec F S8x128 .i32 ← Prog.lift (.load arg4 (⟨k0_off8 k (BitVec.ofNat 32 u) (BitVec.ofNat 32 (8 * b)) (BitVec.ofNat 32 s), S8x128.size, ![9, 1], k0_off8_inb k u b s⟩ : LoadRect S64512x128) (View.loadsAt_vmem h_S8x128))
  Prog.lift (.store arg4 ⟨(⟨k0_off8 k (BitVec.ofNat 32 u) (BitVec.ofNat 32 (8 * b)) (BitVec.ofNat 32 s), S8x128.size, ![9, 1], k0_off8_inb k u b s⟩ : LoadRect S64512x128), spos_9_1⟩ (shapeCast S8x128 (shrui y (broadcast S8x128 4#32)) shapeCasts_S8x128_S8x128) Finset.univ (View.stores_vmem_bits_univ h_S8x128 rfl) (.inl rfl))

/-- The tile of octet `u` at column `n`. -/
def tileOff (u : Fin 4) (n : ℕ) : Fin 2 → ℕ := ![k0_off3 k (BitVec.ofNat 32 (8 * u)) 0, n]

theorem tileOff_inb (u : Fin 4) (n : ℕ) (h : n ≤ 4480) : ∀ a, tileOff k u n a + S8x128.size a ≤ S896x4608.size a := by
  intro a
  fin_cases a
  · exact k0_off3_inb k u 0
  · show n + 128 ≤ 4608; omega

/-- The columns of the four tiles of place `s` of the pitch. -/
def tileCol (s : Fin 9) (c : Fin 4) : ℕ :=
  match s.1 with
  | 8 => ![4096, 4224, 4352, 4480] c
  | s => ![256 * s, 256 * s + 128, 256 * s + 2048, 256 * s + 2176] c

theorem tileCol_le : ∀ (s : Fin 9) (c : Fin 4), tileCol s c ≤ 4480 := by decide

/-- One step of a trip. -/
def stepB (u : Fin 4) (s : Fin 9) : Prog (TpuEff nD τ sig (Elt F) Λ₀ .tc) PUnit := do
  let x0 : Vec F S8x128 .i32 ← Prog.lift (.load arg3 (Rect.unit (s := S896x4608) (tileOff k u (tileCol s 0)) S8x128.size (tileOff_inb k u _ (tileCol_le s 0))).toLoadRect (View.loadsAt_vmem h_S8x128))
  let x1 : Vec F S8x128 .i32 ← Prog.lift (.load arg3 (Rect.unit (s := S896x4608) (tileOff k u (tileCol s 1)) S8x128.size (tileOff_inb k u _ (tileCol_le s 1))).toLoadRect (View.loadsAt_vmem h_S8x128))
  let x2 : Vec F S8x128 .i32 ← Prog.lift (.load arg3 (Rect.unit (s := S896x4608) (tileOff k u (tileCol s 2)) S8x128.size (tileOff_inb k u _ (tileCol_le s 2))).toLoadRect (View.loadsAt_vmem h_S8x128))
  let x3 : Vec F S8x128 .i32 ← Prog.lift (.load arg3 (Rect.unit (s := S896x4608) (tileOff k u (tileCol s 3)) S8x128.size (tileOff_inb k u _ (tileCol_le s 3))).toLoadRect (View.loadsAt_vmem h_S8x128))
  putB arg4 k u 0 s (bytes m16 m32 x0 x1 x2 x3 0)
  putB arg4 k u 1 s (bytes m16 m32 x0 x1 x2 x3 1)
  putB arg4 k u 2 s (bytes m16 m32 x0 x1 x2 x3 2)
  putB arg4 k u 3 s (bytes m16 m32 x0 x1 x2 x3 3)

/-- One trip: the wait for its rows and its 36 steps. -/
def tripB (arg0 : Memref sig .tc .hbm S896x4608 .i32) (arg10 : DmaSems sig S28) : Prog (TpuEff nD τ sig (Elt F) Λ₀ .tc) PUnit := do
  Prog.lift (.waitDma2 ((arg10.slice (Rect.unit (s := S28) (k0_off1 k) S1.size (k0_off1_inb k))).squeeze S_ squeezes_S1_S_).sem
    (arg0.slice (Rect.unit (s := S896x4608) (k0_off2 k) S32x4608.size (k0_off2_inb k)) (fun _ => rfl))
    (arg3.slice (Rect.unit (s := S896x4608) (k0_off2 k) S32x4608.size (k0_off2_inb k)) (fun _ => rfl)) (View.wordExact_bits rfl) (View.wordExact_bits rfl))
  runAll 36 fun j => stepB arg3 arg4 m16 m32 k (j.divNat (n := 9) (m := 4)) (j.modNat (n := 9) (m := 4))

end

end Repack
-- ==== Proof.Emit.lean ====
/-
  The gathering loop, as a sequence of equal steps. One trip fills two slabs, each while the copy of the other one is in
  flight. A step reads eight addresses of the table, reads nine rows of the table at each, packs the low nibbles of
  neighbouring addresses, transposes the bytes of the four words got from the first eight rows into two rows of each
  block of the slab, and puts the words of the ninth rows aside; after eight steps these are transposed in turn.
-/
module

public import proofs.«01_k».proof.Proof.Build

@[expose] public section

noncomputable section

namespace Repack

open Idealize.ShloMosaic Idealize.ShloMosaic.TcCoe
open Idealize.SL.Sem
open Cert.KernelIdeal Cert.KernelIdeal.Facts₀

variable {F : FTy → Type} [FloatOps F] [Facts]

/-- The low nibbles of two words, interleaved. -/
def nib {s : Shape} (a b : IVec s 32) : IVec s 32 :=
  ori (andi a (broadcast s 252645135#32)) (shli (andi b (broadcast s 252645135#32)) (broadcast s 4#32))

variable (arg2 : Memref sig .tc .hbm S56x18x32x128 .i32)
variable (arg4 : Memref sig .tc .vmem S64512x128 .i32) (arg5 : Memref sig .tc .vmem S128x128 .i32)
variable (arg6 : Memref sig .tc .vmem S1440x128 .i32) (harg6 : arg6.IsWhole) (arg9 : Memref sig .tc .smem S56x128 .i32)
variable (arg11 : DmaSems sig S2)
variable (m16 : IVec S16x128 1) (m32 : IVec S32x128 1) (k : Fin k0_t2_loop.trips)

/-- The row of the address table one slab reads: the number of its group of 128 rows. -/
def adrOff (k : Fin k0_t2_loop.trips) : Fin 2 → Fin 2 → ℕ
  | 0 => k0_off42 k
  | 1 => k0_off316 k

theorem adrOff_inb (k : Fin k0_t2_loop.trips) : ∀ slot a, adrOff k slot a + S1x1.size a ≤ S56x1.size a
  | 0 => k0_off42_inb k
  | 1 => k0_off316_inb k

theorem col_inb (c : Fin 128) : ∀ a, (![0, (c : ℕ)] : Fin 2 → ℕ) a + S56x1.size a ≤ S56x128.size a := by
  intro a
  fin_cases a
  · exact (by decide : 0 + 56 ≤ 56)
  · show (c : ℕ) + 1 ≤ 128; have := c.2; omega

/-- One address read, with the check that its rows lie in the table. -/
def adr (slot : Fin 2) (c : Fin 128) : Prog (TpuEff nD τ sig (Elt F) Λ₀ .tc) (Σ' v : Elt F .i32, k0_chk1 v) := do
  let v : Elt F .i32 ← smemLoad (arg9.slice (Rect.unit (s := S56x128) ![0, (c : ℕ)] S56x1.size (col_inb c)) (fun _ => rfl)) (Rect.unit (s := S56x1) (adrOff k slot) S1x1.size (adrOff_inb k slot)) numel1_S1x1 rfl
  have hw : k0_chk1 v := (← Prog.lift (TpuEff.assume (k0_chk1 v) (k0_chk1.dec v))).down
  pure ⟨v, hw⟩

/-- The eight rows of the table at an address, -/
def rows8 (v : Elt F .i32) (h : k0_chk1 v) : Prog (TpuEff nD τ sig (Elt F) Λ₀ .tc) (Vec F S8x128 .i32) :=
  Prog.lift (.load arg4 (Rect.unit (s := S64512x128) (k0_off43 v) S8x128.size (k0_off43_inb v h)).toLoadRect (View.loadsAt_vmem h_S8x128))

/-- and the ninth. -/
def row9 (v : Elt F .i32) (h : k0_chk1 v) : Prog (TpuEff nD τ sig (Elt F) Λ₀ .tc) (Vec F S1x128 .i32) :=
  Prog.lift (.load arg4 (Rect.unit (s := S64512x128) (k0_off51 v) S1x128.size (k0_off51_inb v h)).toLoadRect (View.loadsAt_vmem h_S1x128))

theorem tail_inb (n : Fin 128) : ∀ a, (![(n : ℕ), 0] : Fin 2 → ℕ) a + S1x128.size a ≤ S128x128.size a := by
  intro a
  fin_cases a
  · show (n : ℕ) + 1 ≤ 128; have := n.2; omega
  · exact (by decide : 0 + 128 ≤ 128)

theorem tail8_inb (n : Fin 121) : ∀ a, (![(n : ℕ), 0] : Fin 2 → ℕ) a + S8x128.size a ≤ S128x128.size a := by
  intro a
  fin_cases a
  · show (n : ℕ) + 8 ≤ 128; have := n.2; omega
  · exact (by decide : 0 + 128 ≤ 128)

theorem out40_inb (n : Fin 1160) : ∀ a, S8x128.size a = 0 ∨ (![(n : ℕ), 0] : Fin 2 → Nat) a + (![40, 1] : Fin 2 → Nat) a * (S8x128.size a - 1) < S1440x128.size a := by
  intro a
  right
  fin_cases a
  · show (n : ℕ) + 40 * 7 < 1440; have := n.2; omega
  · exact (by decide : 0 + 1 * 127 < 128)

theorem out2_inb (n : Fin 1426) : ∀ a, S8x128.size a = 0 ∨ (![(n : ℕ), 0] : Fin 2 → Nat) a + (![2, 1] : Fin 2 → Nat) a * (S8x128.size a - 1) < S1440x128.size a := by
  intro a
  right
  fin_cases a
  · show (n : ℕ) + 2 * 7 < 1440; have := n.2; omega
  · exact (by decide : 0 + 1 * 127 < 128)

/-- A word of ninth rows put aside at row `n`, -/
def putTail (n : Fin 128) (y : IVec S1x128 32) : Prog (TpuEff nD τ sig (Elt F) Λ₀ .tc) PUnit := do
  let _ : Vec F S1x128 .i32 ← Prog.lift (.load arg5 (Rect.unit (s := S128x128) ![(n : ℕ), 0] S1x128.size (tail_inb n)).toLoadRect (View.loadsAt_vmem h_S1x128))
  Prog.lift (.store arg5 (Rect.unit (s := S128x128) ![(n : ℕ), 0] S1x128.size (tail_inb n)) (shapeCast S1x128 y shapeCasts_S1x128_S1x128) Finset.univ (View.stores_vmem_bits_univ h_S1x128 rfl) (.inl rfl))

/-- eight rows stored from row `n` at pitch 40, -/
def put40 (n : Fin 1160) (y : IVec S8x128 32) : Prog (TpuEff nD τ sig (Elt F) Λ₀ .tc) PUnit := do
  let _ : Vec F S8x128 .i32 ← Prog.lift (.load arg6 (⟨![(n : ℕ), 0], S8x128.size, ![40, 1], out40_inb n⟩ : LoadRect S1440x128) (View.loadsAt_vmem h_S8x128))
  Prog.lift (.store arg6 ⟨(⟨![(n : ℕ), 0], S8x128.size, ![40, 1], out40_inb n⟩ : LoadRect S1440x128), spos_40_1⟩ (shapeCast S8x128 y shapeCasts_S8x128_S8x128) Finset.univ (View.stores_vmem_bits_univ h_S8x128 rfl) (.inl rfl))

/-- and at pitch 2. -/
def put2 (n : Fin 1426) (y : IVec S8x128 32) : Prog (TpuEff nD τ sig (Elt F) Λ₀ .tc) PUnit := do
  let _ : Vec F S8x128 .i32 ← Prog.lift (.load arg6 (⟨![(n : ℕ), 0], S8x128.size, ![2, 1], out2_inb n⟩ : LoadRect S1440x128) (View.loadsAt_vmem h_S8x128))
  Prog.lift (.store arg6 ⟨(⟨![(n : ℕ), 0], S8x128.size, ![2, 1], out2_inb n⟩ : LoadRect S1440x128), spos_2_1⟩ (shapeCast S8x128 y shapeCasts_S8x128_S8x128) Finset.univ (View.stores_vmem_bits_univ h_S8x128 rfl) (.inl rfl))

/-- The places a step uses: its addresses' columns, its rows of the words put aside, its rows of the slab. -/
def colE (half : Fin 2) (r : Fin 8) (j : Fin 8) : Fin 128 := ⟨64 * half + 8 * r + j, by omega⟩

@[inherit_doc colE]
def tailE (slot half : Fin 2) (r : Fin 8) (j : Fin 4) : Fin 128 := ⟨64 * slot + 32 * half + 8 * j + r, by omega⟩

@[inherit_doc colE]
def outE (slot half : Fin 2) (r : Fin 8) (c : Fin 4) : Fin 1160 := ⟨720 * slot + 320 * (c / 2) + 16 * half + 2 * r + c % 2, by omega⟩

@[inherit_doc colE]
def tail8E (slot half : Fin 2) (j : Fin 4) : Fin 121 := ⟨64 * slot + 32 * half + 8 * j, by omega⟩

@[inherit_doc colE]
def out8E (slot half : Fin 2) (c : Fin 4) : Fin 1426 := ⟨720 * slot + 640 + 40 * (c / 2) + 16 * half + c % 2, by omega⟩

/-- One step, then `K`: sixteen rows of the slab. -/
def stepE (slot half : Fin 2) (r : Fin 8) (K : Prog (TpuEff nD τ sig (Elt F) Λ₀ .tc) PUnit) : Prog (TpuEff nD τ sig (Elt F) Λ₀ .tc) PUnit := do
  let ⟨v0, h0⟩ ← adr arg9 k slot (colE half r 0)
  let ⟨v1, h1⟩ ← adr arg9 k slot (colE half r 1)
  let ⟨v2, h2⟩ ← adr arg9 k slot (colE half r 2)
  let ⟨v3, h3⟩ ← adr arg9 k slot (colE half r 3)
  let ⟨v4, h4⟩ ← adr arg9 k slot (colE half r 4)
  let ⟨v5, h5⟩ ← adr arg9 k slot (colE half r 5)
  let ⟨v6, h6⟩ ← adr arg9 k slot (colE half r 6)
  let ⟨v7, h7⟩ ← adr arg9 k slot (colE half r 7)
  let x0 ← rows8 arg4 v0 h0
  let x1 ← rows8 arg4 v1 h1
  let x2 ← rows8 arg4 v2 h2
  let x3 ← rows8 arg4 v3 h3
  let x4 ← rows8 arg4 v4 h4
  let x5 ← rows8 arg4 v5 h5
  let x6 ← rows8 arg4 v6 h6
  let x7 ← rows8 arg4 v7 h7
  let e0 ← row9 arg4 v0 h0
  let e1 ← row9 arg4 v1 h1
  let e2 ← row9 arg4 v2 h2
  let e3 ← row9 arg4 v3 h3
  let e4 ← row9 arg4 v4 h4
  let e5 ← row9 arg4 v5 h5
  let e6 ← row9 arg4 v6 h6
  let e7 ← row9 arg4 v7 h7
  putTail arg5 (tailE slot half r 0) (nib e0 e1)
  putTail arg5 (tailE slot half r 1) (nib e2 e3)
  putTail arg5 (tailE slot half r 2) (nib e4 e5)
  putTail arg5 (tailE slot half r 3) (nib e6 e7)
  put40 arg6 (outE slot half r 0) (bytes m16 m32 (nib x0 x1) (nib x2 x3) (nib x4 x5) (nib x6 x7) 0)
  put40 arg6 (outE slot half r 1) (bytes m16 m32 (nib x0 x1) (nib x2 x3) (nib x4 x5) (nib x6 x7) 1)
  put40 arg6 (outE slot half r 2) (bytes m16 m32 (nib x0 x1) (nib x2 x3) (nib x4 x5) (nib x6 x7) 2)
  put40 arg6 (outE slot half r 3) (bytes m16 m32 (nib x0 x1) (nib x2 x3) (nib x4 x5) (nib x6 x7) 3)
  K

/-- The words put aside by eight steps, transposed into the last two blocks of the slab. -/
def stepT (slot half : Fin 2) (K : Prog (TpuEff nD τ sig (Elt F) Λ₀ .tc) PUnit) : Prog (TpuEff nD τ sig (Elt F) Λ₀ .tc) PUnit := do
  let t0 : Vec F S8x128 .i32 ← Prog.lift (.load arg5 (Rect.unit (s := S128x128) ![(tail8E slot half 0 : ℕ), 0] S8x128.size (tail8_inb (tail8E slot half 0))).toLoadRect (View.loadsAt_vmem h_S8x128))
  let t1 : Vec F S8x128 .i32 ← Prog.lift (.load arg5 (Rect.unit (s := S128x128) ![(tail8E slot half 1 : ℕ), 0] S8x128.size (tail8_inb (tail8E slot half 1))).toLoadRect (View.loadsAt_vmem h_S8x128))
  let t2 : Vec F S8x128 .i32 ← Prog.lift (.load arg5 (Rect.unit (s := S128x128) ![(tail8E slot half 2 : ℕ), 0] S8x128.size (tail8_inb (tail8E slot half 2))).toLoadRect (View.loadsAt_vmem h_S8x128))
  let t3 : Vec F S8x128 .i32 ← Prog.lift (.load arg5 (Rect.unit (s := S128x128) ![(tail8E slot half 3 : ℕ), 0] S8x128.size (tail8_inb (tail8E slot half 3))).toLoadRect (View.loadsAt_vmem h_S8x128))
  put2 arg6 (out8E slot half 0) (bytes m16 m32 t0 t1 t2 t3 0)
  put2 arg6 (out8E slot half 1) (bytes m16 m32 t0 t1 t2 t3 1)
  put2 arg6 (out8E slot half 2) (bytes m16 m32 t0 t1 t2 t3 2)
  put2 arg6 (out8E slot half 3) (bytes m16 m32 t0 t1 t2 t3 3)
  K

/-- Programs run one after another, then `K`. -/
def chain : (n : ℕ) → (Fin n → Prog (TpuEff nD τ sig (Elt F) Λ₀ .tc) PUnit → Prog (TpuEff nD τ sig (Elt F) Λ₀ .tc) PUnit) → Prog (TpuEff nD τ sig (Elt F) Λ₀ .tc) PUnit → Prog (TpuEff nD τ sig (Elt F) Λ₀ .tc) PUnit
  | 0, _, K => K
  | n + 1, f, K => f 0 (chain n (fun i => f i.succ) K)

/-- Half a slab. -/
def halfE (slot half : Fin 2) (K : Prog (TpuEff nD τ sig (Elt F) Λ₀ .tc) PUnit) : Prog (TpuEff nD τ sig (Elt F) Λ₀ .tc) PUnit :=
  chain 8 (fun r => stepE arg4 arg5 arg6 arg9 m16 m32 k slot half r) (stepT arg5 arg6 m16 m32 slot half K)

theorem slab_inb (slot : Fin 2) : ∀ a, (![(slot : ℕ), 0, 0, 0] : Fin 4 → ℕ) a + S1x18x32x128.size a ≤ S2x18x40x128.size a := by
  intro a
  fin_cases a
  · show (slot : ℕ) + 1 ≤ 2; have := slot.2; omega
  · exact (by decide : 0 + 18 ≤ 18)
  · exact (by decide : 0 + 32 ≤ 40)
  · exact (by decide : 0 + 128 ≤ 128)

theorem sem_inb (slot : Fin 2) : ∀ a, (![(slot : ℕ)] : Fin 1 → ℕ) a + S1.size a ≤ S2.size a := by
  intro a
  fin_cases a
  show (slot : ℕ) + 1 ≤ 2
  have := slot.2
  omega

/-- A slab of the buffer the blocks leave from, -/
def slab (slot : Fin 2) : Memref sig .tc .vmem S18x32x128 .i32 :=
  ((arg6.reshape S2x18x40x128 reshapes_S1440x128_S2x18x40x128.1 reshapes_S1440x128_S2x18x40x128.2 harg6.contiguous).slice
    (Rect.unit (s := S2x18x40x128) ![(slot : ℕ), 0, 0, 0] S1x18x32x128.size (slab_inb slot)) (fun _ => rfl)).squeeze S18x32x128 squeezes_S1x18x32x128_S18x32x128

/-- the group of the result it goes to, -/
def group (o : Fin 4 → ℕ) (h : ∀ a, o a + S1x18x32x128.size a ≤ S56x18x32x128.size a) : Memref sig .tc .hbm S18x32x128 .i32 :=
  (arg2.slice (Rect.unit (s := S56x18x32x128) o S1x18x32x128.size h) (fun _ => rfl)).squeeze S18x32x128 squeezes_S1x18x32x128_S18x32x128

/-- and its semaphore. -/
def osem (slot : Fin 2) : DmaSems sig S_ :=
  (arg11.slice (Rect.unit (s := S2) ![(slot : ℕ)] S1.size (sem_inb slot))).squeeze S_ squeezes_S1_S_

/-- The wait for the copy of a slab, -/
def waitE (slot : Fin 2) (o : Fin 4 → ℕ) (h : ∀ a, o a + S1x18x32x128.size a ≤ S56x18x32x128.size a) : Prog (TpuEff nD τ sig (Elt F) Λ₀ .tc) PUnit :=
  Prog.lift (.waitDma2 (osem arg11 slot).sem (slab arg6 harg6 slot) (group arg2 o h) ((View.wordExact_bits rfl).reshape _ _) ((View.wordExact_bits rfl).reshape _ _))

/-- and its start. -/
def sendE (slot : Fin 2) (o : Fin 4 → ℕ) (h : ∀ a, o a + S1x18x32x128.size a ≤ S56x18x32x128.size a) : Prog (TpuEff nD τ sig (Elt F) Λ₀ .tc) PUnit :=
  Prog.lift (.enqueueDma (slab arg6 harg6 slot) (.here (group arg2 o h)) (.dma (osem arg11 slot).sem) ((View.wordExact_bits rfl).reshape _ _) ((View.wordExact_bits rfl).reshape _ _) ⟨Or.inl rfl, trivial⟩)

/-- One slab filled and sent. -/
def slabE (slot : Fin 2) (o : Fin 4 → ℕ) (h : ∀ a, o a + S1x18x32x128.size a ≤ S56x18x32x128.size a) (K : Prog (TpuEff nD τ sig (Elt F) Λ₀ .tc) PUnit) : Prog (TpuEff nD τ sig (Elt F) Λ₀ .tc) PUnit :=
  halfE arg4 arg5 arg6 arg9 m16 m32 k slot 0 (halfE arg4 arg5 arg6 arg9 m16 m32 k slot 1 (sendE arg2 arg6 harg6 arg11 slot o h >>= fun _ => K))

/-- One trip: both slabs. -/
def tripE : Prog (TpuEff nD τ sig (Elt F) Λ₀ .tc) PUnit :=
  let second : Prog (TpuEff nD τ sig (Elt F) Λ₀ .tc) PUnit := slabE arg2 arg4 arg5 arg6 harg6 arg9 arg11 m16 m32 k 1 (k0_off588 k) (k0_off588_inb k) (pure ⟨⟩)
  let second' : Prog (TpuEff nD τ sig (Elt F) Λ₀ .tc) PUnit := if h : k0_cond2 k = 1#1 then waitE arg2 arg6 harg6 arg11 1 (k0_off315 k) (k0_off315_inb k h) >>= fun _ => second else second
  let first : Prog (TpuEff nD τ sig (Elt F) Λ₀ .tc) PUnit := slabE arg2 arg4 arg5 arg6 harg6 arg9 arg11 m16 m32 k 0 (k0_off314 k) (k0_off314_inb k) second'
  if h : k0_cond1 k = 1#1 then waitE arg2 arg6 harg6 arg11 0 (k0_off41 k) (k0_off41_inb k h) >>= fun _ => first else first

end Repack
-- ==== Proof.Bytes.lean ====
/-
  The byte transposition, bit by bit: bit `q` of result `b` is bit `8 b + q % 8` of argument `q / 8`.
-/
module

public import proofs.«01_k».proof.Proof.Emit
public import Idealize.ShloMosaic.Lib.BitcastFour
public import Idealize.ShloMosaic.Lib.Pointwise

@[expose] public section

noncomputable section

namespace Repack

open Idealize.ShloMosaic Idealize.ShloMosaic.TcCoe Idealize.ShloMosaic.ValueIdx
open Cert.KernelIdeal Cert.KernelIdeal.Facts₀

variable [Facts]

/-- A matrix of words read at another width: the bits of a column in order. -/
theorem bitcast_ix2 {R r n v w : ℕ} (x : (⟨2, ![R, n]⟩ : Shape).Idx → BitVec v) (h : (⟨2, ![R, n]⟩ : Shape).Bitcasts v ⟨2, ![r, n]⟩ w)
    (a : Fin r) (l : Fin n) (q : ℕ) (hq : q < w) (hv : 0 < v) (p : Fin R) (hp : p.val = (a.val * w + q) / v) :
    (bitcast ⟨2, ![r, n]⟩ w x h (ValueIdx.ix2 a l)).getLsbD q = (x (ValueIdx.ix2 p l)).getLsbD ((a.val * w + q) % v) := by
  have hr : (⟨2, ![r, n]⟩ : Shape).row (ValueIdx.ix2 a l) = a.val := rfl
  rw [bitcast_getLsbD x h _ q hq hv]
  have e : ∀ hh, h.srcIdx (ValueIdx.ix2 a l) (((⟨2, ![r, n]⟩ : Shape).row (ValueIdx.ix2 a l) * w + q) / v) hh = ValueIdx.ix2 p l := by
    intro hh
    funext c
    match c with
    | ⟨0, _⟩ => exact Fin.ext ((h.srcIdx_row _ _ _ ⟨0, Nat.zero_lt_two⟩ rfl).trans hp.symm)
    | ⟨1, _⟩ => exact Fin.ext (h.srcIdx_other _ _ _ ⟨1, Nat.one_lt_two⟩ (by show ¬ 1 + 2 = 2; omega))
  rw [e]; rfl

/-- The mask of the odd rows at sixteen bits, -/
def M16 : IVec S16x128 1 :=
  cmpi .ne (bitcast S16x128 16 (broadcast S8x128 4294901760#32) bitcasts_S8x128_w32_S16x128_w16) (broadcast S16x128 0#16)

/-- and at eight. -/
def M32 : IVec S32x128 1 :=
  cmpi .ne (bitcast S32x128 8 (broadcast S8x128 4278255360#32) bitcasts_S8x128_w32_S32x128_w8) (broadcast S32x128 0#8)

theorem M16_ix2 (p : Fin 16) (l : Fin 128) : M16 (ValueIdx.ix2 p l) = if p.val % 2 = 1 then 1#1 else 0#1 := by
  have h : bitcast S16x128 16 (broadcast S8x128 4294901760#32) bitcasts_S8x128_w32_S16x128_w16 (ValueIdx.ix2 p l)
      = if p.val % 2 = 1 then 65535#16 else 0#16 := by
    apply BitVec.eq_of_getLsbD_eq
    intro q hq
    refine (bitcast_ix2 _ _ p l q hq (by decide) ⟨p.val / 2, by omega⟩ (by (try dsimp only); omega)).trans ?_
    show (4294901760#32).getLsbD _ = _
    have e : (p.val * 16 + q) % 32 = p.val % 2 * 16 + q := by omega
    rw [e]
    have : p.val % 2 = 0 ∨ p.val % 2 = 1 := by omega
    rcases this with h | h <;> rw [h] <;> interval_cases q <;> rfl
  refine (congrArg (fun z => IntOp.cmpi .ne z 0#16) h).trans ?_
  split <;> rfl

theorem M32_ix2 (p : Fin 32) (l : Fin 128) : M32 (ValueIdx.ix2 p l) = if p.val % 2 = 1 then 1#1 else 0#1 := by
  have h : bitcast S32x128 8 (broadcast S8x128 4278255360#32) bitcasts_S8x128_w32_S32x128_w8 (ValueIdx.ix2 p l)
      = if p.val % 2 = 1 then 255#8 else 0#8 := by
    apply BitVec.eq_of_getLsbD_eq
    intro q hq
    refine (bitcast_ix2 _ _ p l q hq (by decide) ⟨p.val / 4, by omega⟩ (by (try dsimp only); omega)).trans ?_
    show (4278255360#32).getLsbD _ = _
    have e : (p.val * 8 + q) % 32 = p.val % 4 * 8 + q := by omega
    rw [e]
    have : p.val % 4 = 0 ∨ p.val % 4 = 1 ∨ p.val % 4 = 2 ∨ p.val % 4 = 3 := by omega
    rcases this with h | h | h | h <;> rw [h] <;>
      [rw [if_neg (by omega)]; rw [if_pos (by omega)]; rw [if_neg (by omega)]; rw [if_pos (by omega)]] <;> interval_cases q <;> rfl
  refine (congrArg (fun z => IntOp.cmpi .ne z 0#8) h).trans ?_
  split <;> rfl

/-- The low halves paired, -/
theorem lo16_bit (a b : IVec S8x128 32) (i : S8x128.Idx) (q : ℕ) (hq : q < 32) :
    (lo16 a b i).getLsbD q = if q < 16 then (a i).getLsbD q else (b i).getLsbD (q - 16) := by
  unfold lo16
  rw [packElementwiseI16_apply, BitVec.getLsbD_append]
  by_cases h : q < 16
  · simp [h]
  · have : q - 16 < 16 := by omega
    simp [h, this]

/-- the high halves, -/
theorem hi16_bit (a b : IVec S8x128 32) (i : S8x128.Idx) (q : ℕ) (hq : q < 32) :
    (hi16 M16 a b i).getLsbD q = if q < 16 then (a i).getLsbD (q + 16) else (b i).getLsbD q := by
  obtain ⟨r, l, rfl⟩ : ∃ (r : Fin 8) (l : Fin 128), i = ValueIdx.ix2 r l := ⟨i 0, i 1, by funext c; fin_cases c <;> rfl⟩
  unfold hi16
  have hp : 2 * r.val + q / 16 < 16 := by omega
  refine (bitcast_ix2 _ _ r l q hq (by decide) ⟨2 * r.val + q / 16, hp⟩ (by (try dsimp only); omega)).trans ?_
  show (if M16 _ = 1#1 then _ else _ : BitVec 16).getLsbD _ = _
  rw [M16_ix2]
  have e : (r.val * 32 + q) % 16 = q % 16 := by omega
  rw [e]
  have side : ∀ x : IVec S8x128 32, (bitcast S16x128 16 x bitcasts_S8x128_w32_S16x128_w16 (ValueIdx.ix2 ⟨2 * r.val + q / 16, hp⟩ l)).getLsbD (q % 16)
      = (x (ValueIdx.ix2 r l)).getLsbD q := by
    intro x
    refine (bitcast_ix2 _ _ _ l (q % 16) (by omega) (by decide) r (by (try dsimp only); omega)).trans ?_
    congr 1; (try dsimp only); omega
  by_cases h : q < 16
  · have h0 : q / 16 = 0 := by omega
    rw [if_pos h, if_neg (by rw [if_neg (by (try dsimp only); omega)]; decide), side]
    show (IntOp.shrui .vector (a (ValueIdx.ix2 r l)) 16#32).getLsbD q = _
    simp [IntOp.shrui, BitVec.getLsbD_ushiftRight, Nat.add_comm]
  · rw [if_neg h, if_pos (by rw [if_pos (by (try dsimp only); omega)]), side]

theorem even8_bit (a b : IVec S8x128 32) (i : S8x128.Idx) (q : ℕ) (hq : q < 32) :
    (even8 a b i).getLsbD q = if q / 8 % 2 = 0 then (a i).getLsbD q else (b i).getLsbD (q - 8) := by
  show (IntOp.ori (IntOp.andi (a i) 16711935#32) (IntOp.shli .vector (IntOp.andi (b i) 16711935#32) 8#32)).getLsbD q = _
  simp only [IntOp.ori, IntOp.andi, IntOp.shli]
  generalize a i = x
  generalize b i = y
  interval_cases q <;> simp

theorem odd8_bit (a b : IVec S8x128 32) (i : S8x128.Idx) (q : ℕ) (hq : q < 32) :
    (odd8 M32 a b i).getLsbD q = if q / 8 % 2 = 0 then (a i).getLsbD (q + 8) else (b i).getLsbD q := by
  obtain ⟨r, l, rfl⟩ : ∃ (r : Fin 8) (l : Fin 128), i = ValueIdx.ix2 r l := ⟨i 0, i 1, by funext c; fin_cases c <;> rfl⟩
  unfold odd8
  have hp : 4 * r.val + q / 8 < 32 := by omega
  refine (bitcast_ix2 _ _ r l q hq (by decide) ⟨4 * r.val + q / 8, hp⟩ (by (try dsimp only); omega)).trans ?_
  show (if M32 _ = 1#1 then _ else _ : BitVec 8).getLsbD _ = _
  rw [M32_ix2]
  have e : (r.val * 32 + q) % 8 = q % 8 := by omega
  rw [e]
  have side : ∀ x : IVec S8x128 32, (bitcast S32x128 8 x bitcasts_S8x128_w32_S32x128_w8 (ValueIdx.ix2 ⟨4 * r.val + q / 8, hp⟩ l)).getLsbD (q % 8)
      = (x (ValueIdx.ix2 r l)).getLsbD q := by
    intro x
    refine (bitcast_ix2 _ _ _ l (q % 8) (by omega) (by decide) r (by (try dsimp only); omega)).trans ?_
    congr 1; (try dsimp only); omega
  by_cases h : q / 8 % 2 = 0
  · rw [if_pos h, if_neg (by rw [if_neg (by (try dsimp only); omega)]; decide), side]
    show (IntOp.shrui .vector (a (ValueIdx.ix2 r l)) 8#32).getLsbD q = _
    simp [IntOp.shrui, BitVec.getLsbD_ushiftRight, Nat.add_comm]
  · rw [if_neg h, if_pos (by rw [if_pos (by (try dsimp only); omega)]), side]

/-- The word whose byte `j` is byte `b` of word `j`. -/
def gatherB (b : Fin 4) (x : Fin 4 → BitVec 32) : BitVec 32 :=
  (x 3).extractLsb' (8 * b) 8 ++ (x 2).extractLsb' (8 * b) 8 ++ (x 1).extractLsb' (8 * b) 8 ++ (x 0).extractLsb' (8 * b) 8

theorem gatherB_bit (b : Fin 4) (x : Fin 4 → BitVec 32) (q : ℕ) (hq : q < 32) :
    (gatherB b x).getLsbD q = (x ⟨q / 8, by omega⟩).getLsbD (8 * b + q % 8) := by
  unfold gatherB
  rw [BitVec.getLsbD_append, BitVec.getLsbD_append, BitVec.getLsbD_append]
  simp only [BitVec.getLsbD_extractLsb']
  have : q / 8 = 0 ∨ q / 8 = 1 ∨ q / 8 = 2 ∨ q / 8 = 3 := by omega
  rcases this with h | h | h | h
  · have e : (⟨q / 8, by omega⟩ : Fin 4) = 0 := Fin.ext h
    have h1 : q < 8 := by omega
    have h2 : q % 8 = q := by omega
    rw [e, h2]; simp [h1]
  · have e : (⟨q / 8, by omega⟩ : Fin 4) = 1 := Fin.ext h
    have h1 : ¬ q < 8 := by omega
    have h2 : q % 8 = q - 8 := by omega
    have h3 : q - 8 < 8 := by omega
    rw [e, h2]; simp [h1, h3]
  · have e : (⟨q / 8, by omega⟩ : Fin 4) = 2 := Fin.ext h
    have h1 : ¬ q < 8 := by omega
    have h2 : q % 8 = q - 8 - 8 := by omega
    have h3 : ¬ q - 8 < 8 := by omega
    have h4 : q - 8 - 8 < 8 := by omega
    rw [e, h2]; simp [h1, h3, h4]
  · have e : (⟨q / 8, by omega⟩ : Fin 4) = 3 := Fin.ext h
    have h1 : ¬ q < 8 := by omega
    have h2 : q % 8 = q - 8 - 8 - 8 := by omega
    have h3 : ¬ q - 8 < 8 := by omega
    have h4 : ¬ q - 8 - 8 < 8 := by omega
    have h5 : q - 8 - 8 - 8 < 8 := by omega
    rw [e, h2]; simp [h1, h3, h4, h5]

/-- The transposition of the bytes, at an index. -/
theorem bytes_apply (x0 x1 x2 x3 : IVec S8x128 32) (b : Fin 4) (i : S8x128.Idx) :
    bytes M16 M32 x0 x1 x2 x3 b i = gatherB b ![x0 i, x1 i, x2 i, x3 i] := by
  apply BitVec.eq_of_getLsbD_eq
  intro q hq
  rw [gatherB_bit _ _ _ hq]
  have key : q / 8 = 0 ∨ q / 8 = 1 ∨ q / 8 = 2 ∨ q / 8 = 3 := by omega
  fin_cases b
  · show (even8 (lo16 x0 x2) (lo16 x1 x3) i).getLsbD q = _
    rw [even8_bit _ _ _ _ hq]
    rcases key with h | h | h | h
    · rw [if_pos (by omega), lo16_bit _ _ _ _ (by omega), if_pos (by omega)]
      simp only [h]; congr 1; (try dsimp only); omega
    · rw [if_neg (by omega), lo16_bit _ _ _ _ (by omega), if_pos (by omega)]
      simp only [h]; show (x1 i).getLsbD _ = (x1 i).getLsbD _; congr 1; (try dsimp only); omega
    · rw [if_pos (by omega), lo16_bit _ _ _ _ (by omega), if_neg (by omega)]
      simp only [h]; show (x2 i).getLsbD _ = (x2 i).getLsbD _; congr 1; (try dsimp only); omega
    · rw [if_neg (by omega), lo16_bit _ _ _ _ (by omega), if_neg (by omega)]
      simp only [h]; show (x3 i).getLsbD _ = (x3 i).getLsbD _; congr 1; (try dsimp only); omega
  · show (odd8 M32 (lo16 x0 x2) (lo16 x1 x3) i).getLsbD q = _
    rw [odd8_bit _ _ _ _ hq]
    rcases key with h | h | h | h
    · rw [if_pos (by omega), lo16_bit _ _ _ _ (by omega), if_pos (by omega)]
      simp only [h]; show (x0 i).getLsbD _ = (x0 i).getLsbD _; congr 1; (try dsimp only); omega
    · rw [if_neg (by omega), lo16_bit _ _ _ _ (by omega), if_pos (by omega)]
      simp only [h]; show (x1 i).getLsbD _ = (x1 i).getLsbD _; congr 1; (try dsimp only); omega
    · rw [if_pos (by omega), lo16_bit _ _ _ _ (by omega), if_neg (by omega)]
      simp only [h]; show (x2 i).getLsbD _ = (x2 i).getLsbD _; congr 1; (try dsimp only); omega
    · rw [if_neg (by omega), lo16_bit _ _ _ _ (by omega), if_neg (by omega)]
      simp only [h]; show (x3 i).getLsbD _ = (x3 i).getLsbD _; congr 1; (try dsimp only); omega
  · show (even8 (hi16 M16 x0 x2) (hi16 M16 x1 x3) i).getLsbD q = _
    rw [even8_bit _ _ _ _ hq]
    rcases key with h | h | h | h
    · rw [if_pos (by omega), hi16_bit _ _ _ _ (by omega), if_pos (by omega)]
      simp only [h]; show (x0 i).getLsbD _ = (x0 i).getLsbD _; congr 1; (try dsimp only); omega
    · rw [if_neg (by omega), hi16_bit _ _ _ _ (by omega), if_pos (by omega)]
      simp only [h]; show (x1 i).getLsbD _ = (x1 i).getLsbD _; congr 1; (try dsimp only); omega
    · rw [if_pos (by omega), hi16_bit _ _ _ _ (by omega), if_neg (by omega)]
      simp only [h]; show (x2 i).getLsbD _ = (x2 i).getLsbD _; congr 1; (try dsimp only); omega
    · rw [if_neg (by omega), hi16_bit _ _ _ _ (by omega), if_neg (by omega)]
      simp only [h]; show (x3 i).getLsbD _ = (x3 i).getLsbD _; congr 1; (try dsimp only); omega
  · show (odd8 M32 (hi16 M16 x0 x2) (hi16 M16 x1 x3) i).getLsbD q = _
    rw [odd8_bit _ _ _ _ hq]
    rcases key with h | h | h | h
    · rw [if_pos (by omega), hi16_bit _ _ _ _ (by omega), if_pos (by omega)]
      simp only [h]; show (x0 i).getLsbD _ = (x0 i).getLsbD _; congr 1; (try dsimp only); omega
    · rw [if_neg (by omega), hi16_bit _ _ _ _ (by omega), if_pos (by omega)]
      simp only [h]; show (x1 i).getLsbD _ = (x1 i).getLsbD _; congr 1; (try dsimp only); omega
    · rw [if_pos (by omega), hi16_bit _ _ _ _ (by omega), if_neg (by omega)]
      simp only [h]; show (x2 i).getLsbD _ = (x2 i).getLsbD _; congr 1; (try dsimp only); omega
    · rw [if_neg (by omega), hi16_bit _ _ _ _ (by omega), if_neg (by omega)]
      simp only [h]; show (x3 i).getLsbD _ = (x3 i).getLsbD _; congr 1; (try dsimp only); omega

end Repack
-- ==== Proof.BuildRun.lean ====
/-
  What one step of the table's loop leaves: the table with eight rectangles laid over it.
-/
module

public import proofs.«01_k».proof.Proof.Bytes

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F] [Facts]
variable {Ix : Type} [DecidableEq Ix] {Name : Type} [DecidableEq Name] {U : Type} [URA U] {Lvl : Type} [Preorder Lvl]
local notation "𝕄" => MT nD τ sig Ix (Elt F) Name U Lvl

/-- Two programs one after the other. -/
theorem wp_seq {defs : Defs nD τ sig (Elt F) Λ₀} {𝒱 : Variants} {c : Thread nD τ} {bd : Option 𝒱.V} {E : Set Name} {α : Type}
    {A : Prog (TpuEff nD τ sig (Elt F) Λ₀ c.2) PUnit} {B : PUnit → Prog (TpuEff nD τ sig (Elt F) Λ₀ c.2) α} {P P' : sProp 𝕄} {Q : α → sProp 𝕄}
    (hA : P ⊢ wp frame (wpE defs 𝒱 c bd) E A fun _ => P') (hB : P' ⊢ wp frame (wpE defs 𝒱 c bd) E (B ⟨⟩) Q) :
    P ⊢ wp frame (wpE defs 𝒱 c bd) E (A >>= B) Q := by
  rw [wp_bind]
  exact hA.trans (wp_mono _ _ _ fun _ => hB)

/-- A list of programs, each taking one state of a family to the next. -/
theorem wp_runAll {defs : Defs nD τ sig (Elt F) Λ₀} {𝒱 : Variants} {c : Thread nD τ} {bd : Option 𝒱.V} {E : Set Name} :
    ∀ (n : ℕ) (f : Fin n → Prog (TpuEff nD τ sig (Elt F) Λ₀ c.2) PUnit) (I : ℕ → sProp 𝕄)
      (h : ∀ i : Fin n, I i ⊢ wp frame (wpE defs 𝒱 c bd) E (f i) fun _ => I (i + 1)),
      I 0 ⊢ wp frame (wpE defs 𝒱 c bd) E (runAll n f) fun _ => I n
  | 0, f, I, h => by
    show I 0 ⊢ wp frame (wpE defs 𝒱 c bd) E (.ret PUnit.unit) _
    rw [wp_ret]; exact fupd_intro
  | n + 1, f, I, h =>
    wp_seq (h 0) (wp_runAll n (fun i => f i.succ) (fun j => I (j + 1)) fun i => h i.succ)

section
variable (k : Fin k0_t1_loop.trips)

/-- The places a tile of the table is stored at, -/
def rectB (u b : Fin 4) (s : Fin 9) : Rect S64512x128 :=
  ⟨(⟨k0_off7 k (BitVec.ofNat 32 u) (BitVec.ofNat 32 (8 * b)) (BitVec.ofNat 32 s), S8x128.size, ![9, 1], k0_off7_inb k u b s⟩ : LoadRect S64512x128), spos_9_1⟩

/-- and those of its shifted copy. -/
def rectB' (u b : Fin 4) (s : Fin 9) : Rect S64512x128 :=
  ⟨(⟨k0_off8 k (BitVec.ofNat 32 u) (BitVec.ofNat 32 (8 * b)) (BitVec.ofNat 32 s), S8x128.size, ![9, 1], k0_off8_inb k u b s⟩ : LoadRect S64512x128), spos_9_1⟩

/-- The table with one tile stored. -/
def putBV (u b : Fin 4) (s : Fin 9) (y : S8x128.Idx → BitVec 32) (T : S64512x128.Idx → BitVec 32) : S64512x128.Idx → BitVec 32 :=
  upd (rectB' k u b s) (upd (rectB k u b s) T y) fun i => (y i) >>> 4

/-- A tile of the weights. -/
def tileV (W : S896x4608.Idx → BitVec 32) (u : Fin 4) (s : Fin 9) (c : Fin 4) : S8x128.Idx → BitVec 32 :=
  fun x => W ((Rect.unit (s := S896x4608) (tileOff k u (tileCol s c)) S8x128.size (tileOff_inb k u _ (tileCol_le s c))).toLoadRect.idx x)

/-- The table after one step. -/
def stepBV (W : S896x4608.Idx → BitVec 32) (u : Fin 4) (s : Fin 9) (T : S64512x128.Idx → BitVec 32) : S64512x128.Idx → BitVec 32 :=
  let y := bytes M16 M32 (tileV k W u s 0) (tileV k W u s 1) (tileV k W u s 2) (tileV k W u s 3)
  putBV k u 3 s (y 3) (putBV k u 2 s (y 2) (putBV k u 1 s (y 1) (putBV k u 0 s (y 0) T)))

end

section
variable {defs : Defs nD τ sig (Elt F) Λ₀} (𝒱 : Variants) (c : Dev nD) (bd : Option 𝒱.V) (E : Set Name)
variable {arg3 : Memref sig .tc .vmem S896x4608 .i32} (h6 : arg3.IsWhole) {arg4 : Memref sig .tc .vmem S64512x128 .i32} (h7 : arg4.IsWhole)
variable (k : Fin k0_t1_loop.trips)

theorem shapeCast_self {s : Shape} {α : Type} (x : s.Idx → α) (h : s.ShapeCasts s) : shapeCast s x h = x := by
  funext i
  show x _ = x i
  congr 1
  exact s.rowMajor.injective (Fin.ext (Shape.rowMajor_reshapeEquiv h i))

/-- Storing one tile. -/
theorem putB_run (u b : Fin 4) (s : Fin 9) (y : S8x128.Idx → BitVec 32) (T : S64512x128.Idx → BitVec 32) (R : sProp 𝕄) :
    iprop(owns (Ix := Ix) (Name := Name) (U := U) (Lvl := Lvl) (Val := Elt F) (c : Thread nD τ) h7 T ∗ R)
      ⊢ wp frame (wpE defs 𝒱 (c : Thread nD τ) bd) E (putB (F := F) arg4 k u b s y)
        fun _ => iprop(owns (c : Thread nD τ) h7 (putBV k u b s y T) ∗ R) := by
  unfold putB putBV
  refine load_all (defs := defs) 𝒱 (c : Thread nD τ) bd E h7 T (R := R) .rfl ?_
  refine store_all (defs := defs) 𝒱 (c : Thread nD τ) bd E h7 T (fun T => iprop(owns (c : Thread nD τ) h7 T ∗ R)) (R := R) (fun _ => .rfl) ?_
  refine load_all (defs := defs) 𝒱 (c : Thread nD τ) bd E h7 _ (R := R) .rfl ?_
  refine store_all (defs := defs) 𝒱 (c : Thread nD τ) bd E h7 _ (fun T => iprop(owns (c : Thread nD τ) h7 T ∗ R)) (R := R) (fun _ => .rfl) ?_
  rw [shapeCast_self, shapeCast_self]
  exact fupd_intro

/-- One step: the rows it reads are held as the elements `M`. -/
theorem stepB_run (u : Fin 4) (s : Fin 9) (M : Finset S896x4608.Idx) (W : S896x4608.Idx → BitVec 32) (T : S64512x128.Idx → BitVec 32)
    (hM : ∀ c : Fin 4, (Rect.unit (s := S896x4608) (tileOff k u (tileCol s c)) S8x128.size (tileOff_inb k u _ (tileCol_le s c))).toLoadRect.set ⊆ M) :
    iprop(owns (Ix := Ix) (Name := Name) (U := U) (Lvl := Lvl) (Val := Elt F) (c : Thread nD τ) h7 T ∗ own (c : Thread nD τ) h6 M W)
      ⊢ wp frame (wpE defs 𝒱 (c : Thread nD τ) bd) E (stepB (F := F) arg3 arg4 M16 M32 k u s)
        fun _ => iprop(owns (c : Thread nD τ) h7 (stepBV k W u s T) ∗ own (c : Thread nD τ) h6 M W) := by
  unfold stepB stepBV
  refine load_step (defs := defs) 𝒱 (c : Thread nD τ) bd E h6 M W sep_comm (hM 0) ?_
  refine load_step (defs := defs) 𝒱 (c : Thread nD τ) bd E h6 M W sep_comm (hM 1) ?_
  refine load_step (defs := defs) 𝒱 (c : Thread nD τ) bd E h6 M W sep_comm (hM 2) ?_
  refine load_step (defs := defs) 𝒱 (c : Thread nD τ) bd E h6 M W sep_comm (hM 3) ?_
  refine wp_seq (putB_run 𝒱 c bd E h7 k u 0 s _ T _) ?_
  refine wp_seq (putB_run 𝒱 c bd E h7 k u 1 s _ _ _) ?_
  refine wp_seq (putB_run 𝒱 c bd E h7 k u 2 s _ _ _) ?_
  exact putB_run 𝒱 c bd E h7 k u 3 s _ _ _

end

end Repack
-- ==== Proof.Copies.lean ====
/-
  Copies between buffers. A copy is started by a core that holds the elements it reads, the elements it writes and its
  semaphore at zero; what it delivers comes back, with the semaphore, at the wait.
-/
module

public import proofs.«01_k».proof.Proof.BuildRun
public import Idealize.ShloMosaic.Lib.Transfers

@[expose] public section

noncomputable section

namespace Repack

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix]
variable {Val : EltTy → Type} [∀ e, Nonempty (Val e)] {Name : Type} [DecidableEq Name] [Infinite Name]
variable {U : Type} [URA U] {Lvl : Type} [Preorder Lvl] {Λ : Labels}
local notation "𝕄" => MT nD τ sig Ix Val Name U Lvl

/-- A core that owes nothing. -/
def idle (c : Thread nD τ) : sProp 𝕄 := iprop(∃ W, owes c 0 W)

/-- A family of resources with one of them exchanged. -/
theorem bigSep_swap {I : Type} [Fintype I] [DecidableEq I] (i : I) (Φ Ψ : I → sProp 𝕄) (h : ∀ j, j ≠ i → Φ j = Ψ j) :
    bigSep Finset.univ Φ ⊢ iprop(Φ i ∗ (Ψ i -∗ bigSep Finset.univ Ψ)) := by
  have e : bigSep (Finset.univ.erase i) Φ = bigSep (Finset.univ.erase i) Ψ :=
    bigSep_congr fun j hj => h j (Finset.ne_of_mem_erase hj)
  rw [bigSep_erase (Finset.mem_univ i), bigSep_erase (Φ := Ψ) (Finset.mem_univ i), e]
  show iprop(Φ i ∗ bigSep (Finset.univ.erase i) Ψ) ⊢ iprop(Φ i ∗ (Ψ i -∗ (Ψ i ∗ bigSep (Finset.univ.erase i) Ψ)))
  iintro ⟨H, HR⟩
  isplitl [H]
  · iexact H
  · iintro H
    isplitl [H]
    · iexact H
    · iexact HR

variable {defs : Defs nD τ sig Val Λ} (𝒱 : Variants) (c : Thread nD τ) (bd : Option 𝒱.V)
variable (EC : UEmb Counters (MT nD τ sig Ix Val Name U Lvl)) [EC.LandsIn (upEmb : UEmb _ (MT nD τ sig Ix Val Name U Lvl))]
variable {α : Type} {sp sp' : Space} {s : Shape} {e : EltTy}

/-- A program run with one of a family of resources, and some others. -/
theorem swap_run {I : Type} [Fintype I] [DecidableEq I] (i : I) (Φ Ψ : I → sProp 𝕄) (h : ∀ j, j ≠ i → Φ j = Ψ j)
    {p : Prog (TpuEff nD τ sig Val Λ c.2) PUnit} {X Y : sProp 𝕄} {E : Set Name}
    (hrun : iprop(X ∗ Φ i) ⊢ wp frame (wpE defs 𝒱 c bd) E p fun _ => iprop(Y ∗ Ψ i)) :
    iprop(X ∗ bigSep Finset.univ Φ) ⊢ wp frame (wpE defs 𝒱 c bd) E p fun _ => iprop(Y ∗ bigSep Finset.univ Ψ) := by
  have hs := bigSep_swap i Φ Ψ h
  iintro ⟨HX, H⟩
  ihave H' := hs $$ H
  icases H' with ⟨H, Hb⟩
  iapply (wp_wand_r frame (wpE defs 𝒱 c bd) E (Q := fun _ => iprop(Y ∗ Ψ i)))
  isplitl [HX H]
  · iapply hrun
    isplitl [HX]
    · iexact HX
    · iexact H
  · iintro %a ⟨HY, H⟩
    isplitl [HY]
    · iexact HY
    · iapply Hb
      iexact H

/-- A program run beside other resources. -/
theorem frame_run {p : Prog (TpuEff nD τ sig Val Λ c.2) α} {X Y R : sProp 𝕄} {E : Set Name}
    (h : X ⊢ wp frame (wpE defs 𝒱 c bd) E p fun _ => Y) :
    iprop(X ∗ R) ⊢ wp frame (wpE defs 𝒱 c bd) E p fun _ => iprop(Y ∗ R) :=
  (sep_mono_l h).trans (wp_frame_r frame (wpE defs 𝒱 c bd) E)

/-- What a program needs may be more, and what it leaves less. -/
theorem run_mono {p : Prog (TpuEff nD τ sig Val Λ c.2) α} {X X' : sProp 𝕄} {Y Y' : α → sProp 𝕄} {E : Set Name}
    (h : X ⊢ wp frame (wpE defs 𝒱 c bd) E p Y) (h1 : X' ⊢ X) (h2 : ∀ a, Y a ⊢ Y' a) :
    X' ⊢ wp frame (wpE defs 𝒱 c bd) E p Y' :=
  h1.trans (h.trans (wp_mono _ _ _ h2))

/-- The start of a copy, stated of what it delivers. -/
theorem start_step {src : Memref sig c.2.kind sp s e} {dst : Memref sig c.2.kind sp' s e} {sm : SemLoc sig}
    {hsrc : src.view.WordExact} {hdst : dst.view.WordExact} {hsem : DmaTarget.Typed (nD := nD) sp sm (.here dst)}
    {fs : Buf Val (src.view.loc c)} {fd : Buf Val (dst.view.loc c)} (ι : Ix) (hs : 0 < s.numel) (D : sProp 𝕄)
    (hD : iprop((dst.view.loc c ↦[dst.view.set]{fullShare} (dst.view.write Val fd (src.view.read Val fs) Finset.univ))
        ∗ (src.view.loc c ↦[src.view.set]{fullShare} fs)) ⊢ D) :
    iprop((src.view.loc c ↦[src.view.set]{fullShare} fs) ∗ (dst.view.loc c ↦[dst.view.set]{fullShare} fd) ∗ semVal (c, sm) 0)
      ⊢ wp frame (wpE defs 𝒱 c bd) Set.univ (Prog.lift (TpuEff.enqueueDma (Λ := Λ) src (.here dst) sm hsrc hdst hsem))
        fun _ => Transfers.Flight EC c sm ι (dst.view.amount sm) D := by
  have := Transfers.wp_dmaLocal (defs := defs) EC 𝒱 c bd (src := src) (via := .same) (dst := dst) (sm := sm) (hsrc := hsrc)
    (hdst := hdst) (hsem := hsem) (k := .ret) (q := fullShare) (fs := fs) (fd := fd) (Sd := dst.view.set) (Q := fun _ => Transfers.Flight EC c sm ι (dst.view.amount sm) D)
    ι (dst.view.amount sm) rfl (dst.view.amount_pos sm hs) (Finset.Subset.refl _)
  iintro H
  iapply this $$ H
  iintro H
  rw [wp_ret]
  imodintro
  iapply (Transfers.Flight_mono EC c hD)
  iexact H

/-- The wait for a copy. -/
theorem wait_step {sem : DmaSem sig} {s' : Shape} {e' : EltTy}
    {src : Memref sig c.2.kind sp' s' e'} {dst : Memref sig c.2.kind sp s e} {hsrc : src.view.WordExact} {hdst : dst.view.WordExact}
    (ι : Ix) {N : ℕ} (hN : dst.view.dmaCredit = N) (D : sProp 𝕄) :
    iprop(Transfers.Flight EC c (.dma sem) ι N D ∗ idle c)
      ⊢ wp frame (wpE defs 𝒱 c bd) Set.univ (Prog.lift (TpuEff.waitDma2 (Λ := Λ) sem src dst hsrc hdst))
        fun _ => iprop((D ∗ semVal (c, SemLoc.dma sem) 0) ∗ idle c) := by
  unfold idle
  iintro ⟨H, %W, HW⟩
  have := Transfers.wp_waitLocal (defs := defs) EC 𝒱 c bd (sem := sem) (srcw := src) (dstw := dst) (hsrc := hsrc) (hdst := hdst)
    (k := .ret) (Q := fun _ => iprop((D ∗ semVal (c, SemLoc.dma sem) 0) ∗ ∃ W, owes c 0 W)) ι hN (D := D) (W := W)
  iapply this $$ [H HW]
  · isplitl [H]
    · iexact H
    · iexact HW
  iintro ⟨HD, Hv, HW⟩
  rw [wp_ret]
  imodintro
  isplitl [HD Hv]
  · isplitl [HD]
    · iexact HD
    · iexact Hv
  · iexists _
    iexact HW

/-- What is held of a slice is its elements. -/
theorem own_slice {m : Memref sig c.2.kind sp s e} (h : m.IsWhole) (r : Rect s) (hr : ∀ a, r.stride a = 1) (v : s.Idx → Val e) :
    own (Ix := Ix) (Name := Name) (U := U) (Lvl := Lvl) c h r.set v
      = iprop((m.slice r hr).view.loc c ↦[(m.slice r hr).view.set]{fullShare} (h.unread v : Buf Val (m.view.loc c))) := by
  unfold own
  rw [View.set_slice]
  rfl

/-- Only the values at the elements held matter. -/
theorem own_congr {m : Memref sig c.2.kind sp s e} (h : m.IsWhole) (M : Finset s.Idx) (v w : s.Idx → Val e) (hv : ∀ y ∈ M, v y = w y) :
    own (Ix := Ix) (Name := Name) (U := U) (Lvl := Lvl) c h M v = own c h M w := by
  unfold own
  refine pointsTo_congr fun i hi => ?_
  obtain ⟨y, hy, rfl⟩ := Finset.mem_map.mp hi
  have hr (v : s.Idx → Val e) : m.view.read Val (h.unread v) y = v y := congrFun (h.read_unread v) y
  have h1 := (hr v).trans ((hv y hy).trans (hr w).symm)
  simp only [View.read] at h1
  exact (cast_inj _).mp h1

/-- A copy of a rectangle of one buffer to the same rectangle of another. -/
theorem copy_rect {m0 : Memref sig c.2.kind sp s e} {m1 : Memref sig c.2.kind sp' s e} (h0 : m0.IsWhole) (h1 : m1.IsWhole)
    (r : Rect s) (hr : ∀ a, r.stride a = 1) {sm : SemLoc sig} {hsrc : (m0.slice r hr).view.WordExact} {hdst : (m1.slice r hr).view.WordExact}
    {hsem : DmaTarget.Typed (nD := nD) sp sm (.here (m1.slice r hr))} (ι : Ix) (hs : 0 < r.shape.numel) (w v : s.Idx → Val e) :
    iprop(own c h0 r.set w ∗ own c h1 r.set v ∗ semVal (c, sm) 0)
      ⊢ wp frame (wpE defs 𝒱 c bd) Set.univ (Prog.lift (TpuEff.enqueueDma (Λ := Λ) (m0.slice r hr) (.here (m1.slice r hr)) sm hsrc hdst hsem))
        fun _ => Transfers.Flight EC c sm ι ((m1.slice r hr).view.amount sm) iprop(own c h1 r.set w ∗ own c h0 r.set w) := by
  have hw : own (Ix := Ix) (Name := Name) (U := U) (Lvl := Lvl) c h1 r.set w
      = own c h1 r.set (upd r v fun x => w (r.emb x)) := by
    refine own_congr c h1 _ _ _ fun y hy => ?_
    obtain ⟨x, rfl⟩ := r.exists_idx_of_mem hy
    exact (upd_emb r v (fun x => w (r.emb x)) x).symm
  rw [hw, own_slice c h0 r hr, own_slice c h1 r hr, own_slice c h1 r hr]
  refine start_step 𝒱 c bd EC ι hs _ ?_
  have hwr := write_unread h1 r v fun x => w (r.emb x)
  have hrd : (m0.slice r hr).view.read Val (h0.unread w) = fun x => w (r.emb x) := funext fun x => congrFun (h0.read_unread w) (r.emb x)
  have hwr' : (m1.slice r hr).view.write Val (h1.unread v) (fun x => w (r.emb x)) Finset.univ = h1.unread (upd r v fun x => w (r.emb x)) := hwr
  rw [hrd, hwr']

/-- A copy of one buffer to another. -/
theorem copy_all {m0 : Memref sig c.2.kind sp s e} {m1 : Memref sig c.2.kind sp' s e} (h0 : m0.IsWhole) (h1 : m1.IsWhole)
    {sm : SemLoc sig} {hsrc : m0.view.WordExact} {hdst : m1.view.WordExact}
    {hsem : DmaTarget.Typed (nD := nD) sp sm (.here m1)} (ι : Ix) (hs : 0 < s.numel) (w v : s.Idx → Val e) :
    iprop(owns c h0 w ∗ owns c h1 v ∗ semVal (c, sm) 0)
      ⊢ wp frame (wpE defs 𝒱 c bd) Set.univ (Prog.lift (TpuEff.enqueueDma (Λ := Λ) m0 (.here m1) sm hsrc hdst hsem))
        fun _ => Transfers.Flight EC c sm ι (m1.view.amount sm) iprop(owns c h1 w ∗ owns c h0 w) := by
  refine start_step 𝒱 c bd EC (fs := h0.unread w) (fd := h1.unread v) ι hs _ ?_
  rw [h0.read_unread w, show m1.view.write Val (h1.unread v) w Finset.univ = h1.unread w from
    h1.eq_unread (by rw [View.read_write_univ])]
  exact Entails.of_eq rfl

end

end Repack
-- ==== Proof.Offsets.lean ====
/-
  The offsets the kernel computes, as numbers.
-/
module

public import proofs.«01_k».proof.KernelIdeal

@[expose] public section

namespace Repack

open Idealize.ShloMosaic Idealize.ShloMosaic.TcCoe
open Cert.KernelIdeal

/-- Both loops make 28 trips. -/
theorem trips1 : k0_t1_loop.trips = 28 := by decide

@[inherit_doc trips1]
theorem trips2 : k0_t2_loop.trips = 28 := by decide

theorem iv_toNat (k : ℕ) (hk : k < 28) : (Scf.iv 0#32 1#32 k).toNat = k := by
  simp [Scf.iv]; omega

variable (k : Fin k0_t1_loop.trips) (k2 : Fin k0_t2_loop.trips)

/-- The semaphore of a trip's rows, -/
theorem off1_eq : k0_off1 k = ![(k : ℕ)] := by
  have hk : (k : ℕ) < 28 := trips1 ▸ k.2
  unfold k0_off1
  exact congrArg (fun z => ![z]) (iv_toNat k hk)

/-- its rows, -/
theorem off2_eq : k0_off2 k = ![32 * (k : ℕ), 0] := by
  have hk : (k : ℕ) < 28 := trips1 ▸ k.2
  have hi := iv_toNat k hk
  unfold k0_off2
  refine congrArg (fun z => ![z, 0]) ?_
  simp only [Scalar.muli, IntOp.muli, BitVec.toNat_mul, hi, BitVec.toNat_ofNat]
  omega

/-- the rows of an octet, -/
theorem off3_eq (u : ℕ) (hu : u < 4) : k0_off3 k (BitVec.ofNat 32 (8 * u)) 0 = 32 * (k : ℕ) + 8 * u := by
  have hk : (k : ℕ) < 28 := trips1 ▸ k.2
  have hi := iv_toNat k hk
  unfold k0_off3
  simp only [Scalar.muli, Scalar.addi, Scalar.indexCast, IntOp.muli, IntOp.addi, BitVec.toNat_mul, BitVec.toNat_add, BitVec.toNat_setWidth, hi, BitVec.toNat_ofNat, Matrix.cons_val_zero]
  omega

/-- the places a tile is stored at, -/
theorem off7_eq (u b s : ℕ) (hu : u < 4) (hb : b < 4) (hs : s < 9) :
    k0_off7 k (BitVec.ofNat 32 u) (BitVec.ofNat 32 (8 * b)) (BitVec.ofNat 32 s) = ![((4 * (k : ℕ) + u) * 32 + 8 * b) * 9 + s, 0] := by
  have hk : (k : ℕ) < 28 := trips1 ▸ k.2
  have hi := iv_toNat k hk
  unfold k0_off7
  refine congrArg (fun z => ![z, 0]) ?_
  simp only [Scalar.muli, Scalar.addi, Scalar.indexCast, IntOp.muli, IntOp.addi, BitVec.toNat_mul, BitVec.toNat_add, BitVec.toNat_setWidth, hi, BitVec.toNat_ofNat]
  omega

/-- and those of its shifted copy. -/
theorem off8_eq (u b s : ℕ) (hu : u < 4) (hb : b < 4) (hs : s < 9) :
    k0_off8 k (BitVec.ofNat 32 u) (BitVec.ofNat 32 (8 * b)) (BitVec.ofNat 32 s) = ![32256 + ((4 * (k : ℕ) + u) * 32 + 8 * b) * 9 + s, 0] := by
  have hk : (k : ℕ) < 28 := trips1 ▸ k.2
  have hi := iv_toNat k hk
  unfold k0_off8
  refine congrArg (fun z => ![z, 0]) ?_
  simp only [Scalar.muli, Scalar.addi, Scalar.indexCast, IntOp.muli, IntOp.addi, BitVec.toNat_mul, BitVec.toNat_add, BitVec.toNat_setWidth, hi, BitVec.toNat_ofNat]
  omega

/-- The rows of addresses of a trip's two slabs, -/
theorem off42_eq : k0_off42 k2 = ![2 * (k2 : ℕ), 0] := by
  have hk : (k2 : ℕ) < 28 := trips2 ▸ k2.2
  have hi := iv_toNat k2 hk
  unfold k0_off42
  refine congrArg (fun z => ![z, 0]) ?_
  simp only [Scalar.muli, Scalar.addi, Scalar.indexCast, IntOp.muli, IntOp.addi, BitVec.toNat_mul, BitVec.toNat_add, BitVec.toNat_setWidth, hi, BitVec.toNat_ofNat]
  omega

@[inherit_doc off42_eq]
theorem off316_eq : k0_off316 k2 = ![2 * (k2 : ℕ) + 1, 0] := by
  have hk : (k2 : ℕ) < 28 := trips2 ▸ k2.2
  have hi := iv_toNat k2 hk
  unfold k0_off316
  refine congrArg (fun z => ![z, 0]) ?_
  simp only [Scalar.muli, Scalar.addi, Scalar.indexCast, IntOp.muli, IntOp.addi, BitVec.toNat_mul, BitVec.toNat_add, BitVec.toNat_setWidth, hi, BitVec.toNat_ofNat]
  omega

/-- the groups they go to, -/
theorem off314_eq : k0_off314 k2 = ![2 * (k2 : ℕ), 0, 0, 0] := by
  have hk : (k2 : ℕ) < 28 := trips2 ▸ k2.2
  have hi := iv_toNat k2 hk
  unfold k0_off314
  refine congrArg (fun z => ![z, 0, 0, 0]) ?_
  simp only [Scalar.muli, Scalar.addi, Scalar.indexCast, IntOp.muli, IntOp.addi, BitVec.toNat_mul, BitVec.toNat_add, BitVec.toNat_setWidth, hi, BitVec.toNat_ofNat]
  omega

@[inherit_doc off314_eq]
theorem off588_eq : k0_off588 k2 = ![2 * (k2 : ℕ) + 1, 0, 0, 0] := by
  have hk : (k2 : ℕ) < 28 := trips2 ▸ k2.2
  have hi := iv_toNat k2 hk
  unfold k0_off588
  refine congrArg (fun z => ![z, 0, 0, 0]) ?_
  simp only [Scalar.muli, Scalar.addi, Scalar.indexCast, IntOp.muli, IntOp.addi, BitVec.toNat_mul, BitVec.toNat_add, BitVec.toNat_setWidth, hi, BitVec.toNat_ofNat]
  omega

/-- and the condition under which a trip waits for the slabs of the trip before: that there is one. -/
theorem cond1_iff : k0_cond1 k2 = 1#1 ↔ (k2 : ℕ) ≠ 0 := by
  have h : ∀ k2 : Fin k0_t2_loop.trips, k0_cond1 k2 = 1#1 ↔ (k2 : ℕ) ≠ 0 := by decide
  exact h k2

@[inherit_doc cond1_iff]
theorem cond2_iff : k0_cond2 k2 = 1#1 ↔ (k2 : ℕ) ≠ 0 := by
  have h : ∀ k2 : Fin k0_t2_loop.trips, k0_cond2 k2 = 1#1 ↔ (k2 : ℕ) ≠ 0 := by decide
  exact h k2

/-- An address below 64504 names nine rows of the table. -/
theorem off43_eq (v : BitVec 32) : k0_off43 v = ![v.toNat, 0] := by
  unfold k0_off43
  refine congrArg (fun z => ![z, 0]) ?_
  simp only [Scalar.indexCast, BitVec.toNat_setWidth]

theorem off51_eq (v : BitVec 32) (h : v.toNat ≤ 64503) : k0_off51 v = ![v.toNat + 8, 0] := by
  unfold k0_off51
  refine congrArg (fun z => ![z, 0]) ?_
  simp only [Scalar.addi, Scalar.indexCast, IntOp.addi, BitVec.toNat_add, BitVec.toNat_setWidth, BitVec.toNat_ofNat]
  omega

@[inherit_doc off43_eq]
theorem chk1_of (v : BitVec 32) (h : v.toNat ≤ 64503) : k0_chk1 v := by
  unfold k0_chk1
  rw [off43_eq, off51_eq v h]
  refine ⟨fun a => ?_, fun a => ?_⟩
  · fin_cases a
    · show v.toNat + 8 ≤ 64512; omega
    · exact (by decide : 0 + 128 ≤ 128)
  · fin_cases a
    · show v.toNat + 8 + 1 ≤ 64512; omega
    · exact (by decide : 0 + 128 ≤ 128)

end Repack
-- ==== Proof.TableRun.lean ====
/-
  The table built. The 28 copies of the rows of the weights are started; each trip of the first loop waits for its rows
  and stores the tiles made of them.
-/
module

public import proofs.«01_k».proof.Proof.Copies
public import proofs.«01_k».proof.Proof.Offsets

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F] [Facts]
variable {Ix : Type} [DecidableEq Ix] {Name : Type} [DecidableEq Name] [Infinite Name] {U : Type} [URA U] {Lvl : Type} [Preorder Lvl]
local notation "𝕄" => MT nD τ sig Ix (Elt F) Name U Lvl

/-- The table after the first `n` of a trip's 36 steps, -/
def stepsBV (k : Fin k0_t1_loop.trips) (W : S896x4608.Idx → BitVec 32) (T : S64512x128.Idx → BitVec 32) : ℕ → S64512x128.Idx → BitVec 32
  | 0 => T
  | n + 1 => stepBV k W ⟨n / 9 % 4, Nat.mod_lt _ (by decide)⟩ ⟨n % 9, Nat.mod_lt _ (by decide)⟩ (stepsBV k W T n)

theorem stepsBV_zero (k : Fin k0_t1_loop.trips) (W : S896x4608.Idx → BitVec 32) (T : S64512x128.Idx → BitVec 32) : stepsBV k W T 0 = T := rfl

theorem stepsBV_succ (k : Fin k0_t1_loop.trips) (W : S896x4608.Idx → BitVec 32) (T : S64512x128.Idx → BitVec 32) (n : ℕ) :
    stepsBV k W T (n + 1) = stepBV k W ⟨n / 9 % 4, Nat.mod_lt _ (by decide)⟩ ⟨n % 9, Nat.mod_lt _ (by decide)⟩ (stepsBV k W T n) := rfl

attribute [irreducible] stepsBV
attribute [local irreducible] runAll

/-- and after the first `n` trips. -/
def tableV (W : S896x4608.Idx → BitVec 32) (T : S64512x128.Idx → BitVec 32) : ℕ → S64512x128.Idx → BitVec 32
  | 0 => T
  | n + 1 => if h : n < k0_t1_loop.trips then stepsBV ⟨n, h⟩ W (tableV W T n) 36 else tableV W T n

theorem rows_inb (i : Fin 28) : ∀ a, (![32 * (i : ℕ), 0] : Fin 2 → ℕ) a + S32x4608.size a ≤ S896x4608.size a := by
  intro a
  fin_cases a
  · show 32 * (i : ℕ) + 32 ≤ 896; have := i.2; omega
  · exact (by decide : 0 + 4608 ≤ 4608)

theorem isem_inb (i : Fin 28) : ∀ a, (![(i : ℕ)] : Fin 1 → ℕ) a + S1.size a ≤ S28.size a := by
  intro a
  fin_cases a
  show (i : ℕ) + 1 ≤ 28
  have := i.2
  omega

/-- The rows of the weights one copy brings, -/
def rowsR (i : Fin 28) : Rect S896x4608 := Rect.unit (s := S896x4608) ![32 * (i : ℕ), 0] S32x4608.size (rows_inb i)

/-- its semaphore. -/
def isem (arg10 : DmaSems sig S28) (i : Fin 28) : DmaSem sig :=
  ((arg10.slice (Rect.unit (s := S28) ![(i : ℕ)] S1.size (isem_inb i))).squeeze S_ squeezes_S1_S_).sem

theorem isem_of (arg10 : DmaSems sig S28) (i : Fin 28) (o : Fin 1 → ℕ) (h : ∀ a, o a + S1.size a ≤ S28.size a) (ho : o = ![(i : ℕ)]) :
    ((arg10.slice (Rect.unit (s := S28) o S1.size h)).squeeze S_ squeezes_S1_S_).sem = isem arg10 i := by
  subst ho; rfl

/-- The start of that copy. -/
def startI (arg0 : Memref sig .tc .hbm S896x4608 .i32) (arg3 : Memref sig .tc .vmem S896x4608 .i32) (arg10 : DmaSems sig S28) (i : Fin 28) :
    Prog (TpuEff nD τ sig (Elt F) Λ₀ .tc) PUnit :=
  Prog.lift (.enqueueDma (arg0.slice (Rect.unit (s := S896x4608) ![32 * (i : ℕ), 0] S32x4608.size (rows_inb i)) (fun _ => rfl))
    (.here (arg3.slice (Rect.unit (s := S896x4608) ![32 * (i : ℕ), 0] S32x4608.size (rows_inb i)) (fun _ => rfl)))
    (.dma (isem arg10 i)) (View.wordExact_bits rfl) (View.wordExact_bits rfl) ⟨Or.inl rfl, trivial⟩)

section
variable {defs : Defs nD τ sig (Elt F) Λ₀} (𝒱 : Variants) (c : Dev nD) (bd : Option 𝒱.V)
variable (EC : UEmb Counters (MT nD τ sig Ix (Elt F) Name U Lvl)) [EC.LandsIn (upEmb : UEmb _ (MT nD τ sig Ix (Elt F) Name U Lvl))] (ι : Ix)
variable {arg0 : Memref sig .tc .hbm S896x4608 .i32} (h0 : arg0.IsWhole)
variable {arg3 : Memref sig .tc .vmem S896x4608 .i32} (h3 : arg3.IsWhole) {arg4 : Memref sig .tc .vmem S64512x128 .i32} (h4 : arg4.IsWhole)
variable (arg10 : DmaSems sig S28) (W : S896x4608.Idx → BitVec 32)

/-- A copy's rows before it starts, -/
def beforeI (i : Fin 28) : sProp 𝕄 :=
  iprop(own (Val := Elt F) (c : Thread nD τ) h0 (rowsR i).set W ∗ (∃ v, own (Val := Elt F) (c : Thread nD τ) h3 (rowsR i).set v)
    ∗ semVal ((c : Thread nD τ), SemLoc.dma (isem arg10 i)) 0)

/-- while it runs, -/
def flightI (i : Fin 28) : sProp 𝕄 :=
  Transfers.Flight EC (c : Thread nD τ) (.dma (isem arg10 i)) ι
    ((arg3.slice (Rect.unit (s := S896x4608) ![32 * (i : ℕ), 0] S32x4608.size (rows_inb i)) (fun _ => rfl)).view.dmaCredit)
    iprop(own (Val := Elt F) (c : Thread nD τ) h3 (rowsR i).set W ∗ own (Val := Elt F) (c : Thread nD τ) h0 (rowsR i).set W)

/-- and after its wait. -/
def afterI (i : Fin 28) : sProp 𝕄 :=
  iprop((own (Val := Elt F) (c : Thread nD τ) h3 (rowsR i).set W ∗ own (Val := Elt F) (c : Thread nD τ) h0 (rowsR i).set W)
    ∗ semVal ((c : Thread nD τ), SemLoc.dma (isem arg10 i)) 0)

/-- The first `n` copies started, -/
def startedI (n : ℕ) : sProp 𝕄 := bigSep Finset.univ fun i : Fin 28 =>
  if (i : ℕ) < n then flightI c EC ι h0 h3 arg10 W i else beforeI c h0 h3 arg10 W i

/-- the first `n` waited for. -/
def waitedI (n : ℕ) : sProp 𝕄 := bigSep Finset.univ fun i : Fin 28 =>
  if (i : ℕ) < n then afterI c h0 h3 arg10 W i else flightI c EC ι h0 h3 arg10 W i

/-- One copy started. -/
theorem startI_run (i : Fin 28) {n m : ℕ} (hn : n = i) (hm : m = i + 1) (R : sProp 𝕄) :
    iprop(R ∗ startedI c EC ι h0 h3 arg10 W n)
      ⊢ wp frame (wpE defs 𝒱 (c : Thread nD τ) bd) Set.univ (startI (F := F) arg0 arg3 arg10 i)
        fun _ => iprop(R ∗ startedI c EC ι h0 h3 arg10 W m) := by
  subst hn hm
  unfold startedI
  refine swap_run (Λ := Λ₀) (defs := defs) 𝒱 (c : Thread nD τ) bd i _ _ (fun j hj => ?_) ?_
  · have hj' : (j : ℕ) ≠ i := fun h => hj (Fin.ext h)
    by_cases h : (j : ℕ) < i
    · rw [if_pos h, if_pos (by omega)]
    · rw [if_neg h, if_neg (by omega)]
  rw [if_neg (lt_irrefl _), if_pos (Nat.lt_succ_self _)]
  unfold beforeI
  iintro ⟨HR, H0, ⟨%v, H3⟩, Hs⟩
  have hrun := frame_run (Λ := Λ₀) (defs := defs) 𝒱 (c : Thread nD τ) bd (R := R)
    (copy_rect (Λ := Λ₀) (defs := defs) 𝒱 (c : Thread nD τ) bd EC h0 h3 (rowsR i) (fun _ => rfl) (sm := .dma (isem arg10 i))
    (hsrc := View.wordExact_bits rfl) (hdst := View.wordExact_bits rfl) (hsem := ⟨Or.inl rfl, trivial⟩) ι
    (show 0 < S32x4608.numel from by decide) W v)
  have hc : iprop(R ∗ flightI c EC ι h0 h3 arg10 W i) ⊣⊢ iprop(flightI c EC ι h0 h3 arg10 W i ∗ R) := sep_comm
  iapply (wp_mono frame (wpE defs 𝒱 (c : Thread nD τ) bd) Set.univ fun _ => hc.2)
  iapply hrun
  isplitl [H0 H3 Hs]
  · isplitl [H0]
    · iexact H0
    isplitl [H3]
    · iexact H3
    · iexact Hs
  · iexact HR

/-- The rows a tile is read from are among those a copy brings. -/
theorem tile_sub (k : Fin k0_t1_loop.trips) (i : Fin 28) (hi : (i : ℕ) = k) (u : Fin 4) (n : ℕ) (hn : n ≤ 4480) :
    (Rect.unit (s := S896x4608) (tileOff k u n) S8x128.size (tileOff_inb k u n hn)).toLoadRect.set ⊆ (rowsR i).set := by
  intro y hy
  have h := (Rect.mem_set_unit).1 hy
  refine (Rect.mem_set_unit).2 fun a => ?_
  have ha := h a
  have hu := u.2
  have h3 := off3_eq k u u.2
  fin_cases a
  · have h1 : k0_off3 k (BitVec.ofNat 32 (8 * u)) 0 ≤ y 0 ∧ (y 0 : ℕ) < k0_off3 k (BitVec.ofNat 32 (8 * u)) 0 + 8 := ha
    show 32 * (i : ℕ) ≤ y 0 ∧ (y 0 : ℕ) < 32 * i + 32
    rw [h3] at h1
    omega
  · have : (y 1 : ℕ) < 4608 := (y 1).2
    show 0 ≤ (y 1 : ℕ) ∧ (y 1 : ℕ) < 0 + 4608
    omega

/-- The steps of one trip. -/
theorem stepsB_run (k : Fin k0_t1_loop.trips) (i : Fin 28) (hi : (i : ℕ) = k) (T : S64512x128.Idx → BitVec 32) (R : sProp 𝕄) :
    iprop(owns (Val := Elt F) (c : Thread nD τ) h4 T ∗ own (Val := Elt F) (c : Thread nD τ) h3 (rowsR i).set W ∗ R)
      ⊢ wp frame (wpE defs 𝒱 (c : Thread nD τ) bd) Set.univ
          (runAll 36 fun j => stepB (F := F) arg3 arg4 M16 M32 k (j.divNat (n := 9) (m := 4)) (j.modNat (n := 9) (m := 4)))
        fun _ => iprop(owns (Val := Elt F) (c : Thread nD τ) h4 (stepsBV k W T 36) ∗ own (Val := Elt F) (c : Thread nD τ) h3 (rowsR i).set W ∗ R) := by
  have h00 : owns (Ix := Ix) (Name := Name) (U := U) (Lvl := Lvl) (Val := Elt F) (c : Thread nD τ) h4 T = owns (c : Thread nD τ) h4 (stepsBV k W T 0) := by rw [stepsBV_zero]
  rw [h00]
  refine wp_runAll (defs := defs) (𝒱 := 𝒱) (c := (c : Thread nD τ)) (bd := bd) (E := Set.univ) 36 _
    (fun n => iprop(owns (Ix := Ix) (Name := Name) (U := U) (Lvl := Lvl) (Val := Elt F) (c : Thread nD τ) h4 (stepsBV k W T n) ∗ own (Val := Elt F) (c : Thread nD τ) h3 (rowsR i).set W ∗ R)) fun j => ?_
  have hrun := frame_run (Λ := Λ₀) (defs := defs) 𝒱 (c : Thread nD τ) bd (R := R)
    (stepB_run (F := F) (Ix := Ix) (Name := Name) (U := U) (Lvl := Lvl) (defs := defs) 𝒱 c bd Set.univ h3 h4 k (j.divNat (n := 9) (m := 4)) (j.modNat (n := 9) (m := 4)) (rowsR i).set W
        (stepsBV k W T j) (fun q => tile_sub k i hi _ _ (tileCol_le _ q)))
  have eu : (⟨(j : ℕ) / 9 % 4, Nat.mod_lt _ (by decide)⟩ : Fin 4) = j.divNat (n := 9) (m := 4) := Fin.ext (Nat.mod_eq_of_lt (j.divNat (n := 9) (m := 4)).2)
  have es : stepsBV k W T (j + 1) = stepBV k W (j.divNat (n := 9) (m := 4)) (j.modNat (n := 9) (m := 4)) (stepsBV k W T j) := by
    rw [stepsBV_succ, eu]; rfl
  rw [es]
  exact run_mono (defs := defs) 𝒱 (c : Thread nD τ) bd hrun sep_assoc.2 fun _ => sep_assoc.1

/-- One trip of the table's loop. -/
theorem tripB_run (k : Fin k0_t1_loop.trips) (i : Fin 28) (hi : (i : ℕ) = k) (T : S64512x128.Idx → BitVec 32) :
    iprop((owns (Val := Elt F) (c : Thread nD τ) h4 T ∗ idle (c : Thread nD τ)) ∗ waitedI c EC ι h0 h3 arg10 W k)
      ⊢ wp frame (wpE defs 𝒱 (c : Thread nD τ) bd) Set.univ (tripB (F := F) arg3 arg4 M16 M32 k arg0 arg10)
        fun _ => iprop((owns (Val := Elt F) (c : Thread nD τ) h4 (stepsBV k W T 36) ∗ idle (c : Thread nD τ)) ∗ waitedI c EC ι h0 h3 arg10 W (k + 1)) := by
  unfold waitedI
  refine swap_run (Λ := Λ₀) (defs := defs) 𝒱 (c : Thread nD τ) bd i _ _ (fun j hj => ?_) ?_
  · have hj' : (j : ℕ) ≠ k := fun h => hj (Fin.ext (h.trans hi.symm))
    by_cases h : (j : ℕ) < k
    · rw [if_pos h, if_pos (by omega)]
    · rw [if_neg h, if_neg (by omega)]
  rw [if_neg (by omega), if_pos (by omega)]
  unfold tripB
  have e1 := off1_eq k
  have e2 := off2_eq k
  have hw := frame_run (Λ := Λ₀) (defs := defs) 𝒱 (c : Thread nD τ) bd (R := owns (Val := Elt F) (c : Thread nD τ) h4 T)
    (wait_step (Λ := Λ₀) (defs := defs) 𝒱 (c : Thread nD τ) bd EC (sem := isem arg10 i)
      (src := arg0.slice (Rect.unit (s := S896x4608) (k0_off2 k) S32x4608.size (k0_off2_inb k)) (fun _ => rfl))
      (dst := arg3.slice (Rect.unit (s := S896x4608) (k0_off2 k) S32x4608.size (k0_off2_inb k)) (fun _ => rfl))
      (hsrc := View.wordExact_bits rfl) (hdst := View.wordExact_bits rfl) ι
      (N := (arg3.slice (Rect.unit (s := S896x4608) ![32 * (i : ℕ), 0] S32x4608.size (rows_inb i)) (fun _ => rfl)).view.dmaCredit) rfl
      iprop(own (Val := Elt F) (c : Thread nD τ) h3 (rowsR i).set W ∗ own (Val := Elt F) (c : Thread nD τ) h0 (rowsR i).set W))
  have hs : ((arg10.slice (Rect.unit (s := S28) (k0_off1 k) S1.size (k0_off1_inb k))).squeeze S_ squeezes_S1_S_).sem = isem arg10 i :=
    isem_of arg10 i _ _ (by rw [e1, hi])
  rw [hs]
  refine BIBase.Entails.trans ?_ (wp_seq (P' := iprop((((own (Ix := Ix) (Name := Name) (U := U) (Lvl := Lvl) (Val := Elt F) (c : Thread nD τ) h3 (rowsR i).set W ∗ own (Val := Elt F) (c : Thread nD τ) h0 (rowsR i).set W)
      ∗ semVal ((c : Thread nD τ), SemLoc.dma (isem arg10 i)) 0) ∗ idle (c : Thread nD τ)) ∗ owns (Val := Elt F) (c : Thread nD τ) h4 T)) hw ?_)
  · unfold flightI
    iintro ⟨⟨H4, Hi⟩, Hf⟩
    isplitl [Hi Hf]
    · isplitl [Hf]
      · iexact Hf
      · iexact Hi
    · iexact H4
  · refine run_mono (defs := defs) 𝒱 (c : Thread nD τ) bd (stepsB_run (F := F) (defs := defs) 𝒱 c bd h3 h4 W k i hi T iprop((own (Ix := Ix) (Name := Name) (U := U) (Lvl := Lvl) (Val := Elt F) (c : Thread nD τ) h0 (rowsR i).set W
      ∗ semVal ((c : Thread nD τ), SemLoc.dma (isem arg10 i)) 0) ∗ idle (c : Thread nD τ))) ?_ fun _ => ?_
    · iintro ⟨⟨⟨⟨H3, H0⟩, Hs⟩, Hi⟩, H4⟩
      isplitl [H4]
      · iexact H4
      isplitl [H3]
      · iexact H3
      isplitl [H0 Hs]
      · isplitl [H0]
        · iexact H0
        · iexact Hs
      · iexact Hi
    · unfold afterI
      iintro ⟨H4, H3, ⟨H0, Hs⟩, Hi⟩
      isplitl [H4 Hi]
      · isplitl [H4]
        · iexact H4
        · iexact Hi
      · isplitl [H3 H0]
        · isplitl [H3]
          · iexact H3
          · iexact H0
        · iexact Hs

/-- All the trips. -/
theorem loopB_run {body : Fin k0_t1_loop.trips → PUnit → Prog (TpuEff nD τ sig (Elt F) Λ₀ .tc) PUnit}
    (hbody : ∀ k a, body k a = (tripB (F := F) arg3 arg4 M16 M32 k arg0 arg10 >>= fun _ => pure ⟨⟩)) (T : S64512x128.Idx → BitVec 32) :
    iprop((owns (Val := Elt F) (c : Thread nD τ) h4 T ∗ idle (c : Thread nD τ)) ∗ waitedI c EC ι h0 h3 arg10 W 0)
      ⊢ wp frame (wpE defs 𝒱 (c : Thread nD τ) bd) Set.univ (Scf.Loop.for k0_t1_loop k0_t1_ok ⟨⟩ body)
        fun _ => iprop((owns (Val := Elt F) (c : Thread nD τ) h4 (tableV W T 28) ∗ idle (c : Thread nD τ)) ∗ waitedI c EC ι h0 h3 arg10 W 28) := by
  refine BIBase.Entails.trans ?_ (Scf.wp_for frame (wpE defs 𝒱 (c : Thread nD τ) bd) Set.univ _ _ _ k0_t1_ok PUnit.unit body
    (fun k _ => iprop((owns (Ix := Ix) (Name := Name) (U := U) (Lvl := Lvl) (Val := Elt F) (c : Thread nD τ) h4 (tableV W T k) ∗ idle (c : Thread nD τ)) ∗ waitedI c EC ι h0 h3 arg10 W k))
    (fun k acc => ?_))
  · iintro H
    isplitl [H]
    · iexact H
    · iintro %a H
      have e : Scf.trips k0_t1_loop.lb k0_t1_loop.ub k0_t1_loop.st = 28 := trips1
      rw [e]
      iexact H
  · rw [hbody, wp_bind]
    have e : tableV W T (k + 1) = stepsBV k W (tableV W T k) 36 := dif_pos k.2
    rw [e]
    refine (tripB_run 𝒱 c bd EC ι h0 h3 h4 arg10 W k (Fin.cast trips1 k) rfl (tableV W T k)).trans (wp_mono _ _ _ fun _ => ?_)
    exact fupd_intro

end

end Repack
-- ==== Proof.BuildRfl.lean ====
/-
  The printed trip of the table's loop is the sequence of steps.
-/
module

public import proofs.«01_k».proof.Proof.Build

@[expose] public section

noncomputable section

namespace Repack

open Idealize.ShloMosaic Idealize.ShloMosaic.TcCoe
open Idealize.SL.Sem
open Cert.KernelIdeal

variable {F : FTy → Type} [FloatOps F] [Facts]

set_option maxRecDepth 100000 in
set_option maxHeartbeats 4000000 in
/-- The trip as printed is the trip as stated. -/
theorem part95_eq (arg0 : Memref sig .tc .hbm S896x4608 .i32) (harg0 : arg0.IsWhole) (arg1 : Memref sig .tc .hbm S56x128 .i32) (harg1 : arg1.IsWhole) (arg2 : Memref sig .tc .hbm S56x18x32x128 .i32) (harg2 : arg2.IsWhole) (arg3 : Memref sig .tc .vmem S896x4608 .i32) (harg3 : arg3.IsWhole) (arg4 : Memref sig .tc .vmem S64512x128 .i32) (harg4 : arg4.IsWhole) (arg5 : Memref sig .tc .vmem S128x128 .i32) (harg5 : arg5.IsWhole) (arg6 : Memref sig .tc .vmem S1440x128 .i32) (harg6 : arg6.IsWhole) (arg7 : Memref sig .tc .vmem S56x128 .i32) (harg7 : arg7.IsWhole) (arg8 : Memref sig .tc .vmem S56x128 .i32) (harg8 : arg8.IsWhole) (arg9 : Memref sig .tc .smem S56x128 .i32) (harg9 : arg9.IsWhole) (arg10 : DmaSems sig S28) (arg11 : DmaSems sig S2) (arg12 : DmaSems sig S3) (v149 : IVec S16x128 1) (v152 : IVec S32x128 1) (k0_t1 : Fin k0_t1_loop.trips) :
    k0_part95 (F := F) arg0 harg0 arg1 harg1 arg2 harg2 arg3 harg3 arg4 harg4 arg5 harg5 arg6 harg6 arg7 harg7 arg8 harg8 arg9 harg9 arg10 arg11 arg12 v149 v152 0#32 1#32 k0_t1 = tripB arg3 arg4 v149 v152 k0_t1 arg0 arg10 := by
  rfl

end Repack
-- ==== Proof.Head.lean ====
/-
  The start of the kernel: the copy of the permutation and the 28 copies of the rows of the weights are started, the
  permutation is waited for, and the table address of each of its rows is computed and copied to scalar memory.
-/
module

public import proofs.«01_k».proof.Proof.TableRun
public import proofs.«01_k».proof.Proof.BuildRfl

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F] [Facts]
variable {Ix : Type} [DecidableEq Ix] {Name : Type} [DecidableEq Name] [Infinite Name] {U : Type} [URA U] {Lvl : Type} [Preorder Lvl]
local notation "𝕄" => MT nD τ sig Ix (Elt F) Name U Lvl

section
variable {defs : Defs nD τ sig (Elt F) Λ₀} (𝒱 : Variants) (c : Dev nD) (bd : Option 𝒱.V)
variable (EC : UEmb Counters (MT nD τ sig Ix (Elt F) Name U Lvl)) [EC.LandsIn (upEmb : UEmb _ (MT nD τ sig Ix (Elt F) Name U Lvl))] (ι : Ix)
variable {arg0 : Memref sig .tc .hbm S896x4608 .i32} (h0 : arg0.IsWhole) {arg1 : Memref sig .tc .hbm S56x128 .i32} (h1 : arg1.IsWhole)
variable {arg2 : Memref sig .tc .hbm S56x18x32x128 .i32} (h2 : arg2.IsWhole) {arg3 : Memref sig .tc .vmem S896x4608 .i32} (h3 : arg3.IsWhole)
variable {arg4 : Memref sig .tc .vmem S64512x128 .i32} (h4 : arg4.IsWhole) {arg5 : Memref sig .tc .vmem S128x128 .i32} (h5 : arg5.IsWhole)
variable {arg6 : Memref sig .tc .vmem S1440x128 .i32} (h6 : arg6.IsWhole) {arg7 : Memref sig .tc .vmem S56x128 .i32} (h7 : arg7.IsWhole)
variable {arg8 : Memref sig .tc .vmem S56x128 .i32} (h8 : arg8.IsWhole) {arg9 : Memref sig .tc .smem S56x128 .i32} (h9 : arg9.IsWhole)
variable (arg10 : DmaSems sig S28) (arg11 : DmaSems sig S2) (arg12 : DmaSems sig S3)
variable (W : S896x4608.Idx → BitVec 32) (P : S56x128.Idx → BitVec 32)

/-- The semaphore of the permutation's copy, -/
def psem : DmaSem sig := ((arg12.slice (Rect.unit (s := S3) ![0] S1.size inb_S3_S1_0)).squeeze S_ squeezes_S1_S_).sem

/-- that of the addresses' copy. -/
def dsem : DmaSem sig := ((arg12.slice (Rect.unit (s := S3) ![2] S1.size inb_S3_S1_2)).squeeze S_ squeezes_S1_S_).sem

/-- The permutation's copy, running; -/
def flightP : sProp 𝕄 :=
  Transfers.Flight EC (c : Thread nD τ) (.dma (psem arg12)) ι arg7.view.dmaCredit
    iprop(owns (Val := Elt F) (c : Thread nD τ) h7 P ∗ owns (Val := Elt F) (c : Thread nD τ) h1 P)

/-- the addresses' copy, running. -/
def flightA (A : S56x128.Idx → BitVec 32) : sProp 𝕄 :=
  Transfers.Flight EC (c : Thread nD τ) (.dma (dsem arg12)) ι arg9.view.dmaCredit
    iprop(owns (Val := Elt F) (c : Thread nD τ) h9 A ∗ owns (Val := Elt F) (c : Thread nD τ) h8 A)

/-- Four times the block of the table a row is in, -/
def blkV (p : BitVec 32) : BitVec 32 := IntOp.muli (IntOp.shrui .vector p 6#32) 4#32

/-- the address of a row of the weights in the table. -/
def adrV (p : BitVec 32) : BitVec 32 :=
  IntOp.addi (IntOp.muli (IntOp.addi (IntOp.muli (IntOp.addi (blkV p) (IntOp.andi (IntOp.shrui .vector p 1#32) 3#32)) 8#32)
    (IntOp.andi (IntOp.shrui .vector p 3#32) 7#32)) 9#32) (IntOp.muli (IntOp.andi p 1#32) 32256#32)

/-- Every index of the addresses' buffer is one of its whole rectangle's. -/
theorem whole_idx (x : S56x128.Idx) : (Rect.unit (s := S56x128) ![0, 0] S56x128.size inb_S56x128_S56x128_0_0).toLoadRect.idx x = x := by
  funext a
  apply Fin.ext
  fin_cases a
  · show 0 + 1 * (x 0 : ℕ) = x 0; omega
  · show 0 + 1 * (x 1 : ℕ) = x 1; omega

/-- A store of the whole of it leaves what is stored. -/
theorem upd_whole (v w : S56x128.Idx → BitVec 32) : upd (Rect.unit (s := S56x128) ![0, 0] S56x128.size inb_S56x128_S56x128_0_0) v w = w :=
  funext fun x => (congrArg (upd (Rect.unit (s := S56x128) ![0, 0] S56x128.size inb_S56x128_S56x128_0_0) v w) (whole_idx x).symm).trans
    (upd_emb (Rect.unit (s := S56x128) ![0, 0] S56x128.size inb_S56x128_S56x128_0_0) v w x)

/-- The permutation's copy and the first five of the rows'. -/
theorem part264_run (v7 : S56x128.Idx → BitVec 32) (R : sProp 𝕄) :
    iprop(((owns (Val := Elt F) (c : Thread nD τ) h1 P ∗ owns (Val := Elt F) (c : Thread nD τ) h7 v7 ∗ semVal ((c : Thread nD τ), SemLoc.dma (psem arg12)) 0) ∗ R)
        ∗ startedI c EC ι h0 h3 arg10 W 0)
      ⊢ wp frame (wpE defs 𝒱 (c : Thread nD τ) bd) Set.univ (k0_part264 (F := F) arg0 h0 arg1 h1 arg2 h2 arg3 h3 arg4 h4 arg5 h5 arg6 h6 arg7 h7 arg8 h8 arg9 h9 arg10 arg11 arg12)
        fun _ => iprop((flightP (F := F) (Ix := Ix) (Name := Name) (U := U) (Lvl := Lvl) c EC ι h1 h7 arg12 P ∗ R) ∗ startedI c EC ι h0 h3 arg10 W 5) := by
  unfold k0_part264
  refine wp_seq (frame_run (defs := defs) 𝒱 (c : Thread nD τ) bd (R := startedI c EC ι h0 h3 arg10 W 0) (frame_run (defs := defs) 𝒱 (c : Thread nD τ) bd (R := R)
    (copy_all (Λ := Λ₀) (defs := defs) 𝒱 (c : Thread nD τ) bd EC h1 h7 (sm := .dma (psem arg12)) ι (show 0 < S56x128.numel from by decide) P v7))) ?_
  show iprop((flightP (F := F) (Ix := Ix) (Name := Name) (U := U) (Lvl := Lvl) c EC ι h1 h7 arg12 P ∗ R) ∗ startedI c EC ι h0 h3 arg10 W 0) ⊢ _
  refine wp_seq (startI_run 𝒱 c bd EC ι h0 h3 arg10 W ⟨0, by decide⟩ (n := 0) (m := 1) rfl rfl _) ?_
  refine wp_seq (startI_run 𝒱 c bd EC ι h0 h3 arg10 W ⟨1, by decide⟩ (n := 1) (m := 2) rfl rfl _) ?_
  refine wp_seq (startI_run 𝒱 c bd EC ι h0 h3 arg10 W ⟨2, by decide⟩ (n := 2) (m := 3) rfl rfl _) ?_
  refine wp_seq (startI_run 𝒱 c bd EC ι h0 h3 arg10 W ⟨3, by decide⟩ (n := 3) (m := 4) rfl rfl _) ?_
  refine wp_seq (startI_run 𝒱 c bd EC ι h0 h3 arg10 W ⟨4, by decide⟩ (n := 4) (m := 5) rfl rfl _) ?_
  show _ ⊢ wp frame (wpE defs 𝒱 (c : Thread nD τ) bd) Set.univ (.ret PUnit.unit) _
  rw [wp_ret]
  exact fupd_intro

/-- The copies of the rows from 5 to 10. -/
theorem part265_run (R : sProp 𝕄) :
    iprop(R ∗ startedI c EC ι h0 h3 arg10 W 5)
      ⊢ wp frame (wpE defs 𝒱 (c : Thread nD τ) bd) Set.univ (k0_part265 (F := F) arg0 h0 arg1 h1 arg2 h2 arg3 h3 arg4 h4 arg5 h5 arg6 h6 arg7 h7 arg8 h8 arg9 h9 arg10 arg11 arg12)
        fun _ => iprop(R ∗ startedI c EC ι h0 h3 arg10 W 11) := by
  unfold k0_part265
  refine wp_seq (startI_run 𝒱 c bd EC ι h0 h3 arg10 W ⟨5, by decide⟩ (n := 5) (m := 6) rfl rfl _) ?_
  refine wp_seq (startI_run 𝒱 c bd EC ι h0 h3 arg10 W ⟨6, by decide⟩ (n := 6) (m := 7) rfl rfl _) ?_
  refine wp_seq (startI_run 𝒱 c bd EC ι h0 h3 arg10 W ⟨7, by decide⟩ (n := 7) (m := 8) rfl rfl _) ?_
  refine wp_seq (startI_run 𝒱 c bd EC ι h0 h3 arg10 W ⟨8, by decide⟩ (n := 8) (m := 9) rfl rfl _) ?_
  refine wp_seq (startI_run 𝒱 c bd EC ι h0 h3 arg10 W ⟨9, by decide⟩ (n := 9) (m := 10) rfl rfl _) ?_
  refine wp_seq (startI_run 𝒱 c bd EC ι h0 h3 arg10 W ⟨10, by decide⟩ (n := 10) (m := 11) rfl rfl _) ?_
  show _ ⊢ wp frame (wpE defs 𝒱 (c : Thread nD τ) bd) Set.univ (.ret PUnit.unit) _
  rw [wp_ret]
  exact fupd_intro

/-- The copies of the rows from 11 to 16. -/
theorem part266_run (R : sProp 𝕄) :
    iprop(R ∗ startedI c EC ι h0 h3 arg10 W 11)
      ⊢ wp frame (wpE defs 𝒱 (c : Thread nD τ) bd) Set.univ (k0_part266 (F := F) arg0 h0 arg1 h1 arg2 h2 arg3 h3 arg4 h4 arg5 h5 arg6 h6 arg7 h7 arg8 h8 arg9 h9 arg10 arg11 arg12)
        fun _ => iprop(R ∗ startedI c EC ι h0 h3 arg10 W 17) := by
  unfold k0_part266
  refine wp_seq (startI_run 𝒱 c bd EC ι h0 h3 arg10 W ⟨11, by decide⟩ (n := 11) (m := 12) rfl rfl _) ?_
  refine wp_seq (startI_run 𝒱 c bd EC ι h0 h3 arg10 W ⟨12, by decide⟩ (n := 12) (m := 13) rfl rfl _) ?_
  refine wp_seq (startI_run 𝒱 c bd EC ι h0 h3 arg10 W ⟨13, by decide⟩ (n := 13) (m := 14) rfl rfl _) ?_
  refine wp_seq (startI_run 𝒱 c bd EC ι h0 h3 arg10 W ⟨14, by decide⟩ (n := 14) (m := 15) rfl rfl _) ?_
  refine wp_seq (startI_run 𝒱 c bd EC ι h0 h3 arg10 W ⟨15, by decide⟩ (n := 15) (m := 16) rfl rfl _) ?_
  refine wp_seq (startI_run 𝒱 c bd EC ι h0 h3 arg10 W ⟨16, by decide⟩ (n := 16) (m := 17) rfl rfl _) ?_
  show _ ⊢ wp frame (wpE defs 𝒱 (c : Thread nD τ) bd) Set.univ (.ret PUnit.unit) _
  rw [wp_ret]
  exact fupd_intro

/-- The copies of the rows from 17 to 22. -/
theorem part267_run (R : sProp 𝕄) :
    iprop(R ∗ startedI c EC ι h0 h3 arg10 W 17)
      ⊢ wp frame (wpE defs 𝒱 (c : Thread nD τ) bd) Set.univ (k0_part267 (F := F) arg0 h0 arg1 h1 arg2 h2 arg3 h3 arg4 h4 arg5 h5 arg6 h6 arg7 h7 arg8 h8 arg9 h9 arg10 arg11 arg12)
        fun _ => iprop(R ∗ startedI c EC ι h0 h3 arg10 W 23) := by
  unfold k0_part267
  refine wp_seq (startI_run 𝒱 c bd EC ι h0 h3 arg10 W ⟨17, by decide⟩ (n := 17) (m := 18) rfl rfl _) ?_
  refine wp_seq (startI_run 𝒱 c bd EC ι h0 h3 arg10 W ⟨18, by decide⟩ (n := 18) (m := 19) rfl rfl _) ?_
  refine wp_seq (startI_run 𝒱 c bd EC ι h0 h3 arg10 W ⟨19, by decide⟩ (n := 19) (m := 20) rfl rfl _) ?_
  refine wp_seq (startI_run 𝒱 c bd EC ι h0 h3 arg10 W ⟨20, by decide⟩ (n := 20) (m := 21) rfl rfl _) ?_
  refine wp_seq (startI_run 𝒱 c bd EC ι h0 h3 arg10 W ⟨21, by decide⟩ (n := 21) (m := 22) rfl rfl _) ?_
  refine wp_seq (startI_run 𝒱 c bd EC ι h0 h3 arg10 W ⟨22, by decide⟩ (n := 22) (m := 23) rfl rfl _) ?_
  show _ ⊢ wp frame (wpE defs 𝒱 (c : Thread nD τ) bd) Set.univ (.ret PUnit.unit) _
  rw [wp_ret]
  exact fupd_intro

/-- The last of them; the permutation waited for and loaded. -/
theorem part268_run {α : Type} {K : (Σ' (_ : Vec F S56x128 .i32) (_ : IVec S56x128 32), IVec S56x128 32) → Prog (TpuEff nD τ sig (Elt F) Λ₀ .tc) α} {Q : α → sProp 𝕄} (R : sProp 𝕄)
    (hK : iprop((((owns (Val := Elt F) (c : Thread nD τ) h7 P ∗ owns (Val := Elt F) (c : Thread nD τ) h1 P) ∗ semVal ((c : Thread nD τ), SemLoc.dma (psem arg12)) 0) ∗ idle (c : Thread nD τ)) ∗ R
          ∗ startedI c EC ι h0 h3 arg10 W 28)
      ⊢ wp frame (wpE defs 𝒱 (c : Thread nD τ) bd) Set.univ (K ⟨P, fun y => blkV (P y), fun y => IntOp.shrui .vector (P y) 1#32⟩) Q) :
    iprop(((flightP (F := F) (Ix := Ix) (Name := Name) (U := U) (Lvl := Lvl) c EC ι h1 h7 arg12 P ∗ idle (c : Thread nD τ)) ∗ R) ∗ startedI c EC ι h0 h3 arg10 W 23)
      ⊢ wp frame (wpE defs 𝒱 (c : Thread nD τ) bd) Set.univ (k0_part268 (F := F) arg0 h0 arg1 h1 arg2 h2 arg3 h3 arg4 h4 arg5 h5 arg6 h6 arg7 h7 arg8 h8 arg9 h9 arg10 arg11 arg12 >>= K) Q := by
  rw [wp_bind]
  unfold k0_part268
  refine wp_seq (startI_run 𝒱 c bd EC ι h0 h3 arg10 W ⟨23, by decide⟩ (n := 23) (m := 24) rfl rfl _) ?_
  refine wp_seq (startI_run 𝒱 c bd EC ι h0 h3 arg10 W ⟨24, by decide⟩ (n := 24) (m := 25) rfl rfl _) ?_
  refine wp_seq (startI_run 𝒱 c bd EC ι h0 h3 arg10 W ⟨25, by decide⟩ (n := 25) (m := 26) rfl rfl _) ?_
  refine wp_seq (startI_run 𝒱 c bd EC ι h0 h3 arg10 W ⟨26, by decide⟩ (n := 26) (m := 27) rfl rfl _) ?_
  refine wp_seq (startI_run 𝒱 c bd EC ι h0 h3 arg10 W ⟨27, by decide⟩ (n := 27) (m := 28) rfl rfl _) ?_
  refine BIBase.Entails.trans sep_assoc.1 ?_
  refine wp_seq (frame_run (defs := defs) 𝒱 (c : Thread nD τ) bd (R := iprop(R ∗ startedI c EC ι h0 h3 arg10 W 28))
    (wait_step (Λ := Λ₀) (defs := defs) 𝒱 (c : Thread nD τ) bd EC (sem := psem arg12) (src := arg1) (dst := arg7) (hsrc := h1.wordExact) (hdst := h7.wordExact) ι
      (N := arg7.view.dmaCredit) rfl
      iprop(owns (Val := Elt F) (c : Thread nD τ) h7 P ∗ owns (Val := Elt F) (c : Thread nD τ) h1 P))) ?_
  refine load_all (defs := defs) 𝒱 (c : Thread nD τ) bd Set.univ h7 P
    (R := iprop(((owns (Ix := Ix) (Name := Name) (U := U) (Lvl := Lvl) (Val := Elt F) (c : Thread nD τ) h1 P ∗ semVal ((c : Thread nD τ), SemLoc.dma (psem arg12)) 0) ∗ idle (c : Thread nD τ)) ∗ R ∗ startedI c EC ι h0 h3 arg10 W 28)) ?_ ?_
  · constructor
    · iintro ⟨⟨⟨⟨H7, H1⟩, Hs⟩, Hi⟩, HR⟩
      isplitl [H7]; · iexact H7
      isplitl [H1 Hs Hi]
      · isplitl [H1 Hs]
        · isplitl [H1]; · iexact H1
          iexact Hs
        iexact Hi
      iexact HR
    · iintro ⟨H7, ⟨⟨H1, Hs⟩, Hi⟩, HR⟩
      isplitl [H7 H1 Hs Hi]
      · isplitl [H7 H1 Hs]
        · isplitl [H7 H1]
          · isplitl [H7]; · iexact H7
            iexact H1
          iexact Hs
        iexact Hi
      iexact HR
  show _ ⊢ wp frame (wpE defs 𝒱 (c : Thread nD τ) bd) Set.univ (.ret _) _
  rw [wp_ret]
  refine BIBase.Entails.trans ?_ fupd_intro
  have e : (fun x => P ((Rect.unit (s := S56x128) ![0, 0] S56x128.size inb_S56x128_S56x128_0_0).toLoadRect.idx x)) = P :=
    funext fun x => congrArg P (whole_idx x)
  refine BIBase.Entails.trans hK ?_
  exact Entails.of_eq (congrArg (fun v : Vec F S56x128 .i32 => wp frame (wpE defs 𝒱 (c : Thread nD τ) bd) Set.univ (K ⟨v, fun y => blkV (v y), fun y => IntOp.shrui .vector (v y) 1#32⟩) Q) e.symm)

end

end Repack
-- ==== Proof.EmitV.lean ====
/-
  What the gathering loop leaves, as functions of what it reads: the table `T`, the addresses `A`, the words put aside
  `X` and one slab `O` of the buffer the blocks leave from.
-/
module

public import proofs.«01_k».proof.Proof.Emit
public import proofs.«01_k».proof.Proof.TableRun

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F] [Facts]

/-- The elements of one slab that are ever written. -/
def slabM (slot : Fin 2) : Finset S1440x128.Idx :=
  Finset.univ.filter fun y => 720 * (slot : ℕ) ≤ (y 0 : ℕ) ∧ (y 0 : ℕ) < 720 * slot + 720 ∧ (y 0 : ℕ) % 40 < 32

/-- Every address lies far enough from the table's end. -/
def Fits (A : S56x128.Idx → BitVec 32) : Prop := ∀ y, (A y).toNat ≤ 64503

section
variable (k : Fin k0_t2_loop.trips) (slot half : Fin 2)

/-- The place of one address. -/
def adrIdx (c : Fin 128) : S56x128.Idx :=
  (Rect.unit (s := S56x128) ![0, (c : ℕ)] S56x1.size (col_inb c)).idx
    ((Rect.unit (s := S56x1) (adrOff k slot) S1x1.size (adrOff_inb k slot)).idx (Shape.Idx.first (numel1_S1x1.symm ▸ Nat.one_pos)))

/-- Eight rows of the table at an address, -/
def rows8V (T : S64512x128.Idx → BitVec 32) (v : BitVec 32) (h : k0_chk1 v) : S8x128.Idx → BitVec 32 :=
  fun x => T ((Rect.unit (s := S64512x128) (k0_off43 v) S8x128.size (k0_off43_inb v h)).toLoadRect.idx x)

/-- and the ninth. -/
def row9V (T : S64512x128.Idx → BitVec 32) (v : BitVec 32) (h : k0_chk1 v) : S1x128.Idx → BitVec 32 :=
  fun x => T ((Rect.unit (s := S64512x128) (k0_off51 v) S1x128.size (k0_off51_inb v h)).toLoadRect.idx x)

/-- The rectangles written. -/
def tailR (n : Fin 128) : Rect S128x128 := Rect.unit (s := S128x128) ![(n : ℕ), 0] S1x128.size (tail_inb n)

@[inherit_doc tailR]
def rect40 (n : Fin 1160) : Rect S1440x128 := ⟨(⟨![(n : ℕ), 0], S8x128.size, ![40, 1], out40_inb n⟩ : LoadRect S1440x128), spos_40_1⟩

@[inherit_doc tailR]
def rect2 (n : Fin 1426) : Rect S1440x128 := ⟨(⟨![(n : ℕ), 0], S8x128.size, ![2, 1], out2_inb n⟩ : LoadRect S1440x128), spos_2_1⟩

variable (T : S64512x128.Idx → BitVec 32) (A : S56x128.Idx → BitVec 32) (hA : Fits A)

/-- The low nibbles of eight rows at two neighbouring addresses, -/
def nib8V (r : Fin 8) (a b : Fin 8) : S8x128.Idx → BitVec 32 :=
  nib (rows8V T (A (adrIdx k slot (colE half r a))) (chk1_of _ (hA _))) (rows8V T (A (adrIdx k slot (colE half r b))) (chk1_of _ (hA _)))

/-- and of the ninth rows. -/
def nib1V (r : Fin 8) (a b : Fin 8) : S1x128.Idx → BitVec 32 :=
  nib (row9V T (A (adrIdx k slot (colE half r a))) (chk1_of _ (hA _))) (row9V T (A (adrIdx k slot (colE half r b))) (chk1_of _ (hA _)))

/-- The words put aside after a step, -/
def stepXV (r : Fin 8) (X : S128x128.Idx → BitVec 32) : S128x128.Idx → BitVec 32 :=
  upd (tailR (tailE slot half r 3)) (upd (tailR (tailE slot half r 2)) (upd (tailR (tailE slot half r 1)) (upd (tailR (tailE slot half r 0)) X
    (nib1V k slot half T A hA r 0 1)) (nib1V k slot half T A hA r 2 3)) (nib1V k slot half T A hA r 4 5)) (nib1V k slot half T A hA r 6 7)

/-- the four words a step transposes, -/
def outV (r : Fin 8) (c : Fin 4) : S8x128.Idx → BitVec 32 :=
  bytes M16 M32 (nib8V k slot half T A hA r 0 1) (nib8V k slot half T A hA r 2 3) (nib8V k slot half T A hA r 4 5) (nib8V k slot half T A hA r 6 7) c

/-- and the slab after it. -/
def stepOV (r : Fin 8) (O : S1440x128.Idx → BitVec 32) : S1440x128.Idx → BitVec 32 :=
  upd (rect40 (outE slot half r 3)) (upd (rect40 (outE slot half r 2)) (upd (rect40 (outE slot half r 1)) (upd (rect40 (outE slot half r 0)) O
    (outV k slot half T A hA r 0)) (outV k slot half T A hA r 1)) (outV k slot half T A hA r 2)) (outV k slot half T A hA r 3)

/-- The words put aside, read back. -/
def tail8V (X : S128x128.Idx → BitVec 32) (j : Fin 4) : S8x128.Idx → BitVec 32 :=
  fun x => X ((Rect.unit (s := S128x128) ![(tail8E slot half j : ℕ), 0] S8x128.size (tail8_inb (tail8E slot half j))).toLoadRect.idx x)

/-- and transposed, -/
def outTV (X : S128x128.Idx → BitVec 32) (c : Fin 4) : S8x128.Idx → BitVec 32 :=
  bytes M16 M32 (tail8V slot half X 0) (tail8V slot half X 1) (tail8V slot half X 2) (tail8V slot half X 3) c

/-- and the slab with them. -/
def stepTV (X : S128x128.Idx → BitVec 32) (O : S1440x128.Idx → BitVec 32) : S1440x128.Idx → BitVec 32 :=
  upd (rect2 (out8E slot half 3)) (upd (rect2 (out8E slot half 2)) (upd (rect2 (out8E slot half 1)) (upd (rect2 (out8E slot half 0)) O
    (outTV slot half X 0)) (outTV slot half X 1)) (outTV slot half X 2)) (outTV slot half X 3)

/-- `n` steps. -/
def stepsXV (X : S128x128.Idx → BitVec 32) : ℕ → S128x128.Idx → BitVec 32
  | 0 => X
  | n + 1 => stepXV k slot half T A hA ⟨n % 8, Nat.mod_lt _ (by decide)⟩ (stepsXV X n)

@[inherit_doc stepsXV]
def stepsOV (O : S1440x128.Idx → BitVec 32) : ℕ → S1440x128.Idx → BitVec 32
  | 0 => O
  | n + 1 => stepOV k slot half T A hA ⟨n % 8, Nat.mod_lt _ (by decide)⟩ (stepsOV O n)

/-- Half a slab. -/
def halfXV (X : S128x128.Idx → BitVec 32) : S128x128.Idx → BitVec 32 := stepsXV k slot half T A hA X 8

@[inherit_doc halfXV]
def halfOV (X : S128x128.Idx → BitVec 32) (O : S1440x128.Idx → BitVec 32) : S1440x128.Idx → BitVec 32 :=
  stepTV slot half (halfXV k slot half T A hA X) (stepsOV k slot half T A hA O 8)

/-- A slab. -/
def slabXV (X : S128x128.Idx → BitVec 32) : S128x128.Idx → BitVec 32 := halfXV k slot 1 T A hA (halfXV k slot 0 T A hA X)

@[inherit_doc slabXV]
def slabOV (X : S128x128.Idx → BitVec 32) (O : S1440x128.Idx → BitVec 32) : S1440x128.Idx → BitVec 32 :=
  halfOV k slot 1 T A hA (halfXV k slot 0 T A hA X) (halfOV k slot 0 T A hA X O)

end

theorem rect40_mem (slot half : Fin 2) (r : Fin 8) (c : Fin 4) (x : (rect40 (outE slot half r c)).shape.Idx) :
    (rect40 (outE slot half r c)).idx x ∈ slabM slot := by
  have h0 : (((rect40 (outE slot half r c)).idx x) 0 : ℕ) = (outE slot half r c : ℕ) + 40 * (x 0 : ℕ) := rfl
  have h1 : (x 0 : ℕ) < 8 := (x 0).2
  have h2 : (outE slot half r c : ℕ) = 720 * slot + 320 * (c / 2) + 16 * half + 2 * r + c % 2 := rfl
  have := slot.2; have := half.2; have := r.2; have := c.2
  refine Finset.mem_filter.2 ⟨Finset.mem_univ _, ?_⟩
  have h3 : (c : ℕ) / 2 < 2 := by omega
  have h4 : (c : ℕ) % 2 < 2 := by omega
  generalize (c : ℕ) / 2 = p at *
  generalize (c : ℕ) % 2 = q at *
  have e : (((rect40 (outE slot half r c)).idx x) 0 : ℕ) = 40 * (18 * slot + 8 * p + x 0) + (16 * half + 2 * r + q) := by rw [h0, h2]; ring
  rw [e, Nat.mul_add_mod, Nat.mod_eq_of_lt (by omega)]
  omega

theorem rect2_mem (slot half : Fin 2) (c : Fin 4) (x : (rect2 (out8E slot half c)).shape.Idx) :
    (rect2 (out8E slot half c)).idx x ∈ slabM slot := by
  have h0 : (((rect2 (out8E slot half c)).idx x) 0 : ℕ) = (out8E slot half c : ℕ) + 2 * (x 0 : ℕ) := rfl
  have h1 : (x 0 : ℕ) < 8 := (x 0).2
  have h2 : (out8E slot half c : ℕ) = 720 * slot + 640 + 40 * (c / 2) + 16 * half + c % 2 := rfl
  have := slot.2; have := half.2; have := c.2
  refine Finset.mem_filter.2 ⟨Finset.mem_univ _, ?_⟩
  have h3 : (c : ℕ) / 2 < 2 := by omega
  have h4 : (c : ℕ) % 2 < 2 := by omega
  generalize (c : ℕ) / 2 = p at *
  generalize (c : ℕ) % 2 = q at *
  have e : (((rect2 (out8E slot half c)).idx x) 0 : ℕ) = 40 * (18 * slot + 16 + p) + (16 * half + q + 2 * x 0) := by rw [h0, h2]; ring
  rw [e, Nat.mul_add_mod, Nat.mod_eq_of_lt (by omega)]
  omega

variable {Ix : Type} [DecidableEq Ix] {Name : Type} [DecidableEq Name] [Infinite Name] {U : Type} [URA U] {Lvl : Type} [Preorder Lvl]
local notation "𝕄" => MT nD τ sig Ix (Elt F) Name U Lvl

section
variable {defs : Defs nD τ sig (Elt F) Λ₀} (𝒱 : Variants) (c : Dev nD) (bd : Option 𝒱.V)
variable {arg4 : Memref sig .tc .vmem S64512x128 .i32} (h4 : arg4.IsWhole) {arg5 : Memref sig .tc .vmem S128x128 .i32} (h5 : arg5.IsWhole)
variable {arg6 : Memref sig .tc .vmem S1440x128 .i32} (h6 : arg6.IsWhole) {arg9 : Memref sig .tc .smem S56x128 .i32} (h9 : arg9.IsWhole)
variable (k : Fin k0_t2_loop.trips) (slot half : Fin 2)
variable (T : S64512x128.Idx → BitVec 32) (A : S56x128.Idx → BitVec 32) (hA : Fits A)

/-- What the core holds while it fills a slab. -/
def emitR (slot : Fin 2) (X : S128x128.Idx → BitVec 32) (O : S1440x128.Idx → BitVec 32) (R : sProp 𝕄) : sProp 𝕄 :=
  iprop(owns (Val := Elt F) (c : Thread nD τ) h4 T ∗ owns (Val := Elt F) (c : Thread nD τ) h9 A ∗ owns (Val := Elt F) (c : Thread nD τ) h5 X
    ∗ own (Val := Elt F) (c : Thread nD τ) h6 (slabM slot) O ∗ R)

theorem emit4 (X : S128x128.Idx → BitVec 32) (O : S1440x128.Idx → BitVec 32) (R : sProp 𝕄) :
    emitR (F := F) (Ix := Ix) (Name := Name) (U := U) (Lvl := Lvl) c h4 h5 h6 h9 T A slot X O R ⊣⊢ iprop(owns (Val := Elt F) (c : Thread nD τ) h4 T ∗ (owns (Val := Elt F) (c : Thread nD τ) h9 A
      ∗ owns (Val := Elt F) (c : Thread nD τ) h5 X ∗ own (Val := Elt F) (c : Thread nD τ) h6 (slabM slot) O ∗ R)) := by
  unfold emitR
  exact .rfl

theorem emit9 (X : S128x128.Idx → BitVec 32) (O : S1440x128.Idx → BitVec 32) (R : sProp 𝕄) :
    emitR (F := F) (Ix := Ix) (Name := Name) (U := U) (Lvl := Lvl) c h4 h5 h6 h9 T A slot X O R ⊣⊢ iprop(owns (Val := Elt F) (c : Thread nD τ) h9 A ∗ owns (Val := Elt F) (c : Thread nD τ) h4 T
      ∗ owns (Val := Elt F) (c : Thread nD τ) h5 X ∗ own (Val := Elt F) (c : Thread nD τ) h6 (slabM slot) O ∗ R) := sep_left_comm

theorem emit5 (X : S128x128.Idx → BitVec 32) (O : S1440x128.Idx → BitVec 32) (R : sProp 𝕄) :
    emitR (F := F) (Ix := Ix) (Name := Name) (U := U) (Lvl := Lvl) c h4 h5 h6 h9 T A slot X O R ⊣⊢ iprop(owns (Val := Elt F) (c : Thread nD τ) h5 X ∗ (owns (Val := Elt F) (c : Thread nD τ) h4 T
      ∗ owns (Val := Elt F) (c : Thread nD τ) h9 A ∗ own (Val := Elt F) (c : Thread nD τ) h6 (slabM slot) O ∗ R)) := by
  unfold emitR
  constructor
  · iintro ⟨H4, H9, H5, H6, HR⟩
    isplitl [H5]
    · iexact H5
    isplitl [H4]
    · iexact H4
    isplitl [H9]
    · iexact H9
    isplitl [H6]
    · iexact H6
    · iexact HR
  · iintro ⟨H5, H4, H9, H6, HR⟩
    isplitl [H4]
    · iexact H4
    isplitl [H9]
    · iexact H9
    isplitl [H5]
    · iexact H5
    isplitl [H6]
    · iexact H6
    · iexact HR

theorem emit6 (X : S128x128.Idx → BitVec 32) (O : S1440x128.Idx → BitVec 32) (R : sProp 𝕄) :
    emitR (F := F) (Ix := Ix) (Name := Name) (U := U) (Lvl := Lvl) c h4 h5 h6 h9 T A slot X O R ⊣⊢ iprop(own (Val := Elt F) (c : Thread nD τ) h6 (slabM slot) O ∗ (owns (Val := Elt F) (c : Thread nD τ) h4 T
      ∗ owns (Val := Elt F) (c : Thread nD τ) h9 A ∗ owns (Val := Elt F) (c : Thread nD τ) h5 X ∗ R)) := by
  unfold emitR
  constructor
  · iintro ⟨H4, H9, H5, H6, HR⟩
    isplitl [H6]
    · iexact H6
    isplitl [H4]
    · iexact H4
    isplitl [H9]
    · iexact H9
    isplitl [H5]
    · iexact H5
    · iexact HR
  · iintro ⟨H6, H4, H9, H5, HR⟩
    isplitl [H4]
    · iexact H4
    isplitl [H9]
    · iexact H9
    isplitl [H5]
    · iexact H5
    isplitl [H6]
    · iexact H6
    · iexact HR

variable {α : Type} (X : S128x128.Idx → BitVec 32) (O : S1440x128.Idx → BitVec 32) (R : sProp (MT nD τ sig Ix (Elt F) Name U Lvl)) {Q : α → sProp (MT nD τ sig Ix (Elt F) Name U Lvl)}

/-- One address read. -/
theorem adr_run (cc : Fin 128) {K : (Σ' v : Elt F .i32, k0_chk1 v) → Prog (TpuEff nD τ sig (Elt F) Λ₀ .tc) α}
    (hK : emitR (F := F) (Ix := Ix) (Name := Name) (U := U) (Lvl := Lvl) c h4 h5 h6 h9 T A slot X O R ⊢ wp frame (wpE defs 𝒱 (c : Thread nD τ) bd) Set.univ (K ⟨A (adrIdx k slot cc), chk1_of _ (hA _)⟩) Q) :
    emitR (F := F) (Ix := Ix) (Name := Name) (U := U) (Lvl := Lvl) c h4 h5 h6 h9 T A slot X O R ⊢ wp frame (wpE defs 𝒱 (c : Thread nD τ) bd) Set.univ (adr (F := F) arg9 k slot cc >>= K) Q := by
  rw [wp_bind]
  unfold adr
  refine smem_step (defs := defs) 𝒱 (c : Thread nD τ) bd Set.univ h9 A (emit9 (F := F) (Ix := Ix) (Name := Name) (U := U) (Lvl := Lvl) c h4 h5 h6 h9 slot T A X O R) ?_
  refine assume_step (defs := defs) 𝒱 (c : Thread nD τ) bd Set.univ (chk1_of _ (hA (adrIdx k slot cc))) ?_
  refine hK.trans ?_
  exact fupd_intro

/-- Rows of the table read. -/
theorem rows8_run (v : BitVec 32) (h : k0_chk1 v) {K : Vec F S8x128 .i32 → Prog (TpuEff nD τ sig (Elt F) Λ₀ .tc) α}
    (hK : emitR (F := F) (Ix := Ix) (Name := Name) (U := U) (Lvl := Lvl) c h4 h5 h6 h9 T A slot X O R ⊢ wp frame (wpE defs 𝒱 (c : Thread nD τ) bd) Set.univ (K (rows8V T v h)) Q) :
    emitR (F := F) (Ix := Ix) (Name := Name) (U := U) (Lvl := Lvl) c h4 h5 h6 h9 T A slot X O R ⊢ wp frame (wpE defs 𝒱 (c : Thread nD τ) bd) Set.univ (rows8 (F := F) arg4 v h >>= K) Q :=
  load_all (defs := defs) 𝒱 (c : Thread nD τ) bd Set.univ h4 T (emit4 (F := F) (Ix := Ix) (Name := Name) (U := U) (Lvl := Lvl) c h4 h5 h6 h9 slot T A X O R) hK

@[inherit_doc rows8_run]
theorem row9_run (v : BitVec 32) (h : k0_chk1 v) {K : Vec F S1x128 .i32 → Prog (TpuEff nD τ sig (Elt F) Λ₀ .tc) α}
    (hK : emitR (F := F) (Ix := Ix) (Name := Name) (U := U) (Lvl := Lvl) c h4 h5 h6 h9 T A slot X O R ⊢ wp frame (wpE defs 𝒱 (c : Thread nD τ) bd) Set.univ (K (row9V T v h)) Q) :
    emitR (F := F) (Ix := Ix) (Name := Name) (U := U) (Lvl := Lvl) c h4 h5 h6 h9 T A slot X O R ⊢ wp frame (wpE defs 𝒱 (c : Thread nD τ) bd) Set.univ (row9 (F := F) arg4 v h >>= K) Q :=
  load_all (defs := defs) 𝒱 (c : Thread nD τ) bd Set.univ h4 T (emit4 (F := F) (Ix := Ix) (Name := Name) (U := U) (Lvl := Lvl) c h4 h5 h6 h9 slot T A X O R) hK

/-- Words put aside, -/
theorem putTail_run (n : Fin 128) (y : IVec S1x128 32) {K : PUnit → Prog (TpuEff nD τ sig (Elt F) Λ₀ .tc) α}
    (hK : emitR (F := F) (Ix := Ix) (Name := Name) (U := U) (Lvl := Lvl) c h4 h5 h6 h9 T A slot (upd (tailR n) X y) O R ⊢ wp frame (wpE defs 𝒱 (c : Thread nD τ) bd) Set.univ (K ⟨⟩) Q) :
    emitR (F := F) (Ix := Ix) (Name := Name) (U := U) (Lvl := Lvl) c h4 h5 h6 h9 T A slot X O R ⊢ wp frame (wpE defs 𝒱 (c : Thread nD τ) bd) Set.univ (putTail (F := F) arg5 n y >>= K) Q := by
  unfold putTail
  rw [shapeCast_self]
  refine load_all (defs := defs) 𝒱 (c : Thread nD τ) bd Set.univ h5 X (emit5 (F := F) (Ix := Ix) (Name := Name) (U := U) (Lvl := Lvl) c h4 h5 h6 h9 slot T A X O R) ?_
  exact store_all (defs := defs) 𝒱 (c : Thread nD τ) bd Set.univ h5 X (fun X => emitR (F := F) (Ix := Ix) (Name := Name) (U := U) (Lvl := Lvl) c h4 h5 h6 h9 T A slot X O R)
    (fun X => emit5 (F := F) (Ix := Ix) (Name := Name) (U := U) (Lvl := Lvl) c h4 h5 h6 h9 slot T A X O R) hK

/-- read back, -/
theorem tail8_run (j : Fin 4) {K : Vec F S8x128 .i32 → Prog (TpuEff nD τ sig (Elt F) Λ₀ .tc) α}
    (hK : emitR (F := F) (Ix := Ix) (Name := Name) (U := U) (Lvl := Lvl) c h4 h5 h6 h9 T A slot X O R ⊢ wp frame (wpE defs 𝒱 (c : Thread nD τ) bd) Set.univ (K (tail8V slot half X j)) Q) :
    emitR (F := F) (Ix := Ix) (Name := Name) (U := U) (Lvl := Lvl) c h4 h5 h6 h9 T A slot X O R ⊢ wp frame (wpE defs 𝒱 (c : Thread nD τ) bd) Set.univ
      ((Prog.lift (.load arg5 (Rect.unit (s := S128x128) ![(tail8E slot half j : ℕ), 0] S8x128.size (tail8_inb (tail8E slot half j))).toLoadRect (View.loadsAt_vmem h_S8x128))
        : Prog (TpuEff nD τ sig (Elt F) Λ₀ .tc) (Vec F S8x128 .i32)) >>= K) Q :=
  load_all (defs := defs) 𝒱 (c : Thread nD τ) bd Set.univ h5 X (emit5 (F := F) (Ix := Ix) (Name := Name) (U := U) (Lvl := Lvl) c h4 h5 h6 h9 slot T A X O R) hK

/-- and rows of the slab stored. -/
theorem put40_run (r : Fin 8) (b : Fin 4) (y : IVec S8x128 32) {K : PUnit → Prog (TpuEff nD τ sig (Elt F) Λ₀ .tc) α}
    (hK : emitR (F := F) (Ix := Ix) (Name := Name) (U := U) (Lvl := Lvl) c h4 h5 h6 h9 T A slot X (upd (rect40 (outE slot half r b)) O y) R ⊢ wp frame (wpE defs 𝒱 (c : Thread nD τ) bd) Set.univ (K ⟨⟩) Q) :
    emitR (F := F) (Ix := Ix) (Name := Name) (U := U) (Lvl := Lvl) c h4 h5 h6 h9 T A slot X O R ⊢ wp frame (wpE defs 𝒱 (c : Thread nD τ) bd) Set.univ (put40 (F := F) arg6 (outE slot half r b) y >>= K) Q := by
  unfold put40
  rw [shapeCast_self]
  refine load_step (defs := defs) 𝒱 (c : Thread nD τ) bd Set.univ h6 (slabM slot) O (emit6 (F := F) (Ix := Ix) (Name := Name) (U := U) (Lvl := Lvl) c h4 h5 h6 h9 slot T A X O R) ?_ ?_
  · intro i hi
    obtain ⟨x, rfl⟩ := (rect40 (outE slot half r b)).exists_idx_of_mem hi
    exact rect40_mem slot half r b x
  exact store_step (defs := defs) 𝒱 (c : Thread nD τ) bd Set.univ h6 (slabM slot) O (fun O => emitR (F := F) (Ix := Ix) (Name := Name) (U := U) (Lvl := Lvl) c h4 h5 h6 h9 T A slot X O R)
    (fun O => emit6 (F := F) (Ix := Ix) (Name := Name) (U := U) (Lvl := Lvl) c h4 h5 h6 h9 slot T A X O R) (rect40_mem slot half r b) hK

@[inherit_doc put40_run]
theorem put2_run (b : Fin 4) (y : IVec S8x128 32) {K : PUnit → Prog (TpuEff nD τ sig (Elt F) Λ₀ .tc) α}
    (hK : emitR (F := F) (Ix := Ix) (Name := Name) (U := U) (Lvl := Lvl) c h4 h5 h6 h9 T A slot X (upd (rect2 (out8E slot half b)) O y) R ⊢ wp frame (wpE defs 𝒱 (c : Thread nD τ) bd) Set.univ (K ⟨⟩) Q) :
    emitR (F := F) (Ix := Ix) (Name := Name) (U := U) (Lvl := Lvl) c h4 h5 h6 h9 T A slot X O R ⊢ wp frame (wpE defs 𝒱 (c : Thread nD τ) bd) Set.univ (put2 (F := F) arg6 (out8E slot half b) y >>= K) Q := by
  unfold put2
  rw [shapeCast_self]
  refine load_step (defs := defs) 𝒱 (c : Thread nD τ) bd Set.univ h6 (slabM slot) O (emit6 (F := F) (Ix := Ix) (Name := Name) (U := U) (Lvl := Lvl) c h4 h5 h6 h9 slot T A X O R) ?_ ?_
  · intro i hi
    obtain ⟨x, rfl⟩ := (rect2 (out8E slot half b)).exists_idx_of_mem hi
    exact rect2_mem slot half b x
  exact store_step (defs := defs) 𝒱 (c : Thread nD τ) bd Set.univ h6 (slabM slot) O (fun O => emitR (F := F) (Ix := Ix) (Name := Name) (U := U) (Lvl := Lvl) c h4 h5 h6 h9 T A slot X O R)
    (fun O => emit6 (F := F) (Ix := Ix) (Name := Name) (U := U) (Lvl := Lvl) c h4 h5 h6 h9 slot T A X O R) (rect2_mem slot half b) hK

end

section
variable {defs : Defs nD τ sig (Elt F) Λ₀} (𝒱 : Variants) (c : Dev nD) (bd : Option 𝒱.V)
variable {arg4 : Memref sig .tc .vmem S64512x128 .i32} (h4 : arg4.IsWhole) {arg5 : Memref sig .tc .vmem S128x128 .i32} (h5 : arg5.IsWhole)
variable {arg6 : Memref sig .tc .vmem S1440x128 .i32} (h6 : arg6.IsWhole) {arg9 : Memref sig .tc .smem S56x128 .i32} (h9 : arg9.IsWhole)
variable (k : Fin k0_t2_loop.trips) (slot half : Fin 2)
variable (T : S64512x128.Idx → BitVec 32) (A : S56x128.Idx → BitVec 32) (hA : Fits A)
variable (X : S128x128.Idx → BitVec 32) (O : S1440x128.Idx → BitVec 32) (R : sProp (MT nD τ sig Ix (Elt F) Name U Lvl)) {Q : PUnit → sProp (MT nD τ sig Ix (Elt F) Name U Lvl)}
variable {K : Prog (TpuEff nD τ sig (Elt F) Λ₀ .tc) PUnit}

/-- One step. -/
theorem stepE_run (r : Fin 8)
    (hK : emitR (F := F) (Ix := Ix) (Name := Name) (U := U) (Lvl := Lvl) c h4 h5 h6 h9 T A slot (stepXV k slot half T A hA r X) (stepOV k slot half T A hA r O) R ⊢ wp frame (wpE defs 𝒱 (c : Thread nD τ) bd) Set.univ K Q) :
    emitR (F := F) (Ix := Ix) (Name := Name) (U := U) (Lvl := Lvl) c h4 h5 h6 h9 T A slot X O R ⊢ wp frame (wpE defs 𝒱 (c : Thread nD τ) bd) Set.univ (stepE (F := F) arg4 arg5 arg6 arg9 M16 M32 k slot half r K) Q := by
  unfold stepE
  refine adr_run 𝒱 c bd h4 h5 h6 h9 k slot T A hA X O R _ ?_
  refine adr_run 𝒱 c bd h4 h5 h6 h9 k slot T A hA X O R _ ?_
  refine adr_run 𝒱 c bd h4 h5 h6 h9 k slot T A hA X O R _ ?_
  refine adr_run 𝒱 c bd h4 h5 h6 h9 k slot T A hA X O R _ ?_
  refine adr_run 𝒱 c bd h4 h5 h6 h9 k slot T A hA X O R _ ?_
  refine adr_run 𝒱 c bd h4 h5 h6 h9 k slot T A hA X O R _ ?_
  refine adr_run 𝒱 c bd h4 h5 h6 h9 k slot T A hA X O R _ ?_
  refine adr_run 𝒱 c bd h4 h5 h6 h9 k slot T A hA X O R _ ?_
  refine rows8_run 𝒱 c bd h4 h5 h6 h9 slot T A X O R _ _ ?_
  refine rows8_run 𝒱 c bd h4 h5 h6 h9 slot T A X O R _ _ ?_
  refine rows8_run 𝒱 c bd h4 h5 h6 h9 slot T A X O R _ _ ?_
  refine rows8_run 𝒱 c bd h4 h5 h6 h9 slot T A X O R _ _ ?_
  refine rows8_run 𝒱 c bd h4 h5 h6 h9 slot T A X O R _ _ ?_
  refine rows8_run 𝒱 c bd h4 h5 h6 h9 slot T A X O R _ _ ?_
  refine rows8_run 𝒱 c bd h4 h5 h6 h9 slot T A X O R _ _ ?_
  refine rows8_run 𝒱 c bd h4 h5 h6 h9 slot T A X O R _ _ ?_
  refine row9_run 𝒱 c bd h4 h5 h6 h9 slot T A X O R _ _ ?_
  refine row9_run 𝒱 c bd h4 h5 h6 h9 slot T A X O R _ _ ?_
  refine row9_run 𝒱 c bd h4 h5 h6 h9 slot T A X O R _ _ ?_
  refine row9_run 𝒱 c bd h4 h5 h6 h9 slot T A X O R _ _ ?_
  refine row9_run 𝒱 c bd h4 h5 h6 h9 slot T A X O R _ _ ?_
  refine row9_run 𝒱 c bd h4 h5 h6 h9 slot T A X O R _ _ ?_
  refine row9_run 𝒱 c bd h4 h5 h6 h9 slot T A X O R _ _ ?_
  refine row9_run 𝒱 c bd h4 h5 h6 h9 slot T A X O R _ _ ?_
  refine putTail_run 𝒱 c bd h4 h5 h6 h9 slot T A _ O R _ _ ?_
  refine putTail_run 𝒱 c bd h4 h5 h6 h9 slot T A _ O R _ _ ?_
  refine putTail_run 𝒱 c bd h4 h5 h6 h9 slot T A _ O R _ _ ?_
  refine putTail_run 𝒱 c bd h4 h5 h6 h9 slot T A _ O R _ _ ?_
  refine put40_run 𝒱 c bd h4 h5 h6 h9 slot half T A _ _ R r 0 _ ?_
  refine put40_run 𝒱 c bd h4 h5 h6 h9 slot half T A _ _ R r 1 _ ?_
  refine put40_run 𝒱 c bd h4 h5 h6 h9 slot half T A _ _ R r 2 _ ?_
  refine put40_run 𝒱 c bd h4 h5 h6 h9 slot half T A _ _ R r 3 _ ?_
  exact hK

/-- The words put aside, transposed. -/
theorem stepT_run
    (hK : emitR (F := F) (Ix := Ix) (Name := Name) (U := U) (Lvl := Lvl) c h4 h5 h6 h9 T A slot X (stepTV slot half X O) R ⊢ wp frame (wpE defs 𝒱 (c : Thread nD τ) bd) Set.univ K Q) :
    emitR (F := F) (Ix := Ix) (Name := Name) (U := U) (Lvl := Lvl) c h4 h5 h6 h9 T A slot X O R ⊢ wp frame (wpE defs 𝒱 (c : Thread nD τ) bd) Set.univ (stepT (F := F) arg5 arg6 M16 M32 slot half K) Q := by
  unfold stepT
  refine tail8_run 𝒱 c bd h4 h5 h6 h9 slot half T A X O R 0 ?_
  refine tail8_run 𝒱 c bd h4 h5 h6 h9 slot half T A X O R 1 ?_
  refine tail8_run 𝒱 c bd h4 h5 h6 h9 slot half T A X O R 2 ?_
  refine tail8_run 𝒱 c bd h4 h5 h6 h9 slot half T A X O R 3 ?_
  refine put2_run 𝒱 c bd h4 h5 h6 h9 slot half T A _ _ R 0 _ ?_
  refine put2_run 𝒱 c bd h4 h5 h6 h9 slot half T A _ _ R 1 _ ?_
  refine put2_run 𝒱 c bd h4 h5 h6 h9 slot half T A _ _ R 2 _ ?_
  refine put2_run 𝒱 c bd h4 h5 h6 h9 slot half T A _ _ R 3 _ ?_
  exact hK

/-- A chain of programs, each taking one state of a family to the next. -/
theorem chain_run {E : Set Name} : ∀ (n : ℕ) (f : Fin n → Prog (TpuEff nD τ sig (Elt F) Λ₀ .tc) PUnit → Prog (TpuEff nD τ sig (Elt F) Λ₀ .tc) PUnit)
    (I : ℕ → sProp 𝕄) (h : ∀ (i : Fin n) (K : Prog (TpuEff nD τ sig (Elt F) Λ₀ .tc) PUnit),
      (I (i + 1) ⊢ wp frame (wpE defs 𝒱 (c : Thread nD τ) bd) E K Q) → I i ⊢ wp frame (wpE defs 𝒱 (c : Thread nD τ) bd) E (f i K) Q)
    (hK : I n ⊢ wp frame (wpE defs 𝒱 (c : Thread nD τ) bd) E K Q), I 0 ⊢ wp frame (wpE defs 𝒱 (c : Thread nD τ) bd) E (chain n f K) Q
  | 0, f, I, h, hK => hK
  | n + 1, f, I, h, hK => h 0 _ (chain_run n (fun i => f i.succ) (fun j => I (j + 1)) (fun i => h i.succ) hK)

/-- Half a slab. -/
theorem halfE_run
    (hK : emitR (F := F) (Ix := Ix) (Name := Name) (U := U) (Lvl := Lvl) c h4 h5 h6 h9 T A slot (halfXV k slot half T A hA X) (halfOV k slot half T A hA X O) R ⊢ wp frame (wpE defs 𝒱 (c : Thread nD τ) bd) Set.univ K Q) :
    emitR (F := F) (Ix := Ix) (Name := Name) (U := U) (Lvl := Lvl) c h4 h5 h6 h9 T A slot X O R ⊢ wp frame (wpE defs 𝒱 (c : Thread nD τ) bd) Set.univ (halfE (F := F) arg4 arg5 arg6 arg9 M16 M32 k slot half K) Q := by
  unfold halfE
  refine chain_run 𝒱 c bd 8 _ (fun n => emitR (F := F) (Ix := Ix) (Name := Name) (U := U) (Lvl := Lvl) c h4 h5 h6 h9 T A slot (stepsXV k slot half T A hA X n) (stepsOV k slot half T A hA O n) R) (fun i K hK => ?_)
    (stepT_run 𝒱 c bd h4 h5 h6 h9 slot half T A _ _ R hK)
  refine stepE_run 𝒱 c bd h4 h5 h6 h9 k slot half T A hA _ _ R i ?_
  have e : (⟨(i : ℕ) % 8, Nat.mod_lt _ (by decide)⟩ : Fin 8) = i := Fin.ext (Nat.mod_eq_of_lt i.2)
  have h := hK
  rw [show stepsXV k slot half T A hA X (i + 1) = stepXV k slot half T A hA i (stepsXV k slot half T A hA X i) from by
      show stepXV k slot half T A hA ⟨(i : ℕ) % 8, _⟩ _ = _; rw [e],
    show stepsOV k slot half T A hA O (i + 1) = stepOV k slot half T A hA i (stepsOV k slot half T A hA O i) from by
      show stepOV k slot half T A hA ⟨(i : ℕ) % 8, _⟩ _ = _; rw [e]] at h
  exact h

end

end Repack
-- ==== Proof.EmitRun.lean ====
/-
  The gathering loop run: each slab, once filled, leaves for its group of the result, and is filled again only when that
  copy has been waited for.
-/
module

public import proofs.«01_k».proof.Proof.EmitV

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F] [Facts]

/-! ### The slabs and the groups -/

/-- The place of a slab's element in the buffer, -/
def slabIdx (slot : Fin 2) (y : S18x32x128.Idx) : S1440x128.Idx :=
  Shape.reshapeEquiv reshapes_S1440x128_S2x18x40x128.1 ((Rect.unit (s := S2x18x40x128) ![(slot : ℕ), 0, 0, 0] S1x18x32x128.size (slab_inb slot)).emb
    (Shape.reshapeEquiv squeezes_S1x18x32x128_S18x32x128.numel_eq y))

/-- and of a group's element in the result. -/
def grpIdx (o : Fin 4 → ℕ) (h : ∀ a, o a + S1x18x32x128.size a ≤ S56x18x32x128.size a) (y : S18x32x128.Idx) : S56x18x32x128.Idx :=
  (Rect.unit (s := S56x18x32x128) o S1x18x32x128.size h).emb (Shape.reshapeEquiv squeezes_S1x18x32x128_S18x32x128.numel_eq y)

theorem slab_emb {arg6 : Memref sig .tc .vmem S1440x128 .i32} (h6 : arg6.IsWhole) (slot : Fin 2) (y : S18x32x128.Idx) :
    (slab arg6 h6 slot).view.emb y = arg6.view.emb (slabIdx slot y) := rfl

theorem grp_emb (arg2 : Memref sig .tc .hbm S56x18x32x128 .i32) (o : Fin 4 → ℕ) (h : ∀ a, o a + S1x18x32x128.size a ≤ S56x18x32x128.size a) (y : S18x32x128.Idx) :
    (group arg2 o h).view.emb y = arg2.view.emb (grpIdx o h y) := rfl

theorem squeeze_coords (y : S18x32x128.Idx) (z : S1x18x32x128.Idx) (hz : Shape.reshapeEquiv squeezes_S1x18x32x128_S18x32x128.numel_eq y = z) :
    (z 0 : ℕ) = 0 ∧ (z 1 : ℕ) = y 0 ∧ (z 2 : ℕ) = y 1 ∧ (z 3 : ℕ) = y 2 := by
  have h := Shape.rowMajor_reshapeEquiv squeezes_S1x18x32x128_S18x32x128.numel_eq y
  rw [hz] at h
  have hl := Shape.rowMajor_val_four z
  have hr := Shape.rowMajor_val_three y
  have e : (((z 0).val * 18 + (z 1).val) * 32 + (z 2).val) * 128 + (z 3).val = ((y 0).val * 32 + (y 1).val) * 128 + (y 2).val := hl.symm.trans (h.trans hr)
  have z0 : (z 0 : ℕ) < 1 := (z 0).2
  have z1 : (z 1 : ℕ) < 18 := (z 1).2
  have z2 : (z 2 : ℕ) < 32 := (z 2).2
  have z3 : (z 3 : ℕ) < 128 := (z 3).2
  have y0 : (y 0 : ℕ) < 18 := (y 0).2
  have y1 : (y 1 : ℕ) < 32 := (y 1).2
  have y2 : (y 2 : ℕ) < 128 := (y 2).2
  omega

theorem slabIdx_coords (slot : Fin 2) (y : S18x32x128.Idx) :
    (slabIdx slot y 0 : ℕ) = 720 * slot + 40 * (y 0 : ℕ) + y 1 ∧ (slabIdx slot y 1 : ℕ) = y 2 := by
  obtain ⟨h0, h1, h2, h3⟩ := squeeze_coords y _ rfl
  unfold slabIdx
  generalize hz : Shape.reshapeEquiv squeezes_S1x18x32x128_S18x32x128.numel_eq y = z at *
  generalize hw : (Rect.unit (s := S2x18x40x128) ![(slot : ℕ), 0, 0, 0] S1x18x32x128.size (slab_inb slot)).emb z = w
  have w0 : (w 0 : ℕ) = slot + 1 * (z 0 : ℕ) := by rw [← hw]; rfl
  have w1 : (w 1 : ℕ) = 0 + 1 * (z 1 : ℕ) := by rw [← hw]; rfl
  have w2 : (w 2 : ℕ) = 0 + 1 * (z 2 : ℕ) := by rw [← hw]; rfl
  have w3 : (w 3 : ℕ) = 0 + 1 * (z 3 : ℕ) := by rw [← hw]; rfl
  have h := Shape.rowMajor_reshapeEquiv reshapes_S1440x128_S2x18x40x128.1 w
  generalize hv : Shape.reshapeEquiv reshapes_S1440x128_S2x18x40x128.1 w = v at *
  have hl := Shape.rowMajor_val_two v
  have hr := Shape.rowMajor_val_four w
  have e : (v 0).val * 128 + (v 1).val = (((w 0).val * 18 + (w 1).val) * 40 + (w 2).val) * 128 + (w 3).val := hl.symm.trans (h.trans hr)
  have v1 : (v 1 : ℕ) < 128 := (v 1).2
  have y2 : (y 2 : ℕ) < 128 := (y 2).2
  omega

theorem grpIdx_coords (o : Fin 4 → ℕ) (h : ∀ a, o a + S1x18x32x128.size a ≤ S56x18x32x128.size a) (g : ℕ) (ho : o = ![g, 0, 0, 0]) (y : S18x32x128.Idx) :
    (grpIdx o h y 0 : ℕ) = g ∧ (grpIdx o h y 1 : ℕ) = y 0 ∧ (grpIdx o h y 2 : ℕ) = y 1 ∧ (grpIdx o h y 3 : ℕ) = y 2 := by
  subst ho
  obtain ⟨h0, h1, h2, h3⟩ := squeeze_coords y _ rfl
  unfold grpIdx
  generalize hz : Shape.reshapeEquiv squeezes_S1x18x32x128_S18x32x128.numel_eq y = z at *
  generalize hw : (Rect.unit (s := S56x18x32x128) ![g, 0, 0, 0] S1x18x32x128.size h).emb z = w
  have w0 : (w 0 : ℕ) = g + 1 * (z 0 : ℕ) := by rw [← hw]; rfl
  have w1 : (w 1 : ℕ) = 0 + 1 * (z 1 : ℕ) := by rw [← hw]; rfl
  have w2 : (w 2 : ℕ) = 0 + 1 * (z 2 : ℕ) := by rw [← hw]; rfl
  have w3 : (w 3 : ℕ) = 0 + 1 * (z 3 : ℕ) := by rw [← hw]; rfl
  omega

/-- The index of a group's element from its three coordinates. -/
def blkIdx (a : Fin 18) (b : Fin 32) (d : Fin 128) : S18x32x128.Idx
  | 0 => a
  | 1 => b
  | 2 => d

/-- The elements of one group of the result. -/
def grpM (g : ℕ) : Finset S56x18x32x128.Idx := Finset.univ.filter fun y => (y 0 : ℕ) = g

theorem mem_slabM (slot : Fin 2) (x : S1440x128.Idx) : x ∈ slabM slot ↔ ∃ y, slabIdx slot y = x := by
  constructor
  · intro h
    obtain ⟨-, h1, h2, h3⟩ := Finset.mem_filter.1 h
    have hx : (x 1 : ℕ) < 128 := (x 1).2
    refine ⟨blkIdx ⟨((x 0 : ℕ) - 720 * slot) / 40, by omega⟩ ⟨(x 0 : ℕ) % 40, h3⟩ ⟨x 1, hx⟩, ?_⟩
    obtain ⟨e0, e1⟩ := slabIdx_coords slot (blkIdx ⟨((x 0 : ℕ) - 720 * slot) / 40, by omega⟩ ⟨(x 0 : ℕ) % 40, h3⟩ ⟨x 1, hx⟩)
    have hs := slot.2
    funext a
    fin_cases a
    · refine Fin.ext (e0.trans ?_)
      show 720 * (slot : ℕ) + 40 * (((x 0 : ℕ) - 720 * slot) / 40) + (x 0 : ℕ) % 40 = x 0
      omega
    · exact Fin.ext e1
  · rintro ⟨y, rfl⟩
    obtain ⟨e0, e1⟩ := slabIdx_coords slot y
    have y0 : (y 0 : ℕ) < 18 := (y 0).2
    have y1 : (y 1 : ℕ) < 32 := (y 1).2
    have hs := slot.2
    refine Finset.mem_filter.2 ⟨Finset.mem_univ _, ?_⟩
    rw [e0]
    refine ⟨by omega, by omega, ?_⟩
    rw [show 720 * (slot : ℕ) + 40 * (y 0 : ℕ) + y 1 = 40 * (18 * slot + y 0) + y 1 from by ring, Nat.mul_add_mod, Nat.mod_eq_of_lt (by omega)]
    exact y1

theorem mem_grpM (o : Fin 4 → ℕ) (h : ∀ a, o a + S1x18x32x128.size a ≤ S56x18x32x128.size a) (g : ℕ) (ho : o = ![g, 0, 0, 0]) (x : S56x18x32x128.Idx) :
    x ∈ grpM g ↔ ∃ y, grpIdx o h y = x := by
  constructor
  · intro hx
    obtain ⟨-, h0⟩ := Finset.mem_filter.1 hx
    refine ⟨blkIdx (x 1) (x 2) (x 3), ?_⟩
    obtain ⟨e0, e1, e2, e3⟩ := grpIdx_coords o h g ho (blkIdx (x 1) (x 2) (x 3))
    funext a
    fin_cases a
    · exact Fin.ext (e0.trans h0.symm)
    · exact Fin.ext e1
    · exact Fin.ext e2
    · exact Fin.ext e3
  · rintro ⟨y, rfl⟩
    exact Finset.mem_filter.2 ⟨Finset.mem_univ _, (grpIdx_coords o h g ho y).1⟩

theorem slab_set {arg6 : Memref sig .tc .vmem S1440x128 .i32} (h6 : arg6.IsWhole) (slot : Fin 2) :
    (slab arg6 h6 slot).view.set = arg6.view.setOn (slabM slot) := by
  ext i
  constructor
  · intro hi
    obtain ⟨y, -, rfl⟩ := Finset.mem_map.mp hi
    exact Finset.mem_map.mpr ⟨slabIdx slot y, (mem_slabM slot _).2 ⟨y, rfl⟩, rfl⟩
  · intro hi
    obtain ⟨x, hx, rfl⟩ := Finset.mem_map.mp hi
    obtain ⟨y, rfl⟩ := (mem_slabM slot x).1 hx
    exact Finset.mem_map.mpr ⟨y, Finset.mem_univ _, rfl⟩

theorem grp_set (arg2 : Memref sig .tc .hbm S56x18x32x128 .i32) (o : Fin 4 → ℕ) (h : ∀ a, o a + S1x18x32x128.size a ≤ S56x18x32x128.size a) (g : ℕ) (ho : o = ![g, 0, 0, 0]) :
    (group arg2 o h).view.set = arg2.view.setOn (grpM g) := by
  ext i
  constructor
  · intro hi
    obtain ⟨y, -, rfl⟩ := Finset.mem_map.mp hi
    exact Finset.mem_map.mpr ⟨grpIdx o h y, (mem_grpM o h g ho _).2 ⟨y, rfl⟩, rfl⟩
  · intro hi
    obtain ⟨x, hx, rfl⟩ := Finset.mem_map.mp hi
    obtain ⟨y, rfl⟩ := (mem_grpM o h g ho x).1 hx
    exact Finset.mem_map.mpr ⟨y, Finset.mem_univ _, rfl⟩

variable {Ix : Type} [DecidableEq Ix] {Name : Type} [DecidableEq Name] [Infinite Name] {U : Type} [URA U] {Lvl : Type} [Preorder Lvl]
local notation "𝕄" => MT nD τ sig Ix (Elt F) Name U Lvl

section
variable {defs : Defs nD τ sig (Elt F) Λ₀} (𝒱 : Variants) (c : Dev nD) (bd : Option 𝒱.V)
variable (EC : UEmb Counters (MT nD τ sig Ix (Elt F) Name U Lvl)) [EC.LandsIn (upEmb : UEmb _ (MT nD τ sig Ix (Elt F) Name U Lvl))] (ι : Ix)
variable {arg2 : Memref sig .tc .hbm S56x18x32x128 .i32} (h2 : arg2.IsWhole) {arg6 : Memref sig .tc .vmem S1440x128 .i32} (h6 : arg6.IsWhole)
variable (arg11 : DmaSems sig S2)

/-- A slab sent. -/
theorem send_run (slot : Fin 2) (o : Fin 4 → ℕ) (h : ∀ a, o a + S1x18x32x128.size a ≤ S56x18x32x128.size a) (g : ℕ) (ho : o = ![g, 0, 0, 0])
    (O : S1440x128.Idx → BitVec 32) (Wd W : S56x18x32x128.Idx → BitVec 32) (hW : ∀ y, W (grpIdx o h y) = O (slabIdx slot y)) :
    iprop(own (Ix := Ix) (Name := Name) (U := U) (Lvl := Lvl) (Val := Elt F) (c : Thread nD τ) h6 (slabM slot) O ∗ own (Val := Elt F) (c : Thread nD τ) h2 (grpM g) Wd
        ∗ semVal ((c : Thread nD τ), SemLoc.dma (osem arg11 slot).sem) 0)
      ⊢ wp frame (wpE defs 𝒱 (c : Thread nD τ) bd) Set.univ (sendE (F := F) arg2 arg6 h6 arg11 slot o h)
        fun _ => Transfers.Flight EC (c : Thread nD τ) (.dma (osem arg11 slot).sem) ι (group arg2 o h).view.dmaCredit
          iprop(own (Val := Elt F) (c : Thread nD τ) h2 (grpM g) W ∗ own (Val := Elt F) (c : Thread nD τ) h6 (slabM slot) O) := by
  have e6 (O : S1440x128.Idx → BitVec 32) : own (Ix := Ix) (Name := Name) (U := U) (Lvl := Lvl) (Val := Elt F) (c : Thread nD τ) h6 (slabM slot) O
      = iprop((slab arg6 h6 slot).view.loc (c : Thread nD τ) ↦[(slab arg6 h6 slot).view.set]{fullShare} (h6.unread O : Buf (Elt F) (arg6.view.loc (c : Thread nD τ)))) := by
    unfold own; rw [slab_set]; rfl
  have e2 (V : S56x18x32x128.Idx → BitVec 32) : own (Ix := Ix) (Name := Name) (U := U) (Lvl := Lvl) (Val := Elt F) (c : Thread nD τ) h2 (grpM g) V
      = iprop((group arg2 o h).view.loc (c : Thread nD τ) ↦[(group arg2 o h).view.set]{fullShare} (h2.unread V : Buf (Elt F) (arg2.view.loc (c : Thread nD τ)))) := by
    unfold own; rw [grp_set arg2 o h g ho]; rfl
  rw [e6, e2, e2]
  unfold sendE
  refine start_step (defs := defs) 𝒱 (c : Thread nD τ) bd EC ι (by decide) _ ?_
  refine Entails.of_eq ?_
  congr 1
  refine pointsTo_congr fun i hi => ?_
  obtain ⟨y, -, rfl⟩ := Finset.mem_map.mp hi
  have hr : (slab arg6 h6 slot).view.read (Elt F) (h6.unread O) y = O (slabIdx slot y) := by
    have := congrFun (h6.read_unread (Val := Elt F) O) (slabIdx slot y)
    simp only [View.read] at this ⊢
    exact this
  have hl : (group arg2 o h).view.read (Elt F) (h2.unread W) y = W (grpIdx o h y) := by
    have := congrFun (h2.read_unread (Val := Elt F) W) (grpIdx o h y)
    simp only [View.read] at this ⊢
    exact this
  have hw : (group arg2 o h).view.read (Elt F) ((group arg2 o h).view.write (Elt F) (h2.unread Wd) ((slab arg6 h6 slot).view.read (Elt F) (h6.unread O)) Finset.univ) y
      = (slab arg6 h6 slot).view.read (Elt F) (h6.unread O) y := congrFun (View.read_write_univ _ _) y
  have h1 := hw.trans (hr.trans ((hW y).symm.trans hl.symm))
  simp only [View.read] at h1
  exact (cast_inj _).mp h1

end

end Repack
-- ==== Proof.EmitRfl.lean ====
/-
  The printed trip of the gathering loop is the sequence of steps.
-/
module

public import proofs.«01_k».proof.Proof.Emit

@[expose] public section

noncomputable section

namespace Repack

open Idealize.ShloMosaic Idealize.ShloMosaic.TcCoe
open Idealize.SL.Sem
open Cert.KernelIdeal Cert.KernelIdeal.Facts₀

variable {F : FTy → Type} [FloatOps F] [Facts]

/-- The trip as printed. -/
def tripE₀ (arg0 : Memref sig .tc .hbm S896x4608 .i32) (harg0 : arg0.IsWhole) (arg1 : Memref sig .tc .hbm S56x128 .i32) (harg1 : arg1.IsWhole) (arg2 : Memref sig .tc .hbm S56x18x32x128 .i32) (harg2 : arg2.IsWhole) (arg3 : Memref sig .tc .vmem S896x4608 .i32) (harg3 : arg3.IsWhole) (arg4 : Memref sig .tc .vmem S64512x128 .i32) (harg4 : arg4.IsWhole) (arg5 : Memref sig .tc .vmem S128x128 .i32) (harg5 : arg5.IsWhole) (arg6 : Memref sig .tc .vmem S1440x128 .i32) (harg6 : arg6.IsWhole) (arg7 : Memref sig .tc .vmem S56x128 .i32) (harg7 : arg7.IsWhole) (arg8 : Memref sig .tc .vmem S56x128 .i32) (harg8 : arg8.IsWhole) (arg9 : Memref sig .tc .smem S56x128 .i32) (harg9 : arg9.IsWhole) (arg10 : DmaSems sig S28) (arg11 : DmaSems sig S2) (arg12 : DmaSems sig S3) (v149 : IVec S16x128 1) (v152 : IVec S32x128 1) (k0_t2 : Fin k0_t2_loop.trips) : Prog (TpuEff nD τ sig (Elt F) Λ₀ .tc) PUnit := do
  let c0_i32_104 : BitVec 32 := 0#32
  let c1_i32_106 : BitVec 32 := 1#32
  let ⟨arg13, v172, v2304, v2307, v2310, v2313, v2316, v2319, v2368, v2374, v2381, v2387, v2397⟩ : Σ' (arg13 : BitVec 32) (v172 : BitVec 32) (v2304 : Vec F S1x128 .i32) (v2307 : Vec F S1x128 .i32) (v2310 : Vec F S1x128 .i32) (v2313 : Vec F S1x128 .i32) (v2316 : Vec F S1x128 .i32) (v2319 : Vec F S1x128 .i32) (v2368 : IVec S8x128 32) (v2374 : IVec S8x128 32) (v2381 : IVec S8x128 32) (v2387 : IVec S8x128 32), IVec S1x128 32 ← k0_part261 arg0 harg0 arg1 harg1 arg2 harg2 arg3 harg3 arg4 harg4 arg5 harg5 arg6 harg6 arg7 harg7 arg8 harg8 arg9 harg9 arg10 arg11 arg12 v149 v152 c0_i32_104 c1_i32_106 k0_t2
  let ⟨v3240, v4565, v4567, v4569, v4571, v4574, v4577, v4580, v4583, v4586, v4589, v4592, v4595, v4602, v4604, v4606, c4_i32_2244⟩ : Σ' (v3240 : BitVec 32) (v4565 : Vec F S8x128 .i32) (v4567 : Vec F S8x128 .i32) (v4569 : Vec F S8x128 .i32) (v4571 : Vec F S8x128 .i32) (v4574 : Vec F S1x128 .i32) (v4577 : Vec F S1x128 .i32) (v4580 : Vec F S1x128 .i32) (v4583 : Vec F S1x128 .i32) (v4586 : Vec F S1x128 .i32) (v4589 : Vec F S1x128 .i32) (v4592 : Vec F S1x128 .i32) (v4595 : Vec F S1x128 .i32) (v4602 : IVec S8x128 32) (v4604 : IVec S8x128 32) (v4606 : IVec S8x128 32), BitVec 32 ← k0_part262 arg0 harg0 arg1 harg1 arg2 harg2 arg3 harg3 arg4 harg4 arg5 harg5 arg6 harg6 arg7 harg7 arg8 harg8 arg9 harg9 arg10 arg11 arg12 v149 v152 k0_t2 arg13 v172 v2304 v2307 v2310 v2313 v2316 v2319 v2368 v2374 v2381 v2387 v2397
  let v6287 : IVec S8x128 32 ← k0_part263 arg0 harg0 arg1 harg1 arg2 harg2 arg3 harg3 arg4 harg4 arg5 harg5 arg6 harg6 arg7 harg7 arg8 harg8 arg9 harg9 arg10 arg11 arg12 v149 v152 k0_t2 v3240 v4565 v4567 v4569 v4571 v4574 v4577 v4580 v4583 v4586 v4589 v4592 v4595 v4602 v4604 v4606 c4_i32_2244
  have v6299 : IVec S8x128 32 := shapeCast S8x128 v6287 shapeCasts_S8x128_S8x128
  Prog.lift (.store arg6 ⟨(⟨![1417, 0], S8x128.size, ![2, 1], inb_S1440x128_S8x128_1417_0_s_2_1⟩ : LoadRect S1440x128), spos_2_1⟩ v6299 Finset.univ (View.stores_vmem_bits_univ h_S8x128 rfl) (.inl rfl))
  let c1_i32_3045 : BitVec 32 := 1#32
  let c1_i32_3046 : BitVec 32 := 1#32
  let v6300 : DmaSems sig S1 := arg11.slice (Rect.unit (s := S2) ![1] S1.size inb_S2_S1_1)
  let v6301 : DmaSems sig S_ := v6300.squeeze S_ squeezes_S1_S_
  let c0_i32_3047 : BitVec 32 := 0#32
  let c0_i32_3048 : BitVec 32 := 0#32
  let c0_i32_3049 : BitVec 32 := 0#32
  let v6302 : Memref sig .tc .hbm S1x18x32x128 .i32 := arg2.slice (Rect.unit (s := S56x18x32x128) (k0_off588 k0_t2) S1x18x32x128.size (k0_off588_inb k0_t2)) (fun _ => rfl)
  let v6303 : Memref sig .tc .hbm S18x32x128 .i32 := v6302.squeeze S18x32x128 squeezes_S1x18x32x128_S18x32x128
  let v6304 : Memref sig .tc .vmem S2x18x40x128 .i32 := arg6.reshape S2x18x40x128 reshapes_S1440x128_S2x18x40x128.1 reshapes_S1440x128_S2x18x40x128.2 harg6.contiguous
  let c0_i32_3050 : BitVec 32 := 0#32
  let c0_i32_3051 : BitVec 32 := 0#32
  let c0_i32_3052 : BitVec 32 := 0#32
  let v6305 : Memref sig .tc .vmem S1x18x32x128 .i32 := v6304.slice (Rect.unit (s := S2x18x40x128) ![1, 0, 0, 0] S1x18x32x128.size inb_S2x18x40x128_S1x18x32x128_1_0_0_0) (fun _ => rfl)
  let v6306 : Memref sig .tc .vmem S18x32x128 .i32 := v6305.squeeze S18x32x128 squeezes_S1x18x32x128_S18x32x128
  Prog.lift (.enqueueDma v6306 (.here v6303) (.dma v6301.sem) ((View.wordExact_bits rfl).reshape _ _) ((View.wordExact_bits rfl).reshape _ _) ⟨Or.inl rfl, trivial⟩)
  pure ⟨⟩

set_option maxRecDepth 100000 in
set_option maxHeartbeats 4000000 in
/-- It is the trip as stated. -/
theorem tripE_eq (arg0 : Memref sig .tc .hbm S896x4608 .i32) (harg0 : arg0.IsWhole) (arg1 : Memref sig .tc .hbm S56x128 .i32) (harg1 : arg1.IsWhole) (arg2 : Memref sig .tc .hbm S56x18x32x128 .i32) (harg2 : arg2.IsWhole) (arg3 : Memref sig .tc .vmem S896x4608 .i32) (harg3 : arg3.IsWhole) (arg4 : Memref sig .tc .vmem S64512x128 .i32) (harg4 : arg4.IsWhole) (arg5 : Memref sig .tc .vmem S128x128 .i32) (harg5 : arg5.IsWhole) (arg6 : Memref sig .tc .vmem S1440x128 .i32) (harg6 : arg6.IsWhole) (arg7 : Memref sig .tc .vmem S56x128 .i32) (harg7 : arg7.IsWhole) (arg8 : Memref sig .tc .vmem S56x128 .i32) (harg8 : arg8.IsWhole) (arg9 : Memref sig .tc .smem S56x128 .i32) (harg9 : arg9.IsWhole) (arg10 : DmaSems sig S28) (arg11 : DmaSems sig S2) (arg12 : DmaSems sig S3) (v149 : IVec S16x128 1) (v152 : IVec S32x128 1) (k0_t2 : Fin k0_t2_loop.trips) :
    tripE₀ (F := F) arg0 harg0 arg1 harg1 arg2 harg2 arg3 harg3 arg4 harg4 arg5 harg5 arg6 harg6 arg7 harg7 arg8 harg8 arg9 harg9 arg10 arg11 arg12 v149 v152 k0_t2
      = tripE arg2 arg4 arg5 arg6 harg6 arg9 arg11 v149 v152 k0_t2 := by
  delta tripE₀
  delta k0_part261
  delta k0_part96
  delta k0_part262
  delta k0_part178
  delta tripE
  generalize (instDecidableEqBitVec (k0_cond1 k0_t2) 1#1 : Decidable (k0_cond1 k0_t2 = 1#1)) = d1
  generalize (instDecidableEqBitVec (k0_cond2 k0_t2) 1#1 : Decidable (k0_cond2 k0_t2 = 1#1)) = d2
  rcases d1 with h | h <;> rcases d2 with h' | h' <;> rfl

end Repack
-- ==== Proof.EmitLoop.lean ====
/-
  The trips of the gathering loop.
-/
module

public import proofs.«01_k».proof.Proof.EmitRun
public import proofs.«01_k».proof.Proof.EmitRfl

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F] [Facts]

/-- The group of the result a trip's slab goes to. -/
def gOff (k : Fin k0_t2_loop.trips) : Fin 2 → Fin 4 → ℕ
  | 0 => k0_off314 k
  | 1 => k0_off588 k

theorem gOff_inb (k : Fin k0_t2_loop.trips) : ∀ slot a, gOff k slot a + S1x18x32x128.size a ≤ S56x18x32x128.size a
  | 0 => k0_off314_inb k
  | 1 => k0_off588_inb k

theorem gOff_eq (k : Fin k0_t2_loop.trips) (slot : Fin 2) : gOff k slot = ![2 * (k : ℕ) + slot, 0, 0, 0] := by
  match slot with
  | 0 => exact off314_eq k
  | 1 => exact off588_eq k

/-- What the loop has made after `n` trips: the words put aside and the two slabs. -/
def emitS (T : S64512x128.Idx → BitVec 32) (A : S56x128.Idx → BitVec 32) (hA : Fits A)
    (X : S128x128.Idx → BitVec 32) (O : Fin 2 → S1440x128.Idx → BitVec 32) : ℕ → (S128x128.Idx → BitVec 32) × (Fin 2 → S1440x128.Idx → BitVec 32)
  | 0 => (X, O)
  | n + 1 => if h : n < k0_t2_loop.trips then
      (slabXV ⟨n, h⟩ 1 T A hA (slabXV ⟨n, h⟩ 0 T A hA (emitS T A hA X O n).1),
        fun slot => match slot with
          | 0 => slabOV ⟨n, h⟩ 0 T A hA (emitS T A hA X O n).1 ((emitS T A hA X O n).2 0)
          | 1 => slabOV ⟨n, h⟩ 1 T A hA (slabXV ⟨n, h⟩ 0 T A hA (emitS T A hA X O n).1) ((emitS T A hA X O n).2 1))
    else emitS T A hA X O n

theorem emitS_zero (T : S64512x128.Idx → BitVec 32) (A : S56x128.Idx → BitVec 32) (hA : Fits A)
    (X : S128x128.Idx → BitVec 32) (O : Fin 2 → S1440x128.Idx → BitVec 32) : emitS T A hA X O 0 = (X, O) := rfl

theorem emitS_succ (T : S64512x128.Idx → BitVec 32) (A : S56x128.Idx → BitVec 32) (hA : Fits A)
    (X : S128x128.Idx → BitVec 32) (O : Fin 2 → S1440x128.Idx → BitVec 32) (k : Fin k0_t2_loop.trips) :
    emitS T A hA X O (k + 1) = (slabXV k 1 T A hA (slabXV k 0 T A hA (emitS T A hA X O k).1),
        fun slot => match slot with
          | 0 => slabOV k 0 T A hA (emitS T A hA X O k).1 ((emitS T A hA X O k).2 0)
          | 1 => slabOV k 1 T A hA (slabXV k 0 T A hA (emitS T A hA X O k).1) ((emitS T A hA X O k).2 1)) := dif_pos k.2

attribute [irreducible] emitS
attribute [local irreducible] halfXV halfOV halfE stepE stepT chain

variable {Ix : Type} [DecidableEq Ix] {Name : Type} [DecidableEq Name] [Infinite Name] {U : Type} [URA U] {Lvl : Type} [Preorder Lvl]
local notation "𝕄" => MT nD τ sig Ix (Elt F) Name U Lvl

section
variable {defs : Defs nD τ sig (Elt F) Λ₀} (𝒱 : Variants) (c : Dev nD) (bd : Option 𝒱.V)
variable (EC : UEmb Counters (MT nD τ sig Ix (Elt F) Name U Lvl)) [EC.LandsIn (upEmb : UEmb _ (MT nD τ sig Ix (Elt F) Name U Lvl))] (ι : Ix)
variable {arg2 : Memref sig .tc .hbm S56x18x32x128 .i32} (h2 : arg2.IsWhole)
variable {arg4 : Memref sig .tc .vmem S64512x128 .i32} (h4 : arg4.IsWhole) {arg5 : Memref sig .tc .vmem S128x128 .i32} (h5 : arg5.IsWhole)
variable {arg6 : Memref sig .tc .vmem S1440x128 .i32} (h6 : arg6.IsWhole) {arg9 : Memref sig .tc .smem S56x128 .i32} (h9 : arg9.IsWhole)
variable (arg11 : DmaSems sig S2)
variable (T : S64512x128.Idx → BitVec 32) (A : S56x128.Idx → BitVec 32) (hA : Fits A)
variable (OS : ℕ → Fin 2 → S1440x128.Idx → BitVec 32)
variable (Wd W : S56x18x32x128.Idx → BitVec 32)

/-- The group of a slab's trip `j`, written; -/
def doneG (slot : Fin 2) (j : Fin 28) : sProp 𝕄 := own (Val := Elt F) (c : Thread nD τ) h2 (grpM (2 * (j : ℕ) + slot)) W

/-- its copy, running. -/
def flightG (slot : Fin 2) (j : Fin 28) : sProp 𝕄 :=
  Transfers.Flight EC (c : Thread nD τ) (.dma (osem arg11 slot).sem) ι (group arg2 (gOff (Fin.cast trips2.symm j) slot) (gOff_inb _ slot)).view.dmaCredit
    iprop(doneG (F := F) (Ix := Ix) (Name := Name) (U := U) (Lvl := Lvl) c h2 W slot j ∗ own (Val := Elt F) (c : Thread nD τ) h6 (slabM slot) (OS (j + 1) slot))

/-- The groups of a slab while it is filled for the trip `n`, -/
def midG (slot : Fin 2) (n : ℕ) : sProp 𝕄 := bigSep Finset.univ fun j : Fin 28 =>
  if (j : ℕ) < n then doneG (F := F) (Ix := Ix) (Name := Name) (U := U) (Lvl := Lvl) c h2 W slot j
  else own (Val := Elt F) (c : Thread nD τ) h2 (grpM (2 * (j : ℕ) + slot)) Wd

/-- and when it has left. -/
def famG (slot : Fin 2) (n : ℕ) : sProp 𝕄 := bigSep Finset.univ fun j : Fin 28 =>
  if (j : ℕ) + 1 < n then doneG (F := F) (Ix := Ix) (Name := Name) (U := U) (Lvl := Lvl) c h2 W slot j
  else if (j : ℕ) < n then flightG (F := F) (Ix := Ix) (Name := Name) (U := U) (Lvl := Lvl) c EC ι h2 h6 arg11 OS W slot j
  else own (Val := Elt F) (c : Thread nD τ) h2 (grpM (2 * (j : ℕ) + slot)) Wd

/-- A slab that may be filled, -/
def readyG (slot : Fin 2) (n : ℕ) : sProp 𝕄 :=
  iprop((own (Ix := Ix) (Name := Name) (U := U) (Lvl := Lvl) (Val := Elt F) (c : Thread nD τ) h6 (slabM slot) (OS n slot)
      ∗ semVal ((c : Thread nD τ), SemLoc.dma (osem arg11 slot).sem) 0)
    ∗ midG (F := F) (Ix := Ix) (Name := Name) (U := U) (Lvl := Lvl) c h2 Wd W slot n)

/-- and one between two trips: before the first it has not left. -/
def betweenG (slot : Fin 2) (n : ℕ) : sProp 𝕄 :=
  if n = 0 then readyG (F := F) (Ix := Ix) (Name := Name) (U := U) (Lvl := Lvl) c h2 h6 arg11 OS Wd W slot 0
  else famG (F := F) (Ix := Ix) (Name := Name) (U := U) (Lvl := Lvl) c EC ι h2 h6 arg11 OS Wd W slot n

/-- The wait for a slab that has left. -/
theorem wait_fam (slot : Fin 2) (n : ℕ) (hn : n < 28) (o : Fin 4 → ℕ) (h : ∀ a, o a + S1x18x32x128.size a ≤ S56x18x32x128.size a) :
    iprop(idle (c : Thread nD τ) ∗ famG (F := F) (Ix := Ix) (Name := Name) (U := U) (Lvl := Lvl) c EC ι h2 h6 arg11 OS Wd W slot (n + 1))
      ⊢ wp frame (wpE defs 𝒱 (c : Thread nD τ) bd) Set.univ (waitE (F := F) arg2 arg6 h6 arg11 slot o h)
        fun _ => iprop((idle (c : Thread nD τ) ∗ (own (Ix := Ix) (Name := Name) (U := U) (Lvl := Lvl) (Val := Elt F) (c : Thread nD τ) h6 (slabM slot) (OS (n + 1) slot)
      ∗ semVal ((c : Thread nD τ), SemLoc.dma (osem arg11 slot).sem) 0))
          ∗ midG (F := F) (Ix := Ix) (Name := Name) (U := U) (Lvl := Lvl) c h2 Wd W slot (n + 1)) := by
  unfold famG midG
  refine swap_run (Λ := Λ₀) (defs := defs) 𝒱 (c : Thread nD τ) bd (⟨n, hn⟩ : Fin 28) _ _ (fun j hj => ?_) ?_
  · have hj' : (j : ℕ) ≠ n := fun h => hj (Fin.ext h)
    by_cases h : (j : ℕ) < n
    · rw [if_pos (by omega), if_pos (by omega)]
    · rw [if_neg (by omega), if_neg (by omega), if_neg (by omega)]
  dsimp only
  rw [if_neg (lt_irrefl _), if_pos (Nat.lt_succ_self _), if_pos (Nat.lt_succ_self _)]
  unfold flightG waitE
  have hw := wait_step (Λ := Λ₀) (defs := defs) 𝒱 (c : Thread nD τ) bd EC (sem := (osem arg11 slot).sem)
      (src := slab arg6 h6 slot) (dst := group arg2 o h) (hsrc := (View.wordExact_bits rfl).reshape _ _) (hdst := (View.wordExact_bits rfl).reshape _ _) ι
      (N := (group arg2 (gOff (Fin.cast trips2.symm ⟨n, hn⟩) slot) (gOff_inb _ slot)).view.dmaCredit) rfl
      iprop(doneG (F := F) (Ix := Ix) (Name := Name) (U := U) (Lvl := Lvl) c h2 W slot ⟨n, hn⟩ ∗ own (Val := Elt F) (c : Thread nD τ) h6 (slabM slot) (OS (n + 1) slot))
  refine run_mono (defs := defs) 𝒱 (c : Thread nD τ) bd hw sep_comm.1 fun _ => ?_
  iintro ⟨⟨⟨Hd, H6⟩, Hs⟩, Hi⟩
  isplitl [Hi H6 Hs]
  · isplitl [Hi]
    · iexact Hi
    isplitl [H6]
    · iexact H6
    · iexact Hs
  · iexact Hd

/-- A slab sent. -/
theorem send_mid (slot : Fin 2) (k : Fin k0_t2_loop.trips) (hW : ∀ y, W (grpIdx (gOff k slot) (gOff_inb k slot) y) = OS (k + 1) slot (slabIdx slot y)) :
    iprop((own (Ix := Ix) (Name := Name) (U := U) (Lvl := Lvl) (Val := Elt F) (c : Thread nD τ) h6 (slabM slot) (OS (k + 1) slot)
      ∗ semVal ((c : Thread nD τ), SemLoc.dma (osem arg11 slot).sem) 0) ∗ midG (F := F) (Ix := Ix) (Name := Name) (U := U) (Lvl := Lvl) c h2 Wd W slot k)
      ⊢ wp frame (wpE defs 𝒱 (c : Thread nD τ) bd) Set.univ (sendE (F := F) arg2 arg6 h6 arg11 slot (gOff k slot) (gOff_inb k slot))
        fun _ => iprop(emp ∗ famG (F := F) (Ix := Ix) (Name := Name) (U := U) (Lvl := Lvl) c EC ι h2 h6 arg11 OS Wd W slot (k + 1)) := by
  have hk : (k : ℕ) < 28 := trips2 ▸ k.2
  unfold famG midG
  refine swap_run (Λ := Λ₀) (defs := defs) 𝒱 (c : Thread nD τ) bd (⟨k, hk⟩ : Fin 28) _ _ (fun j hj => ?_) ?_
  · have hj' : (j : ℕ) ≠ k := fun h => hj (Fin.ext h)
    by_cases h : (j : ℕ) < k
    · rw [if_pos (by omega), if_pos (by omega)]
    · rw [if_neg (by omega), if_neg (by omega), if_neg (by omega)]
  dsimp only
  rw [if_neg (lt_irrefl _), if_neg (lt_irrefl _), if_pos (Nat.lt_succ_self _)]
  have hs := send_run (defs := defs) 𝒱 c bd EC ι h2 h6 arg11 slot (gOff k slot) (gOff_inb k slot) (2 * (k : ℕ) + slot) (gOff_eq k slot)
    (OS (k + 1) slot) Wd W hW
  refine run_mono (defs := defs) 𝒱 (c : Thread nD τ) bd hs ?_ fun _ => ?_
  · iintro ⟨⟨H6, Hs⟩, H2⟩
    isplitl [H6]
    · iexact H6
    isplitl [H2]
    · iexact H2
    · iexact Hs
  · unfold flightG doneG
    exact BIClass.emp_sep.mpr

/-- The wait, where there is one. -/
theorem wait_run (slot : Fin 2) (k : Fin k0_t2_loop.trips) (p : Prop) [Decidable p] (hp : p ↔ (k : ℕ) ≠ 0) (o : Fin 4 → ℕ)
    (hi : p → ∀ a, o a + S1x18x32x128.size a ≤ S56x18x32x128.size a) {R : sProp 𝕄} {Q : PUnit → sProp 𝕄} {K : Prog (TpuEff nD τ sig (Elt F) Λ₀ .tc) PUnit}
    (hK : iprop((idle (c : Thread nD τ) ∗ readyG (F := F) (Ix := Ix) (Name := Name) (U := U) (Lvl := Lvl) c h2 h6 arg11 OS Wd W slot k) ∗ R)
      ⊢ wp frame (wpE defs 𝒱 (c : Thread nD τ) bd) Set.univ K Q) :
    iprop((idle (c : Thread nD τ) ∗ betweenG (F := F) (Ix := Ix) (Name := Name) (U := U) (Lvl := Lvl) c EC ι h2 h6 arg11 OS Wd W slot k) ∗ R)
      ⊢ wp frame (wpE defs 𝒱 (c : Thread nD τ) bd) Set.univ
        (if h : p then waitE (F := F) arg2 arg6 h6 arg11 slot o (hi h) >>= fun _ => K else K) Q := by
  unfold betweenG
  by_cases h : p
  · have hk := hp.1 h
    obtain ⟨n, hn⟩ := Nat.exists_eq_succ_of_ne_zero hk
    have hk' : (k : ℕ) < 28 := trips2 ▸ k.2
    rw [dif_pos h, if_neg hk]
    rw [hn] at hK ⊢
    refine wp_seq (frame_run (defs := defs) 𝒱 (c : Thread nD τ) bd (R := R) (wait_fam (defs := defs) 𝒱 c bd EC ι h2 h6 arg11 OS Wd W slot n (by omega) o (hi h))) ?_
    refine BIBase.Entails.trans ?_ hK
    unfold readyG
    iintro ⟨⟨⟨Hi, Hr⟩, Hm⟩, HR⟩
    isplitl [Hi Hr Hm]
    · isplitl [Hi]
      · iexact Hi
      isplitl [Hr]
      · iexact Hr
      · iexact Hm
    · iexact HR
  · have hk : (k : ℕ) = 0 := by by_contra hc; exact h (hp.2 hc)
    rw [dif_neg h, if_pos hk]
    rw [hk] at hK
    exact hK

/-- A slab filled and sent. -/
theorem slabE_run (slot : Fin 2) (k : Fin k0_t2_loop.trips) (X : S128x128.Idx → BitVec 32)
    (hO : OS (k + 1) slot = slabOV k slot T A hA X (OS k slot))
    (hW : ∀ y, W (grpIdx (gOff k slot) (gOff_inb k slot) y) = OS (k + 1) slot (slabIdx slot y))
    {R : sProp 𝕄} {Q : PUnit → sProp 𝕄} {K : Prog (TpuEff nD τ sig (Elt F) Λ₀ .tc) PUnit}
    (hK : iprop(famG (F := F) (Ix := Ix) (Name := Name) (U := U) (Lvl := Lvl) c EC ι h2 h6 arg11 OS Wd W slot (k + 1)
        ∗ owns (Val := Elt F) (c : Thread nD τ) h4 T ∗ owns (Val := Elt F) (c : Thread nD τ) h9 A ∗ owns (Val := Elt F) (c : Thread nD τ) h5 (slabXV k slot T A hA X) ∗ R)
      ⊢ wp frame (wpE defs 𝒱 (c : Thread nD τ) bd) Set.univ K Q) :
    iprop(readyG (F := F) (Ix := Ix) (Name := Name) (U := U) (Lvl := Lvl) c h2 h6 arg11 OS Wd W slot k
        ∗ owns (Val := Elt F) (c : Thread nD τ) h4 T ∗ owns (Val := Elt F) (c : Thread nD τ) h9 A ∗ owns (Val := Elt F) (c : Thread nD τ) h5 X ∗ R)
      ⊢ wp frame (wpE defs 𝒱 (c : Thread nD τ) bd) Set.univ
        (slabE (F := F) arg2 arg4 arg5 arg6 h6 arg9 arg11 M16 M32 k slot (gOff k slot) (gOff_inb k slot) K) Q := by
  unfold slabE
  have hstart : iprop(readyG (F := F) (Ix := Ix) (Name := Name) (U := U) (Lvl := Lvl) c h2 h6 arg11 OS Wd W slot k
        ∗ owns (Val := Elt F) (c : Thread nD τ) h4 T ∗ owns (Val := Elt F) (c : Thread nD τ) h9 A ∗ owns (Val := Elt F) (c : Thread nD τ) h5 X ∗ R)
      ⊢ emitR (F := F) (Ix := Ix) (Name := Name) (U := U) (Lvl := Lvl) c h4 h5 h6 h9 T A slot X (OS k slot)
        iprop((semVal ((c : Thread nD τ), SemLoc.dma (osem arg11 slot).sem) 0 ∗ midG (F := F) (Ix := Ix) (Name := Name) (U := U) (Lvl := Lvl) c h2 Wd W slot k) ∗ R) := by
    unfold readyG emitR
    iintro ⟨⟨⟨H6, Hs⟩, Hm⟩, H4, H9, H5, HR⟩
    isplitl [H4]
    · iexact H4
    isplitl [H9]
    · iexact H9
    isplitl [H5]
    · iexact H5
    isplitl [H6]
    · iexact H6
    isplitl [Hs Hm]
    · isplitl [Hs]
      · iexact Hs
      · iexact Hm
    · iexact HR
  refine hstart.trans ?_
  refine halfE_run 𝒱 c bd h4 h5 h6 h9 k slot 0 T A hA X (OS k slot) _ ?_
  refine halfE_run 𝒱 c bd h4 h5 h6 h9 k slot 1 T A hA _ _ _ ?_
  have hs := frame_run (defs := defs) 𝒱 (c : Thread nD τ) bd
    (R := iprop(owns (Ix := Ix) (Name := Name) (U := U) (Lvl := Lvl) (Val := Elt F) (c : Thread nD τ) h4 T ∗ owns (Val := Elt F) (c : Thread nD τ) h9 A ∗ owns (Val := Elt F) (c : Thread nD τ) h5 (slabXV k slot T A hA X) ∗ R))
    (send_mid (defs := defs) 𝒱 c bd EC ι h2 h6 arg11 OS Wd W slot k hW)
  refine BIBase.Entails.trans ?_ (wp_seq (hs) ?_)
  · rw [hO]
    unfold emitR slabXV slabOV
    iintro ⟨H4, H9, H5, H6, ⟨Hs, Hm⟩, HR⟩
    isplitl [H6 Hs Hm]
    · isplitl [H6 Hs]
      · isplitl [H6]
        · iexact H6
        · iexact Hs
      · iexact Hm
    isplitl [H4]
    · iexact H4
    isplitl [H9]
    · iexact H9
    isplitl [H5]
    · iexact H5
    · iexact HR
  · refine BIBase.Entails.trans ?_ hK
    iintro ⟨⟨-, Hf⟩, H4, H9, H5, HR⟩
    isplitl [Hf]
    · iexact Hf
    isplitl [H4]
    · iexact H4
    isplitl [H9]
    · iexact H9
    isplitl [H5]
    · iexact H5
    · iexact HR

/-- What is held between two trips. -/
def loopG (X : S128x128.Idx → BitVec 32) (n : ℕ) : sProp 𝕄 :=
  iprop(((idle (c : Thread nD τ) ∗ betweenG (F := F) (Ix := Ix) (Name := Name) (U := U) (Lvl := Lvl) c EC ι h2 h6 arg11 OS Wd W 0 n)
      ∗ betweenG (F := F) (Ix := Ix) (Name := Name) (U := U) (Lvl := Lvl) c EC ι h2 h6 arg11 OS Wd W 1 n)
    ∗ owns (Val := Elt F) (c : Thread nD τ) h4 T ∗ owns (Val := Elt F) (c : Thread nD τ) h9 A ∗ owns (Val := Elt F) (c : Thread nD τ) h5 X)

/-- One trip. -/
theorem tripE_run (k : Fin k0_t2_loop.trips) (X : S128x128.Idx → BitVec 32)
    (hO0 : OS (k + 1) 0 = slabOV k 0 T A hA X (OS k 0))
    (hO1 : OS (k + 1) 1 = slabOV k 1 T A hA (slabXV k 0 T A hA X) (OS k 1))
    (hW : ∀ slot y, W (grpIdx (gOff k slot) (gOff_inb k slot) y) = OS (k + 1) slot (slabIdx slot y)) :
    loopG (F := F) (Ix := Ix) (Name := Name) (U := U) (Lvl := Lvl) c EC ι h2 h4 h5 h6 h9 arg11 T A OS Wd W X k
      ⊢ wp frame (wpE defs 𝒱 (c : Thread nD τ) bd) Set.univ (tripE (F := F) arg2 arg4 arg5 arg6 h6 arg9 arg11 M16 M32 k)
        fun _ => loopG (F := F) (Ix := Ix) (Name := Name) (U := U) (Lvl := Lvl) c EC ι h2 h4 h5 h6 h9 arg11 T A OS Wd W
          (slabXV k 1 T A hA (slabXV k 0 T A hA X)) (k + 1) := by
  unfold tripE loopG
  dsimp only
  refine BIBase.Entails.trans sep_assoc.1 ?_
  refine wait_run 𝒱 c bd EC ι h2 h6 arg11 OS Wd W 0 k _ (cond1_iff k) (k0_off41 k) (k0_off41_inb k) ?_
  refine BIBase.Entails.trans ?_ (slabE_run 𝒱 c bd EC ι h2 h4 h5 h6 h9 arg11 T A hA OS Wd W 0 k X hO0 (hW 0)
    (R := iprop(idle (c : Thread nD τ) ∗ betweenG (F := F) (Ix := Ix) (Name := Name) (U := U) (Lvl := Lvl) c EC ι h2 h6 arg11 OS Wd W 1 k)) ?_)
  · iintro ⟨⟨Hi, Hr⟩, Hb, H4, H9, H5⟩
    isplitl [Hr]
    · iexact Hr
    isplitl [H4]
    · iexact H4
    isplitl [H9]
    · iexact H9
    isplitl [H5]
    · iexact H5
    isplitl [Hi]
    · iexact Hi
    · iexact Hb
  refine BIBase.Entails.trans ?_ (wait_run 𝒱 c bd EC ι h2 h6 arg11 OS Wd W 1 k _ (cond2_iff k) (k0_off315 k) (k0_off315_inb k)
    (R := iprop(famG (F := F) (Ix := Ix) (Name := Name) (U := U) (Lvl := Lvl) c EC ι h2 h6 arg11 OS Wd W 0 (k + 1)
        ∗ owns (Val := Elt F) (c : Thread nD τ) h4 T ∗ owns (Val := Elt F) (c : Thread nD τ) h9 A ∗ owns (Val := Elt F) (c : Thread nD τ) h5 (slabXV k 0 T A hA X))) ?_)
  · iintro ⟨Hf, H4, H9, H5, Hi, Hb⟩
    isplitl [Hi Hb]
    · isplitl [Hi]
      · iexact Hi
      · iexact Hb
    isplitl [Hf]
    · iexact Hf
    isplitl [H4]
    · iexact H4
    isplitl [H9]
    · iexact H9
    · iexact H5
  refine BIBase.Entails.trans ?_ (slabE_run 𝒱 c bd EC ι h2 h4 h5 h6 h9 arg11 T A hA OS Wd W 1 k _ hO1 (hW 1)
    (R := iprop(idle (c : Thread nD τ) ∗ famG (F := F) (Ix := Ix) (Name := Name) (U := U) (Lvl := Lvl) c EC ι h2 h6 arg11 OS Wd W 0 (k + 1))) ?_)
  · iintro ⟨⟨Hi, Hr⟩, Hf, H4, H9, H5⟩
    isplitl [Hr]
    · iexact Hr
    isplitl [H4]
    · iexact H4
    isplitl [H9]
    · iexact H9
    isplitl [H5]
    · iexact H5
    isplitl [Hi]
    · iexact Hi
    · iexact Hf
  · show _ ⊢ wp frame (wpE defs 𝒱 (c : Thread nD τ) bd) Set.univ (.ret PUnit.unit) _
    rw [wp_ret]
    refine BIBase.Entails.trans ?_ fupd_intro
    unfold betweenG
    rw [if_neg (Nat.succ_ne_zero _), if_neg (Nat.succ_ne_zero _)]
    iintro ⟨Hf1, H4, H9, H5, Hi, Hf0⟩
    isplitl [Hi Hf0 Hf1]
    · isplitl [Hi Hf0]
      · isplitl [Hi]
        · iexact Hi
        · iexact Hf0
      · iexact Hf1
    isplitl [H4]
    · iexact H4
    isplitl [H9]
    · iexact H9
    · iexact H5

end

end Repack
-- ==== Proof.Tail.lean ====
/-
  The kernel run: the addresses, the table, the gathering loop, and the last two slabs waited for.
-/
module

public import proofs.«01_k».proof.Proof.Head
public import proofs.«01_k».proof.Proof.EmitLoop

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F] [Facts]
variable {Ix : Type} [DecidableEq Ix] {Name : Type} [DecidableEq Name] [Infinite Name] {U : Type} [URA U] {Lvl : Type} [Preorder Lvl]
local notation "𝕄" => MT nD τ sig Ix (Elt F) Name U Lvl

section
variable {defs : Defs nD τ sig (Elt F) Λ₀} (𝒱 : Variants) (c : Dev nD) (bd : Option 𝒱.V)
variable (EC : UEmb Counters (MT nD τ sig Ix (Elt F) Name U Lvl)) [EC.LandsIn (upEmb : UEmb _ (MT nD τ sig Ix (Elt F) Name U Lvl))] (ι : Ix)
variable {arg0 : Memref sig .tc .hbm S896x4608 .i32} (h0 : arg0.IsWhole) {arg1 : Memref sig .tc .hbm S56x128 .i32} (h1 : arg1.IsWhole)
variable {arg2 : Memref sig .tc .hbm S56x18x32x128 .i32} (h2 : arg2.IsWhole) {arg3 : Memref sig .tc .vmem S896x4608 .i32} (h3 : arg3.IsWhole)
variable {arg4 : Memref sig .tc .vmem S64512x128 .i32} (h4 : arg4.IsWhole) {arg5 : Memref sig .tc .vmem S128x128 .i32} (h5 : arg5.IsWhole)
variable {arg6 : Memref sig .tc .vmem S1440x128 .i32} (h6 : arg6.IsWhole) {arg7 : Memref sig .tc .vmem S56x128 .i32} (h7 : arg7.IsWhole)
variable {arg8 : Memref sig .tc .vmem S56x128 .i32} (h8 : arg8.IsWhole) {arg9 : Memref sig .tc .smem S56x128 .i32} (h9 : arg9.IsWhole)
variable (arg10 : DmaSems sig S28) (arg11 : DmaSems sig S2) (arg12 : DmaSems sig S3)
variable (W : S896x4608.Idx → BitVec 32) (P : S56x128.Idx → BitVec 32)

attribute [local irreducible] halfXV halfOV halfE stepE stepT chain runAll k0_part95 tripB

/-- The addresses of all rows. -/
def adrsV : S56x128.Idx → BitVec 32 := fun y => adrV (P y)

theorem started_waited : startedI c EC ι h0 h3 arg10 W 28 = waitedI c EC ι h0 h3 arg10 W 0 := by
  unfold startedI waitedI
  exact bigSep_congr fun i _ => by rw [if_pos i.2, if_neg (Nat.not_lt_zero _)]

/-- A load from a buffer held as a whole, at the head of a sequence, -/
theorem load_seq {α : Type} {s : Shape} {e : EltTy} {cs : CoreSpace} {m : Memref sig .tc cs s e} (h : m.IsWhole) (v : s.Idx → Elt F e)
    {r : LoadRect s} {hl : m.view.LoadsAt r} {k : (r.shape.Idx → Elt F e) → Prog (TpuEff nD τ sig (Elt F) Λ₀ .tc) α}
    {P R : sProp 𝕄} {Q : α → sProp 𝕄} (hP : P ⊣⊢ iprop(owns (Val := Elt F) (c : Thread nD τ) h v ∗ R))
    (hk : P ⊢ wp frame (wpE defs 𝒱 (c : Thread nD τ) bd) Set.univ (k fun x => v (r.idx x)) Q) :
    P ⊢ wp frame (wpE defs 𝒱 (c : Thread nD τ) bd) Set.univ (Prog.lift (.load m r hl) >>= k) Q :=
  load_all (defs := defs) 𝒱 (c : Thread nD τ) bd Set.univ h v hP hk

/-- and a store to it. -/
theorem store_seq {α : Type} {s : Shape} {e : EltTy} {cs : CoreSpace} {m : Memref sig .tc cs s e} (h : m.IsWhole) (v : s.Idx → Elt F e)
    {r : Rect s} {w : r.shape.Idx → Elt F e} {hx : (m.access r).Stores Finset.univ}
    {hm : Finset.univ = (Finset.univ : Finset r.shape.Idx) ∨ ∀ a, r.stride a = 1}
    {k : PUnit → Prog (TpuEff nD τ sig (Elt F) Λ₀ .tc) α} (P : (s.Idx → Elt F e) → sProp 𝕄) {R : sProp 𝕄} {Q : α → sProp 𝕄}
    (hP : ∀ v, P v ⊣⊢ iprop(owns (Val := Elt F) (c : Thread nD τ) h v ∗ R))
    (hk : P (upd r v w) ⊢ wp frame (wpE defs 𝒱 (c : Thread nD τ) bd) Set.univ (k ⟨⟩) Q) :
    P v ⊢ wp frame (wpE defs 𝒱 (c : Thread nD τ) bd) Set.univ (Prog.lift (.store m r w Finset.univ hx hm) >>= k) Q :=
  store_all (defs := defs) 𝒱 (c : Thread nD τ) bd Set.univ h v P hP hk

/-- The addresses computed and copied to scalar memory while the table is built. -/
theorem part269_run {α : Type} {K : (Σ' (_ : IVec S16x128 1) (_ : IVec S32x128 1) (_ : BitVec 32), BitVec 32) → Prog (TpuEff nD τ sig (Elt F) Λ₀ .tc) α} {Q : α → sProp 𝕄}
    (R : sProp 𝕄) (v8 v9 : S56x128.Idx → BitVec 32) (T : S64512x128.Idx → BitVec 32)
    (hK : iprop((((owns (Ix := Ix) (Name := Name) (U := U) (Lvl := Lvl) (Val := Elt F) (c : Thread nD τ) h9 (adrsV P) ∗ owns (Ix := Ix) (Name := Name) (U := U) (Lvl := Lvl) (Val := Elt F) (c : Thread nD τ) h8 (adrsV P)) ∗ semVal ((c : Thread nD τ), SemLoc.dma (dsem arg12)) 0) ∗ idle (c : Thread nD τ))
        ∗ owns (Ix := Ix) (Name := Name) (U := U) (Lvl := Lvl) (Val := Elt F) (c : Thread nD τ) h4 (tableV W T 28) ∗ waitedI c EC ι h0 h3 arg10 W 28 ∗ R)
      ⊢ wp frame (wpE defs 𝒱 (c : Thread nD τ) bd) Set.univ (K ⟨M16, M32, 0#32, 1#32⟩) Q) :
    iprop((owns (Ix := Ix) (Name := Name) (U := U) (Lvl := Lvl) (Val := Elt F) (c : Thread nD τ) h8 v8 ∗ owns (Ix := Ix) (Name := Name) (U := U) (Lvl := Lvl) (Val := Elt F) (c : Thread nD τ) h9 v9 ∗ semVal ((c : Thread nD τ), SemLoc.dma (dsem arg12)) 0)
        ∗ ((owns (Ix := Ix) (Name := Name) (U := U) (Lvl := Lvl) (Val := Elt F) (c : Thread nD τ) h4 T ∗ idle (c : Thread nD τ)) ∗ waitedI c EC ι h0 h3 arg10 W 0) ∗ R)
      ⊢ wp frame (wpE defs 𝒱 (c : Thread nD τ) bd) Set.univ (k0_part269 (F := F) arg0 h0 arg1 h1 arg2 h2 arg3 h3 arg4 h4 arg5 h5 arg6 h6 arg7 h7 arg8 h8 arg9 h9 arg10 arg11 arg12 P (fun y => blkV (P y)) (fun y => IntOp.shrui .vector (P y) 1#32) >>= K) Q := by
  have hloop := loopB_run (F := F) (defs := defs) 𝒱 c bd EC ι h0 h3 h4 arg10 W
    (body := fun k _ => k0_part95 (F := F) arg0 h0 arg1 h1 arg2 h2 arg3 h3 arg4 h4 arg5 h5 arg6 h6 arg7 h7 arg8 h8 arg9 h9 arg10 arg11 arg12 M16 M32 0#32 1#32 k >>= fun _ => (pure PUnit.unit : Prog (TpuEff nD τ sig (Elt F) Λ₀ .tc) PUnit))
    (fun k a => congrArg (fun p : Prog (TpuEff nD τ sig (Elt F) Λ₀ .tc) PUnit => p >>= fun _ => (pure PUnit.unit : Prog (TpuEff nD τ sig (Elt F) Λ₀ .tc) PUnit)) (part95_eq (F := F) arg0 h0 arg1 h1 arg2 h2 arg3 h3 arg4 h4 arg5 h5 arg6 h6 arg7 h7 arg8 h8 arg9 h9 arg10 arg11 arg12 M16 M32 k)) T
  rw [wp_bind]
  unfold k0_part269
  have hP : ∀ v : S56x128.Idx → BitVec 32, iprop((owns (Ix := Ix) (Name := Name) (U := U) (Lvl := Lvl) (Val := Elt F) (c : Thread nD τ) h8 v ∗ owns (Ix := Ix) (Name := Name) (U := U) (Lvl := Lvl) (Val := Elt F) (c : Thread nD τ) h9 v9 ∗ semVal ((c : Thread nD τ), SemLoc.dma (dsem arg12)) 0) ∗ ((owns (Ix := Ix) (Name := Name) (U := U) (Lvl := Lvl) (Val := Elt F) (c : Thread nD τ) h4 T ∗ idle (c : Thread nD τ)) ∗ waitedI c EC ι h0 h3 arg10 W 0) ∗ R)
      ⊣⊢ iprop(owns (Ix := Ix) (Name := Name) (U := U) (Lvl := Lvl) (Val := Elt F) (c : Thread nD τ) h8 v ∗ (owns (Ix := Ix) (Name := Name) (U := U) (Lvl := Lvl) (Val := Elt F) (c : Thread nD τ) h9 v9 ∗ semVal ((c : Thread nD τ), SemLoc.dma (dsem arg12)) 0) ∗ ((owns (Ix := Ix) (Name := Name) (U := U) (Lvl := Lvl) (Val := Elt F) (c : Thread nD τ) h4 T ∗ idle (c : Thread nD τ)) ∗ waitedI c EC ι h0 h3 arg10 W 0) ∗ R) := fun v => sep_assoc
  refine load_seq (defs := defs) 𝒱 c bd h8 v8 (hP v8) ?_
  refine store_seq (defs := defs) 𝒱 c bd h8 v8 (fun v => iprop((owns (Ix := Ix) (Name := Name) (U := U) (Lvl := Lvl) (Val := Elt F) (c : Thread nD τ) h8 v ∗ owns (Ix := Ix) (Name := Name) (U := U) (Lvl := Lvl) (Val := Elt F) (c : Thread nD τ) h9 v9 ∗ semVal ((c : Thread nD τ), SemLoc.dma (dsem arg12)) 0) ∗ ((owns (Ix := Ix) (Name := Name) (U := U) (Lvl := Lvl) (Val := Elt F) (c : Thread nD τ) h4 T ∗ idle (c : Thread nD τ)) ∗ waitedI c EC ι h0 h3 arg10 W 0) ∗ R)) hP ?_
  have e : ∀ h : S56x128.ShapeCasts S56x128, upd (Rect.unit (s := S56x128) ![0, 0] S56x128.size inb_S56x128_S56x128_0_0) v8 (shapeCast S56x128 (adrsV P) h) = adrsV P :=
    fun h => (upd_whole _ _).trans (shapeCast_self _ h)
  refine BIBase.Entails.trans (Entails.of_eq (congrArg (fun v : S56x128.Idx → BitVec 32 => iprop((owns (Ix := Ix) (Name := Name) (U := U) (Lvl := Lvl) (Val := Elt F) (c : Thread nD τ) h8 v ∗ owns (Ix := Ix) (Name := Name) (U := U) (Lvl := Lvl) (Val := Elt F) (c : Thread nD τ) h9 v9 ∗ semVal ((c : Thread nD τ), SemLoc.dma (dsem arg12)) 0) ∗ ((owns (Ix := Ix) (Name := Name) (U := U) (Lvl := Lvl) (Val := Elt F) (c : Thread nD τ) h4 T ∗ idle (c : Thread nD τ)) ∗ waitedI c EC ι h0 h3 arg10 W 0) ∗ R)) (e shapeCasts_S56x128_S56x128))) ?_
  refine wp_seq (frame_run (defs := defs) 𝒱 (c : Thread nD τ) bd (R := iprop(((owns (Ix := Ix) (Name := Name) (U := U) (Lvl := Lvl) (Val := Elt F) (c : Thread nD τ) h4 T ∗ idle (c : Thread nD τ)) ∗ waitedI c EC ι h0 h3 arg10 W 0) ∗ R))
    (copy_all (Λ := Λ₀) (defs := defs) 𝒱 (c : Thread nD τ) bd EC h8 h9 (sm := .dma (dsem arg12)) ι (show 0 < S56x128.numel from by decide) (adrsV P) v9)) ?_
  show iprop(flightA (F := F) (Ix := Ix) (Name := Name) (U := U) (Lvl := Lvl) c EC ι h8 h9 arg12 (adrsV P) ∗ ((owns (Ix := Ix) (Name := Name) (U := U) (Lvl := Lvl) (Val := Elt F) (c : Thread nD τ) h4 T ∗ idle (c : Thread nD τ)) ∗ waitedI c EC ι h0 h3 arg10 W 0) ∗ R) ⊢ _
  refine BIBase.Entails.trans sep_left_comm.1 ?_
  refine wp_seq (frame_run (defs := defs) 𝒱 (c : Thread nD τ) bd (R := iprop(flightA (F := F) (Ix := Ix) (Name := Name) (U := U) (Lvl := Lvl) c EC ι h8 h9 arg12 (adrsV P) ∗ R))
    hloop) ?_
  have hre : iprop((((owns (Ix := Ix) (Name := Name) (U := U) (Lvl := Lvl) (Val := Elt F) (c : Thread nD τ) h4 (tableV W T 28) ∗ idle (c : Thread nD τ)) ∗ waitedI c EC ι h0 h3 arg10 W 28)) ∗ flightA (F := F) (Ix := Ix) (Name := Name) (U := U) (Lvl := Lvl) c EC ι h8 h9 arg12 (adrsV P) ∗ R)
      ⊢ iprop((flightA (F := F) (Ix := Ix) (Name := Name) (U := U) (Lvl := Lvl) c EC ι h8 h9 arg12 (adrsV P) ∗ idle (c : Thread nD τ)) ∗ owns (Ix := Ix) (Name := Name) (U := U) (Lvl := Lvl) (Val := Elt F) (c : Thread nD τ) h4 (tableV W T 28) ∗ waitedI c EC ι h0 h3 arg10 W 28 ∗ R) := by
    iintro ⟨⟨⟨H4, Hi⟩, Hw⟩, Hf, HR⟩
    isplitl [Hf Hi]
    · isplitl [Hf]; · iexact Hf
      iexact Hi
    isplitl [H4]; · iexact H4
    isplitl [Hw]; · iexact Hw
    iexact HR
  refine BIBase.Entails.trans hre ?_
  refine wp_seq (frame_run (defs := defs) 𝒱 (c : Thread nD τ) bd (R := iprop(owns (Ix := Ix) (Name := Name) (U := U) (Lvl := Lvl) (Val := Elt F) (c : Thread nD τ) h4 (tableV W T 28) ∗ waitedI c EC ι h0 h3 arg10 W 28 ∗ R))
    (wait_step (Λ := Λ₀) (defs := defs) 𝒱 (c : Thread nD τ) bd EC (sem := dsem arg12) (src := arg8) (dst := arg9) (hsrc := h8.wordExact) (hdst := h9.wordExact) ι
      (N := arg9.view.dmaCredit) rfl
      iprop(owns (Ix := Ix) (Name := Name) (U := U) (Lvl := Lvl) (Val := Elt F) (c : Thread nD τ) h9 (adrsV P) ∗ owns (Ix := Ix) (Name := Name) (U := U) (Lvl := Lvl) (Val := Elt F) (c : Thread nD τ) h8 (adrsV P)))) ?_
  show _ ⊢ wp frame (wpE defs 𝒱 (c : Thread nD τ) bd) Set.univ (.ret _) _
  rw [wp_ret]
  exact BIBase.Entails.trans hK fupd_intro

section
variable (T : S64512x128.Idx → BitVec 32) (A : S56x128.Idx → BitVec 32) (hA : Fits A)
variable (X : S128x128.Idx → BitVec 32) (O : Fin 2 → S1440x128.Idx → BitVec 32)

/-- The words of the result: each group is the slab of its trip. -/
def wordsV : S56x18x32x128.Idx → BitVec 32 := fun z =>
  (emitS T A hA X O ((z 0 : ℕ) / 2 + 1)).2 ⟨(z 0 : ℕ) % 2, Nat.mod_lt _ (by decide)⟩
    (slabIdx ⟨(z 0 : ℕ) % 2, Nat.mod_lt _ (by decide)⟩ (blkIdx (z 1) (z 2) (z 3)))

theorem wordsV_grp (k : Fin k0_t2_loop.trips) (slot : Fin 2) (y : S18x32x128.Idx) :
    wordsV T A hA X O (grpIdx (gOff k slot) (gOff_inb k slot) y) = (emitS T A hA X O (k + 1)).2 slot (slabIdx slot y) := by
  obtain ⟨e0, e1, e2, e3⟩ := grpIdx_coords (gOff k slot) (gOff_inb k slot) (2 * (k : ℕ) + slot) (gOff_eq k slot) y
  generalize grpIdx (gOff k slot) (gOff_inb k slot) y = z at e0 e1 e2 e3
  have hs := slot.2
  have es : (⟨(z 0 : ℕ) % 2, Nat.mod_lt _ (by decide)⟩ : Fin 2) = slot := Fin.ext (by show (z 0 : ℕ) % 2 = slot; omega)
  have ek : (z 0 : ℕ) / 2 + 1 = k + 1 := by omega
  have ey : blkIdx (z 1) (z 2) (z 3) = y := by
    funext a
    fin_cases a
    · exact Fin.ext e1
    · exact Fin.ext e2
    · exact Fin.ext e3
  unfold wordsV
  rw [es, ek, ey]

variable (Wd : S56x18x32x128.Idx → BitVec 32)

/-- All the trips of the gathering loop. -/
theorem loopE_run {body : Fin k0_t2_loop.trips → PUnit → Prog (TpuEff nD τ sig (Elt F) Λ₀ .tc) PUnit}
    (hbody : ∀ k a, body k a = tripE (F := F) arg2 arg4 arg5 arg6 h6 arg9 arg11 M16 M32 k) :
    loopG (F := F) (Ix := Ix) (Name := Name) (U := U) (Lvl := Lvl) c EC ι h2 h4 h5 h6 h9 arg11 T A (fun n slot => (emitS T A hA X O n).2 slot) Wd (wordsV T A hA X O) (emitS T A hA X O 0).1 0
      ⊢ wp frame (wpE defs 𝒱 (c : Thread nD τ) bd) Set.univ (Scf.Loop.for k0_t2_loop k0_t2_ok ⟨⟩ body)
        fun _ => loopG (F := F) (Ix := Ix) (Name := Name) (U := U) (Lvl := Lvl) c EC ι h2 h4 h5 h6 h9 arg11 T A (fun n slot => (emitS T A hA X O n).2 slot) Wd (wordsV T A hA X O) (emitS T A hA X O 28).1 28 := by
  refine BIBase.Entails.trans ?_ (Scf.wp_for frame (wpE defs 𝒱 (c : Thread nD τ) bd) Set.univ _ _ _ k0_t2_ok PUnit.unit body
    (fun k _ => loopG (F := F) (Ix := Ix) (Name := Name) (U := U) (Lvl := Lvl) c EC ι h2 h4 h5 h6 h9 arg11 T A (fun n slot => (emitS T A hA X O n).2 slot) Wd (wordsV T A hA X O) (emitS T A hA X O k).1 k)
    (fun k acc => ?_))
  · iintro H
    isplitl [H]
    · iexact H
    · iintro %a H
      have e : Scf.trips k0_t2_loop.lb k0_t2_loop.ub k0_t2_loop.st = 28 := trips2
      rw [e]
      iexact H
  · rw [hbody]
    have h := tripE_run (F := F) (defs := defs) 𝒱 c bd EC ι h2 h4 h5 h6 h9 arg11 T A hA (fun n slot => (emitS T A hA X O n).2 slot) Wd (wordsV T A hA X O) k (emitS T A hA X O k).1
      (congrFun (congrArg Prod.snd (emitS_succ T A hA X O k)) 0) (congrFun (congrArg Prod.snd (emitS_succ T A hA X O k)) 1) (fun slot y => wordsV_grp T A hA X O k slot y)
    have eX : (emitS T A hA X O (k + 1)).1 = slabXV k 1 T A hA (slabXV k 0 T A hA (emitS T A hA X O k).1) := congrArg Prod.fst (emitS_succ T A hA X O k)
    rw [eX]
    exact h

/-- The two slabs of the last trip waited for. -/
theorem last_run (o0 o1 : Fin 4 → ℕ) (hi0 : ∀ a, o0 a + S1x18x32x128.size a ≤ S56x18x32x128.size a) (hi1 : ∀ a, o1 a + S1x18x32x128.size a ≤ S56x18x32x128.size a) :
    loopG (F := F) (Ix := Ix) (Name := Name) (U := U) (Lvl := Lvl) c EC ι h2 h4 h5 h6 h9 arg11 T A (fun n slot => (emitS T A hA X O n).2 slot) Wd (wordsV T A hA X O) (emitS T A hA X O 28).1 28
      ⊢ wp frame (wpE defs 𝒱 (c : Thread nD τ) bd) Set.univ (waitE (F := F) arg2 arg6 h6 arg11 0 o0 hi0 >>= fun _ => waitE (F := F) arg2 arg6 h6 arg11 1 o1 hi1 >>= fun _ => (pure PUnit.unit : Prog (TpuEff nD τ sig (Elt F) Λ₀ .tc) PUnit))
        fun _ => iprop(idle (c : Thread nD τ) ∗ ((own (Ix := Ix) (Name := Name) (U := U) (Lvl := Lvl) (Val := Elt F) (c : Thread nD τ) h6 (slabM 0) ((emitS T A hA X O 28).2 0) ∗ semVal ((c : Thread nD τ), SemLoc.dma (osem arg11 0).sem) 0) ∗ midG (F := F) (Ix := Ix) (Name := Name) (U := U) (Lvl := Lvl) c h2 Wd (wordsV T A hA X O) 0 28) ∗ ((own (Ix := Ix) (Name := Name) (U := U) (Lvl := Lvl) (Val := Elt F) (c : Thread nD τ) h6 (slabM 1) ((emitS T A hA X O 28).2 1) ∗ semVal ((c : Thread nD τ), SemLoc.dma (osem arg11 1).sem) 0) ∗ midG (F := F) (Ix := Ix) (Name := Name) (U := U) (Lvl := Lvl) c h2 Wd (wordsV T A hA X O) 1 28)
          ∗ owns (Ix := Ix) (Name := Name) (U := U) (Lvl := Lvl) (Val := Elt F) (c : Thread nD τ) h4 T ∗ owns (Ix := Ix) (Name := Name) (U := U) (Lvl := Lvl) (Val := Elt F) (c : Thread nD τ) h9 A ∗ owns (Ix := Ix) (Name := Name) (U := U) (Lvl := Lvl) (Val := Elt F) (c : Thread nD τ) h5 (emitS T A hA X O 28).1) := by
  unfold loopG betweenG
  rw [if_neg (by decide : ¬ (28 : ℕ) = 0), if_neg (by decide : ¬ (28 : ℕ) = 0)]
  refine BIBase.Entails.trans sep_assoc.1 ?_
  refine wp_seq (frame_run (defs := defs) 𝒱 (c : Thread nD τ) bd
    (R := iprop(famG (F := F) (Ix := Ix) (Name := Name) (U := U) (Lvl := Lvl) c EC ι h2 h6 arg11 (fun n slot => (emitS T A hA X O n).2 slot) Wd (wordsV T A hA X O) 1 28 ∗ owns (Ix := Ix) (Name := Name) (U := U) (Lvl := Lvl) (Val := Elt F) (c : Thread nD τ) h4 T ∗ owns (Ix := Ix) (Name := Name) (U := U) (Lvl := Lvl) (Val := Elt F) (c : Thread nD τ) h9 A ∗ owns (Ix := Ix) (Name := Name) (U := U) (Lvl := Lvl) (Val := Elt F) (c : Thread nD τ) h5 (emitS T A hA X O 28).1))
    (wait_fam (defs := defs) 𝒱 c bd EC ι h2 h6 arg11 (fun n slot => (emitS T A hA X O n).2 slot) Wd (wordsV T A hA X O) 0 27 (by decide) o0 hi0)) ?_
  have hre : iprop(((idle (c : Thread nD τ) ∗ (own (Ix := Ix) (Name := Name) (U := U) (Lvl := Lvl) (Val := Elt F) (c : Thread nD τ) h6 (slabM 0) ((emitS T A hA X O 28).2 0) ∗ semVal ((c : Thread nD τ), SemLoc.dma (osem arg11 0).sem) 0)) ∗ midG (F := F) (Ix := Ix) (Name := Name) (U := U) (Lvl := Lvl) c h2 Wd (wordsV T A hA X O) 0 28) ∗ famG (F := F) (Ix := Ix) (Name := Name) (U := U) (Lvl := Lvl) c EC ι h2 h6 arg11 (fun n slot => (emitS T A hA X O n).2 slot) Wd (wordsV T A hA X O) 1 28 ∗ owns (Ix := Ix) (Name := Name) (U := U) (Lvl := Lvl) (Val := Elt F) (c : Thread nD τ) h4 T ∗ owns (Ix := Ix) (Name := Name) (U := U) (Lvl := Lvl) (Val := Elt F) (c : Thread nD τ) h9 A ∗ owns (Ix := Ix) (Name := Name) (U := U) (Lvl := Lvl) (Val := Elt F) (c : Thread nD τ) h5 (emitS T A hA X O 28).1)
      ⊢ iprop((idle (c : Thread nD τ) ∗ famG (F := F) (Ix := Ix) (Name := Name) (U := U) (Lvl := Lvl) c EC ι h2 h6 arg11 (fun n slot => (emitS T A hA X O n).2 slot) Wd (wordsV T A hA X O) 1 28) ∗ ((own (Ix := Ix) (Name := Name) (U := U) (Lvl := Lvl) (Val := Elt F) (c : Thread nD τ) h6 (slabM 0) ((emitS T A hA X O 28).2 0) ∗ semVal ((c : Thread nD τ), SemLoc.dma (osem arg11 0).sem) 0) ∗ midG (F := F) (Ix := Ix) (Name := Name) (U := U) (Lvl := Lvl) c h2 Wd (wordsV T A hA X O) 0 28) ∗ owns (Ix := Ix) (Name := Name) (U := U) (Lvl := Lvl) (Val := Elt F) (c : Thread nD τ) h4 T ∗ owns (Ix := Ix) (Name := Name) (U := U) (Lvl := Lvl) (Val := Elt F) (c : Thread nD τ) h9 A ∗ owns (Ix := Ix) (Name := Name) (U := U) (Lvl := Lvl) (Val := Elt F) (c : Thread nD τ) h5 (emitS T A hA X O 28).1) := by
    iintro ⟨⟨⟨Hi, Hs⟩, Hm⟩, Hf, HR⟩
    isplitl [Hi Hf]
    · isplitl [Hi]; · iexact Hi
      iexact Hf
    isplitl [Hs Hm]
    · isplitl [Hs]; · iexact Hs
      iexact Hm
    iexact HR
  refine BIBase.Entails.trans hre ?_
  refine wp_seq (frame_run (defs := defs) 𝒱 (c : Thread nD τ) bd
    (R := iprop(((own (Ix := Ix) (Name := Name) (U := U) (Lvl := Lvl) (Val := Elt F) (c : Thread nD τ) h6 (slabM 0) ((emitS T A hA X O 28).2 0) ∗ semVal ((c : Thread nD τ), SemLoc.dma (osem arg11 0).sem) 0) ∗ midG (F := F) (Ix := Ix) (Name := Name) (U := U) (Lvl := Lvl) c h2 Wd (wordsV T A hA X O) 0 28) ∗ owns (Ix := Ix) (Name := Name) (U := U) (Lvl := Lvl) (Val := Elt F) (c : Thread nD τ) h4 T ∗ owns (Ix := Ix) (Name := Name) (U := U) (Lvl := Lvl) (Val := Elt F) (c : Thread nD τ) h9 A ∗ owns (Ix := Ix) (Name := Name) (U := U) (Lvl := Lvl) (Val := Elt F) (c : Thread nD τ) h5 (emitS T A hA X O 28).1))
    (wait_fam (defs := defs) 𝒱 c bd EC ι h2 h6 arg11 (fun n slot => (emitS T A hA X O n).2 slot) Wd (wordsV T A hA X O) 1 27 (by decide) o1 hi1)) ?_
  show _ ⊢ wp frame (wpE defs 𝒱 (c : Thread nD τ) bd) Set.univ (.ret PUnit.unit) _
  rw [wp_ret]
  refine BIBase.Entails.trans ?_ fupd_intro
  iintro ⟨⟨⟨Hi, Hs⟩, Hm⟩, H0, HR⟩
  isplitl [Hi]; · iexact Hi
  isplitl [H0]; · iexact H0
  isplitl [Hs Hm]
  · isplitl [Hs]; · iexact Hs
    iexact Hm
  iexact HR

end

end

end Repack
-- ==== Proof.Body.lean ====
/-
  The whole kernel run.
-/
module

public import proofs.«01_k».proof.Proof.Tail

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F] [Facts]
variable {Ix : Type} [DecidableEq Ix] {Name : Type} [DecidableEq Name] [Infinite Name] {U : Type} [URA U] {Lvl : Type} [Preorder Lvl]
local notation "𝕄" => MT nD τ sig Ix (Elt F) Name U Lvl

section
variable {defs : Defs nD τ sig (Elt F) Λ₀} (𝒱 : Variants) (c : Dev nD) (bd : Option 𝒱.V)
variable (EC : UEmb Counters (MT nD τ sig Ix (Elt F) Name U Lvl)) [EC.LandsIn (upEmb : UEmb _ (MT nD τ sig Ix (Elt F) Name U Lvl))] (ι : Ix)
variable {arg0 : Memref sig .tc .hbm S896x4608 .i32} (h0 : arg0.IsWhole) {arg1 : Memref sig .tc .hbm S56x128 .i32} (h1 : arg1.IsWhole)
variable {arg2 : Memref sig .tc .hbm S56x18x32x128 .i32} (h2 : arg2.IsWhole) {arg3 : Memref sig .tc .vmem S896x4608 .i32} (h3 : arg3.IsWhole)
variable {arg4 : Memref sig .tc .vmem S64512x128 .i32} (h4 : arg4.IsWhole) {arg5 : Memref sig .tc .vmem S128x128 .i32} (h5 : arg5.IsWhole)
variable {arg6 : Memref sig .tc .vmem S1440x128 .i32} (h6 : arg6.IsWhole) {arg7 : Memref sig .tc .vmem S56x128 .i32} (h7 : arg7.IsWhole)
variable {arg8 : Memref sig .tc .vmem S56x128 .i32} (h8 : arg8.IsWhole) {arg9 : Memref sig .tc .smem S56x128 .i32} (h9 : arg9.IsWhole)
variable (arg10 : DmaSems sig S28) (arg11 : DmaSems sig S2) (arg12 : DmaSems sig S3)
variable (W : S896x4608.Idx → BitVec 32) (P : S56x128.Idx → BitVec 32)

attribute [local irreducible] halfXV halfOV halfE stepE stepT chain runAll k0_part95 tripB tripE k0_part261 k0_part262 k0_part263

/-- From the buffers as they are to the buffers as the kernel leaves them. -/
theorem cc0_run (v7 v8 v9 : S56x128.Idx → BitVec 32) (T : S64512x128.Idx → BitVec 32) (hA : Fits (adrsV P)) (X : S128x128.Idx → BitVec 32)
    (O : Fin 2 → S1440x128.Idx → BitVec 32) (Wd : S56x18x32x128.Idx → BitVec 32) (hX : (emitS (tableV W T 28) (adrsV P) hA X O 0).1 = X) :
    iprop(((owns (Ix := Ix) (Name := Name) (U := U) (Lvl := Lvl) (Val := Elt F) (c : Thread nD τ) h1 P ∗ owns (Ix := Ix) (Name := Name) (U := U) (Lvl := Lvl) (Val := Elt F) (c : Thread nD τ) h7 v7 ∗ semVal ((c : Thread nD τ), SemLoc.dma (psem arg12)) 0) ∗ (idle (c : Thread nD τ) ∗ (owns (Ix := Ix) (Name := Name) (U := U) (Lvl := Lvl) (Val := Elt F) (c : Thread nD τ) h8 v8 ∗ owns (Ix := Ix) (Name := Name) (U := U) (Lvl := Lvl) (Val := Elt F) (c : Thread nD τ) h9 v9 ∗ semVal ((c : Thread nD τ), SemLoc.dma (dsem arg12)) 0) ∗ owns (Ix := Ix) (Name := Name) (U := U) (Lvl := Lvl) (Val := Elt F) (c : Thread nD τ) h4 T ∗ (readyG (F := F) (Ix := Ix) (Name := Name) (U := U) (Lvl := Lvl) c h2 h6 arg11 (fun n slot => (emitS (tableV W T 28) (adrsV P) hA X O n).2 slot) Wd (wordsV (tableV W T 28) (adrsV P) hA X O) 0 0 ∗ readyG (F := F) (Ix := Ix) (Name := Name) (U := U) (Lvl := Lvl) c h2 h6 arg11 (fun n slot => (emitS (tableV W T 28) (adrsV P) hA X O n).2 slot) Wd (wordsV (tableV W T 28) (adrsV P) hA X O) 1 0) ∗ owns (Ix := Ix) (Name := Name) (U := U) (Lvl := Lvl) (Val := Elt F) (c : Thread nD τ) h5 X)) ∗ startedI c EC ι h0 h3 arg10 W 0)
      ⊢ wp frame (wpE defs 𝒱 (c : Thread nD τ) bd) Set.univ (cc0_gptq_repack (F := F) arg0 h0 arg1 h1 arg2 h2 arg3 h3 arg4 h4 arg5 h5 arg6 h6 arg7 h7 arg8 h8 arg9 h9 arg10 arg11 arg12)
        fun _ => iprop((idle (c : Thread nD τ) ∗ ((own (Ix := Ix) (Name := Name) (U := U) (Lvl := Lvl) (Val := Elt F) (c : Thread nD τ) h6 (slabM 0) ((emitS (tableV W T 28) (adrsV P) hA X O 28).2 0) ∗ semVal ((c : Thread nD τ), SemLoc.dma (osem arg11 0).sem) 0) ∗ midG (F := F) (Ix := Ix) (Name := Name) (U := U) (Lvl := Lvl) c h2 Wd (wordsV (tableV W T 28) (adrsV P) hA X O) 0 28) ∗ ((own (Ix := Ix) (Name := Name) (U := U) (Lvl := Lvl) (Val := Elt F) (c : Thread nD τ) h6 (slabM 1) ((emitS (tableV W T 28) (adrsV P) hA X O 28).2 1) ∗ semVal ((c : Thread nD τ), SemLoc.dma (osem arg11 1).sem) 0) ∗ midG (F := F) (Ix := Ix) (Name := Name) (U := U) (Lvl := Lvl) c h2 Wd (wordsV (tableV W T 28) (adrsV P) hA X O) 1 28) ∗ owns (Ix := Ix) (Name := Name) (U := U) (Lvl := Lvl) (Val := Elt F) (c : Thread nD τ) h4 (tableV W T 28) ∗ owns (Ix := Ix) (Name := Name) (U := U) (Lvl := Lvl) (Val := Elt F) (c : Thread nD τ) h9 (adrsV P) ∗ owns (Ix := Ix) (Name := Name) (U := U) (Lvl := Lvl) (Val := Elt F) (c : Thread nD τ) h5 (emitS (tableV W T 28) (adrsV P) hA X O 28).1) ∗ (owns (Ix := Ix) (Name := Name) (U := U) (Lvl := Lvl) (Val := Elt F) (c : Thread nD τ) h8 (adrsV P) ∗ semVal ((c : Thread nD τ), SemLoc.dma (dsem arg12)) 0) ∗ waitedI c EC ι h0 h3 arg10 W 28 ∗ ((owns (Ix := Ix) (Name := Name) (U := U) (Lvl := Lvl) (Val := Elt F) (c : Thread nD τ) h7 P ∗ owns (Ix := Ix) (Name := Name) (U := U) (Lvl := Lvl) (Val := Elt F) (c : Thread nD τ) h1 P) ∗ semVal ((c : Thread nD τ), SemLoc.dma (psem arg12)) 0)) := by
  have hloop := loopE_run (F := F) (defs := defs) 𝒱 c bd EC ι h2 h4 h5 h6 h9 arg11 (tableV W T 28) (adrsV P) hA X O Wd
    (body := fun k _ => tripE₀ (F := F) arg0 h0 arg1 h1 arg2 h2 arg3 h3 arg4 h4 arg5 h5 arg6 h6 arg7 h7 arg8 h8 arg9 h9 arg10 arg11 arg12 M16 M32 k) (fun k a => tripE_eq arg0 h0 arg1 h1 arg2 h2 arg3 h3 arg4 h4 arg5 h5 arg6 h6 arg7 h7 arg8 h8 arg9 h9 arg10 arg11 arg12 M16 M32 k)
  rw [hX] at hloop
  unfold cc0_gptq_repack
  refine wp_seq (part264_run (defs := defs) 𝒱 c bd EC ι h0 h1 h2 h3 h4 h5 h6 h7 h8 h9 arg10 arg11 arg12 W P v7 iprop(idle (c : Thread nD τ) ∗ (owns (Ix := Ix) (Name := Name) (U := U) (Lvl := Lvl) (Val := Elt F) (c : Thread nD τ) h8 v8 ∗ owns (Ix := Ix) (Name := Name) (U := U) (Lvl := Lvl) (Val := Elt F) (c : Thread nD τ) h9 v9 ∗ semVal ((c : Thread nD τ), SemLoc.dma (dsem arg12)) 0) ∗ owns (Ix := Ix) (Name := Name) (U := U) (Lvl := Lvl) (Val := Elt F) (c : Thread nD τ) h4 T ∗ (readyG (F := F) (Ix := Ix) (Name := Name) (U := U) (Lvl := Lvl) c h2 h6 arg11 (fun n slot => (emitS (tableV W T 28) (adrsV P) hA X O n).2 slot) Wd (wordsV (tableV W T 28) (adrsV P) hA X O) 0 0 ∗ readyG (F := F) (Ix := Ix) (Name := Name) (U := U) (Lvl := Lvl) c h2 h6 arg11 (fun n slot => (emitS (tableV W T 28) (adrsV P) hA X O n).2 slot) Wd (wordsV (tableV W T 28) (adrsV P) hA X O) 1 0) ∗ owns (Ix := Ix) (Name := Name) (U := U) (Lvl := Lvl) (Val := Elt F) (c : Thread nD τ) h5 X)) ?_
  refine wp_seq (part265_run (defs := defs) 𝒱 c bd EC ι h0 h1 h2 h3 h4 h5 h6 h7 h8 h9 arg10 arg11 arg12 W _) ?_
  refine wp_seq (part266_run (defs := defs) 𝒱 c bd EC ι h0 h1 h2 h3 h4 h5 h6 h7 h8 h9 arg10 arg11 arg12 W _) ?_
  refine wp_seq (part267_run (defs := defs) 𝒱 c bd EC ι h0 h1 h2 h3 h4 h5 h6 h7 h8 h9 arg10 arg11 arg12 W _) ?_
  have hre0 : iprop((flightP (F := F) (Ix := Ix) (Name := Name) (U := U) (Lvl := Lvl) c EC ι h1 h7 arg12 P ∗ (idle (c : Thread nD τ) ∗ (owns (Ix := Ix) (Name := Name) (U := U) (Lvl := Lvl) (Val := Elt F) (c : Thread nD τ) h8 v8 ∗ owns (Ix := Ix) (Name := Name) (U := U) (Lvl := Lvl) (Val := Elt F) (c : Thread nD τ) h9 v9 ∗ semVal ((c : Thread nD τ), SemLoc.dma (dsem arg12)) 0) ∗ owns (Ix := Ix) (Name := Name) (U := U) (Lvl := Lvl) (Val := Elt F) (c : Thread nD τ) h4 T ∗ (readyG (F := F) (Ix := Ix) (Name := Name) (U := U) (Lvl := Lvl) c h2 h6 arg11 (fun n slot => (emitS (tableV W T 28) (adrsV P) hA X O n).2 slot) Wd (wordsV (tableV W T 28) (adrsV P) hA X O) 0 0 ∗ readyG (F := F) (Ix := Ix) (Name := Name) (U := U) (Lvl := Lvl) c h2 h6 arg11 (fun n slot => (emitS (tableV W T 28) (adrsV P) hA X O n).2 slot) Wd (wordsV (tableV W T 28) (adrsV P) hA X O) 1 0) ∗ owns (Ix := Ix) (Name := Name) (U := U) (Lvl := Lvl) (Val := Elt F) (c : Thread nD τ) h5 X)) ∗ startedI c EC ι h0 h3 arg10 W 23) ⊢ iprop(((flightP (F := F) (Ix := Ix) (Name := Name) (U := U) (Lvl := Lvl) c EC ι h1 h7 arg12 P ∗ idle (c : Thread nD τ)) ∗ (owns (Ix := Ix) (Name := Name) (U := U) (Lvl := Lvl) (Val := Elt F) (c : Thread nD τ) h8 v8 ∗ owns (Ix := Ix) (Name := Name) (U := U) (Lvl := Lvl) (Val := Elt F) (c : Thread nD τ) h9 v9 ∗ semVal ((c : Thread nD τ), SemLoc.dma (dsem arg12)) 0) ∗ owns (Ix := Ix) (Name := Name) (U := U) (Lvl := Lvl) (Val := Elt F) (c : Thread nD τ) h4 T ∗ (readyG (F := F) (Ix := Ix) (Name := Name) (U := U) (Lvl := Lvl) c h2 h6 arg11 (fun n slot => (emitS (tableV W T 28) (adrsV P) hA X O n).2 slot) Wd (wordsV (tableV W T 28) (adrsV P) hA X O) 0 0 ∗ readyG (F := F) (Ix := Ix) (Name := Name) (U := U) (Lvl := Lvl) c h2 h6 arg11 (fun n slot => (emitS (tableV W T 28) (adrsV P) hA X O n).2 slot) Wd (wordsV (tableV W T 28) (adrsV P) hA X O) 1 0) ∗ owns (Ix := Ix) (Name := Name) (U := U) (Lvl := Lvl) (Val := Elt F) (c : Thread nD τ) h5 X) ∗ startedI c EC ι h0 h3 arg10 W 23) := by
    iintro ⟨⟨HF, Hi, HR⟩, Hs⟩
    isplitl [HF Hi HR]
    · isplitl [HF Hi]
      · isplitl [HF]; · iexact HF
        iexact Hi
      iexact HR
    iexact Hs
  refine BIBase.Entails.trans hre0 ?_
  refine part268_run (defs := defs) 𝒱 c bd EC ι h0 h1 h2 h3 h4 h5 h6 h7 h8 h9 arg10 arg11 arg12 W P iprop((owns (Ix := Ix) (Name := Name) (U := U) (Lvl := Lvl) (Val := Elt F) (c : Thread nD τ) h8 v8 ∗ owns (Ix := Ix) (Name := Name) (U := U) (Lvl := Lvl) (Val := Elt F) (c : Thread nD τ) h9 v9 ∗ semVal ((c : Thread nD τ), SemLoc.dma (dsem arg12)) 0) ∗ owns (Ix := Ix) (Name := Name) (U := U) (Lvl := Lvl) (Val := Elt F) (c : Thread nD τ) h4 T ∗ (readyG (F := F) (Ix := Ix) (Name := Name) (U := U) (Lvl := Lvl) c h2 h6 arg11 (fun n slot => (emitS (tableV W T 28) (adrsV P) hA X O n).2 slot) Wd (wordsV (tableV W T 28) (adrsV P) hA X O) 0 0 ∗ readyG (F := F) (Ix := Ix) (Name := Name) (U := U) (Lvl := Lvl) c h2 h6 arg11 (fun n slot => (emitS (tableV W T 28) (adrsV P) hA X O n).2 slot) Wd (wordsV (tableV W T 28) (adrsV P) hA X O) 1 0) ∗ owns (Ix := Ix) (Name := Name) (U := U) (Lvl := Lvl) (Val := Elt F) (c : Thread nD τ) h5 X) ?_
  rw [started_waited c EC ι h0 h3 arg10 W]
  have hre : iprop((((owns (Ix := Ix) (Name := Name) (U := U) (Lvl := Lvl) (Val := Elt F) (c : Thread nD τ) h7 P ∗ owns (Ix := Ix) (Name := Name) (U := U) (Lvl := Lvl) (Val := Elt F) (c : Thread nD τ) h1 P) ∗ semVal ((c : Thread nD τ), SemLoc.dma (psem arg12)) 0) ∗ idle (c : Thread nD τ)) ∗ ((owns (Ix := Ix) (Name := Name) (U := U) (Lvl := Lvl) (Val := Elt F) (c : Thread nD τ) h8 v8 ∗ owns (Ix := Ix) (Name := Name) (U := U) (Lvl := Lvl) (Val := Elt F) (c : Thread nD τ) h9 v9 ∗ semVal ((c : Thread nD τ), SemLoc.dma (dsem arg12)) 0) ∗ owns (Ix := Ix) (Name := Name) (U := U) (Lvl := Lvl) (Val := Elt F) (c : Thread nD τ) h4 T ∗ (readyG (F := F) (Ix := Ix) (Name := Name) (U := U) (Lvl := Lvl) c h2 h6 arg11 (fun n slot => (emitS (tableV W T 28) (adrsV P) hA X O n).2 slot) Wd (wordsV (tableV W T 28) (adrsV P) hA X O) 0 0 ∗ readyG (F := F) (Ix := Ix) (Name := Name) (U := U) (Lvl := Lvl) c h2 h6 arg11 (fun n slot => (emitS (tableV W T 28) (adrsV P) hA X O n).2 slot) Wd (wordsV (tableV W T 28) (adrsV P) hA X O) 1 0) ∗ owns (Ix := Ix) (Name := Name) (U := U) (Lvl := Lvl) (Val := Elt F) (c : Thread nD τ) h5 X) ∗ waitedI c EC ι h0 h3 arg10 W 0)
      ⊢ iprop((owns (Ix := Ix) (Name := Name) (U := U) (Lvl := Lvl) (Val := Elt F) (c : Thread nD τ) h8 v8 ∗ owns (Ix := Ix) (Name := Name) (U := U) (Lvl := Lvl) (Val := Elt F) (c : Thread nD τ) h9 v9 ∗ semVal ((c : Thread nD τ), SemLoc.dma (dsem arg12)) 0) ∗ ((owns (Ix := Ix) (Name := Name) (U := U) (Lvl := Lvl) (Val := Elt F) (c : Thread nD τ) h4 T ∗ idle (c : Thread nD τ)) ∗ waitedI c EC ι h0 h3 arg10 W 0) ∗ ((owns (Ix := Ix) (Name := Name) (U := U) (Lvl := Lvl) (Val := Elt F) (c : Thread nD τ) h7 P ∗ owns (Ix := Ix) (Name := Name) (U := U) (Lvl := Lvl) (Val := Elt F) (c : Thread nD τ) h1 P) ∗ semVal ((c : Thread nD τ), SemLoc.dma (psem arg12)) 0) ∗ (readyG (F := F) (Ix := Ix) (Name := Name) (U := U) (Lvl := Lvl) c h2 h6 arg11 (fun n slot => (emitS (tableV W T 28) (adrsV P) hA X O n).2 slot) Wd (wordsV (tableV W T 28) (adrsV P) hA X O) 0 0 ∗ readyG (F := F) (Ix := Ix) (Name := Name) (U := U) (Lvl := Lvl) c h2 h6 arg11 (fun n slot => (emitS (tableV W T 28) (adrsV P) hA X O n).2 slot) Wd (wordsV (tableV W T 28) (adrsV P) hA X O) 1 0) ∗ owns (Ix := Ix) (Name := Name) (U := U) (Lvl := Lvl) (Val := Elt F) (c : Thread nD τ) h5 X) := by
    iintro ⟨⟨HP, Hi⟩, ⟨H8, H4, HR, H5⟩, Hw⟩
    isplitl [H8]; · iexact H8
    isplitl [H4 Hi Hw]
    · isplitl [H4 Hi]
      · isplitl [H4]; · iexact H4
        iexact Hi
      iexact Hw
    isplitl [HP]; · iexact HP
    isplitl [HR]; · iexact HR
    iexact H5
  refine BIBase.Entails.trans hre ?_
  refine part269_run (defs := defs) 𝒱 c bd EC ι h0 h1 h2 h3 h4 h5 h6 h7 h8 h9 arg10 arg11 arg12 W P _ v8 v9 T ?_
  have hre2 : iprop((((owns (Ix := Ix) (Name := Name) (U := U) (Lvl := Lvl) (Val := Elt F) (c : Thread nD τ) h9 (adrsV P) ∗ owns (Ix := Ix) (Name := Name) (U := U) (Lvl := Lvl) (Val := Elt F) (c : Thread nD τ) h8 (adrsV P)) ∗ semVal ((c : Thread nD τ), SemLoc.dma (dsem arg12)) 0) ∗ idle (c : Thread nD τ)) ∗ (owns (Ix := Ix) (Name := Name) (U := U) (Lvl := Lvl) (Val := Elt F) (c : Thread nD τ) h4 (tableV W T 28) ∗ waitedI c EC ι h0 h3 arg10 W 28 ∗ ((owns (Ix := Ix) (Name := Name) (U := U) (Lvl := Lvl) (Val := Elt F) (c : Thread nD τ) h7 P ∗ owns (Ix := Ix) (Name := Name) (U := U) (Lvl := Lvl) (Val := Elt F) (c : Thread nD τ) h1 P) ∗ semVal ((c : Thread nD τ), SemLoc.dma (psem arg12)) 0) ∗ (readyG (F := F) (Ix := Ix) (Name := Name) (U := U) (Lvl := Lvl) c h2 h6 arg11 (fun n slot => (emitS (tableV W T 28) (adrsV P) hA X O n).2 slot) Wd (wordsV (tableV W T 28) (adrsV P) hA X O) 0 0 ∗ readyG (F := F) (Ix := Ix) (Name := Name) (U := U) (Lvl := Lvl) c h2 h6 arg11 (fun n slot => (emitS (tableV W T 28) (adrsV P) hA X O n).2 slot) Wd (wordsV (tableV W T 28) (adrsV P) hA X O) 1 0) ∗ owns (Ix := Ix) (Name := Name) (U := U) (Lvl := Lvl) (Val := Elt F) (c : Thread nD τ) h5 X))
      ⊢ iprop(loopG (F := F) (Ix := Ix) (Name := Name) (U := U) (Lvl := Lvl) c EC ι h2 h4 h5 h6 h9 arg11 (tableV W T 28) (adrsV P) (fun n slot => (emitS (tableV W T 28) (adrsV P) hA X O n).2 slot) Wd (wordsV (tableV W T 28) (adrsV P) hA X O) X 0 ∗ (owns (Ix := Ix) (Name := Name) (U := U) (Lvl := Lvl) (Val := Elt F) (c : Thread nD τ) h8 (adrsV P) ∗ semVal ((c : Thread nD τ), SemLoc.dma (dsem arg12)) 0) ∗ waitedI c EC ι h0 h3 arg10 W 28 ∗ ((owns (Ix := Ix) (Name := Name) (U := U) (Lvl := Lvl) (Val := Elt F) (c : Thread nD τ) h7 P ∗ owns (Ix := Ix) (Name := Name) (U := U) (Lvl := Lvl) (Val := Elt F) (c : Thread nD τ) h1 P) ∗ semVal ((c : Thread nD τ), SemLoc.dma (psem arg12)) 0)) := by
    unfold loopG betweenG
    rw [if_pos rfl, if_pos rfl]
    iintro ⟨⟨⟨⟨H9, H8⟩, Hs⟩, Hi⟩, ⟨H4, Hw, HP, ⟨HR0, HR1⟩, H5⟩⟩
    isplitl [Hi HR0 HR1 H4 H9 H5]
    · isplitl [Hi HR0 HR1]
      · isplitl [Hi HR0]
        · isplitl [Hi]; · iexact Hi
          iexact HR0
        iexact HR1
      isplitl [H4]; · iexact H4
      isplitl [H9]; · iexact H9
      iexact H5
    isplitl [H8 Hs]
    · isplitl [H8]; · iexact H8
      iexact Hs
    isplitl [Hw]; · iexact Hw
    iexact HP
  refine BIBase.Entails.trans hre2 ?_
  refine wp_seq (frame_run (defs := defs) 𝒱 (c : Thread nD τ) bd (R := iprop((owns (Ix := Ix) (Name := Name) (U := U) (Lvl := Lvl) (Val := Elt F) (c : Thread nD τ) h8 (adrsV P) ∗ semVal ((c : Thread nD τ), SemLoc.dma (dsem arg12)) 0) ∗ waitedI c EC ι h0 h3 arg10 W 28 ∗ ((owns (Ix := Ix) (Name := Name) (U := U) (Lvl := Lvl) (Val := Elt F) (c : Thread nD τ) h7 P ∗ owns (Ix := Ix) (Name := Name) (U := U) (Lvl := Lvl) (Val := Elt F) (c : Thread nD τ) h1 P) ∗ semVal ((c : Thread nD τ), SemLoc.dma (psem arg12)) 0))) hloop) ?_
  exact frame_run (defs := defs) 𝒱 (c : Thread nD τ) bd (R := iprop((owns (Ix := Ix) (Name := Name) (U := U) (Lvl := Lvl) (Val := Elt F) (c : Thread nD τ) h8 (adrsV P) ∗ semVal ((c : Thread nD τ), SemLoc.dma (dsem arg12)) 0) ∗ waitedI c EC ι h0 h3 arg10 W 28 ∗ ((owns (Ix := Ix) (Name := Name) (U := U) (Lvl := Lvl) (Val := Elt F) (c : Thread nD τ) h7 P ∗ owns (Ix := Ix) (Name := Name) (U := U) (Lvl := Lvl) (Val := Elt F) (c : Thread nD τ) h1 P) ∗ semVal ((c : Thread nD τ), SemLoc.dma (psem arg12)) 0)))
    (last_run (defs := defs) 𝒱 c bd EC ι h2 h4 h5 h6 h9 arg11 (tableV W T 28) (adrsV P) hA X O Wd ![54, 0, 0, 0] ![55, 0, 0, 0] inb_S56x18x32x128_S1x18x32x128_54_0_0_0 inb_S56x18x32x128_S1x18x32x128_55_0_0_0)

end

end Repack
-- ==== Proof.Parts.lean ====
/-
  A whole buffer held in parts: as its blocks, as two disjoint pieces, and as the memory it is at launch.
-/
module

public import proofs.«01_k».proof.Proof.Rules
public import Idealize.ShloMosaic.Lib.Exec
public import Idealize.ShloMosaic.Lib.Tactic
public import Idealize.ShloMosaic.Lib.Writes
public import Idealize.ShloMosaic.Lib.WholeRead
public import Idealize.ShloMosaic.Lib.Pipeline.Kit
public import Idealize.ShloMosaic.Lib.Pipeline.Frame

@[expose] public section

noncomputable section

namespace Repack

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl
variable (c : Thread nD τ) {sp : Space} {s : Shape} {e : EltTy} {m : Memref sig c.2.kind sp s e} (h : m.IsWhole)

/-- A buffer held whole is its blocks held. -/
theorem own_blocks {B : Type} [Fintype B] (I : B → Finset s.Idx)
    (hd : ∀ b b', b ≠ b' → Disjoint (I b) (I b')) (hc : ∀ y, ∃ b, y ∈ I b) (v : s.Idx → Val e) :
    (owns c h v : sProp 𝕄) = bigSep Finset.univ fun b => own c h (I b) v := by
  classical
  unfold owns own
  have e : m.view.setOn Finset.univ = Finset.univ.biUnion fun b => m.view.setOn (I b) := by
    ext i
    constructor
    · intro hi
      obtain ⟨y, -, rfl⟩ := Finset.mem_map.1 hi
      obtain ⟨b, hb⟩ := hc y
      exact Finset.mem_biUnion.2 ⟨b, Finset.mem_univ _, Finset.mem_map.2 ⟨y, hb, rfl⟩⟩
    · intro hi
      obtain ⟨b, -, hb⟩ := Finset.mem_biUnion.1 hi
      obtain ⟨y, -, rfl⟩ := Finset.mem_map.1 hb
      exact Finset.mem_map.2 ⟨y, Finset.mem_univ _, rfl⟩
  have hdis : ∀ b ∈ (Finset.univ : Finset B), ∀ b' ∈ (Finset.univ : Finset B), b ≠ b' → Disjoint (m.view.setOn (I b)) (m.view.setOn (I b')) :=
    fun b _ b' _ hne => (Finset.disjoint_map _).2 (hd b b' hne)
  rw [e]
  refine Eq.trans ?_ (pointsTo_biUnion (ℓ := m.view.loc c) Finset.univ (fun b => m.view.setOn (I b)) hdis)
  congr

/-- Two disjoint parts held are their union held. -/
theorem own_union [DecidableEq s.Idx] (M N : Finset s.Idx) (hd : Disjoint M N) (v : s.Idx → Val e) :
    (own c h (M ∪ N) v : sProp 𝕄) ⊣⊢ iprop(own c h M v ∗ own c h N v) := by
  classical
  unfold own
  have e : m.view.setOn (M ∪ N) = m.view.setOn M ∪ m.view.setOn N := by
    unfold View.setOn; rw [← Finset.map_union]
  have hdis : Disjoint (m.view.setOn M) (m.view.setOn N) := (Finset.disjoint_map _).2 hd
  rw [e]
  have hu := pointsTo_union (Ix := Ix) (Val := Val) (Name := Name) (U := U) (Lvl := Lvl) (ℓ := m.view.loc c) (q := fullShare) (f := h.unread v) hdis
  convert hu using 2

/-- The memory of a whole buffer is the buffer held, at what it reads. -/
theorem own_mem (f : m.view.ty.Contents Val) :
    (iprop(m.view.loc c ↦{fullShare} f) : sProp 𝕄) = owns c h (m.view.read Val f) := by
  unfold owns own
  rw [h.unread_read, View.setOn_univ, h.set_eq_univ]

/-- Conversely. -/
theorem owns_mem (v : s.Idx → Val e) :
    (owns c h v : sProp 𝕄) = iprop(m.view.loc c ↦{fullShare} h.unread v) := by
  unfold owns own
  rw [View.setOn_univ, h.set_eq_univ]

/-- Conjunctions of three, split over a finite index. -/
theorem bigSep3 {B : Type} [Fintype B] (X Y Z : B → sProp 𝕄) :
    iprop(bigSep Finset.univ X ∗ bigSep Finset.univ Y ∗ bigSep Finset.univ Z) = bigSep Finset.univ fun i => iprop(X i ∗ Y i ∗ Z i) := by
  have h1 := bigSep_sep (M := 𝕄) Finset.univ Y Z
  have h2 := bigSep_sep (M := 𝕄) Finset.univ X (fun i => iprop(Y i ∗ Z i))
  exact (congrArg (fun R => iprop(bigSep Finset.univ X ∗ R)) h1.symm).trans h2.symm

end

end Repack
-- ==== Proof.Whole.lean ====
/-
  The buffers taken apart for the run of the kernel and put together after it.
-/
module

public import proofs.«01_k».proof.Proof.Body
public import proofs.«01_k».proof.Proof.Parts

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀

variable {F : FTy → Type} [FloatOps F] [Facts]
variable {Ix : Type} [DecidableEq Ix] {Name : Type} [DecidableEq Name] [Infinite Name] {U : Type} [URA U] {Lvl : Type} [Preorder Lvl]
local notation "𝕄" => MT nD τ sig Ix (Elt F) Name U Lvl

section
variable {defs : Defs nD τ sig (Elt F) Λ₀} (𝒱 : Variants) (c : Dev nD) (bd : Option 𝒱.V)
variable (EC : UEmb Counters (MT nD τ sig Ix (Elt F) Name U Lvl)) [EC.LandsIn (upEmb : UEmb _ (MT nD τ sig Ix (Elt F) Name U Lvl))] (ι : Ix)
variable {arg0 : Memref sig .tc .hbm S896x4608 .i32} (h0 : arg0.IsWhole) {arg1 : Memref sig .tc .hbm S56x128 .i32} (h1 : arg1.IsWhole)
variable {arg2 : Memref sig .tc .hbm S56x18x32x128 .i32} (h2 : arg2.IsWhole) {arg3 : Memref sig .tc .vmem S896x4608 .i32} (h3 : arg3.IsWhole)
variable {arg4 : Memref sig .tc .vmem S64512x128 .i32} (h4 : arg4.IsWhole) {arg5 : Memref sig .tc .vmem S128x128 .i32} (h5 : arg5.IsWhole)
variable {arg6 : Memref sig .tc .vmem S1440x128 .i32} (h6 : arg6.IsWhole) {arg7 : Memref sig .tc .vmem S56x128 .i32} (h7 : arg7.IsWhole)
variable {arg8 : Memref sig .tc .vmem S56x128 .i32} (h8 : arg8.IsWhole) {arg9 : Memref sig .tc .smem S56x128 .i32} (h9 : arg9.IsWhole)
variable (arg10 : DmaSems sig S28) (arg11 : DmaSems sig S2) (arg12 : DmaSems sig S3)

attribute [local irreducible] halfXV halfOV halfE stepE stepT chain runAll

/-! ### The rows of the weights -/

theorem mem_rows (i : Fin 28) (y : S896x4608.Idx) : y ∈ (rowsR i).set ↔ 32 * (i : ℕ) ≤ y 0 ∧ (y 0 : ℕ) < 32 * i + 32 := by
  constructor
  · intro h
    have h0 := (Rect.mem_set_unit).1 h 0
    exact h0
  · intro h
    refine (Rect.mem_set_unit).2 fun a => ?_
    fin_cases a
    · exact h
    · have : (y 1 : ℕ) < 4608 := (y 1).2
      show 0 ≤ (y 1 : ℕ) ∧ (y 1 : ℕ) < 0 + 4608
      omega

theorem rows_disjoint (i j : Fin 28) (h : i ≠ j) : Disjoint (rowsR i).set (rowsR j).set := by
  rw [Finset.disjoint_left]
  intro y hi hj
  rw [mem_rows] at hi hj
  exact h (Fin.ext (by omega))

theorem rows_cover (y : S896x4608.Idx) : ∃ i, y ∈ (rowsR i).set := by
  have : (y 0 : ℕ) < 896 := (y 0).2
  exact ⟨⟨(y 0 : ℕ) / 32, by omega⟩, (mem_rows _ _).2 (by show 32 * ((y 0 : ℕ) / 32) ≤ y 0 ∧ (y 0 : ℕ) < 32 * ((y 0 : ℕ) / 32) + 32; omega)⟩

/-- The semaphores of the rows' copies, at zero. -/
def semsI : sProp 𝕄 := bigSep Finset.univ fun i : Fin 28 => semVal ((c : Thread nD τ), SemLoc.dma (isem arg10 i)) 0

theorem started_intro (W v : S896x4608.Idx → BitVec 32) :
    iprop(owns (Ix := Ix) (Name := Name) (U := U) (Lvl := Lvl) (Val := Elt F) (c : Thread nD τ) h0 W ∗ owns (Ix := Ix) (Name := Name) (U := U) (Lvl := Lvl) (Val := Elt F) (c : Thread nD τ) h3 v ∗ semsI (F := F) (Ix := Ix) (Name := Name) (U := U) (Lvl := Lvl) c arg10) ⊢ startedI c EC ι h0 h3 arg10 W 0 := by
  rw [own_blocks (Ix := Ix) (Name := Name) (U := U) (Lvl := Lvl) (Val := Elt F) (c : Thread nD τ) h0 (fun i => (rowsR i).set) rows_disjoint rows_cover W, own_blocks (Ix := Ix) (Name := Name) (U := U) (Lvl := Lvl) (Val := Elt F) (c : Thread nD τ) h3 (fun i => (rowsR i).set) rows_disjoint rows_cover v]
  unfold semsI
  rw [bigSep3]
  unfold startedI beforeI
  refine bigSep_mono fun i _ => ?_
  rw [if_neg (Nat.not_lt_zero _)]
  show iprop(own (Ix := Ix) (Name := Name) (U := U) (Lvl := Lvl) (Val := Elt F) (c : Thread nD τ) h0 (rowsR i).set W ∗ own (Ix := Ix) (Name := Name) (U := U) (Lvl := Lvl) (Val := Elt F) (c : Thread nD τ) h3 (rowsR i).set v ∗ semVal ((c : Thread nD τ), SemLoc.dma (isem arg10 i)) 0)
    ⊢ iprop(own (Ix := Ix) (Name := Name) (U := U) (Lvl := Lvl) (Val := Elt F) (c : Thread nD τ) h0 (rowsR i).set W ∗ (∃ v, own (Ix := Ix) (Name := Name) (U := U) (Lvl := Lvl) (Val := Elt F) (c : Thread nD τ) h3 (rowsR i).set v) ∗ semVal ((c : Thread nD τ), SemLoc.dma (isem arg10 i)) 0)
  iintro ⟨H0, H3, Hs⟩
  isplitl [H0]; · iexact H0
  isplitl [H3]
  · iexists v; iexact H3
  iexact Hs

theorem waited_elim (W : S896x4608.Idx → BitVec 32) :
    waitedI c EC ι h0 h3 arg10 W 28 ⊢ iprop(owns (Ix := Ix) (Name := Name) (U := U) (Lvl := Lvl) (Val := Elt F) (c : Thread nD τ) h0 W ∗ owns (Ix := Ix) (Name := Name) (U := U) (Lvl := Lvl) (Val := Elt F) (c : Thread nD τ) h3 W ∗ semsI (F := F) (Ix := Ix) (Name := Name) (U := U) (Lvl := Lvl) c arg10) := by
  rw [own_blocks (Ix := Ix) (Name := Name) (U := U) (Lvl := Lvl) (Val := Elt F) (c : Thread nD τ) h0 (fun i => (rowsR i).set) rows_disjoint rows_cover W, own_blocks (Ix := Ix) (Name := Name) (U := U) (Lvl := Lvl) (Val := Elt F) (c : Thread nD τ) h3 (fun i => (rowsR i).set) rows_disjoint rows_cover W]
  unfold semsI
  rw [bigSep3]
  unfold waitedI afterI
  refine bigSep_mono fun i _ => ?_
  rw [if_pos i.2]
  show iprop((own (Ix := Ix) (Name := Name) (U := U) (Lvl := Lvl) (Val := Elt F) (c : Thread nD τ) h3 (rowsR i).set W ∗ own (Ix := Ix) (Name := Name) (U := U) (Lvl := Lvl) (Val := Elt F) (c : Thread nD τ) h0 (rowsR i).set W) ∗ semVal ((c : Thread nD τ), SemLoc.dma (isem arg10 i)) 0)
    ⊢ iprop(own (Ix := Ix) (Name := Name) (U := U) (Lvl := Lvl) (Val := Elt F) (c : Thread nD τ) h0 (rowsR i).set W ∗ own (Ix := Ix) (Name := Name) (U := U) (Lvl := Lvl) (Val := Elt F) (c : Thread nD τ) h3 (rowsR i).set W ∗ semVal ((c : Thread nD τ), SemLoc.dma (isem arg10 i)) 0)
  iintro ⟨⟨H3, H0⟩, Hs⟩
  isplitl [H0]; · iexact H0
  isplitl [H3]; · iexact H3
  iexact Hs

/-! ### The groups of the result -/

theorem mem_grp (g : ℕ) (y : S56x18x32x128.Idx) : y ∈ grpM g ↔ (y 0 : ℕ) = g := by
  unfold grpM; simp

theorem groups_eq (W : S56x18x32x128.Idx → BitVec 32) :
    owns (Ix := Ix) (Name := Name) (U := U) (Lvl := Lvl) (Val := Elt F) (c : Thread nD τ) h2 W = iprop((bigSep Finset.univ fun j : Fin 28 => own (Ix := Ix) (Name := Name) (U := U) (Lvl := Lvl) (Val := Elt F) (c : Thread nD τ) h2 (grpM (2 * (j : ℕ) + (0 : Fin 2))) W)
      ∗ bigSep Finset.univ fun j : Fin 28 => own (Ix := Ix) (Name := Name) (U := U) (Lvl := Lvl) (Val := Elt F) (c : Thread nD τ) h2 (grpM (2 * (j : ℕ) + (1 : Fin 2))) W) := by
  have hb := own_blocks (Ix := Ix) (Name := Name) (U := U) (Lvl := Lvl) (Val := Elt F) (c : Thread nD τ) h2 (B := Fin 2 × Fin 28) (fun b => grpM (2 * (b.2 : ℕ) + b.1)) ?_ ?_ W
  · exact hb.trans ((bigSep_univ_prod _).trans (bigSep_fin_two _))
  · rintro ⟨s, j⟩ ⟨s', j'⟩ hne
    rw [Finset.disjoint_left]
    intro y h h'
    rw [mem_grp] at h h'
    have hs := s.2
    have hs' := s'.2
    dsimp only at h h'
    exact hne (Prod.ext (Fin.ext (by dsimp only; omega)) (Fin.ext (by dsimp only; omega)))
  · intro y
    have : (y 0 : ℕ) < 56 := (y 0).2
    refine ⟨(⟨(y 0 : ℕ) % 2, Nat.mod_lt _ (by decide)⟩, ⟨(y 0 : ℕ) / 2, by omega⟩), (mem_grp _ _).2 ?_⟩
    show (y 0 : ℕ) = 2 * ((y 0 : ℕ) / 2) + (y 0 : ℕ) % 2
    omega

theorem mid_zero (Wd W : S56x18x32x128.Idx → BitVec 32) (slot : Fin 2) :
    midG (F := F) (Ix := Ix) (Name := Name) (U := U) (Lvl := Lvl) c h2 Wd W slot 0 = bigSep Finset.univ fun j : Fin 28 => own (Ix := Ix) (Name := Name) (U := U) (Lvl := Lvl) (Val := Elt F) (c : Thread nD τ) h2 (grpM (2 * (j : ℕ) + slot)) Wd := by
  unfold midG
  exact bigSep_congr fun j _ => if_neg (Nat.not_lt_zero _)

theorem mid_last (Wd W : S56x18x32x128.Idx → BitVec 32) (slot : Fin 2) :
    midG (F := F) (Ix := Ix) (Name := Name) (U := U) (Lvl := Lvl) c h2 Wd W slot 28 = bigSep Finset.univ fun j : Fin 28 => own (Ix := Ix) (Name := Name) (U := U) (Lvl := Lvl) (Val := Elt F) (c : Thread nD τ) h2 (grpM (2 * (j : ℕ) + slot)) W := by
  unfold midG doneG
  exact bigSep_congr fun j _ => if_pos j.2

/-! ### The two slabs -/

/-- The elements of neither slab. -/
def padM : Finset S1440x128.Idx := open Classical in Finset.univ \ (slabM 0 ∪ slabM 1)

theorem slabs_disjoint : Disjoint (slabM 0) (slabM 1) := by
  rw [Finset.disjoint_left]
  intro x h h'
  obtain ⟨-, h1, h2, -⟩ := Finset.mem_filter.1 h
  obtain ⟨-, h3, h4, -⟩ := Finset.mem_filter.1 h'
  have e0 : ((0 : Fin 2) : ℕ) = 0 := rfl
  have e1 : ((1 : Fin 2) : ℕ) = 1 := rfl
  rw [e0] at h1 h2
  rw [e1] at h3 h4
  omega

theorem slabs_eq (O : S1440x128.Idx → BitVec 32) :
    owns (Ix := Ix) (Name := Name) (U := U) (Lvl := Lvl) (Val := Elt F) (c : Thread nD τ) h6 O ⊣⊢ iprop((own (Ix := Ix) (Name := Name) (U := U) (Lvl := Lvl) (Val := Elt F) (c : Thread nD τ) h6 (slabM 0) O ∗ own (Ix := Ix) (Name := Name) (U := U) (Lvl := Lvl) (Val := Elt F) (c : Thread nD τ) h6 (slabM 1) O) ∗ own (Ix := Ix) (Name := Name) (U := U) (Lvl := Lvl) (Val := Elt F) (c : Thread nD τ) h6 padM O) := by
  classical
  have e : (Finset.univ : Finset S1440x128.Idx) = (slabM 0 ∪ slabM 1) ∪ padM := by
    unfold padM; exact (Finset.union_sdiff_of_subset (Finset.subset_univ _)).symm
  have h1 := own_union (Val := Elt F) (Ix := Ix) (Name := Name) (U := U) (Lvl := Lvl) (c : Thread nD τ) h6 (slabM 0) (slabM 1) slabs_disjoint O
  have h2 := own_union (Val := Elt F) (Ix := Ix) (Name := Name) (U := U) (Lvl := Lvl) (c : Thread nD τ) h6 (slabM 0 ∪ slabM 1) padM Finset.disjoint_sdiff O
  unfold owns
  rw [e]
  exact ⟨h2.1.trans (sep_mono_l h1.1), (sep_mono_l h1.2).trans h2.2⟩

theorem slabs_join (O0 O1 O : S1440x128.Idx → BitVec 32) :
    iprop((own (Ix := Ix) (Name := Name) (U := U) (Lvl := Lvl) (Val := Elt F) (c : Thread nD τ) h6 (slabM 0) O0 ∗ own (Ix := Ix) (Name := Name) (U := U) (Lvl := Lvl) (Val := Elt F) (c : Thread nD τ) h6 (slabM 1) O1) ∗ own (Ix := Ix) (Name := Name) (U := U) (Lvl := Lvl) (Val := Elt F) (c : Thread nD τ) h6 padM O) ⊢ iprop(∃ v, owns (Ix := Ix) (Name := Name) (U := U) (Lvl := Lvl) (Val := Elt F) (c : Thread nD τ) h6 v) := by
  classical
  let v : S1440x128.Idx → BitVec 32 := fun y => if y ∈ slabM 0 then O0 y else if y ∈ slabM 1 then O1 y else O y
  have e0 := own_congr (Val := Elt F) (Ix := Ix) (Name := Name) (U := U) (Lvl := Lvl) (c : Thread nD τ) h6 (slabM 0) O0 v (fun y hy => (if_pos hy).symm)
  have e1 := own_congr (Val := Elt F) (Ix := Ix) (Name := Name) (U := U) (Lvl := Lvl) (c : Thread nD τ) h6 (slabM 1) O1 v
    (fun y hy => ((if_neg (Finset.disjoint_right.1 slabs_disjoint hy)).trans (if_pos hy)).symm)
  have e2 := own_congr (Val := Elt F) (Ix := Ix) (Name := Name) (U := U) (Lvl := Lvl) (c : Thread nD τ) h6 padM O v (fun y hy => by
    have h := (Finset.mem_sdiff.1 hy).2
    rw [Finset.mem_union, not_or] at h
    exact ((if_neg h.1).trans (if_neg h.2)).symm)
  rw [e0, e1, e2]
  iintro H
  iexists v
  iapply (slabs_eq c h6 v).2
  iexact H

/-! ### The run -/

/-- All the semaphores of the kernel, at zero. -/
def semsV : sProp 𝕄 := iprop(semsI (F := F) (Ix := Ix) (Name := Name) (U := U) (Lvl := Lvl) c arg10 ∗ (semVal ((c : Thread nD τ), SemLoc.dma (osem arg11 0).sem) 0 ∗ semVal ((c : Thread nD τ), SemLoc.dma (osem arg11 1).sem) 0) ∗ semVal ((c : Thread nD τ), SemLoc.dma (psem arg12)) 0 ∗ semVal ((c : Thread nD τ), SemLoc.dma (dsem arg12)) 0)

include EC ι in
/-- The kernel run from whole buffers to whole buffers. -/
theorem whole_run (W v3 : S896x4608.Idx → BitVec 32) (P v7 v8 v9 : S56x128.Idx → BitVec 32) (hA : Fits (adrsV P)) (Wd : S56x18x32x128.Idx → BitVec 32)
    (T : S64512x128.Idx → BitVec 32) (X : S128x128.Idx → BitVec 32) (O : S1440x128.Idx → BitVec 32) :
    iprop(idle (c : Thread nD τ) ∗ owns (Ix := Ix) (Name := Name) (U := U) (Lvl := Lvl) (Val := Elt F) (c : Thread nD τ) h0 W ∗ owns (Ix := Ix) (Name := Name) (U := U) (Lvl := Lvl) (Val := Elt F) (c : Thread nD τ) h1 P ∗ owns (Ix := Ix) (Name := Name) (U := U) (Lvl := Lvl) (Val := Elt F) (c : Thread nD τ) h2 Wd ∗ owns (Ix := Ix) (Name := Name) (U := U) (Lvl := Lvl) (Val := Elt F) (c : Thread nD τ) h3 v3 ∗ owns (Ix := Ix) (Name := Name) (U := U) (Lvl := Lvl) (Val := Elt F) (c : Thread nD τ) h4 T ∗ owns (Ix := Ix) (Name := Name) (U := U) (Lvl := Lvl) (Val := Elt F) (c : Thread nD τ) h5 X ∗ owns (Ix := Ix) (Name := Name) (U := U) (Lvl := Lvl) (Val := Elt F) (c : Thread nD τ) h6 O
        ∗ owns (Ix := Ix) (Name := Name) (U := U) (Lvl := Lvl) (Val := Elt F) (c : Thread nD τ) h7 v7 ∗ owns (Ix := Ix) (Name := Name) (U := U) (Lvl := Lvl) (Val := Elt F) (c : Thread nD τ) h8 v8 ∗ owns (Ix := Ix) (Name := Name) (U := U) (Lvl := Lvl) (Val := Elt F) (c : Thread nD τ) h9 v9 ∗ semsV (F := F) (Ix := Ix) (Name := Name) (U := U) (Lvl := Lvl) c arg10 arg11 arg12)
      ⊢ wp frame (wpE defs 𝒱 (c : Thread nD τ) bd) Set.univ (cc0_gptq_repack (F := F) arg0 h0 arg1 h1 arg2 h2 arg3 h3 arg4 h4 arg5 h5 arg6 h6 arg7 h7 arg8 h8 arg9 h9 arg10 arg11 arg12)
        fun _ => iprop(idle (c : Thread nD τ) ∗ owns (Ix := Ix) (Name := Name) (U := U) (Lvl := Lvl) (Val := Elt F) (c : Thread nD τ) h0 W ∗ owns (Ix := Ix) (Name := Name) (U := U) (Lvl := Lvl) (Val := Elt F) (c : Thread nD τ) h1 P ∗ owns (Ix := Ix) (Name := Name) (U := U) (Lvl := Lvl) (Val := Elt F) (c : Thread nD τ) h2 (wordsV (tableV W T 28) (adrsV P) hA X (fun _ => O)) ∗ (∃ v, owns (Ix := Ix) (Name := Name) (U := U) (Lvl := Lvl) (Val := Elt F) (c : Thread nD τ) h3 v) ∗ (∃ v, owns (Ix := Ix) (Name := Name) (U := U) (Lvl := Lvl) (Val := Elt F) (c : Thread nD τ) h4 v) ∗ (∃ v, owns (Ix := Ix) (Name := Name) (U := U) (Lvl := Lvl) (Val := Elt F) (c : Thread nD τ) h5 v) ∗ (∃ v, owns (Ix := Ix) (Name := Name) (U := U) (Lvl := Lvl) (Val := Elt F) (c : Thread nD τ) h6 v) ∗ (∃ v, owns (Ix := Ix) (Name := Name) (U := U) (Lvl := Lvl) (Val := Elt F) (c : Thread nD τ) h7 v) ∗ (∃ v, owns (Ix := Ix) (Name := Name) (U := U) (Lvl := Lvl) (Val := Elt F) (c : Thread nD τ) h8 v) ∗ (∃ v, owns (Ix := Ix) (Name := Name) (U := U) (Lvl := Lvl) (Val := Elt F) (c : Thread nD τ) h9 v) ∗ semsV (F := F) (Ix := Ix) (Name := Name) (U := U) (Lvl := Lvl) c arg10 arg11 arg12) := by
  have hz := emitS_zero (tableV W T 28) (adrsV P) hA X (fun _ => O)
  have hrun := frame_run (defs := defs) 𝒱 (c : Thread nD τ) bd (R := own (Ix := Ix) (Name := Name) (U := U) (Lvl := Lvl) (Val := Elt F) (c : Thread nD τ) h6 padM O)
    (cc0_run (defs := defs) 𝒱 c bd EC ι h0 h1 h2 h3 h4 h5 h6 h7 h8 h9 arg10 arg11 arg12 W P v7 v8 v9 T hA X (fun _ => O) Wd (congrArg Prod.fst hz))
  refine run_mono (defs := defs) 𝒱 (c : Thread nD τ) bd hrun ?_ fun _ => ?_
  · rw [groups_eq c h2 Wd]
    unfold semsV readyG
    rw [mid_zero c h2 Wd _ 0, mid_zero c h2 Wd _ 1]
    have e0 : (emitS (tableV W T 28) (adrsV P) hA X (fun _ => O) 0).2 0 = O := congrFun (congrArg Prod.snd hz) 0
    have e1 : (emitS (tableV W T 28) (adrsV P) hA X (fun _ => O) 0).2 1 = O := congrFun (congrArg Prod.snd hz) 1
    dsimp only
    rw [e0, e1]
    iintro ⟨Hi, H0, H1, ⟨Hg0, Hg1⟩, H3, H4, H5, H6, H7, H8, H9, HsI, ⟨Ho0, Ho1⟩, Hp, Hd⟩
    ihave H6s := (slabs_eq c h6 O).1 $$ H6
    icases H6s with ⟨⟨H60, H61⟩, H6p⟩
    isplitr [H6p]
    · isplitl [H1 H7 Hp Hi H8 H9 Hd H4 H60 Ho0 Hg0 H61 Ho1 Hg1 H5]
      · isplitl [H1 H7 Hp]
        · isplitl [H1]; · iexact H1
          isplitl [H7]; · iexact H7
          iexact Hp
        isplitl [Hi]; · iexact Hi
        isplitl [H8 H9 Hd]
        · isplitl [H8]; · iexact H8
          isplitl [H9]; · iexact H9
          iexact Hd
        isplitl [H4]; · iexact H4
        isplitl [H60 Ho0 Hg0 H61 Ho1 Hg1]
        · isplitl [H60 Ho0 Hg0]
          · isplitl [H60 Ho0]
            · isplitl [H60]; · iexact H60
              iexact Ho0
            iexact Hg0
          isplitl [H61 Ho1]
          · isplitl [H61]; · iexact H61
            iexact Ho1
          iexact Hg1
        iexact H5
      iapply (started_intro c EC ι h0 h3 arg10 W v3)
      isplitl [H0]; · iexact H0
      isplitl [H3]; · iexact H3
      iexact HsI
    iexact H6p
  · rw [groups_eq c h2, mid_last c h2 Wd _ 0, mid_last c h2 Wd _ 1]
    unfold semsV
    iintro ⟨⟨⟨Hi, ⟨⟨H60, Ho0⟩, Hg0⟩, ⟨⟨H61, Ho1⟩, Hg1⟩, H4, H9, H5⟩, ⟨H8, Hd⟩, Hw, ⟨H7, H1⟩, Hp⟩, H6p⟩
    ihave Hws := (waited_elim c EC ι h0 h3 arg10 W) $$ Hw
    icases Hws with ⟨H0, H3, HsI⟩
    isplitl [Hi]; · iexact Hi
    isplitl [H0]; · iexact H0
    isplitl [H1]; · iexact H1
    isplitl [Hg0 Hg1]
    · isplitl [Hg0]; · iexact Hg0
      iexact Hg1
    isplitl [H3]; · iexists _; iexact H3
    isplitl [H4]; · iexists _; iexact H4
    isplitl [H5]; · iexists _; iexact H5
    isplitl [H60 H61 H6p]
    · iapply (slabs_join c h6)
      isplitl [H60 H61]
      · isplitl [H60]; · iexact H60
        iexact H61
      iexact H6p
    isplitl [H7]; · iexists _; iexact H7
    isplitl [H8]; · iexists _; iexact H8
    isplitl [H9]; · iexists _; iexact H9
    isplitl [HsI]; · iexact HsI
    isplitl [Ho0 Ho1]
    · isplitl [Ho0]; · iexact Ho0
      iexact Ho1
    isplitl [Hp]; · iexact Hp
    iexact Hd

end

end Repack
-- ==== Proof.Run.lean ====
/-
  The launch: the kernel's one region run from any memory whose permutation keeps every table address in range, for any
  float values. It terminates, faults nothing, leaves the arguments as they were, the result at the words the run of the
  kernel names, and every semaphore at zero.
-/
module

public import proofs.«01_k».proof.Proof.Whole
public import proofs.«01_k».proof.Proof.Gen.KernelIdeal.Frame

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Facts₀ Cert.KernelIdeal.Gen

variable {F : FTy → Type} [FloatOps F]

/-- The launch's algebra: the pipeline's, and the counters of the copies. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev EQ : UEmb Counters (MT nD τ sig Unit (Elt F) ℕ (UU nD τ) ℕ) := countersEmb
abbrev 𝒱₀ : Variants := Variants.none

/-! ### The kernel's own semaphores -/

/-- The rows' 28, the slabs' 2, the permutation's and the addresses'. -/
abbrev kSem : Fin 28 ⊕ (Fin 2 ⊕ Fin 2) → SemLoc sig
  | .inl i => .dma (isem cc0_scratch7 i)
  | .inr (.inl s) => .dma (osem cc0_scratch8 s).sem
  | .inr (.inr s) => .dma (if s = 0 then psem cc0_scratch9 else dsem cc0_scratch9)

theorem kSem_facts : Pipeline.OwnSemFacts (cfg0.spec) kSem := by decide

/-- All of them at zero are the kernel's semaphores at zero. -/
theorem kSem_eq (c : Dev nD) :
    (Pipeline.ownSems0 (Ix := Unit) (Name := ℕ) (U := UU nD τ) (Lvl := ℕ) (Val := Elt F) (τ := τ) kSem c : sProp 𝕄)
      = semsV (F := F) (Ix := Unit) (Name := ℕ) (U := UU nD τ) (Lvl := ℕ) c cc0_scratch7 cc0_scratch8 cc0_scratch9 := by
  unfold Pipeline.ownSems0 semsV semsI
  refine (bigSep_univ_sum _).trans ?_
  refine congrArg₂ (fun A B => iprop(A ∗ B)) rfl ?_
  refine (bigSep_univ_sum _).trans ?_
  exact congrArg₂ (fun A B => iprop(A ∗ B)) (bigSep_fin_two _) (bigSep_fin_two _)

/-! ### The buffers of the launch -/

section
variable (c : Dev nD)

/-- A buffer of the memory, as the kernel's proof holds it. -/
theorem hold (b : Ref sig .tc) (f : Buf (Elt F) ((c : Thread nD τ).loc b)) :
    (iprop(((c : Thread nD τ).loc b) ↦{fullShare} f) : sProp 𝕄) = owns (c : Thread nD τ) (Memref.isWhole_whole b) f :=
  own_mem (Ix := Unit) (Name := ℕ) (U := UU nD τ) (Lvl := ℕ) (Val := Elt F) (c : Thread nD τ) (Memref.isWhole_whole b) f

/-- A buffer of the memory at anything. -/
def anyM (b : Ref sig .tc) : sProp 𝕄 := iprop(∃ f : Buf (Elt F) ((c : Thread nD τ).loc b), ((c : Thread nD τ).loc b) ↦{fullShare} f)

theorem any_intro (b : Ref sig .tc) :
    iprop(∃ f, owns (Val := Elt F) (c : Thread nD τ) (Memref.isWhole_whole b) f) ⊢ (anyM (F := F) c b : sProp 𝕄) := by
  unfold anyM
  iintro ⟨%f, H⟩
  iexists f
  iapply (BIBase.Entails.of_eq (hold c b f).symm)
  iexact H

/-- The kernel's scratch buffers, each at anything. -/
def scratch : sProp 𝕄 := iprop(anyM (F := F) c cc0_scratch0 ∗ anyM (F := F) c cc0_scratch1 ∗ anyM (F := F) c cc0_scratch2 ∗ anyM (F := F) c cc0_scratch3
  ∗ anyM (F := F) c cc0_scratch4 ∗ anyM (F := F) c cc0_scratch5 ∗ anyM (F := F) c cc0_scratch6)

/-- The kernel on the buffers the launch gives it. -/
abbrev kernelP : Prog (TpuEff nD τ sig (Elt F) Λ₀ .tc) PUnit :=
  cc0_gptq_repack (F := F) (Memref.whole main_arg0) (Memref.isWhole_whole _) (Memref.whole main_v0) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scratch8 cc0_scratch9

/-- What the kernel computes from the weights `W` and the rows' order `P`, from what its scratch buffers held. -/
def resV (W : S896x4608.Idx → BitVec 32) (P : S56x128.Idx → BitVec 32) (hA : Fits (adrsV P)) (T : S64512x128.Idx → BitVec 32) (X : S128x128.Idx → BitVec 32)
    (O : S1440x128.Idx → BitVec 32) : S56x18x32x128.Idx → BitVec 32 :=
  wordsV (tableV W T 28) (adrsV P) hA X (fun _ => O)

variable (W : S896x4608.Idx → BitVec 32) (P : S56x128.Idx → BitVec 32) (hA : Fits (adrsV P))
variable (g1 : Buf (Elt F) ((c : Thread nD τ).loc main_arg1))

/-- What the region starts with, -/
def ΦIn : sProp 𝕄 :=
  iprop((((c : Thread nD τ).loc main_arg0) ↦{fullShare} (W : Buf (Elt F) ((c : Thread nD τ).loc main_arg0))) ∗ (((c : Thread nD τ).loc main_arg1) ↦{fullShare} g1)
    ∗ (((c : Thread nD τ).loc main_v0) ↦{fullShare} (P : Buf (Elt F) ((c : Thread nD τ).loc main_v0))) ∗ anyM (F := F) c main_v1
    ∗ semsV (F := F) (Ix := Unit) (Name := ℕ) (U := UU nD τ) (Lvl := ℕ) c cc0_scratch7 cc0_scratch8 cc0_scratch9 ∗ scratch (F := F) c)

/-- what it hands on to the end of the program, -/
def restV : sProp 𝕄 :=
  iprop((((c : Thread nD τ).loc main_arg0) ↦{fullShare} (W : Buf (Elt F) ((c : Thread nD τ).loc main_arg0))) ∗ (((c : Thread nD τ).loc main_arg1) ↦{fullShare} g1)
    ∗ ∃ T X O, ((c : Thread nD τ).loc main_v1) ↦{fullShare} (resV W P hA T X O : Buf (Elt F) ((c : Thread nD τ).loc main_v1)))

/-- and what it ends with. -/
def ΦOut : sProp 𝕄 :=
  iprop(restV (F := F) c W P hA g1
    ∗ semsV (F := F) (Ix := Unit) (Name := ℕ) (U := UU nD τ) (Lvl := ℕ) c cc0_scratch7 cc0_scratch8 cc0_scratch9 ∗ scratch (F := F) c)

/-- The kernel's run on them. -/
theorem kernel_run :
    iprop(ΦIn (F := F) c W P g1 ∗ idle (c : Thread nD τ))
      ⊢ wp Idealize.ShloMosaic.frame (wpE (defs₀ (F := F)) 𝒱₀ (c : Thread nD τ) none) Set.univ (kernelP (F := F))
        fun _ => (iprop(ΦOut (F := F) c W P hA g1 ∗ idle (c : Thread nD τ)) : sProp 𝕄) := by
  have key : ∀ v3 T X O v7 v8 v9 Wd, _ := fun v3 T X O v7 v8 v9 Wd =>
    frame_run (defs := defs₀ (F := F)) 𝒱₀ (c : Thread nD τ) none (R := iprop(((c : Thread nD τ).loc main_arg1) ↦{fullShare} g1))
      (whole_run (F := F) (Ix := Unit) (Name := ℕ) (U := UU nD τ) (Lvl := ℕ) (defs := defs₀ (F := F)) 𝒱₀ c none EQ () (Memref.isWhole_whole main_arg0) (Memref.isWhole_whole main_v0)
        (Memref.isWhole_whole main_v1) (Memref.isWhole_whole cc0_scratch0) (Memref.isWhole_whole cc0_scratch1) (Memref.isWhole_whole cc0_scratch2) (Memref.isWhole_whole cc0_scratch3)
        (Memref.isWhole_whole cc0_scratch4) (Memref.isWhole_whole cc0_scratch5) (Memref.isWhole_whole cc0_scratch6) cc0_scratch7 cc0_scratch8 cc0_scratch9 W v3 P v7 v8 v9 hA Wd T X O)
  have post : ∀ T X O, ∀ _ : PUnit, _ ⊢ (iprop(ΦOut (F := F) c W P hA g1 ∗ idle (c : Thread nD τ)) : sProp 𝕄) := fun T X O _ => by
    show iprop((idle (c : Thread nD τ) ∗ owns (Val := Elt F) (c : Thread nD τ) (Memref.isWhole_whole main_arg0) W ∗ owns (Val := Elt F) (c : Thread nD τ) (Memref.isWhole_whole main_v0) P ∗ owns (Val := Elt F) (c : Thread nD τ) (Memref.isWhole_whole main_v1) (resV W P hA T X O) ∗ (∃ v, owns (Val := Elt F) (c : Thread nD τ) (Memref.isWhole_whole cc0_scratch0) v) ∗ (∃ v, owns (Val := Elt F) (c : Thread nD τ) (Memref.isWhole_whole cc0_scratch1) v) ∗ (∃ v, owns (Val := Elt F) (c : Thread nD τ) (Memref.isWhole_whole cc0_scratch2) v) ∗ (∃ v, owns (Val := Elt F) (c : Thread nD τ) (Memref.isWhole_whole cc0_scratch3) v) ∗ (∃ v, owns (Val := Elt F) (c : Thread nD τ) (Memref.isWhole_whole cc0_scratch4) v) ∗ (∃ v, owns (Val := Elt F) (c : Thread nD τ) (Memref.isWhole_whole cc0_scratch5) v) ∗ (∃ v, owns (Val := Elt F) (c : Thread nD τ) (Memref.isWhole_whole cc0_scratch6) v)
      ∗ semsV (F := F) (Ix := Unit) (Name := ℕ) (U := UU nD τ) (Lvl := ℕ) c cc0_scratch7 cc0_scratch8 cc0_scratch9) ∗ (((c : Thread nD τ).loc main_arg1) ↦{fullShare} g1)) ⊢ _
    rw [← hold c main_arg0, ← hold c main_v0, ← hold c main_v1]
    unfold ΦOut restV scratch
    iintro ⟨⟨Hi, H0, H1, H2, H3, H4, H5, H6, H7, H8, H9, Hs⟩, Hg⟩
    isplitr [Hi]
    · isplitl [H0 Hg H2]
      · isplitl [H0]; · iexact H0
        isplitl [Hg]; · iexact Hg
        iexists T; iexists X; iexists O; iexact H2
      isplitl [Hs]; · iexact Hs
      isplitl [H3]; · iapply (any_intro c cc0_scratch0); iexact H3
      isplitl [H4]; · iapply (any_intro c cc0_scratch1); iexact H4
      isplitl [H5]; · iapply (any_intro c cc0_scratch2); iexact H5
      isplitl [H6]; · iapply (any_intro c cc0_scratch3); iexact H6
      isplitl [H7]; · iapply (any_intro c cc0_scratch4); iexact H7
      isplitl [H8]; · iapply (any_intro c cc0_scratch5); iexact H8
      iapply (any_intro c cc0_scratch6); iexact H9
    iexact Hi
  unfold ΦIn scratch anyM
  iintro ⟨⟨H0, Hg, H1, ⟨%Wd, H2⟩, Hs, ⟨%v3, H3⟩, ⟨%T, H4⟩, ⟨%X, H5⟩, ⟨%O, H6⟩, ⟨%v7, H7⟩, ⟨%v8, H8⟩, ⟨%v9, H9⟩⟩, Hi⟩
  iapply (run_mono (defs := defs₀ (F := F)) 𝒱₀ (c : Thread nD τ) none (key v3 T X O v7 v8 v9 Wd) (BIBase.Entails.rfl) (post T X O))
  · isplitr [Hg]
    · isplitl [Hi]; · iexact Hi
      isplitl [H0]; · iapply (BIBase.Entails.of_eq (hold c main_arg0 _)); iexact H0
      isplitl [H1]; · iapply (BIBase.Entails.of_eq (hold c main_v0 _)); iexact H1
      isplitl [H2]; · iapply (BIBase.Entails.of_eq (hold c main_v1 _)); iexact H2
      isplitl [H3]; · iapply (BIBase.Entails.of_eq (hold c cc0_scratch0 _)); iexact H3
      isplitl [H4]; · iapply (BIBase.Entails.of_eq (hold c cc0_scratch1 _)); iexact H4
      isplitl [H5]; · iapply (BIBase.Entails.of_eq (hold c cc0_scratch2 _)); iexact H5
      isplitl [H6]; · iapply (BIBase.Entails.of_eq (hold c cc0_scratch3 _)); iexact H6
      isplitl [H7]; · iapply (BIBase.Entails.of_eq (hold c cc0_scratch4 _)); iexact H7
      isplitl [H8]; · iapply (BIBase.Entails.of_eq (hold c cc0_scratch5 _)); iexact H8
      isplitl [H9]; · iapply (BIBase.Entails.of_eq (hold c cc0_scratch6 _)); iexact H9
      iexact Hs
    iexact Hg

end

end Repack
-- ==== Proof.Launched.lean ====
/-
  The program run: from any memory with zero counters whose row order keeps every table address in range, for any float
  values, every weakly fair execution terminates, and every final state has the arguments unchanged, the result at
  `resV`, every semaphore counter at zero.
-/
module

public import proofs.«01_k».proof.Proof.Run
public import Idealize.ShloMosaic.Lib.Pipeline.KitQuiescent

@[expose] public section

noncomputable section

namespace Repack

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Facts₀ Cert.KernelIdeal.Gen

variable {F : FTy → Type} [FloatOps F]
local notation "𝕄" => MT nD τ sig Unit (Elt F) ℕ (UU nD τ) ℕ

variable (m : (ℓ : Loc nD τ sig) → Buf (Elt F) ℓ) (ρ : Dev nD → PrngReg)

/-- The weights, -/
def Wm (c : Dev nD) : S896x4608.Idx → BitVec 32 := V m c main_arg0
/-- and the rows' order as the kernel takes it. -/
def Pm (c : Dev nD) : S56x128.Idx → BitVec 32 := V m c main_v0

variable (hA : ∀ c, Fits (adrsV (Pm m c)))

/-- The pipeline's proof data: no window, one point, the resources before and after it. -/
def dats (_ : Fin 1) (c : Dev nD) : Dat τ (Elt F) Unit ℕ (UU nD τ) ℕ cfg0 c where
  A w := w.elim0
  after w t := w.elim0
  Φ t := if (t : ℕ) = 0 then ΦIn (F := F) c (Wm m c) (Pm m c) (V m c main_arg1) else ΦOut (F := F) c (Wm m c) (Pm m c) (hA c) (V m c main_arg1)
  q _ := fullShare
  owed _ := 0

theorem defs_tc : (defs₀ (F := F)) .tc cfg0.body = fun a => kernelP (F := F) := rfl
theorem prog_eq (t : Fin cfg0.N) : (defs₀ (F := F)) .tc cfg0.body (cfg0.bodyArgs t (cfg0.slots t)) = kernelP (F := F) :=
  (congrFun defs_tc _).trans rfl

set_option backward.isDefEq.respectTransparency.types false in
theorem body_obligation (c : Dev nD) : BodyObligation (dats (F := F) m hA 0 c) (defs₀ (F := F)) 𝒱₀ () Set.univ := fun t => by
  obtain rfl := fin_N0 t
  rw [show (dats m hA 0 c).Φ (Fin.castSucc t0_0) = ΦIn (F := F) c (Wm m c) (Pm m c) (V m c main_arg1) from rfl,
    show (dats m hA 0 c).Φ (Fin.succ t0_0) = ΦOut (F := F) c (Wm m c) (Pm m c) (hA c) (V m c main_arg1) from rfl]
  unfold Dat.owesAt Pipeline.owesWithin
  rw [show (dats m hA 0 c).owed (Fin.castSucc t0_0) = 0 from rfl, show (dats m hA 0 c).owed (Fin.succ t0_0) = 0 from rfl]
  rw [prog_eq t0_0]
  refine run_mono (defs := defs₀ (F := F)) 𝒱₀ (c : Thread nD τ) none (kernel_run c (Wm m c) (Pm m c) (hA c) (V m c main_arg1)) ?_ fun _ => ?_
  · unfold idle
    iintro ⟨HΦ, ⟨%W, -, HW⟩, -⟩
    isplitl [HΦ]; · iexact HΦ
    iexists W; iexact HW
  · unfold idle
    iintro ⟨HΦ, ⟨%W, HW⟩⟩
    isplitl [HΦ]; · iexact HΦ
    isplitl [HW]
    · iexists W; isplitr; · ipureintro; exact fun _ _ => Or.inl trivial
      iexact HW
    iapply (BIBase.Entails.of_eq (show (iprop(emp) : sProp 𝕄) = _ from bigSep_empty.symm))
    iempintro

def u₀ : UU nD τ := (initOf (Pipeline.cells cfgs cellOf_inj) (Pipeline.launchToks cfgs cellOf_inj), 1)

/-- The final memory of core `c`. -/
def QY (c : Dev nD) (s : MemSt nD τ sig (Elt F)) : Prop :=
  s.mem ((c : Thread nD τ).loc main_arg0) = V m c main_arg0 ∧ s.mem ((c : Thread nD τ).loc main_arg1) = V m c main_arg1
    ∧ ∃ T X O, s.mem ((c : Thread nD τ).loc main_v1) = resV (Wm m c) (Pm m c) (hA c) T X O

set_option backward.isDefEq.respectTransparency.types false in
theorem run_main : θ_run defs (onTc (τ := τ) (main (F := F))) (s₀ m ρ) (fun r => (∀ c, QY m hA c r.2) ∧ r.2.sem = fun _ => 0) :=
  Pipeline.θ_run_region_kit_quiescent cfgs (dats m hA) () (0 : Fin 1) launch0 kSem_facts EP defs₀ 𝒱₀ m ρ main
    (hbody := fun c => (body_obligation m hA c).loose) (hshare := fun c => (dats m hA 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := fun c => iprop(((((c : Thread nD τ).loc main_arg0) ↦{fullShare} V m c main_arg0) ∗ (((c : Thread nD τ).loc main_arg1) ↦{fullShare} V m c main_arg1)
      ∗ (((c : Thread nD τ).loc main_v0) ↦{fullShare} V m c main_v0) ∗ (((c : Thread nD τ).loc main_v1) ↦{fullShare} V m c main_v1))
      ∗ Pipeline.ownSems0 (Ix := Unit) (Name := ℕ) (U := UU nD τ) (Lvl := ℕ) (Val := Elt F) (τ := τ) kSem c))
    (Y := fun c => restV (F := F) c (Wm m c) (Pm m c) (hA c) (V m c main_arg1)) (Z := fun _ => iprop(emp))
    (hX := fun c => by
      rw [unscopedRest0_eq]
      iintro ⟨H0, HS, -, -, -⟩; imodintro
      isplitl [H0 HS]
      · isplitl [H0]; · iexact H0
        iexact HS
      iempintro)
    (hin := fun c => by
      rw [scopedRest0_eq, show (dats m hA 0 c).Φ 0 = ΦIn (F := F) c (Wm m c) (Pm m c) (V m c main_arg1) from rfl, kSem_eq]
      unfold ΦIn scratch anyM
      iintro ⟨⟨⟨H0, H1, H2, H3⟩, Hs⟩, Hb⟩
      isplitl [H0]; · iexact H0
      isplitl [H1]; · iexact H1
      isplitl [H2]; · iexact H2
      isplitl [H3]; · iexists _; iexact H3
      isplitl [Hs]; · iexact Hs
      iexact Hb)
    (hout := fun c => by
      rw [scopedRest0_eq, show (dats m hA 0 c).Φ (Fin.last cfg0.N) = ΦOut (F := F) c (Wm m c) (Pm m c) (hA c) (V m c main_arg1) from rfl, kSem_eq]
      unfold ΦOut scratch anyM
      iintro H
      iexact H)
    (QY := QY m hA)
    (hY := fun c s' => by
      unfold restV
      iintro ⟨⟨H0, H1, ⟨%T, %X, %O, H2⟩⟩, -, HSI⟩
      icombine HSI H0 gives %h0
      icombine HSI H1 gives %h1
      icombine HSI H2 gives %h2
      imodintro
      isplitr
      · ipureintro
        exact ⟨Buf.eq_of_forall_mem_univ h0, Buf.eq_of_forall_mem_univ h1, T, X, O, Buf.eq_of_forall_mem_univ h2⟩
      iexact HSI)
    (hQ := fun _ hh hz => ⟨fun c => (hh c).2, hz⟩)

end Repack
-- ==== Proof.Addr.lean ====
/-
  The table address of a row of the weights, as a number, and the precondition as the proof uses it.
-/
module

public import proofs.«01_k».proof.Proof.Launched

@[expose] public section

noncomputable section

namespace Repack

open Idealize.ShloMosaic Idealize.ShloMosaic.TcCoe Idealize.ShloMosaic.ValueIdx
open Cert.KernelIdeal Cert.KernelIdeal.Gen

/-- The table address of row `k`. -/
def addrN (k : ℕ) : ℕ := ((k / 64 * 4 + k / 2 % 4) * 8 + k / 8 % 8) * 9 + k % 2 * 32256

theorem addrN_le {k : ℕ} (h : k < 7168) : addrN k ≤ 64503 := by unfold addrN; omega

theorem and_mask (x : BitVec 32) (n : ℕ) (m : BitVec 32) (h : m.toNat = 2 ^ n - 1) : (IntOp.andi x m).toNat = x.toNat % 2 ^ n := by
  show (x &&& m).toNat = _
  rw [BitVec.toNat_and, h, Nat.and_two_pow_sub_one_eq_mod]

theorem shr_nat (x s : BitVec 32) (n : ℕ) (h : s.toNat = n) (hn : n < 32) : (IntOp.shrui .vector x s).toNat = x.toNat / 2 ^ n := by
  unfold IntOp.shrui
  rw [if_pos (by omega)]
  show (x >>> s.toNat).toNat = _
  rw [BitVec.toNat_ushiftRight, h, Nat.shiftRight_eq_div_pow]

theorem mul_nat (x s : BitVec 32) (n : ℕ) (hs : s.toNat = n) (h : x.toNat * n < 2 ^ 32) : (IntOp.muli x s).toNat = x.toNat * n := by
  show (x * s).toNat = _
  rw [BitVec.toNat_mul, hs, Nat.mod_eq_of_lt h]

theorem add_nat (x s : BitVec 32) (h : x.toNat + s.toNat < 2 ^ 32) : (IntOp.addi x s).toNat = x.toNat + s.toNat := by
  show (x + s).toNat = _
  rw [BitVec.toNat_add, Nat.mod_eq_of_lt h]

/-- The kernel's address arithmetic is `addrN`. -/
theorem adrV_nat (p : BitVec 32) (h : p.toNat < 7168) : (adrV p).toNat = addrN p.toNat := by
  unfold adrV blkV addrN
  have e6 := shr_nat p 6#32 6 rfl (by decide)
  have e1 := shr_nat p 1#32 1 rfl (by decide)
  have e3 := shr_nat p 3#32 3 rfl (by decide)
  have e0 := and_mask p 1 1#32 rfl
  have a1 := and_mask (IntOp.shrui .vector p 1#32) 2 3#32 rfl
  have a3 := and_mask (IntOp.shrui .vector p 3#32) 3 7#32 rfl
  have m4 := mul_nat (IntOp.shrui .vector p 6#32) 4#32 4 rfl (by omega)
  have s1 := add_nat (IntOp.muli (IntOp.shrui .vector p 6#32) 4#32) (IntOp.andi (IntOp.shrui .vector p 1#32) 3#32) (by omega)
  have m8 := mul_nat (IntOp.addi (IntOp.muli (IntOp.shrui .vector p 6#32) 4#32) (IntOp.andi (IntOp.shrui .vector p 1#32) 3#32)) 8#32 8 rfl (by omega)
  have s2 := add_nat (IntOp.muli (IntOp.addi (IntOp.muli (IntOp.shrui .vector p 6#32) 4#32) (IntOp.andi (IntOp.shrui .vector p 1#32) 3#32)) 8#32)
    (IntOp.andi (IntOp.shrui .vector p 3#32) 7#32) (by omega)
  have m9 := mul_nat (IntOp.addi (IntOp.muli (IntOp.addi (IntOp.muli (IntOp.shrui .vector p 6#32) 4#32) (IntOp.andi (IntOp.shrui .vector p 1#32) 3#32)) 8#32)
    (IntOp.andi (IntOp.shrui .vector p 3#32) 7#32)) 9#32 9 rfl (by omega)
  have mb := mul_nat (IntOp.andi p 1#32) 32256#32 32256 rfl (by omega)
  have s3 := add_nat (IntOp.muli (IntOp.addi (IntOp.muli (IntOp.addi (IntOp.muli (IntOp.shrui .vector p 6#32) 4#32) (IntOp.andi (IntOp.shrui .vector p 1#32) 3#32)) 8#32)
    (IntOp.andi (IntOp.shrui .vector p 3#32) 7#32)) 9#32) (IntOp.muli (IntOp.andi p 1#32) 32256#32) (by omega)
  omega

variable {F : FTy → Type} [FloatOps F] (m : (ℓ : Loc nD τ sig) → Buf (Elt F) ℓ)

/-- The rows' order on a core as the program's argument gives it. -/
def Am (c : Dev nD) : S7168.Idx → BitVec 32 := m ((c : Thread nD τ).loc main_arg1)

/-- Every entry of the order is a row. -/
def InRange : Prop := ∀ (c : Dev nD) (j), (Am m c j).toNat < 7168

theorem Pm_eq (c : Dev nD) (y : S56x128.Idx) : Pm m c y = Am m c (Shape.reshapeEquiv shapeCasts_S7168_S56x128 y) := rfl

theorem fits (h : InRange m) (c : Dev nD) : Fits (adrsV (Pm m c)) := fun y => by
  show (adrV (Pm m c y)).toNat ≤ 64503
  rw [Pm_eq, adrV_nat _ (h c _)]
  exact addrN_le (h c _)

end Repack
-- ==== Proof.Frames.lean ====
/-
  The frames: the program idealized, and the reference.
-/
module

public import proofs.«01_k».proof.Defs
public import proofs.«01_k».proof.Proof.Addr
public import proofs.«01_k».proof.Proof.Gen.Kernel
public import proofs.«01_k».proof.Proof.Gen.ReferenceIdeal
public import proofs.«01_k».proof.Proof.Gen.ReferenceIdeal.Run
public import proofs.«01_k».proof.Proof.Gen.Pre_rows_in_range
public import Idealize.ShloMosaic.Lib.QuiescentFlight

@[expose] public section

noncomputable section

namespace Repack

open Idealize.ShloMosaic Idealize.ShloMosaic.TcCoe Idealize.ShloMosaic.ValueIdx Idealize.SL.Sem
open Cert.KernelIdeal Cert.KernelIdeal.Gen

/-- The precondition's test of one entry. -/
theorem row_in_range (x : BitVec 32) (h : IntOp.andi (IntOp.cmpi .sge x 0#32) (IntOp.cmpi .slt x 7168#32) = 1#1) : x.toNat < 7168 := by
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at h
  have h0 : (0#32 : BitVec 32).toInt = 0 := by decide
  have h7 : (7168#32 : BitVec 32).toInt = 7168 := by decide
  rw [h0, h7] at h
  have := BitVec.toInt_eq_toNat_cond x
  split at this <;> omega

/-- The precondition puts every entry of the order in range. -/
theorem inRange (m : (ℓ : Loc nD τ sig) → Buf (Elt Ideal) ℓ) (h : Cert.Pre_KernelIdeal m) : InRange m := fun c j =>
  row_in_range _ (congrFun (h c) j)

theorem frame_pi : Cert.quiescent_KernelIdeal := fun m ρ hpre =>
  (θ_run defs _ _).mono (fun _ h => ⟨fun c => ⟨((h.1 c).1).trans (V_main_arg0 m c), ((h.1 c).2.1).trans (V_main_arg1 m c)⟩, h.2⟩)
    (run_main m ρ (fits m (inRange m hpre)))

theorem frame_ri : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_ri_pre : Cert.quiescent_ReferenceIdeal_pre_rows_in_range := fun m ρ _ =>
  (θ_run Cert.ReferenceIdeal.defs _ _).mono (fun r h => ⟨fun c => (h c).2, sem_eq_zero_of_no_sems (by decide) r.2⟩) (Cert.ReferenceIdeal.Value.run m ρ)

end Repack
-- ==== Proof.FrameK.lean ====
/-
  The frame of the program as printed: its text is the idealized program's, so the run of the one at the floats' bits is
  the run of the other.
-/
module

public import proofs.«01_k».proof.Proof.Frames
public import Idealize.ShloMosaic.Lib.Pipeline.Regions

@[expose] public section

noncomputable section

namespace Repack

open Idealize.ShloMosaic Idealize.ShloMosaic.TcCoe Idealize.ShloMosaic.ValueIdx Idealize.SL.Sem
open Cert.KernelIdeal Cert.KernelIdeal.Gen

/-- The frame of the idealized program, at the floats' bits. -/
def FrameAtBits : Prop :=
  ∀ (m : (ℓ : Loc nD τ sig) → Buf (Elt Bits) ℓ) (g : Dev nD → PrngReg),
    (∀ c : Dev nD, (Cert.Pre_rows_in_range.fn (F := Bits) (m ((c.tc : Thread nD τ).loc main_arg0)) (m ((c.tc : Thread nD τ).loc main_arg1))) = (fun _ => 1#1)) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameAtBits := fun m ρ hpre =>
  (θ_run defs _ _).mono (fun _ h => ⟨fun c => ⟨((h.1 c).1).trans (V_main_arg0 m c), ((h.1 c).2.1).trans (V_main_arg1 m c)⟩, h.2⟩)
    (run_main m ρ (fits m fun c j => row_in_range _ (congrFun (hpre c) j)))

/-- The two programs are one text. -/
theorem frame_same : Cert.quiescent_Kernel = FrameAtBits := by
  chain_rfl

theorem frame_p : Cert.quiescent_Kernel := frame_same.mpr frame_bits

end Repack
-- ==== Proof.Table.lean ====
/-
  What the first loop leaves in the table, entry by entry. Row `R` of the first half of the table holds, lane by lane, one
  byte place of four words of the weights; the second half is the same shifted down by a nibble.
-/
module

public import proofs.«01_k».proof.Proof.TableRun

@[expose] public section

noncomputable section

namespace Repack

open Idealize.ShloMosaic Idealize.ShloMosaic.TcCoe
open Cert.KernelIdeal Cert.KernelIdeal.Facts₀

variable {F : FTy → Type} [FloatOps F] [Facts]

/-- Of four cases, at most one of which can hold, the one that does, -/
theorem four_pos {α : Type} {p : Fin 4 → Prop} [DecidablePred p] (v : Fin 4 → α) (d : α) (b : Fin 4) (hb : p b) (hu : ∀ b', p b' → b' = b) :
    (if p 3 then v 3 else if p 2 then v 2 else if p 1 then v 1 else if p 0 then v 0 else d) = v b := by
  split_ifs with h3 h2 h1 h0
  · rw [hu 3 h3]
  · rw [hu 2 h2]
  · rw [hu 1 h1]
  · rw [hu 0 h0]
  · fin_cases b <;> contradiction

/-- and the rest if none does. -/
theorem four_neg {α : Type} {p : Fin 4 → Prop} [DecidablePred p] (v : Fin 4 → α) (d : α) (h : ∀ b, ¬ p b) :
    (if p 3 then v 3 else if p 2 then v 2 else if p 1 then v 1 else if p 0 then v 0 else d) = d := by
  rw [if_neg (h 3), if_neg (h 2), if_neg (h 1), if_neg (h 0)]

/-- A place of a tile. -/
def at8 (a : Fin 8) (b : Fin 128) : S8x128.Idx
  | 0 => a
  | 1 => b

/-- The word of the weights at a row and a column, zero outside. -/
def wAt (W : S896x4608.Idx → BitVec 32) (r c : ℕ) : BitVec 32 :=
  if h : r < 896 ∧ c < 4608 then W (fun a => match a with | 0 => ⟨r, h.1⟩ | 1 => ⟨c, h.2⟩) else 0

theorem wAt_idx (W : S896x4608.Idx → BitVec 32) (y : S896x4608.Idx) (r c : ℕ) (h0 : (y 0 : ℕ) = r) (h1 : (y 1 : ℕ) = c) :
    W y = wAt W r c := by
  have b0 : (y 0 : ℕ) < 896 := (y 0).2
  have b1 : (y 1 : ℕ) < 4608 := (y 1).2
  subst h0 h1
  rw [wAt, dif_pos ⟨b0, b1⟩]
  congr 1
  funext a
  fin_cases a <;> rfl

/-- The entry of the table's first half at row `R`. -/
def tabLo (W : S896x4608.Idx → BitVec 32) (R lane : ℕ) : BitVec 32 :=
  gatherB ⟨R / 72 % 4, Nat.mod_lt _ (by decide)⟩ fun c => wAt W (8 * (R / 288) + R / 9 % 8) (tileCol ⟨R % 9, Nat.mod_lt _ (by decide)⟩ c + lane)

/-- The entry of the table at row `R`. -/
def tabE (W : S896x4608.Idx → BitVec 32) (R lane : ℕ) : BitVec 32 :=
  if R < 32256 then tabLo W R lane else tabLo W (R % 32256) lane >>> 4

section
variable (k : Fin k0_t1_loop.trips)

theorem tileV_apply (W : S896x4608.Idx → BitVec 32) (u : Fin 4) (s : Fin 9) (c : Fin 4) (x : S8x128.Idx) :
    tileV k W u s c x = wAt W (32 * (k : ℕ) + 8 * u + x 0) (tileCol s c + x 1) := by
  have h3 := off3_eq k u u.2
  unfold tileV
  refine wAt_idx W _ _ _ ?_ ?_
  · show k0_off3 k (BitVec.ofNat 32 (8 * u)) 0 + 1 * (x 0 : ℕ) = _
    rw [h3, one_mul]
  · show tileCol s c + 1 * (x 1 : ℕ) = _
    rw [one_mul]

/-- One transposed tile stored, entry by entry. -/
theorem putBV_apply (u b : Fin 4) (s : Fin 9) (y : S8x128.Idx → BitVec 32) (T : S64512x128.Idx → BitVec 32) (z : S64512x128.Idx) :
    putBV k u b s y T z = if (z 0 : ℕ) % 32256 / 72 = (4 * (k : ℕ) + u) * 4 + b ∧ (z 0 : ℕ) % 9 = s then
      (if (z 0 : ℕ) < 32256 then y (at8 ⟨(z 0 : ℕ) % 32256 / 9 % 8, Nat.mod_lt _ (by decide)⟩ (z 1))
        else y (at8 ⟨(z 0 : ℕ) % 32256 / 9 % 8, Nat.mod_lt _ (by decide)⟩ (z 1)) >>> 4) else T z := by
  have hk : (k : ℕ) < 28 := lt_of_lt_of_eq k.2 trips1
  have hu := u.2
  have hb := b.2
  have hs := s.2
  have z0 : (z 0 : ℕ) < 64512 := (z 0).2
  have o7 : ∀ a, (rectB k u b s).off a = (![((4 * (k : ℕ) + u) * 32 + 8 * b) * 9 + s, 0] : Fin 2 → ℕ) a := fun a => congrFun (off7_eq k u b s hu hb hs) a
  have o8 : ∀ a, (rectB' k u b s).off a = (![32256 + ((4 * (k : ℕ) + u) * 32 + 8 * b) * 9 + s, 0] : Fin 2 → ℕ) a := fun a => congrFun (off8_eq k u b s hu hb hs) a
  unfold putBV
  by_cases hc : (z 0 : ℕ) % 32256 / 72 = (4 * (k : ℕ) + u) * 4 + b ∧ (z 0 : ℕ) % 9 = s
  · rw [if_pos hc]
    obtain ⟨h1, h2⟩ := hc
    by_cases hz : (z 0 : ℕ) < 32256
    · rw [if_pos hz]
      refine (upd_miss (rectB' k u b s) _ _ z fun x => ⟨0, ?_⟩).trans (upd_hit (rectB k u b s) _ _ (at8 _ (z 1)) z fun a => ?_)
      · rw [o8]
        show (z 0 : ℕ) ≠ (32256 + ((4 * (k : ℕ) + u) * 32 + 8 * b) * 9 + s) + 9 * (x 0 : ℕ)
        omega
      · rw [o7]
        fin_cases a
        · show (z 0 : ℕ) = ((4 * (k : ℕ) + u) * 32 + 8 * b) * 9 + s + 9 * ((z 0 : ℕ) % 32256 / 9 % 8)
          omega
        · show (z 1 : ℕ) = 0 + 1 * (z 1 : ℕ)
          omega
    · rw [if_neg hz]
      refine (upd_hit (rectB' k u b s) _ _ (at8 ⟨(z 0 : ℕ) % 32256 / 9 % 8, Nat.mod_lt _ (by decide)⟩ (z 1)) z fun a => ?_)
      rw [o8]
      fin_cases a
      · show (z 0 : ℕ) = 32256 + ((4 * (k : ℕ) + u) * 32 + 8 * b) * 9 + s + 9 * ((z 0 : ℕ) % 32256 / 9 % 8)
        omega
      · show (z 1 : ℕ) = 0 + 1 * (z 1 : ℕ)
        omega
  · rw [if_neg hc]
    refine (upd_miss (rectB' k u b s) _ _ z fun x => ⟨0, ?_⟩).trans (upd_miss (rectB k u b s) _ _ z fun x => ⟨0, ?_⟩)
    · have hx : (x 0 : ℕ) < 8 := (x 0).2
      rw [o8]
      show (z 0 : ℕ) ≠ (32256 + ((4 * (k : ℕ) + u) * 32 + 8 * b) * 9 + s) + 9 * (x 0 : ℕ)
      omega
    · have hx : (x 0 : ℕ) < 8 := (x 0).2
      rw [o7]
      show (z 0 : ℕ) ≠ (((4 * (k : ℕ) + u) * 32 + 8 * b) * 9 + s) + 9 * (x 0 : ℕ)
      omega

/-- A transposed tile of the weights, entry by entry. -/
theorem tile_tabLo (W : S896x4608.Idx → BitVec 32) (u b : Fin 4) (s : Fin 9) (R : ℕ) (a : Fin 8) (l : Fin 128)
    (h1 : R / 72 = (4 * (k : ℕ) + u) * 4 + b) (h2 : R % 9 = s) (h3 : R / 9 % 8 = a) :
    bytes M16 M32 (tileV k W u s 0) (tileV k W u s 1) (tileV k W u s 2) (tileV k W u s 3) b (at8 a l) = tabLo W R l := by
  have hb := b.2
  have hu := u.2
  rw [bytes_apply]
  have eb : (⟨R / 72 % 4, Nat.mod_lt _ (by decide)⟩ : Fin 4) = b := Fin.ext (by show R / 72 % 4 = b; omega)
  have es : (⟨R % 9, Nat.mod_lt _ (by decide)⟩ : Fin 9) = s := Fin.ext h2
  have er : 8 * (R / 288) + R / 9 % 8 = 32 * (k : ℕ) + 8 * u + a := by omega
  unfold tabLo
  rw [eb, es, er]
  congr 1
  funext c
  fin_cases c <;> exact tileV_apply k W u s _ (at8 a l)

/-- One step of a trip, entry by entry. -/
theorem stepBV_apply (W : S896x4608.Idx → BitVec 32) (u : Fin 4) (s : Fin 9) (T : S64512x128.Idx → BitVec 32) (z : S64512x128.Idx) :
    stepBV k W u s T z = if (z 0 : ℕ) % 32256 / 288 = 4 * (k : ℕ) + u ∧ (z 0 : ℕ) % 9 = s then tabE W (z 0) (z 1) else T z := by
  have z0 : (z 0 : ℕ) < 64512 := (z 0).2
  have hit : ∀ b : Fin 4, (z 0 : ℕ) % 32256 / 72 = (4 * (k : ℕ) + u) * 4 + b → (z 0 : ℕ) % 9 = s →
      (if (z 0 : ℕ) < 32256 then bytes M16 M32 (tileV k W u s 0) (tileV k W u s 1) (tileV k W u s 2) (tileV k W u s 3) b (at8 ⟨(z 0 : ℕ) % 32256 / 9 % 8, Nat.mod_lt _ (by decide)⟩ (z 1))
        else bytes M16 M32 (tileV k W u s 0) (tileV k W u s 1) (tileV k W u s 2) (tileV k W u s 3) b (at8 ⟨(z 0 : ℕ) % 32256 / 9 % 8, Nat.mod_lt _ (by decide)⟩ (z 1)) >>> 4) = tabE W (z 0) (z 1) := by
    intro b h1 h2
    rw [tile_tabLo k W u b s ((z 0 : ℕ) % 32256) _ (z 1) h1 (by omega) rfl]
    unfold tabE
    by_cases hz : (z 0 : ℕ) < 32256
    · rw [if_pos hz, if_pos hz, Nat.mod_eq_of_lt hz]
    · rw [if_neg hz, if_neg hz]
  unfold stepBV
  dsimp only
  rw [putBV_apply, putBV_apply, putBV_apply, putBV_apply]
  by_cases hc : (z 0 : ℕ) % 32256 / 288 = 4 * (k : ℕ) + u ∧ (z 0 : ℕ) % 9 = s
  · obtain ⟨h1, h2⟩ := hc
    rw [if_pos (show (z 0 : ℕ) % 32256 / 288 = 4 * (k : ℕ) + u ∧ (z 0 : ℕ) % 9 = s from ⟨h1, h2⟩)]
    have hq : (z 0 : ℕ) % 32256 / 72 = (4 * (k : ℕ) + u) * 4 + (z 0 : ℕ) % 32256 / 72 % 4 := by omega
    refine (four_pos (p := fun b => (z 0 : ℕ) % 32256 / 72 = (4 * (k : ℕ) + u) * 4 + (b : ℕ) ∧ (z 0 : ℕ) % 9 = s)
      (v := fun b => if (z 0 : ℕ) < 32256 then bytes M16 M32 (tileV k W u s 0) (tileV k W u s 1) (tileV k W u s 2) (tileV k W u s 3) b (at8 ⟨(z 0 : ℕ) % 32256 / 9 % 8, Nat.mod_lt _ (by decide)⟩ (z 1))
        else bytes M16 M32 (tileV k W u s 0) (tileV k W u s 1) (tileV k W u s 2) (tileV k W u s 3) b (at8 ⟨(z 0 : ℕ) % 32256 / 9 % 8, Nat.mod_lt _ (by decide)⟩ (z 1)) >>> 4) (d := T z)
      ⟨(z 0 : ℕ) % 32256 / 72 % 4, Nat.mod_lt _ (by decide)⟩ ⟨hq, h2⟩ fun b h => Fin.ext ?_).trans (hit _ hq h2)
    have := h.1
    show (b : ℕ) = (z 0 : ℕ) % 32256 / 72 % 4
    omega
  · rw [if_neg hc]
    refine four_neg (p := fun b => (z 0 : ℕ) % 32256 / 72 = (4 * (k : ℕ) + u) * 4 + (b : ℕ) ∧ (z 0 : ℕ) % 9 = s)
      (v := fun b => if (z 0 : ℕ) < 32256 then bytes M16 M32 (tileV k W u s 0) (tileV k W u s 1) (tileV k W u s 2) (tileV k W u s 3) b (at8 ⟨(z 0 : ℕ) % 32256 / 9 % 8, Nat.mod_lt _ (by decide)⟩ (z 1))
        else bytes M16 M32 (tileV k W u s 0) (tileV k W u s 1) (tileV k W u s 2) (tileV k W u s 3) b (at8 ⟨(z 0 : ℕ) % 32256 / 9 % 8, Nat.mod_lt _ (by decide)⟩ (z 1)) >>> 4) (d := T z) ?_
    rintro b ⟨h1, h2⟩
    have hb := b.2
    exact hc ⟨by omega, h2⟩

/-- The first `n` steps of a trip, entry by entry. -/
theorem stepsBV_apply (W : S896x4608.Idx → BitVec 32) (T : S64512x128.Idx → BitVec 32) (z : S64512x128.Idx) : ∀ n ≤ 36,
    stepsBV k W T n z = if (z 0 : ℕ) % 32256 / 1152 = k ∧ (z 0 : ℕ) % 32256 / 288 % 4 * 9 + (z 0 : ℕ) % 9 < n then tabE W (z 0) (z 1) else T z := by
  intro n
  induction n with
  | zero => intro _; rw [stepsBV_zero, if_neg (by omega)]
  | succ n ih =>
    intro hn
    rw [stepsBV_succ, stepBV_apply, ih (by omega)]
    have hk : (k : ℕ) < 28 := lt_of_lt_of_eq k.2 trips1
    by_cases h : (z 0 : ℕ) % 32256 / 288 = 4 * (k : ℕ) + n / 9 % 4 ∧ (z 0 : ℕ) % 9 = n % 9
    · rw [if_pos h, if_pos (by omega)]
    · rw [if_neg h]
      by_cases h' : (z 0 : ℕ) % 32256 / 1152 = k ∧ (z 0 : ℕ) % 32256 / 288 % 4 * 9 + (z 0 : ℕ) % 9 < n
      · rw [if_pos h', if_pos (by omega)]
      · rw [if_neg h', if_neg (by omega)]

end

/-- The table after the loop: every entry is written. -/
theorem tableV_apply (W : S896x4608.Idx → BitVec 32) (T : S64512x128.Idx → BitVec 32) (z : S64512x128.Idx) :
    tableV W T 28 z = tabE W (z 0) (z 1) := by
  have main : ∀ n ≤ 28, (z 0 : ℕ) % 32256 / 1152 < n → tableV W T n z = tabE W (z 0) (z 1) := by
    intro n
    induction n with
    | zero => intro _ h; omega
    | succ n ih =>
      intro hn h
      have ht : n < k0_t1_loop.trips := lt_of_lt_of_eq (by omega) trips1.symm
      rw [tableV, dif_pos ht, stepsBV_apply _ _ _ _ 36 le_rfl]
      by_cases hz : (z 0 : ℕ) % 32256 / 1152 = n
      · rw [if_pos ⟨hz, by omega⟩]
      · rw [if_neg (fun hh => hz hh.1)]
        exact ih (by omega) (by omega)
  exact main 28 le_rfl (by omega)

end Repack
-- ==== Proof.Words.lean ====
/-
  What the second loop leaves in a slab, entry by entry: every word written is put together from the entries of the table at
  the eight addresses of its rows.
-/
module

public import proofs.«01_k».proof.Proof.Table
public import proofs.«01_k».proof.Proof.Tail

@[expose] public section

noncomputable section

namespace Repack

open Idealize.ShloMosaic Idealize.ShloMosaic.TcCoe
open Cert.KernelIdeal Cert.KernelIdeal.Facts₀

variable {F : FTy → Type} [FloatOps F] [Facts]

/-- Two words' low nibbles, interleaved. -/
def nibW (a b : BitVec 32) : BitVec 32 := (a &&& 252645135#32) ||| ((b &&& 252645135#32) <<< 4)

theorem nib_apply {s : Shape} (a b : IVec s 32) (i : s.Idx) : nib a b i = nibW (a i) (b i) := by
  show IntOp.ori (IntOp.andi (a i) 252645135#32) (IntOp.shli .vector (IntOp.andi (b i) 252645135#32) 4#32) = _
  rfl

/-- A place of a row of lanes. -/
def at1 (b : Fin 128) : S1x128.Idx
  | 0 => (0 : Fin 1)
  | 1 => b

/-- One row laid over the words put aside, -/
theorem updTail_apply (n : Fin 128) (X : S128x128.Idx → BitVec 32) (w : S1x128.Idx → BitVec 32) (y : S128x128.Idx) :
    upd (tailR n) X w y = if (y 0 : ℕ) = n then w (at1 (y 1)) else X y := by
  by_cases h : (y 0 : ℕ) = n
  · rw [if_pos h]
    refine upd_hit (tailR n) _ _ (at1 (y 1)) y fun a => ?_
    fin_cases a
    · show (y 0 : ℕ) = n + 1 * 0
      omega
    · show (y 1 : ℕ) = 0 + 1 * (y 1 : ℕ)
      omega
  · rw [if_neg h]
    refine upd_miss (tailR n) _ _ y fun x => ⟨0, ?_⟩
    have hx : (x 0 : ℕ) < 1 := (x 0).2
    show (y 0 : ℕ) ≠ n + 1 * (x 0 : ℕ)
    omega

/-- eight rows laid over a slab at a pitch of 40, -/
theorem upd40_apply (n : Fin 1160) (O : S1440x128.Idx → BitVec 32) (w : S8x128.Idx → BitVec 32) (y : S1440x128.Idx) :
    upd (rect40 n) O w y = if (n : ℕ) ≤ y 0 ∧ ((y 0 : ℕ) - n) % 40 = 0 ∧ ((y 0 : ℕ) - n) / 40 < 8 then
      w (at8 ⟨((y 0 : ℕ) - n) / 40 % 8, Nat.mod_lt _ (by decide)⟩ (y 1)) else O y := by
  by_cases h : (n : ℕ) ≤ y 0 ∧ ((y 0 : ℕ) - n) % 40 = 0 ∧ ((y 0 : ℕ) - n) / 40 < 8
  · rw [if_pos h]
    obtain ⟨h1, h2, h3⟩ := h
    refine upd_hit (rect40 n) _ _ (at8 _ (y 1)) y fun a => ?_
    fin_cases a
    · show (y 0 : ℕ) = n + 40 * (((y 0 : ℕ) - n) / 40 % 8)
      omega
    · show (y 1 : ℕ) = 0 + 1 * (y 1 : ℕ)
      omega
  · rw [if_neg h]
    refine upd_miss (rect40 n) _ _ y fun x => ⟨0, ?_⟩
    have hx : (x 0 : ℕ) < 8 := (x 0).2
    show (y 0 : ℕ) ≠ n + 40 * (x 0 : ℕ)
    omega

/-- and at a pitch of 2. -/
theorem upd2_apply (n : Fin 1426) (O : S1440x128.Idx → BitVec 32) (w : S8x128.Idx → BitVec 32) (y : S1440x128.Idx) :
    upd (rect2 n) O w y = if (n : ℕ) ≤ y 0 ∧ ((y 0 : ℕ) - n) % 2 = 0 ∧ ((y 0 : ℕ) - n) / 2 < 8 then
      w (at8 ⟨((y 0 : ℕ) - n) / 2 % 8, Nat.mod_lt _ (by decide)⟩ (y 1)) else O y := by
  by_cases h : (n : ℕ) ≤ y 0 ∧ ((y 0 : ℕ) - n) % 2 = 0 ∧ ((y 0 : ℕ) - n) / 2 < 8
  · rw [if_pos h]
    obtain ⟨h1, h2, h3⟩ := h
    refine upd_hit (rect2 n) _ _ (at8 _ (y 1)) y fun a => ?_
    fin_cases a
    · show (y 0 : ℕ) = n + 2 * (((y 0 : ℕ) - n) / 2 % 8)
      omega
    · show (y 1 : ℕ) = 0 + 1 * (y 1 : ℕ)
      omega
  · rw [if_neg h]
    refine upd_miss (rect2 n) _ _ y fun x => ⟨0, ?_⟩
    have hx : (x 0 : ℕ) < 8 := (x 0).2
    show (y 0 : ℕ) ≠ n + 2 * (x 0 : ℕ)
    omega

/-- The entry of a table at a row and a lane, zero outside. -/
def tAt (T : S64512x128.Idx → BitVec 32) (r c : ℕ) : BitVec 32 :=
  if h : r < 64512 ∧ c < 128 then T (fun a => match a with | 0 => ⟨r, h.1⟩ | 1 => ⟨c, h.2⟩) else 0

theorem tAt_idx (T : S64512x128.Idx → BitVec 32) (y : S64512x128.Idx) (r c : ℕ) (h0 : (y 0 : ℕ) = r) (h1 : (y 1 : ℕ) = c) :
    T y = tAt T r c := by
  have b0 : (y 0 : ℕ) < 64512 := (y 0).2
  have b1 : (y 1 : ℕ) < 128 := (y 1).2
  subst h0 h1
  rw [tAt, dif_pos ⟨b0, b1⟩]
  congr 1
  funext a
  fin_cases a <;> rfl

section
variable (k : Fin k0_t2_loop.trips) (slot half : Fin 2)
variable (T : S64512x128.Idx → BitVec 32) (A : S56x128.Idx → BitVec 32) (hA : Fits A)

/-- The entry of the table `s` rows past the address of row `e` of the eight. -/
def entE (r e : Fin 8) (s lane : ℕ) : BitVec 32 := tAt T ((A (adrIdx k slot (colE half r e))).toNat + s) lane

theorem nib8V_apply (r a b : Fin 8) (x : S8x128.Idx) :
    nib8V k slot half T A hA r a b x = nibW (entE k slot half T A r a (x 0) (x 1)) (entE k slot half T A r b (x 0) (x 1)) := by
  unfold nib8V
  rw [nib_apply]
  have key : ∀ e : Fin 8, rows8V T (A (adrIdx k slot (colE half r e))) (chk1_of _ (hA _)) x = entE k slot half T A r e (x 0) (x 1) := by
    intro e
    refine tAt_idx T _ _ _ ?_ ?_
    · show k0_off43 (A (adrIdx k slot (colE half r e))) 0 + 1 * (x 0 : ℕ) = _
      rw [off43_eq, one_mul]; rfl
    · show 0 + 1 * (x 1 : ℕ) = _
      omega
  rw [key, key]

theorem nib1V_apply (r a b : Fin 8) (x : S1x128.Idx) :
    nib1V k slot half T A hA r a b x = nibW (entE k slot half T A r a 8 (x 1)) (entE k slot half T A r b 8 (x 1)) := by
  have hx : (x 0 : ℕ) < 1 := (x 0).2
  unfold nib1V
  rw [nib_apply]
  have key : ∀ e : Fin 8, row9V T (A (adrIdx k slot (colE half r e))) (chk1_of _ (hA _)) x = entE k slot half T A r e 8 (x 1) := by
    intro e
    refine tAt_idx T _ _ _ ?_ ?_
    · show k0_off51 (A (adrIdx k slot (colE half r e))) 0 + 1 * (x 0 : ℕ) = _
      rw [off51_eq _ (hA _)]
      show (A (adrIdx k slot (colE half r e))).toNat + 8 + 1 * (x 0 : ℕ) = (A (adrIdx k slot (colE half r e))).toNat + 8
      omega
    · show 0 + 1 * (x 1 : ℕ) = _
      omega
  rw [key, key]

/-- The nibbles of the rows `2 * j` and `2 * j + 1` of the eight. -/
def pairE (r : Fin 8) (s lane : ℕ) (j : Fin 4) : BitVec 32 :=
  nibW (entE k slot half T A r ⟨2 * j, by omega⟩ s lane) (entE k slot half T A r ⟨2 * j + 1, by omega⟩ s lane)

/-- The word put together. -/
def wordE (r : Fin 8) (c : Fin 4) (s lane : ℕ) : BitVec 32 := gatherB c (pairE k slot half T A r s lane)

theorem stepXV_apply (r : Fin 8) (X : S128x128.Idx → BitVec 32) (y : S128x128.Idx) :
    stepXV k slot half T A hA r X y = if (y 0 : ℕ) / 32 = 2 * slot + half ∧ (y 0 : ℕ) % 8 = r then
      pairE k slot half T A r 8 (y 1) ⟨(y 0 : ℕ) / 8 % 4, Nat.mod_lt _ (by decide)⟩ else X y := by
  have hr := r.2
  unfold stepXV
  rw [updTail_apply, updTail_apply, updTail_apply, updTail_apply, nib1V_apply, nib1V_apply, nib1V_apply, nib1V_apply]
  have t : ∀ j : Fin 4, ((tailE slot half r j : Fin 128) : ℕ) = 64 * slot + 32 * half + 8 * j + r := fun _ => rfl
  by_cases h : (y 0 : ℕ) / 32 = 2 * slot + half ∧ (y 0 : ℕ) % 8 = r
  · rw [if_pos h]
    obtain ⟨h1, h2⟩ := h
    refine four_pos (p := fun j => (y 0 : ℕ) = (tailE slot half r j : Fin 128)) (v := fun j => pairE k slot half T A r 8 (y 1) j) (d := X y)
      ⟨(y 0 : ℕ) / 8 % 4, Nat.mod_lt _ (by decide)⟩ ?_ fun j hj => Fin.ext ?_
    · rw [t]
      show (y 0 : ℕ) = 64 * slot + 32 * half + 8 * ((y 0 : ℕ) / 8 % 4) + r
      omega
    · rw [t] at hj
      show (j : ℕ) = (y 0 : ℕ) / 8 % 4
      omega
  · rw [if_neg h]
    refine four_neg (p := fun j => (y 0 : ℕ) = (tailE slot half r j : Fin 128)) (v := fun j => pairE k slot half T A r 8 (y 1) j) (d := X y) ?_
    intro j hj
    rw [t] at hj
    have := j.2
    omega

theorem outV_apply (r : Fin 8) (c : Fin 4) (x : S8x128.Idx) : outV k slot half T A hA r c x = wordE k slot half T A r c (x 0) (x 1) := by
  unfold outV
  rw [bytes_apply]
  unfold wordE
  congr 1
  funext j
  fin_cases j <;> exact nib8V_apply k slot half T A hA r _ _ x

/-- A row of a slab at a pitch of 40 from a row of its own, -/
theorem row40 (b n q sl h r ch cl y0 : ℕ) (hy : y0 = 720 * b + 40 * n + q) (hb : b < 2) (hn : n < 18) (hq : q < 40)
    (hs : sl < 2) (hh : h < 2) (hr : r < 8) (hch : ch < 2) (hcl : cl < 2) :
    (720 * sl + 320 * ch + 16 * h + 2 * r + cl ≤ y0 ∧ (y0 - (720 * sl + 320 * ch + 16 * h + 2 * r + cl)) % 40 = 0
      ∧ (y0 - (720 * sl + 320 * ch + 16 * h + 2 * r + cl)) / 40 < 8) ↔ b = sl ∧ n / 8 = ch ∧ q = 16 * h + 2 * r + cl := by
  constructor
  · rintro ⟨h1, h2, h3⟩
    generalize hd : (y0 - (720 * sl + 320 * ch + 16 * h + 2 * r + cl)) / 40 = d at h3
    have e : y0 = 720 * sl + 320 * ch + 16 * h + 2 * r + cl + 40 * d := by omega
    have e1 : q = 16 * h + 2 * r + cl := by omega
    have e2 : 18 * b + n = 18 * sl + 8 * ch + d := by omega
    have e3 : b = sl := by omega
    exact ⟨e3, by omega, e1⟩
  · rintro ⟨rfl, rfl, rfl⟩
    omega

/-- and at a pitch of 2. -/
theorem row2 (b n q sl h ch cl y0 : ℕ) (hy : y0 = 720 * b + 40 * n + q) (hb : b < 2) (hn : n < 18) (hq : q < 40)
    (hs : sl < 2) (hh : h < 2) (hch : ch < 2) (hcl : cl < 2) :
    (720 * sl + 640 + 40 * ch + 16 * h + cl ≤ y0 ∧ (y0 - (720 * sl + 640 + 40 * ch + 16 * h + cl)) % 2 = 0
      ∧ (y0 - (720 * sl + 640 + 40 * ch + 16 * h + cl)) / 2 < 8) ↔ b = sl ∧ n = 16 + ch ∧ q < 32 ∧ q / 16 = h ∧ q % 2 = cl := by
  constructor
  · rintro ⟨h1, h2, h3⟩
    generalize hd : (y0 - (720 * sl + 640 + 40 * ch + 16 * h + cl)) / 2 = d at h3
    have e : y0 = 720 * sl + 640 + 40 * ch + 16 * h + cl + 2 * d := by omega
    have e1 : q = 16 * h + cl + 2 * d := by omega
    have e2 : 18 * b + n = 18 * sl + 16 + ch := by omega
    have e3 : b = sl := by omega
    exact ⟨e3, by omega, by omega, by omega, by omega⟩
  · rintro ⟨rfl, rfl, h1, rfl, rfl⟩
    omega

theorem stepOV_apply (r : Fin 8) (O : S1440x128.Idx → BitVec 32) (y : S1440x128.Idx) (b n q : ℕ) (hy : (y 0 : ℕ) = 720 * b + 40 * n + q)
    (hb : b < 2) (hn : n < 18) (hq : q < 40) :
    stepOV k slot half T A hA r O y = if b = slot ∧ n < 16 ∧ q / 2 = 8 * half + r then
      wordE k slot half T A r ⟨(n / 8 * 2 + q % 2) % 4, Nat.mod_lt _ (by decide)⟩ (n % 8) (y 1) else O y := by
  have hr := r.2
  have hs := slot.2
  have hh := half.2
  unfold stepOV
  rw [upd40_apply, upd40_apply, upd40_apply, upd40_apply, outV_apply, outV_apply, outV_apply, outV_apply]
  have t : ∀ c : Fin 4, ((outE slot half r c : Fin 1160) : ℕ) = 720 * slot + 320 * ((c : ℕ) / 2) + 16 * half + 2 * r + (c : ℕ) % 2 := fun _ => rfl
  have iff : ∀ c : Fin 4, (((outE slot half r c : Fin 1160) : ℕ) ≤ y 0 ∧ ((y 0 : ℕ) - (outE slot half r c : Fin 1160)) % 40 = 0 ∧ ((y 0 : ℕ) - (outE slot half r c : Fin 1160)) / 40 < 8)
      ↔ b = slot ∧ n / 8 = (c : ℕ) / 2 ∧ q = 16 * half + 2 * r + (c : ℕ) % 2 := by
    intro c
    have hc := c.2
    rw [t]
    exact row40 b n q slot half r ((c : ℕ) / 2) ((c : ℕ) % 2) (y 0) hy hb hn hq hs hh hr (by omega) (by omega)
  by_cases h : b = slot ∧ n < 16 ∧ q / 2 = 8 * half + r
  · rw [if_pos h]
    obtain ⟨h1, h2, h3⟩ := h
    refine (four_pos (p := fun c => ((outE slot half r c : Fin 1160) : ℕ) ≤ y 0 ∧ ((y 0 : ℕ) - (outE slot half r c : Fin 1160)) % 40 = 0 ∧ ((y 0 : ℕ) - (outE slot half r c : Fin 1160)) / 40 < 8)
      (v := fun c => wordE k slot half T A r c (((y 0 : ℕ) - (outE slot half r c : Fin 1160)) / 40 % 8) (y 1)) (d := O y)
      ⟨(n / 8 * 2 + q % 2) % 4, Nat.mod_lt _ (by decide)⟩ ((iff _).mpr ?_) fun c hc => Fin.ext ?_).trans ?_
    · dsimp only
      omega
    · have := (iff c).mp hc
      have := c.2
      show (c : ℕ) = (n / 8 * 2 + q % 2) % 4
      omega
    · rw [t]
      dsimp only
      congr 1
      have e1 : (n / 8 * 2 + q % 2) % 4 / 2 = n / 8 := by omega
      have e2 : (n / 8 * 2 + q % 2) % 4 % 2 = q % 2 := by omega
      rw [e1, e2]
      have e3 : (y 0 : ℕ) - (720 * slot + 320 * (n / 8) + 16 * half + 2 * r + q % 2) = 40 * (n % 8) := by omega
      rw [e3]
      omega
  · rw [if_neg h]
    refine four_neg (p := fun c => ((outE slot half r c : Fin 1160) : ℕ) ≤ y 0 ∧ ((y 0 : ℕ) - (outE slot half r c : Fin 1160)) % 40 = 0 ∧ ((y 0 : ℕ) - (outE slot half r c : Fin 1160)) / 40 < 8)
      (v := fun c => wordE k slot half T A r c (((y 0 : ℕ) - (outE slot half r c : Fin 1160)) / 40 % 8) (y 1)) (d := O y) ?_
    intro c hc
    have := (iff c).mp hc
    have := c.2
    omega

theorem stepsXV_apply (X : S128x128.Idx → BitVec 32) (y : S128x128.Idx) : ∀ n ≤ 8, stepsXV k slot half T A hA X n y =
    if (y 0 : ℕ) / 32 = 2 * slot + half ∧ (y 0 : ℕ) % 8 < n then
      pairE k slot half T A ⟨(y 0 : ℕ) % 8, Nat.mod_lt _ (by decide)⟩ 8 (y 1) ⟨(y 0 : ℕ) / 8 % 4, Nat.mod_lt _ (by decide)⟩ else X y := by
  intro n
  induction n with
  | zero => intro _; rw [stepsXV, if_neg (by omega)]
  | succ n ih =>
    intro hn
    rw [stepsXV, stepXV_apply, ih (by omega)]
    by_cases h : (y 0 : ℕ) / 32 = 2 * slot + half ∧ (y 0 : ℕ) % 8 = n % 8
    · rw [if_pos h, if_pos (by omega)]
      congr 1
      exact Fin.ext h.2.symm
    · rw [if_neg h]
      by_cases h' : (y 0 : ℕ) / 32 = 2 * slot + half ∧ (y 0 : ℕ) % 8 < n
      · rw [if_pos h', if_pos (by omega)]
      · rw [if_neg h', if_neg (by omega)]

theorem stepsOV_apply (O : S1440x128.Idx → BitVec 32) (y : S1440x128.Idx) (b n q : ℕ) (hy : (y 0 : ℕ) = 720 * b + 40 * n + q)
    (hb : b < 2) (hn : n < 18) (hq : q < 40) : ∀ i ≤ 8, stepsOV k slot half T A hA O i y =
    if b = slot ∧ n < 16 ∧ q < 32 ∧ q / 16 = half ∧ q / 2 % 8 < i then
      wordE k slot half T A ⟨q / 2 % 8, Nat.mod_lt _ (by decide)⟩ ⟨(n / 8 * 2 + q % 2) % 4, Nat.mod_lt _ (by decide)⟩ (n % 8) (y 1) else O y := by
  have hh := half.2
  intro i
  induction i with
  | zero => intro _; rw [stepsOV, if_neg (by omega)]
  | succ i ih =>
    intro hi
    rw [stepsOV, stepOV_apply _ _ _ _ _ _ _ _ _ b n q hy hb hn hq, ih (by omega)]
    by_cases h : b = slot ∧ n < 16 ∧ q / 2 = 8 * half + i % 8
    · rw [if_pos h, if_pos (by omega)]
      congr 1
      refine Fin.ext ?_
      show i % 8 = q / 2 % 8
      omega
    · rw [if_neg h]
      by_cases h' : b = slot ∧ n < 16 ∧ q < 32 ∧ q / 16 = half ∧ q / 2 % 8 < i
      · rw [if_pos h', if_pos (by omega)]
      · rw [if_neg h', if_neg (by omega)]

/-- The words put aside, read back after the steps. -/
theorem tail8V_apply (X : S128x128.Idx → BitVec 32) (j : Fin 4) (x : S8x128.Idx) :
    tail8V slot half (halfXV k slot half T A hA X) j x = pairE k slot half T A (x 0) 8 (x 1) j := by
  have hx : (x 0 : ℕ) < 8 := (x 0).2
  have hj := j.2
  have hs := slot.2
  have hh := half.2
  unfold tail8V halfXV
  rw [stepsXV_apply _ _ _ _ _ _ _ _ 8 le_rfl]
  generalize hy : (Rect.unit (s := S128x128) ![(tail8E slot half j : ℕ), 0] S8x128.size (tail8_inb (tail8E slot half j))).toLoadRect.idx x = y
  have y0 : (y 0 : ℕ) = (64 * slot + 32 * half + 8 * j) + 1 * (x 0 : ℕ) := by rw [← hy]; rfl
  have y1 : y 1 = x 1 := by rw [← hy]; exact Fin.ext (show 0 + 1 * (x 1 : ℕ) = x 1 by omega)
  rw [if_pos (by omega)]
  have e1 : (⟨(y 0 : ℕ) % 8, Nat.mod_lt _ (by decide)⟩ : Fin 8) = x 0 := Fin.ext (show (y 0 : ℕ) % 8 = x 0 by omega)
  have e2 : (⟨(y 0 : ℕ) / 8 % 4, Nat.mod_lt _ (by decide)⟩ : Fin 4) = j := Fin.ext (show (y 0 : ℕ) / 8 % 4 = j by omega)
  rw [e1, e2, y1]

/-- The words put aside are the ninth entries' nibbles. -/
def AsideE (X : S128x128.Idx → BitVec 32) : Prop := ∀ (j : Fin 4) (x : S8x128.Idx), tail8V slot half X j x = pairE k slot half T A (x 0) 8 (x 1) j

theorem outTV_apply (X : S128x128.Idx → BitVec 32) (hX : AsideE k slot half T A X) (c : Fin 4) (x : S8x128.Idx) :
    outTV slot half X c x = wordE k slot half T A (x 0) c 8 (x 1) := by
  unfold outTV
  rw [bytes_apply, hX, hX, hX, hX]
  unfold wordE
  congr 1
  funext j
  fin_cases j <;> rfl

theorem stepTV_apply (X : S128x128.Idx → BitVec 32) (hX : AsideE k slot half T A X) (O : S1440x128.Idx → BitVec 32) (y : S1440x128.Idx) (b n q : ℕ)
    (hy : (y 0 : ℕ) = 720 * b + 40 * n + q) (hb : b < 2) (hn : n < 18) (hq : q < 40) :
    stepTV slot half X O y = if b = slot ∧ 16 ≤ n ∧ q < 32 ∧ q / 16 = half then
      wordE k slot half T A ⟨q / 2 % 8, Nat.mod_lt _ (by decide)⟩ ⟨((n - 16) * 2 + q % 2) % 4, Nat.mod_lt _ (by decide)⟩ 8 (y 1) else O y := by
  have hs := slot.2
  have hh := half.2
  unfold stepTV
  rw [upd2_apply, upd2_apply, upd2_apply, upd2_apply, outTV_apply k slot half T A X hX, outTV_apply k slot half T A X hX, outTV_apply k slot half T A X hX, outTV_apply k slot half T A X hX]
  have t : ∀ c : Fin 4, ((out8E slot half c : Fin 1426) : ℕ) = 720 * slot + 640 + 40 * ((c : ℕ) / 2) + 16 * half + (c : ℕ) % 2 := fun _ => rfl
  have iff : ∀ c : Fin 4, (((out8E slot half c : Fin 1426) : ℕ) ≤ y 0 ∧ ((y 0 : ℕ) - (out8E slot half c : Fin 1426)) % 2 = 0 ∧ ((y 0 : ℕ) - (out8E slot half c : Fin 1426)) / 2 < 8)
      ↔ b = slot ∧ n = 16 + (c : ℕ) / 2 ∧ q < 32 ∧ q / 16 = half ∧ q % 2 = (c : ℕ) % 2 := by
    intro c
    have hc := c.2
    rw [t]
    exact row2 b n q slot half ((c : ℕ) / 2) ((c : ℕ) % 2) (y 0) hy hb hn hq hs hh (by omega) (by omega)
  by_cases h : b = slot ∧ 16 ≤ n ∧ q < 32 ∧ q / 16 = half
  · rw [if_pos h]
    obtain ⟨h1, h2, h3, h4⟩ := h
    refine (four_pos (p := fun c => ((out8E slot half c : Fin 1426) : ℕ) ≤ y 0 ∧ ((y 0 : ℕ) - (out8E slot half c : Fin 1426)) % 2 = 0 ∧ ((y 0 : ℕ) - (out8E slot half c : Fin 1426)) / 2 < 8)
      (v := fun c => wordE k slot half T A ⟨((y 0 : ℕ) - (out8E slot half c : Fin 1426)) / 2 % 8, Nat.mod_lt _ (by decide)⟩ c 8 (y 1)) (d := O y)
      ⟨((n - 16) * 2 + q % 2) % 4, Nat.mod_lt _ (by decide)⟩ ((iff _).mpr ?_) fun c hc => Fin.ext ?_).trans ?_
    · dsimp only
      omega
    · have := (iff c).mp hc
      have := c.2
      show (c : ℕ) = ((n - 16) * 2 + q % 2) % 4
      omega
    · have e : (⟨((y 0 : ℕ) - (out8E slot half ⟨((n - 16) * 2 + q % 2) % 4, Nat.mod_lt _ (by decide)⟩ : Fin 1426)) / 2 % 8, Nat.mod_lt _ (by decide)⟩ : Fin 8)
          = ⟨q / 2 % 8, Nat.mod_lt _ (by decide)⟩ := by
        refine Fin.ext ?_
        dsimp only
        rw [t]
        dsimp only
        have e1 : ((n - 16) * 2 + q % 2) % 4 / 2 = n - 16 := by omega
        have e2 : ((n - 16) * 2 + q % 2) % 4 % 2 = q % 2 := by omega
        rw [e1, e2]
        have e3 : (y 0 : ℕ) - (720 * slot + 640 + 40 * (n - 16) + 16 * half + q % 2) = q % 16 - q % 2 := by omega
        rw [e3]
        omega
      exact congrArg (fun r => wordE k slot half T A r ⟨((n - 16) * 2 + q % 2) % 4, Nat.mod_lt _ (by decide)⟩ 8 (y 1)) e
  · rw [if_neg h]
    refine four_neg (p := fun c => ((out8E slot half c : Fin 1426) : ℕ) ≤ y 0 ∧ ((y 0 : ℕ) - (out8E slot half c : Fin 1426)) % 2 = 0 ∧ ((y 0 : ℕ) - (out8E slot half c : Fin 1426)) / 2 < 8)
      (v := fun c => wordE k slot half T A ⟨((y 0 : ℕ) - (out8E slot half c : Fin 1426)) / 2 % 8, Nat.mod_lt _ (by decide)⟩ c 8 (y 1)) (d := O y) ?_
    intro c hc
    have := (iff c).mp hc
    omega

/-- The byte place and the place of the pitch of column block `n`. -/
def blkC (n : ℕ) : ℕ := if n < 16 then n / 8 else n - 16

@[inherit_doc blkC]
def blkS (n : ℕ) : ℕ := if n < 16 then n % 8 else 8

/-- The word of column block `n`, word row `q` and a lane, of a slab. -/
def slabW (n q lane : ℕ) : BitVec 32 :=
  wordE k slot ⟨q / 16 % 2, Nat.mod_lt _ (by decide)⟩ T A ⟨q / 2 % 8, Nat.mod_lt _ (by decide)⟩
    ⟨(blkC n * 2 + q % 2) % 4, Nat.mod_lt _ (by decide)⟩ (blkS n) lane

theorem halfOV_apply (X : S128x128.Idx → BitVec 32) (O : S1440x128.Idx → BitVec 32) (y : S1440x128.Idx) (b n q : ℕ)
    (hy : (y 0 : ℕ) = 720 * b + 40 * n + q) (hb : b < 2) (hn : n < 18) (hq : q < 40) :
    halfOV k slot half T A hA X O y = if b = slot ∧ q < 32 ∧ q / 16 = half then slabW k slot T A n q (y 1) else O y := by
  have hh := half.2
  unfold halfOV
  rw [stepTV_apply k slot half T A _ (fun j x => tail8V_apply k slot half T A hA X j x) _ _ b n q hy hb hn hq, stepsOV_apply _ _ _ _ _ _ _ _ b n q hy hb hn hq 8 le_rfl]
  by_cases h : b = slot ∧ q < 32 ∧ q / 16 = half
  · rw [if_pos h]
    have eh : (⟨q / 16 % 2, Nat.mod_lt _ (by decide)⟩ : Fin 2) = half := Fin.ext (show q / 16 % 2 = half by omega)
    unfold slabW blkC blkS
    rw [eh]
    by_cases h' : n < 16
    · simp only [if_pos h']
      rw [if_neg (by omega), if_pos (by omega)]
    · simp only [if_neg h']
      rw [if_pos (by omega)]
  · rw [if_neg (by omega), if_neg (by omega), if_neg h]

/-- A slab: every place of it that is sent is written. -/
theorem slabOV_apply (X : S128x128.Idx → BitVec 32) (O : S1440x128.Idx → BitVec 32) (y : S1440x128.Idx) (n q : ℕ)
    (hy : (y 0 : ℕ) = 720 * slot + 40 * n + q) (hn : n < 18) (hq : q < 32) : slabOV k slot T A hA X O y = slabW k slot T A n q (y 1) := by
  unfold slabOV
  rw [halfOV_apply _ _ _ _ _ _ _ _ _ slot n q hy slot.2 hn (by omega), halfOV_apply _ _ _ _ _ _ _ _ _ slot n q hy slot.2 hn (by omega)]
  by_cases h1 : q / 16 = 1
  · rw [if_pos ⟨rfl, hq, h1⟩]
  · rw [if_neg (fun hh => h1 hh.2.2), if_pos ⟨rfl, hq, by show q / 16 = 0; omega⟩]

end

attribute [local irreducible] slabOV slabXV slabW

/-- The words of the result, one by one. -/
theorem wordsV_apply (T : S64512x128.Idx → BitVec 32) (A : S56x128.Idx → BitVec 32) (hA : Fits A)
    (X : S128x128.Idx → BitVec 32) (O : Fin 2 → S1440x128.Idx → BitVec 32) (z : S56x18x32x128.Idx)
    (k : Fin k0_t2_loop.trips) (hk : (k : ℕ) = (z 0 : ℕ) / 2) :
    wordsV T A hA X O z = slabW k ⟨(z 0 : ℕ) % 2, Nat.mod_lt _ (by decide)⟩ T A (z 1) (z 2) (z 3) := by
  have z1 : (z 1 : ℕ) < 18 := (z 1).2
  have z2 : (z 2 : ℕ) < 32 := (z 2).2
  unfold wordsV
  rw [← hk, emitS_succ]
  generalize hsl : (⟨(z 0 : ℕ) % 2, Nat.mod_lt _ (by decide)⟩ : Fin 2) = slot
  have hs := slot.2
  obtain ⟨e0, e1⟩ := slabIdx_coords slot (blkIdx (z 1) (z 2) (z 3))
  generalize slabIdx slot (blkIdx (z 1) (z 2) (z 3)) = y at e0 e1 ⊢
  replace e0 : (y 0 : ℕ) = 720 * slot + 40 * (z 1 : ℕ) + (z 2 : ℕ) := e0
  replace e1 : (y 1 : ℕ) = z 3 := e1
  have fin : ∀ X' O', slabOV k slot T A hA X' O' y = slabW k slot T A (z 1) (z 2) (z 3) := by
    intro X' O'
    rw [slabOV_apply k slot T A hA X' O' y _ _ e0 z1 z2, e1]
  match slot, fin with
  | 0, fin =>
    show slabOV k 0 T A hA _ _ y = _
    exact fin _ _
  | 1, fin =>
    show slabOV k 1 T A hA _ _ y = _
    exact fin _ _

end Repack
-- ==== Proof.Bits.lean ====
/-
  The bits of the words of the result: bit `p` of a word is the bit of one word of the weights, at the place of the nibble
  of the row that the order names.
-/
module

public import proofs.«01_k».proof.Proof.Words
public import proofs.«01_k».proof.Proof.Run
public import proofs.«01_k».proof.Proof.Addr

@[expose] public section

noncomputable section

namespace Repack

open Idealize.ShloMosaic Idealize.ShloMosaic.TcCoe
open Cert.KernelIdeal Cert.KernelIdeal.Facts₀

theorem mask_bit : ∀ t : Fin 32, (252645135#32).getLsbD t = decide ((t : ℕ) % 8 < 4) := by decide

theorem nibW_bit (a b : BitVec 32) (t : ℕ) (ht : t < 32) : (nibW a b).getLsbD t = if t % 8 < 4 then a.getLsbD t else b.getLsbD (t - 4) := by
  have m1 := mask_bit ⟨t, ht⟩
  unfold nibW
  rw [BitVec.getLsbD_or, BitVec.getLsbD_and, BitVec.getLsbD_shiftLeft, BitVec.getLsbD_and]
  dsimp only at m1
  rw [m1]
  by_cases h : t % 8 < 4
  · rw [if_pos h]
    by_cases h4 : t < 4
    · simp [h, h4]
    · have m2 := mask_bit ⟨t - 4, by omega⟩
      dsimp only at m2
      rw [m2, decide_eq_false (show ¬ (t - 4) % 8 < 4 by omega)]
      simp [h]
  · have m2 := mask_bit ⟨t - 4, by omega⟩
    dsimp only at m2
    rw [m2, decide_eq_true (show (t - 4) % 8 < 4 by omega), if_neg h]
    simp [h, ht, show ¬ t < 4 by omega]

/-- The bits of a table's entry, at the address of a row. -/
theorem tabE_bit (W : S896x4608.Idx → BitVec 32) (k s lane c p : ℕ) (hk : k < 7168) (hs : s < 9) (hc : c < 4) (hp : p < 4) :
    (tabE W (addrN k + s) lane).getLsbD (8 * c + p) = (wAt W (k / 8) (tileCol ⟨s, hs⟩ ⟨c, hc⟩ + lane)).getLsbD (4 * (k % 8) + p) := by
  have lo : ∀ R q : ℕ, R = ((k / 64 * 4 + k / 2 % 4) * 8 + k / 8 % 8) * 9 + s → q = 8 * c + p + 4 * (k % 2) →
      (tabLo W R lane).getLsbD q = (wAt W (k / 8) (tileCol ⟨s, hs⟩ ⟨c, hc⟩ + lane)).getLsbD (4 * (k % 8) + p) := by
    intro R q hR hq
    have e1 : R / 9 = (k / 64 * 4 + k / 2 % 4) * 8 + k / 8 % 8 := by omega
    have e2 : R % 9 = s := by omega
    have e3 : R / 72 = k / 64 * 4 + k / 2 % 4 := by omega
    have e4 : R / 288 = k / 64 := by omega
    have e5 : 8 * (R / 288) + R / 9 % 8 = k / 8 := by omega
    have e6 : R / 72 % 4 = k / 2 % 4 := by omega
    have e7 : q / 8 = c := by omega
    unfold tabLo
    rw [gatherB_bit _ _ q (by omega), e5]
    have f1 : (⟨R % 9, Nat.mod_lt _ (by decide)⟩ : Fin 9) = ⟨s, hs⟩ := Fin.ext e2
    have f2 : (⟨q / 8, by omega⟩ : Fin 4) = ⟨c, hc⟩ := Fin.ext e7
    rw [f1, f2]
    congr 1
    show 8 * (R / 72 % 4) + q % 8 = 4 * (k % 8) + p
    omega
  unfold tabE addrN
  have hk2 : k % 2 = 0 ∨ k % 2 = 1 := by omega
  rcases hk2 with h | h
  · rw [if_pos (by omega)]
    exact lo _ _ (by omega) (by omega)
  · rw [if_neg (by omega), BitVec.getLsbD_ushiftRight]
    exact lo _ _ (by omega) (by omega)

/-- The bits of a word put together. -/
theorem wordE_bit [Facts] (k : Fin k0_t2_loop.trips) (slot half : Fin 2) (T : S64512x128.Idx → BitVec 32) (A : S56x128.Idx → BitVec 32)
    (r : Fin 8) (c : Fin 4) (s lane p : ℕ) (hp : p < 32) :
    (wordE k slot half T A r c s lane).getLsbD p = (entE k slot half T A r ⟨p / 4, by omega⟩ s lane).getLsbD (8 * c + p % 4) := by
  have hc := c.2
  unfold wordE
  rw [gatherB_bit _ _ p hp]
  unfold pairE
  rw [nibW_bit _ _ _ (by omega)]
  by_cases h : p % 8 < 4
  · rw [if_pos (by omega)]
    have e : (⟨2 * (p / 8), by omega⟩ : Fin 8) = ⟨p / 4, by omega⟩ := Fin.ext (show 2 * (p / 8) = p / 4 by omega)
    have e' : 8 * (c : ℕ) + p % 8 = 8 * c + p % 4 := by omega
    rw [← e, ← e']
  · rw [if_neg (by omega)]
    have e : (⟨2 * (p / 8) + 1, by omega⟩ : Fin 8) = ⟨p / 4, by omega⟩ := Fin.ext (show 2 * (p / 8) + 1 = p / 4 by omega)
    have e' : 8 * (c : ℕ) + p % 8 - 4 = 8 * c + p % 4 := by omega
    rw [← e, ← e']

/-- The row that entry `n` of the order names, zero outside. -/
def rowN (a : S7168.Idx → BitVec 32) (n : ℕ) : ℕ := if h : n < 7168 then (a fun b => match b with | 0 => ⟨n, h⟩).toNat else 0

theorem rowN_idx (a : S7168.Idx → BitVec 32) (y : S7168.Idx) (n : ℕ) (h : (y 0 : ℕ) = n) : (a y).toNat = rowN a n := by
  have b0 : (y 0 : ℕ) < 7168 := (y 0).2
  subst h
  rw [rowN, dif_pos b0]
  congr 2
  funext b
  fin_cases b; rfl

/-- The column of the weights that a word of the result comes from. -/
theorem tileCol_eq (n q lane : ℕ) (hn : n < 18) (h : blkS n < 9) :
    tileCol ⟨blkS n, h⟩ ⟨(blkC n * 2 + q % 2) % 4, Nat.mod_lt _ (by decide)⟩ + lane = 256 * n + 128 * (q % 2) + lane := by
  have key : ∀ (n : Fin 18) (b : Fin 2) (h : blkS n < 9), tileCol ⟨blkS n, h⟩ ⟨(blkC n * 2 + b) % 4, Nat.mod_lt _ (by decide)⟩ = 256 * n + 128 * b := by
    unfold blkS blkC
    decide
  rw [key ⟨n, hn⟩ ⟨q % 2, Nat.mod_lt _ (by decide)⟩ h]

variable {F : FTy → Type} [FloatOps F] [Facts]

theorem adrIdx_coords (k : Fin k0_t2_loop.trips) (slot : Fin 2) (c : Fin 128) :
    (adrIdx k slot c 0 : ℕ) = 2 * (k : ℕ) + slot ∧ (adrIdx k slot c 1 : ℕ) = c := by
  have e : adrOff k slot = ![2 * (k : ℕ) + slot, 0] := by
    match slot with
    | 0 => exact off42_eq k
    | 1 => exact off316_eq k
  unfold adrIdx
  generalize Shape.Idx.first (numel1_S1x1.symm ▸ Nat.one_pos) = w
  have w0 : (w 0 : ℕ) < 1 := (w 0).2
  have w1 : (w 1 : ℕ) < 1 := (w 1).2
  have e0 : adrOff k slot 0 = 2 * (k : ℕ) + slot := congrFun e 0
  have e1 : adrOff k slot 1 = 0 := congrFun e 1
  constructor
  · show 0 + 1 * (adrOff k slot 0 + 1 * (w 0 : ℕ)) = _
    omega
  · show (c : ℕ) + 1 * (adrOff k slot 1 + 1 * (w 1 : ℕ)) = _
    omega

/-- The bits of the result. -/
theorem resV_bit (W : S896x4608.Idx → BitVec 32) (a : S7168.Idx → BitVec 32) (ha : ∀ j, (a j).toNat < 7168)
    (P : S56x128.Idx → BitVec 32) (hP : ∀ y, P y = a (Shape.reshapeEquiv shapeCasts_S7168_S56x128 y))
    (hA : Fits (adrsV P)) (T : S64512x128.Idx → BitVec 32) (X : S128x128.Idx → BitVec 32) (O : S1440x128.Idx → BitVec 32)
    (z : S56x18x32x128.Idx) (p : ℕ) (hp : p < 32) :
    (resV W P hA T X O z).getLsbD p
      = (wAt W (rowN a (128 * (z 0 : ℕ) + 8 * ((z 2 : ℕ) / 2) + p / 4) / 8) (256 * (z 1 : ℕ) + 128 * ((z 2 : ℕ) % 2) + z 3)).getLsbD
        (4 * (rowN a (128 * (z 0 : ℕ) + 8 * ((z 2 : ℕ) / 2) + p / 4) % 8) + p % 4) := by
  have z0 : (z 0 : ℕ) < 56 := (z 0).2
  have z1 : (z 1 : ℕ) < 18 := (z 1).2
  have z2 : (z 2 : ℕ) < 32 := (z 2).2
  have z3 : (z 3 : ℕ) < 128 := (z 3).2
  have hk : (z 0 : ℕ) / 2 < k0_t2_loop.trips := lt_of_lt_of_eq (by omega) trips2.symm
  unfold resV
  rw [wordsV_apply _ _ _ _ _ z ⟨(z 0 : ℕ) / 2, hk⟩ rfl]
  unfold slabW
  rw [wordE_bit _ _ _ _ _ _ _ _ _ p hp]
  unfold entE
  generalize hy : adrIdx ⟨(z 0 : ℕ) / 2, hk⟩ ⟨(z 0 : ℕ) % 2, Nat.mod_lt _ (by decide)⟩
    (colE ⟨(z 2 : ℕ) / 16 % 2, Nat.mod_lt _ (by decide)⟩ ⟨(z 2 : ℕ) / 2 % 8, Nat.mod_lt _ (by decide)⟩ ⟨p / 4, by omega⟩) = y
  obtain ⟨c0, c1⟩ := adrIdx_coords ⟨(z 0 : ℕ) / 2, hk⟩ ⟨(z 0 : ℕ) % 2, Nat.mod_lt _ (by decide)⟩
    (colE ⟨(z 2 : ℕ) / 16 % 2, Nat.mod_lt _ (by decide)⟩ ⟨(z 2 : ℕ) / 2 % 8, Nat.mod_lt _ (by decide)⟩ ⟨p / 4, by omega⟩)
  rw [hy] at c0 c1
  replace c0 : (y 0 : ℕ) = 2 * ((z 0 : ℕ) / 2) + (z 0 : ℕ) % 2 := c0
  replace c1 : (y 1 : ℕ) = 64 * ((z 2 : ℕ) / 16 % 2) + 8 * ((z 2 : ℕ) / 2 % 8) + p / 4 := c1
  have hrow : (P y).toNat = rowN a (128 * (z 0 : ℕ) + 8 * ((z 2 : ℕ) / 2) + p / 4) := by
    rw [hP]
    refine rowN_idx a _ _ ?_
    have h := Shape.rowMajor_reshapeEquiv shapeCasts_S7168_S56x128 y
    generalize Shape.reshapeEquiv shapeCasts_S7168_S56x128 y = x at h
    have hl := Shape.rowMajor_val_one x
    have hr := Shape.rowMajor_val_two y
    have e : (x 0 : ℕ) = (y 0 : ℕ) * 128 + (y 1 : ℕ) := hl.symm.trans (h.trans hr)
    omega
  have hlt : (P y).toNat < 7168 := by rw [hP]; exact ha _
  have hadr : (adrsV P y).toNat = addrN (P y).toNat := adrV_nat _ hlt
  rw [hadr, hrow]
  rw [hrow] at hlt
  generalize rowN a (128 * (z 0 : ℕ) + 8 * ((z 2 : ℕ) / 2) + p / 4) = k at hlt
  have hS : blkS (z 1) < 9 := by unfold blkS; split_ifs <;> omega
  have hR := addrN_le hlt
  rw [tAt, dif_pos ⟨by omega, z3⟩, tableV_apply]
  rw [← tileCol_eq (z 1) (z 2) (z 3) z1 hS]
  exact tabE_bit W k (blkS (z 1)) (z 3) _ (p % 4) hlt hS _ (by omega)

end Repack
-- ==== Proof.RefVal.lean ====
/-
  The bits of the reference's words: the same bit of the same word of the weights.
-/
module

public import proofs.«01_k».proof.Proof.Bits
public import proofs.«01_k».proof.Proof.Gen.ReferenceIdeal.Run
public import Idealize.ShloMosaic.Lib.Routing.Ops

@[expose] public section

noncomputable section

namespace Repack

open Idealize.ShloMosaic Idealize.ShloMosaic.TcCoe

/-! ### Eight nibbles side by side -/

theorem digit (n : Fin 8 → ℕ) (hn : ∀ l, n l < 16) (p : ℕ) (hp : p < 32) :
    (n 0 + n 1 * 16 + n 2 * 256 + n 3 * 4096 + n 4 * 65536 + n 5 * 1048576 + n 6 * 16777216 + n 7 * 268435456) / 2 ^ p % 2
      = n ⟨p / 4, by omega⟩ / 2 ^ (p % 4) % 2 := by
  have h0 := hn 0; have h1 := hn 1; have h2 := hn 2; have h3 := hn 3
  have h4 := hn 4; have h5 := hn 5; have h6 := hn 6; have h7 := hn 7
  generalize hS : n 0 + n 1 * 16 + n 2 * 256 + n 3 * 4096 + n 4 * 65536 + n 5 * 1048576 + n 6 * 16777216 + n 7 * 268435456 = S
  have key : S / 16 ^ (p / 4) % 16 = n ⟨p / 4, by omega⟩ := by
    have hq : p / 4 < 8 := by omega
    generalize hi : (⟨p / 4, by omega⟩ : Fin 8) = i
    have e : p / 4 = i := by rw [← hi]
    rw [e]
    fin_cases i
    · show S / 1 % 16 = n 0; omega
    · show S / 16 % 16 = n 1; omega
    · show S / 256 % 16 = n 2; omega
    · show S / 4096 % 16 = n 3; omega
    · show S / 65536 % 16 = n 4; omega
    · show S / 1048576 % 16 = n 5; omega
    · show S / 16777216 % 16 = n 6; omega
    · show S / 268435456 % 16 = n 7; omega
  have e : (2 : ℕ) ^ p = 16 ^ (p / 4) * 2 ^ (p % 4) := by
    rw [show (16 : ℕ) = 2 ^ 4 from rfl, ← pow_mul, ← pow_add]
    congr 1
    omega
  rw [e, ← Nat.div_div_eq_div_mul, ← key]
  generalize S / 16 ^ (p / 4) = R
  have ht : p % 4 = 0 ∨ p % 4 = 1 ∨ p % 4 = 2 ∨ p % 4 = 3 := by omega
  rcases ht with h | h | h | h <;> rw [h] <;> norm_num <;> omega

/-- The sum of eight nibbles, each moved to its place, bit by bit. -/
theorem nibSum_bit (n : Fin 8 → BitVec 32) (hn : ∀ l, (n l).toNat < 16) (p : ℕ) (hp : p < 32) :
    (∑ l : Fin 8, n l <<< (4 * (l : ℕ))).getLsbD p = (n ⟨p / 4, by omega⟩).getLsbD (p % 4) := by
  have e : ∀ l : Fin 8, (n l <<< (4 * (l : ℕ))).toNat = (n l).toNat * 2 ^ (4 * (l : ℕ)) := by
    intro l
    rw [BitVec.toNat_shiftLeft, Nat.shiftLeft_eq, Nat.mod_eq_of_lt]
    have h := hn l
    have hl := l.2
    have : (2 : ℕ) ^ (4 * (l : ℕ)) ≤ 2 ^ 28 := Nat.pow_le_pow_right (by decide) (by omega)
    calc (n l).toNat * 2 ^ (4 * (l : ℕ)) ≤ 15 * 2 ^ 28 := Nat.mul_le_mul (by omega) this
      _ < 2 ^ 32 := by decide
  have h0 := hn 0; have h1 := hn 1; have h2 := hn 2; have h3 := hn 3
  have h4 := hn 4; have h5 := hn 5; have h6 := hn 6; have h7 := hn 7
  have e0 : (n 0 <<< (4 * ((0 : Fin 8) : ℕ))).toNat = (n 0).toNat * 1 := e 0
  have e1 : (n 1 <<< (4 * ((1 : Fin 8) : ℕ))).toNat = (n 1).toNat * 16 := e 1
  have e2 : (n 2 <<< (4 * ((2 : Fin 8) : ℕ))).toNat = (n 2).toNat * 256 := e 2
  have e3 : (n 3 <<< (4 * ((3 : Fin 8) : ℕ))).toNat = (n 3).toNat * 4096 := e 3
  have e4 : (n 4 <<< (4 * ((4 : Fin 8) : ℕ))).toNat = (n 4).toNat * 65536 := e 4
  have e5 : (n 5 <<< (4 * ((5 : Fin 8) : ℕ))).toNat = (n 5).toNat * 1048576 := e 5
  have e6 : (n 6 <<< (4 * ((6 : Fin 8) : ℕ))).toNat = (n 6).toNat * 16777216 := e 6
  have e7 : (n 7 <<< (4 * ((7 : Fin 8) : ℕ))).toNat = (n 7).toNat * 268435456 := e 7
  have total : (∑ l : Fin 8, n l <<< (4 * (l : ℕ))).toNat
      = (n 0).toNat + (n 1).toNat * 16 + (n 2).toNat * 256 + (n 3).toNat * 4096 + (n 4).toNat * 65536 + (n 5).toNat * 1048576
        + (n 6).toNat * 16777216 + (n 7).toNat * 268435456 := by
    rw [Fin.sum_univ_eight]
    simp only [BitVec.toNat_add]
    rw [e0, e1, e2, e3, e4, e5, e6, e7]
    omega
  have d := digit (fun l => (n l).toNat) hn p hp
  rw [BitVec.getLsbD, BitVec.getLsbD, total, Nat.testBit_eq_decide_div_mod_eq, Nat.testBit_eq_decide_div_mod_eq, d]

open Cert.ReferenceIdeal

/-! ### The reference's arrays -/

section
variable [Facts]
open Facts₀ Facts
variable (W : S896x4608.Idx → BitVec 32) (a : S7168.Idx → BitVec 32)

/-- The places of the nibbles. -/
def shiftsV : S896x8x4608.Idx → BitVec 32 :=
  broadcastInDim S896x8x4608 ![0, 1, 2] bcast_S1x8x1_S896x8x4608_0_1_2 (broadcastInDim S1x8x1 ![1] bcast_S8_S1x8x1_1 (muli (iotaInDim S8 32 0) (broadcastInDim S8 ![] bcast_S_S8 (constantI S_ 32 4#32))))

theorem shiftsV_apply (x : S896x8x4608.Idx) : shiftsV x = BitVec.ofNat 32 (4 * (x 1 : ℕ)) := by
  have h : (x 1 : ℕ) < 8 := (x 1).2
  show BitVec.ofNat 32 (x 1 : ℕ) * 4#32 = _
  apply BitVec.eq_of_toNat_eq
  rw [BitVec.toNat_mul, BitVec.toNat_ofNat, BitVec.toNat_ofNat, BitVec.toNat_ofNat]
  omega

/-- The nibbles before they are laid out by rows, -/
def nibblesV : S896x8x4608.Idx → BitVec 8 :=
  trunci 8 (andi (Host.shrui (broadcastInDim S896x8x4608 ![0, 1, 2] bcast_S896x1x4608_S896x8x4608_0_1_2 (broadcastInDim S896x1x4608 ![0, 2] bcast_S896x4608_S896x1x4608_0_2 (id W))) shiftsV) (broadcastInDim S896x8x4608 ![] bcast_S_S896x8x4608 (constantI S_ 32 15#32))) natLt_8_32

theorem nibblesV_apply (x : S896x8x4608.Idx) : nibblesV W x = ((wAt W (x 0) (x 2) >>> (4 * (x 1 : ℕ))) &&& 15#32).setWidth 8 := by
  have h : (x 1 : ℕ) < 8 := (x 1).2
  have e : ∀ y : S896x4608.Idx, (y 0 : ℕ) = x 0 → (y 1 : ℕ) = x 2 →
      (IntOp.andi (IntOp.shrui .host (W y) (shiftsV x)) 15#32).setWidth 8 = ((wAt W (x 0) (x 2) >>> (4 * (x 1 : ℕ))) &&& 15#32).setWidth 8 := by
    intro y h0 h1
    rw [wAt_idx W y _ _ h0 h1, shiftsV_apply]
    have hn : (BitVec.ofNat 32 (4 * (x 1 : ℕ))).toNat = 4 * (x 1 : ℕ) := by rw [BitVec.toNat_ofNat]; omega
    unfold IntOp.shrui
    rw [if_pos (by omega)]
    show ((wAt W (x 0) (x 2) >>> (BitVec.ofNat 32 (4 * (x 1 : ℕ))).toNat) &&& 15#32).setWidth 8 = _
    rw [hn]
  exact e _ rfl rfl

/-- and by rows. -/
def codesV : S7168x4608.Idx → BitVec 8 := shapeCast S7168x4608 (nibblesV W) shapeCasts_S896x8x4608_S7168x4608

theorem codesV_apply (y : S7168x4608.Idx) :
    codesV W y = ((wAt W ((y 0 : ℕ) / 8) (y 1) >>> (4 * ((y 0 : ℕ) % 8))) &&& 15#32).setWidth 8 := by
  unfold codesV
  show nibblesV W (Shape.reshapeEquiv shapeCasts_S896x8x4608_S7168x4608 y) = _
  have h := Shape.rowMajor_reshapeEquiv shapeCasts_S896x8x4608_S7168x4608 y
  rw [nibblesV_apply]
  generalize Shape.reshapeEquiv shapeCasts_S896x8x4608_S7168x4608 y = x at h
  have hl := Shape.rowMajor_val_three x
  have hr := Shape.rowMajor_val_two y
  have e : ((x 0 : ℕ) * 8 + (x 1 : ℕ)) * 4608 + (x 2 : ℕ) = (y 0 : ℕ) * 4608 + (y 1 : ℕ) := hl.symm.trans (h.trans hr)
  have x1 : (x 1 : ℕ) < 8 := (x 1).2
  have x2 : (x 2 : ℕ) < 4608 := (x 2).2
  have y1 : (y 1 : ℕ) < 4608 := (y 1).2
  have f2 : (x 2 : ℕ) = y 1 := by omega
  have f0 : (x 0 : ℕ) = (y 0 : ℕ) / 8 := by omega
  have f1 : (x 1 : ℕ) = (y 0 : ℕ) % 8 := by omega
  rw [f0, f1, f2]

/-- The rows in the order given, -/
def sortedV : S7168x4608.Idx → BitVec 8 :=
  Host.gather gather_S7168x4608_S7168x1_S7168x4608_1_0_n_n_0_1_14608 (codesV W) (broadcastInDim S7168x1 ![0] bcast_S7168_S7168x1_0 (select (cmpi .slt a (broadcastInDim S7168 ![] bcast_S_S7168 (constantI S_ 32 0#32))) (addi a (broadcastInDim S7168 ![] bcast_S_S7168 (constantI S_ 32 7168#32))) a))

/-- Entry `i` of the rows' order as the gather reads it. -/
theorem order_apply (ha : ∀ j, (a j).toNat < 7168) (y : S7168.Idx) :
    select (cmpi .slt a (broadcastInDim S7168 ![] bcast_S_S7168 (constantI S_ 32 0#32))) (addi a (broadcastInDim S7168 ![] bcast_S_S7168 (constantI S_ 32 7168#32))) a y
      = BitVec.ofNat 32 (rowN a (y 0)) := by
  rw [← rowN_idx a y (y 0) rfl, BitVec.ofNat_toNat, BitVec.setWidth_eq]
  have h := ha y
  have hs : (a y).slt 0#32 = false := by
    rw [BitVec.slt_eq_decide, BitVec.toInt_eq_toNat_of_lt (by omega)]
    simp
  show (if (BitVec.ofBool ((a y).slt 0#32)) = 1#1 then _ else a y) = a y
  rw [hs]
  rfl

theorem rowN_lt (ha : ∀ j, (a j).toNat < 7168) (n : ℕ) : rowN a n < 7168 := by
  unfold rowN
  split_ifs
  · exact ha _
  · decide

theorem orderCol_apply (ha : ∀ j, (a j).toNat < 7168) (i : Fin 7168) :
    broadcastInDim S7168x1 ![0] bcast_S7168_S7168x1_0 (select (cmpi .slt a (broadcastInDim S7168 ![] bcast_S_S7168 (constantI S_ 32 0#32))) (addi a (broadcastInDim S7168 ![] bcast_S_S7168 (constantI S_ 32 7168#32))) a)
      (ValueIdx.ix2 i (0 : Fin 1)) = BitVec.ofNat 32 (rowN a i) := by
  unfold broadcastInDim
  refine (order_apply a ha _).trans ?_
  rw [dif_neg (show ¬ S7168.size 0 = 1 by decide)]
  rfl

theorem sorted_ix (ha : ∀ j, (a j).toNat < 7168) (i : Fin 7168) (j : Fin 4608) :
    sortedV W a (ValueIdx.ix2 i j) = codesV W (ValueIdx.ix2 ⟨rowN a i, rowN_lt a ha i⟩ j) :=
  Routing.gather_row gather_S7168x4608_S7168x1_S7168x4608_1_0_n_n_0_1_14608 rfl rfl rfl rfl rfl (codesV W)
    _ i j ⟨rowN a i, rowN_lt a ha i⟩ (orderCol_apply a ha i) (by decide)

theorem sortedV_apply (ha : ∀ j, (a j).toNat < 7168) (y : S7168x4608.Idx) :
    sortedV W a y = ((wAt W (rowN a (y 0) / 8) (y 1) >>> (4 * (rowN a (y 0) % 8))) &&& 15#32).setWidth 8 :=
  (congrArg (sortedV W a) (ValueIdx.eq_ix2 y)).trans ((sorted_ix W a ha (y 0) (y 1)).trans (codesV_apply W _))

/-- eight rows to a word, -/
def packedV : S896x4608.Idx → BitVec 32 :=
  Host.reduce IntOp.addi (Host.shli (extui 32 (shapeCast S896x8x4608 (sortedV W a) shapeCasts_S7168x4608_S896x8x4608) natLt_8_32) shiftsV) (constantI S_ 32 0#32) reducesTo_S896x8x4608_S896x4608_d1 h_S_

/-- and in blocks. -/
def blocksV : S56x18x32x128.Idx → BitVec 32 :=
  shapeCast S56x18x32x128 (id (transpose S56x18x16x256 [0, 2, 1, 3] (shapeCast S56x16x18x256 (packedV W a) shapeCasts_S896x4608_S56x16x18x256) transposes_S56x16x18x256_S56x18x16x256_0_2_1_3)) shapeCasts_S56x18x16x256_S56x18x32x128

/-- One nibble of a packed word. -/
theorem extSorted (ha : ∀ j, (a j).toNat < 7168) (x : S896x8x4608.Idx) :
    Host.shli (extui 32 (shapeCast S896x8x4608 (sortedV W a) shapeCasts_S7168x4608_S896x8x4608) natLt_8_32) shiftsV x
      = ((wAt W (rowN a (8 * (x 0 : ℕ) + x 1) / 8) (x 2) >>> (4 * (rowN a (8 * (x 0 : ℕ) + x 1) % 8))) &&& 15#32) <<< (4 * (x 1 : ℕ)) := by
  have x1 : (x 1 : ℕ) < 8 := (x 1).2
  have x2 : (x 2 : ℕ) < 4608 := (x 2).2
  show IntOp.shli .host ((sortedV W a (Shape.reshapeEquiv shapeCasts_S7168x4608_S896x8x4608 x)).setWidth 32) (shiftsV x) = _
  have h := Shape.rowMajor_reshapeEquiv shapeCasts_S7168x4608_S896x8x4608 x
  generalize Shape.reshapeEquiv shapeCasts_S7168x4608_S896x8x4608 x = y at h
  have hl := Shape.rowMajor_val_two y
  have hr := Shape.rowMajor_val_three x
  have e : (y 0 : ℕ) * 4608 + (y 1 : ℕ) = ((x 0 : ℕ) * 8 + (x 1 : ℕ)) * 4608 + (x 2 : ℕ) := hl.symm.trans (h.trans hr)
  have y1 : (y 1 : ℕ) < 4608 := (y 1).2
  have f1 : (y 1 : ℕ) = x 2 := by omega
  have f0 : (y 0 : ℕ) = 8 * (x 0 : ℕ) + x 1 := by omega
  have hn : (BitVec.ofNat 32 (4 * (x 1 : ℕ))).toNat = 4 * (x 1 : ℕ) := by rw [BitVec.toNat_ofNat]; omega
  rw [shiftsV_apply, sortedV_apply W a ha y, f0, f1]
  unfold IntOp.shli
  rw [if_pos (by omega)]
  generalize wAt W (rowN a (8 * (x 0 : ℕ) + x 1) / 8) (x 2) >>> (4 * (rowN a (8 * (x 0 : ℕ) + x 1) % 8)) = v
  have hv : ((v &&& 15#32).setWidth 8).setWidth 32 = v &&& 15#32 := by
    apply BitVec.eq_of_toNat_eq
    rw [BitVec.toNat_setWidth, BitVec.toNat_setWidth, BitVec.toNat_and]
    have : v.toNat &&& (15#32).toNat ≤ 15 := Nat.and_le_right
    omega
  rw [hv]
  show (v &&& 15#32) <<< (BitVec.ofNat 32 (4 * (x 1 : ℕ))).toNat = _
  rw [hn]

/-- A fold of additions from zero is the sum. -/
theorem fold_addi {n : ℕ} (S : Finset (Fin n)) (f : Fin n → BitVec 32) : S.fold IntOp.addi 0#32 f = ∑ l ∈ S, f l := by
  induction S using Finset.cons_induction with
  | empty => rfl
  | cons a S ha ih => rw [Finset.fold_cons, Finset.sum_cons, ih]; rfl

/-- The bits of a packed word. -/
theorem packedV_bit (ha : ∀ j, (a j).toNat < 7168) (y : S896x4608.Idx) (p : ℕ) (hp : p < 32) :
    (packedV W a y).getLsbD p = (wAt W (rowN a (8 * (y 0 : ℕ) + p / 4) / 8) (y 1)).getLsbD (4 * (rowN a (8 * (y 0 : ℕ) + p / 4) % 8) + p % 4) := by
  have hR : S896x8x4608.Reduces [1] S896x4608 := by decide
  have hsum : packedV W a y = ∑ l : Fin 8,
      ((wAt W (rowN a (8 * (y 0 : ℕ) + l) / 8) (y 1) >>> (4 * (rowN a (8 * (y 0 : ℕ) + l) % 8))) &&& 15#32) <<< (4 * (l : ℕ)) := by
    unfold packedV
    refine (Host.reduce_eq_fold_single _ _ _ _ hR _ y).trans ((fold_addi _ _).trans ?_)
    refine Finset.sum_congr rfl fun l _ => ?_
    have l0 : (hR.lift y l 0 : ℕ) = y 0 := rfl
    have l1 : (hR.lift y l 1 : ℕ) = l := rfl
    have l2 : (hR.lift y l 2 : ℕ) = y 1 := rfl
    refine (extSorted W a ha (hR.lift y l)).trans ?_
    rw [l0, l1, l2]
  rw [hsum, nibSum_bit (fun l => (wAt W (rowN a (8 * (y 0 : ℕ) + l) / 8) (y 1) >>> (4 * (rowN a (8 * (y 0 : ℕ) + l) % 8))) &&& 15#32) ?_ p hp]
  · dsimp only
    have m : (15#32).getLsbD (p % 4) = true := by
      have : ∀ t : Fin 4, (15#32).getLsbD t = true := by decide
      exact this ⟨p % 4, Nat.mod_lt _ (by decide)⟩
    rw [BitVec.getLsbD_and, m, Bool.and_true, BitVec.getLsbD_ushiftRight]
  · intro l
    rw [BitVec.toNat_and]
    have : ∀ v : ℕ, v &&& (15#32).toNat ≤ 15 := fun v => Nat.and_le_right
    exact Nat.lt_succ_of_le (this _)

/-- Where the blocks' entries lie before the last recount, -/
theorem block_src (z : S56x18x32x128.Idx) (y : S56x18x16x256.Idx) (hy : Shape.reshapeEquiv shapeCasts_S56x18x16x256_S56x18x32x128 z = y) :
    (y 0 : ℕ) = z 0 ∧ (y 1 : ℕ) = z 1 ∧ (y 2 : ℕ) = (z 2 : ℕ) / 2 ∧ (y 3 : ℕ) = 128 * ((z 2 : ℕ) % 2) + z 3 := by
  have z1 : (z 1 : ℕ) < 18 := (z 1).2
  have z2 : (z 2 : ℕ) < 32 := (z 2).2
  have z3 : (z 3 : ℕ) < 128 := (z 3).2
  have h := Shape.rowMajor_reshapeEquiv shapeCasts_S56x18x16x256_S56x18x32x128 z
  rw [hy] at h
  have hl := Shape.rowMajor_val_four y
  have hr := Shape.rowMajor_val_four z
  have e : (((y 0 : ℕ) * 18 + (y 1 : ℕ)) * 16 + (y 2 : ℕ)) * 256 + (y 3 : ℕ) = (((z 0 : ℕ) * 18 + (z 1 : ℕ)) * 32 + (z 2 : ℕ)) * 128 + (z 3 : ℕ) :=
    hl.symm.trans (h.trans hr)
  have y1 : (y 1 : ℕ) < 18 := (y 1).2
  have y2 : (y 2 : ℕ) < 16 := (y 2).2
  have y3 : (y 3 : ℕ) < 256 := (y 3).2
  clear h hl hr hy
  generalize (y 0 : ℕ) = a0 at *
  generalize (y 1 : ℕ) = a1 at *
  generalize (y 2 : ℕ) = a2 at *
  generalize (y 3 : ℕ) = a3 at *
  generalize (z 0 : ℕ) = b0 at *
  generalize (z 1 : ℕ) = b1 at *
  generalize (z 2 : ℕ) = b2 at *
  generalize (z 3 : ℕ) = b3 at *
  refine ⟨?_, ?_, ?_, ?_⟩ <;> omega

/-- and where those lie in the packed words. -/
theorem packed_src (x : S56x16x18x256.Idx) (v : S896x4608.Idx) (hv : Shape.reshapeEquiv shapeCasts_S896x4608_S56x16x18x256 x = v) :
    (v 0 : ℕ) = 16 * (x 0 : ℕ) + x 1 ∧ (v 1 : ℕ) = 256 * (x 2 : ℕ) + x 3 := by
  have x2 : (x 2 : ℕ) < 18 := (x 2).2
  have x3 : (x 3 : ℕ) < 256 := (x 3).2
  have v1 : (v 1 : ℕ) < 4608 := (v 1).2
  have h := Shape.rowMajor_reshapeEquiv shapeCasts_S896x4608_S56x16x18x256 x
  rw [hv] at h
  have hl := Shape.rowMajor_val_two v
  have hr := Shape.rowMajor_val_four x
  have e : (v 0 : ℕ) * 4608 + (v 1 : ℕ) = (((x 0 : ℕ) * 16 + (x 1 : ℕ)) * 18 + (x 2 : ℕ)) * 256 + (x 3 : ℕ) :=
    hl.symm.trans (h.trans hr)
  clear h hl hr hv
  generalize (v 0 : ℕ) = a0 at *
  generalize (v 1 : ℕ) = a1 at *
  generalize (x 0 : ℕ) = b0 at *
  generalize (x 1 : ℕ) = b1 at *
  generalize (x 2 : ℕ) = b2 at *
  generalize (x 3 : ℕ) = b3 at *
  exact ⟨by omega, by omega⟩

theorem swap_src (y : S56x18x16x256.Idx) :
    (transposes_S56x16x18x256_S56x18x16x256_0_2_1_3.src y 0 : ℕ) = y 0
    ∧ (transposes_S56x16x18x256_S56x18x16x256_0_2_1_3.src y 1 : ℕ) = y 2
    ∧ (transposes_S56x16x18x256_S56x18x16x256_0_2_1_3.src y 2 : ℕ) = y 1
    ∧ (transposes_S56x16x18x256_S56x18x16x256_0_2_1_3.src y 3 : ℕ) = y 3 := ⟨rfl, rfl, rfl, rfl⟩

theorem cast_last (w : S56x18x16x256.Idx → BitVec 32) (z : S56x18x32x128.Idx) :
    shapeCast S56x18x32x128 w shapeCasts_S56x18x16x256_S56x18x32x128 z = w (Shape.reshapeEquiv shapeCasts_S56x18x16x256_S56x18x32x128 z) := rfl

theorem cast_first (w : S896x4608.Idx → BitVec 32) (x : S56x16x18x256.Idx) :
    shapeCast S56x16x18x256 w shapeCasts_S896x4608_S56x16x18x256 x = w (Shape.reshapeEquiv shapeCasts_S896x4608_S56x16x18x256 x) := rfl

theorem swap_at (w : S56x16x18x256.Idx → BitVec 32) (y : S56x18x16x256.Idx) :
    transpose S56x18x16x256 [0, 2, 1, 3] w transposes_S56x16x18x256_S56x18x16x256_0_2_1_3 y = w (transposes_S56x16x18x256_S56x18x16x256_0_2_1_3.src y) := rfl

theorem blocks_packed (z : S56x18x32x128.Idx) :
    blocksV W a z = packedV W a (Shape.reshapeEquiv shapeCasts_S896x4608_S56x16x18x256
      (transposes_S56x16x18x256_S56x18x16x256_0_2_1_3.src (Shape.reshapeEquiv shapeCasts_S56x18x16x256_S56x18x32x128 z))) := by
  unfold blocksV
  rw [cast_last, id_eq, swap_at, cast_first]

/-- The bits of the reference's words. -/
theorem blocksV_bit (ha : ∀ j, (a j).toNat < 7168) (z : S56x18x32x128.Idx) (p : ℕ) (hp : p < 32) :
    (blocksV W a z).getLsbD p
      = (wAt W (rowN a (128 * (z 0 : ℕ) + 8 * ((z 2 : ℕ) / 2) + p / 4) / 8) (256 * (z 1 : ℕ) + 128 * ((z 2 : ℕ) % 2) + z 3)).getLsbD
        (4 * (rowN a (128 * (z 0 : ℕ) + 8 * ((z 2 : ℕ) / 2) + p / 4) % 8) + p % 4) := by
  obtain ⟨g0, g1, g2, g3⟩ := block_src z _ rfl
  obtain ⟨s0, s1, s2, s3⟩ := swap_src (Shape.reshapeEquiv shapeCasts_S56x18x16x256_S56x18x32x128 z)
  obtain ⟨k0, k1⟩ := packed_src (transposes_S56x16x18x256_S56x18x16x256_0_2_1_3.src (Shape.reshapeEquiv shapeCasts_S56x18x16x256_S56x18x32x128 z)) _ rfl
  rw [blocks_packed, packedV_bit W a ha _ p hp, k0, k1, s0, s1, s2, s3, g0, g1, g2, g3,
    show 8 * (16 * (z 0 : ℕ) + (z 2 : ℕ) / 2) + p / 4 = 128 * (z 0 : ℕ) + 8 * ((z 2 : ℕ) / 2) + p / 4 by omega,
    ← Nat.add_assoc]

end

end Repack
-- ==== Proof.Algebraic.lean ====
/-
  The words the program writes are the reference's words.
-/
module

public import proofs.«01_k».proof.Proof.Frames
public import proofs.«01_k».proof.Proof.RefVal

@[expose] public section

noncomputable section

namespace Repack

open Idealize.ShloMosaic Idealize.ShloMosaic.TcCoe Idealize.ShloMosaic.ValueIdx Idealize.SL.Sem
open Cert.KernelIdeal Cert.KernelIdeal.Gen

/-- What the program leaves, whatever its buffers held before, is the reference's array. -/
theorem resV_eq (W : S896x4608.Idx → BitVec 32) (a : S7168.Idx → BitVec 32) (ha : ∀ j, (a j).toNat < 7168)
    (P : S56x128.Idx → BitVec 32) (hP : ∀ y, P y = a (Shape.reshapeEquiv shapeCasts_S7168_S56x128 y))
    (hA : Fits (adrsV P)) (T : S64512x128.Idx → BitVec 32) (X : S128x128.Idx → BitVec 32) (O : S1440x128.Idx → BitVec 32) :
    resV W P hA T X O = blocksV W a := by
  funext z
  exact BitVec.eq_of_getLsbD_eq fun p hp => (resV_bit W a ha P hP hA T X O z p hp).trans (blocksV_bit W a ha z p hp).symm

/-- The array both programs are to leave. -/
def refWords (m : (ℓ : Loc nD τ sig) → Buf (Elt Ideal) ℓ) (c : Dev nD) : Buf (Elt Ideal) ((c.tc : Thread nD τ).loc main_v1) :=
  blocksV (m ((c.tc : Thread nD τ).loc main_arg0)) (m ((c.tc : Thread nD τ).loc main_arg1))

theorem kernel_out (m : (ℓ : Loc nD τ sig) → Buf (Elt Ideal) ℓ) (g : Dev nD → PrngReg) (hpre : Cert.Pre_KernelIdeal m) :
    θ_run (defs (F := Ideal)) (onTc (τ := τ) (main (F := Ideal))) ⟨m, fun _ => 0, g⟩ (fun r => ∀ c : Dev nD,
      r.2.mem ((c.tc : Thread nD τ).loc main_v1) = refWords m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m g (fits m (inRange m hpre)))
  obtain ⟨h0, h1, T, X, O, hv⟩ := h.1 c
  refine ⟨hv.trans ?_, h0.trans (V_main_arg0 m c), h1.trans (V_main_arg1 m c)⟩
  rw [resV_eq (Wm m c) (Am m c) (inRange m hpre c) (Pm m c) (fun y => Pm_eq m c y) _ T X O]
  unfold refWords Wm Am
  rw [V_main_arg0 m c]

theorem reference_out (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v29)
          = blocksV (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono (fun r h c => ⟨(h c).1, (h c).2⟩) (Cert.ReferenceIdeal.Value.run m' g')

theorem algebraic : Cert.algebraic_KernelIdeal_ReferenceIdeal := by
  intro m g m' g' hpre hargs
  refine ⟨refWords m, kernel_out m g hpre, ?_⟩
  refine (θ_run Cert.ReferenceIdeal.defs _ _).mono (fun r h c => ⟨(h c).1.trans ?_, (h c).2⟩) (reference_out m' g')
  unfold refWords
  rw [(hargs c).1, (hargs c).2]

end Repack
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rows_in_range
public import proofs.«01_k».proof.Proof.FrameK
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_rows_in_range.Gen.facts,
  Repack.frame_p, Repack.frame_pi, Repack.frame_ri, Repack.frame_ri_pre, trivial, Repack.algebraic⟩

end Cert.Proof

end
